-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineRefIdeal (m : (ℓ : Loc Cert.CombineRefIdeal.nD Cert.CombineRefIdeal.τ Cert.CombineRefIdeal.sig) → Buf (Elt Ideal) ℓ) : Prop :=
  True

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterRefIdeal (m : (ℓ : Loc Cert.RouterRefIdeal.nD Cert.RouterRefIdeal.τ Cert.RouterRefIdeal.sig) → Buf (Elt Ideal) ℓ) : Prop :=
  True

def Pre_Experts [hPre_tables_agree : Cert.Pre_tables_agree.Facts] (m : (ℓ : Loc Cert.Experts.nD Cert.Experts.τ Cert.Experts.sig) → Buf (Elt Bits) ℓ) : Prop :=
  ∀ c : Dev Cert.Experts.nD,
    (Cert.Pre_tables_agree.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7)) (m ((c.tc : Thread Cert.Experts.nD Cert.Experts.τ).loc Cert.Experts.main_arg8))) = (fun _ => 1#1)

def Pre_ExpertsIdeal [hPre_tables_agree : Cert.Pre_tables_agree.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_tables_agree.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_tables_agree [hPre_tables_agree : Cert.Pre_tables_agree.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_tables_agree.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6)) (m ((c.tc : Thread Cert.ExpertsRefIdeal.nD Cert.ExpertsRefIdeal.τ).loc Cert.ExpertsRefIdeal.main_arg7)) (m ((c.tc : Thread Cert.ExpertsRefIdeal.nD Cert.ExpertsRefIdeal.τ).loc Cert.ExpertsRefIdeal.main_arg8))) = (fun _ => 1#1)

def Pre_Scatter [hPre_experts_named : Cert.Pre_experts_named.Facts] (m : (ℓ : Loc Cert.Scatter.nD Cert.Scatter.τ Cert.Scatter.sig) → Buf (Elt Bits) ℓ) : Prop :=
  ∀ c : Dev Cert.Scatter.nD,
    (Cert.Pre_experts_named.fn (F := Bits) (m ((c.tc : Thread Cert.Scatter.nD Cert.Scatter.τ).loc Cert.Scatter.main_arg0)) (m ((c.tc : Thread Cert.Scatter.nD Cert.Scatter.τ).loc Cert.Scatter.main_arg1))) = (fun _ => 1#1)

def Pre_ScatterIdeal [hPre_experts_named : Cert.Pre_experts_named.Facts] (m : (ℓ : Loc Cert.ScatterIdeal.nD Cert.ScatterIdeal.τ Cert.ScatterIdeal.sig) → Buf (Elt Ideal) ℓ) : Prop :=
  ∀ c : Dev Cert.ScatterIdeal.nD,
    (Cert.Pre_experts_named.fn (F := Ideal) (m ((c.tc : Thread Cert.ScatterIdeal.nD Cert.ScatterIdeal.τ).loc Cert.ScatterIdeal.main_arg0)) (m ((c.tc : Thread Cert.ScatterIdeal.nD Cert.ScatterIdeal.τ).loc Cert.ScatterIdeal.main_arg1))) = (fun _ => 1#1)

def Pre_ScatterRefIdeal (m : (ℓ : Loc Cert.ScatterRefIdeal.nD Cert.ScatterRefIdeal.τ Cert.ScatterRefIdeal.sig) → Buf (Elt Ideal) ℓ) : Prop :=
  True

def Pre_ScatterRefIdeal_experts_named [hPre_experts_named : Cert.Pre_experts_named.Facts] (m : (ℓ : Loc Cert.ScatterRefIdeal.nD Cert.ScatterRefIdeal.τ Cert.ScatterRefIdeal.sig) → Buf (Elt Ideal) ℓ) : Prop :=
  ∀ c : Dev Cert.ScatterRefIdeal.nD,
    (Cert.Pre_experts_named.fn (F := Ideal) (m ((c.tc : Thread Cert.ScatterRefIdeal.nD Cert.ScatterRefIdeal.τ).loc Cert.ScatterRefIdeal.main_arg0)) (m ((c.tc : Thread Cert.ScatterRefIdeal.nD Cert.ScatterRefIdeal.τ).loc Cert.ScatterRefIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4)
      ∧ r.2.mem ((c.tc : Thread Cert.Combine.nD Cert.Combine.τ).loc Cert.Combine.main_arg5) = m ((c.tc : Thread Cert.Combine.nD Cert.Combine.τ).loc Cert.Combine.main_arg5)
      ∧ r.2.mem ((c.tc : Thread Cert.Combine.nD Cert.Combine.τ).loc Cert.Combine.main_arg6) = m ((c.tc : Thread Cert.Combine.nD Cert.Combine.τ).loc Cert.Combine.main_arg6)
      ∧ r.2.mem ((c.tc : Thread Cert.Combine.nD Cert.Combine.τ).loc Cert.Combine.main_arg7) = m ((c.tc : Thread Cert.Combine.nD Cert.Combine.τ).loc Cert.Combine.main_arg7)
      ∧ r.2.mem ((c.tc : Thread Cert.Combine.nD Cert.Combine.τ).loc Cert.Combine.main_arg8) = m ((c.tc : Thread Cert.Combine.nD Cert.Combine.τ).loc Cert.Combine.main_arg8))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
      ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)
      ∧ r.2.mem ((c.tc : Thread Cert.CombineIdeal.nD Cert.CombineIdeal.τ).loc Cert.CombineIdeal.main_arg6) = m ((c.tc : Thread Cert.CombineIdeal.nD Cert.CombineIdeal.τ).loc Cert.CombineIdeal.main_arg6)
      ∧ r.2.mem ((c.tc : Thread Cert.CombineIdeal.nD Cert.CombineIdeal.τ).loc Cert.CombineIdeal.main_arg7) = m ((c.tc : Thread Cert.CombineIdeal.nD Cert.CombineIdeal.τ).loc Cert.CombineIdeal.main_arg7)
      ∧ r.2.mem ((c.tc : Thread Cert.CombineIdeal.nD Cert.CombineIdeal.τ).loc Cert.CombineIdeal.main_arg8) = m ((c.tc : Thread Cert.CombineIdeal.nD Cert.CombineIdeal.τ).loc Cert.CombineIdeal.main_arg8))
      ∧ r.2.sem = fun _ => 0)

def quiescent_CombineRefIdeal [hCombineRefIdeal : Cert.CombineRefIdeal.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3)
      ∧ r.2.mem ((c.tc : Thread Cert.CombineRefIdeal.nD Cert.CombineRefIdeal.τ).loc Cert.CombineRefIdeal.main_arg4) = m ((c.tc : Thread Cert.CombineRefIdeal.nD Cert.CombineRefIdeal.τ).loc Cert.CombineRefIdeal.main_arg4)
      ∧ r.2.mem ((c.tc : Thread Cert.CombineRefIdeal.nD Cert.CombineRefIdeal.τ).loc Cert.CombineRefIdeal.main_arg5) = m ((c.tc : Thread Cert.CombineRefIdeal.nD Cert.CombineRefIdeal.τ).loc Cert.CombineRefIdeal.main_arg5)
      ∧ r.2.mem ((c.tc : Thread Cert.CombineRefIdeal.nD Cert.CombineRefIdeal.τ).loc Cert.CombineRefIdeal.main_arg6) = m ((c.tc : Thread Cert.CombineRefIdeal.nD Cert.CombineRefIdeal.τ).loc Cert.CombineRefIdeal.main_arg6)
      ∧ r.2.mem ((c.tc : Thread Cert.CombineRefIdeal.nD Cert.CombineRefIdeal.τ).loc Cert.CombineRefIdeal.main_arg7) = m ((c.tc : Thread Cert.CombineRefIdeal.nD Cert.CombineRefIdeal.τ).loc Cert.CombineRefIdeal.main_arg7)
      ∧ r.2.mem ((c.tc : Thread Cert.CombineRefIdeal.nD Cert.CombineRefIdeal.τ).loc Cert.CombineRefIdeal.main_arg8) = m ((c.tc : Thread Cert.CombineRefIdeal.nD Cert.CombineRefIdeal.τ).loc Cert.CombineRefIdeal.main_arg8))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1)
      ∧ r.2.mem ((c.tc : Thread Cert.Router.nD Cert.Router.τ).loc Cert.Router.main_arg2) = m ((c.tc : Thread Cert.Router.nD Cert.Router.τ).loc Cert.Router.main_arg2)
      ∧ r.2.mem ((c.tc : Thread Cert.Router.nD Cert.Router.τ).loc Cert.Router.main_arg3) = m ((c.tc : Thread Cert.Router.nD Cert.Router.τ).loc Cert.Router.main_arg3))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3))
      ∧ r.2.sem = fun _ => 0)

def quiescent_RouterRefIdeal [hRouterRefIdeal : Cert.RouterRefIdeal.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1)
      ∧ r.2.mem ((c.tc : Thread Cert.RouterRefIdeal.nD Cert.RouterRefIdeal.τ).loc Cert.RouterRefIdeal.main_arg2) = m ((c.tc : Thread Cert.RouterRefIdeal.nD Cert.RouterRefIdeal.τ).loc Cert.RouterRefIdeal.main_arg2)
      ∧ r.2.mem ((c.tc : Thread Cert.RouterRefIdeal.nD Cert.RouterRefIdeal.τ).loc Cert.RouterRefIdeal.main_arg3) = m ((c.tc : Thread Cert.RouterRefIdeal.nD Cert.RouterRefIdeal.τ).loc Cert.RouterRefIdeal.main_arg3))
      ∧ r.2.sem = fun _ => 0)

def quiescent_Experts [hExperts : Cert.Experts.Facts] [hPre_tables_agree : Cert.Pre_tables_agree.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6)
      ∧ r.2.mem ((c.tc : Thread Cert.Experts.nD Cert.Experts.τ).loc Cert.Experts.main_arg7) = m ((c.tc : Thread Cert.Experts.nD Cert.Experts.τ).loc Cert.Experts.main_arg7)
      ∧ r.2.mem ((c.tc : Thread Cert.Experts.nD Cert.Experts.τ).loc Cert.Experts.main_arg8) = m ((c.tc : Thread Cert.Experts.nD Cert.Experts.τ).loc Cert.Experts.main_arg8))
      ∧ r.2.sem = fun _ => 0)

def quiescent_ExpertsIdeal [hExpertsIdeal : Cert.ExpertsIdeal.Facts] [hPre_tables_agree : Cert.Pre_tables_agree.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
      ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6)
      ∧ r.2.mem ((c.tc : Thread Cert.ExpertsRefIdeal.nD Cert.ExpertsRefIdeal.τ).loc Cert.ExpertsRefIdeal.main_arg7) = m ((c.tc : Thread Cert.ExpertsRefIdeal.nD Cert.ExpertsRefIdeal.τ).loc Cert.ExpertsRefIdeal.main_arg7)
      ∧ r.2.mem ((c.tc : Thread Cert.ExpertsRefIdeal.nD Cert.ExpertsRefIdeal.τ).loc Cert.ExpertsRefIdeal.main_arg8) = m ((c.tc : Thread Cert.ExpertsRefIdeal.nD Cert.ExpertsRefIdeal.τ).loc Cert.ExpertsRefIdeal.main_arg8))
      ∧ r.2.sem = fun _ => 0)

def quiescent_ExpertsRefIdeal_pre_tables_agree [hExpertsRefIdeal : Cert.ExpertsRefIdeal.Facts] [hPre_tables_agree : Cert.Pre_tables_agree.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_tables_agree m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6)
      ∧ r.2.mem ((c.tc : Thread Cert.ExpertsRefIdeal.nD Cert.ExpertsRefIdeal.τ).loc Cert.ExpertsRefIdeal.main_arg7) = m ((c.tc : Thread Cert.ExpertsRefIdeal.nD Cert.ExpertsRefIdeal.τ).loc Cert.ExpertsRefIdeal.main_arg7)
      ∧ r.2.mem ((c.tc : Thread Cert.ExpertsRefIdeal.nD Cert.ExpertsRefIdeal.τ).loc Cert.ExpertsRefIdeal.main_arg8) = m ((c.tc : Thread Cert.ExpertsRefIdeal.nD Cert.ExpertsRefIdeal.τ).loc Cert.ExpertsRefIdeal.main_arg8))
      ∧ r.2.sem = fun _ => 0)

def quiescent_Scatter [hScatter : Cert.Scatter.Facts] [hPre_experts_named : Cert.Pre_experts_named.Facts] : Prop :=
  ∀ (m : (ℓ : Loc Cert.Scatter.nD Cert.Scatter.τ Cert.Scatter.sig) → Buf (Elt Bits) ℓ) (g : Dev Cert.Scatter.nD → PrngReg), Pre_Scatter m →
    θ_run (Cert.Scatter.defs (F := Bits)) (Cert.Scatter.threads (F := Bits)) ⟨m, fun _ => 0, g⟩ (fun r => (∀ c : Dev Cert.Scatter.nD,
      r.2.mem ((c.tc : Thread Cert.Scatter.nD Cert.Scatter.τ).loc Cert.Scatter.main_arg0) = m ((c.tc : Thread Cert.Scatter.nD Cert.Scatter.τ).loc Cert.Scatter.main_arg0)
      ∧ r.2.mem ((c.tc : Thread Cert.Scatter.nD Cert.Scatter.τ).loc Cert.Scatter.main_arg1) = m ((c.tc : Thread Cert.Scatter.nD Cert.Scatter.τ).loc Cert.Scatter.main_arg1))
      ∧ r.2.sem = fun _ => 0)

def quiescent_ScatterIdeal [hScatterIdeal : Cert.ScatterIdeal.Facts] [hPre_experts_named : Cert.Pre_experts_named.Facts] : Prop :=
  ∀ (m : (ℓ : Loc Cert.ScatterIdeal.nD Cert.ScatterIdeal.τ Cert.ScatterIdeal.sig) → Buf (Elt Ideal) ℓ) (g : Dev Cert.ScatterIdeal.nD → PrngReg), Pre_ScatterIdeal m →
    θ_run (Cert.ScatterIdeal.defs (F := Ideal)) (Cert.ScatterIdeal.threads (F := Ideal)) ⟨m, fun _ => 0, g⟩ (fun r => (∀ c : Dev Cert.ScatterIdeal.nD,
      r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0)
      ∧ r.2.mem ((c.tc : Thread Cert.ScatterIdeal.nD Cert.ScatterIdeal.τ).loc Cert.ScatterIdeal.main_arg1) = m ((c.tc : Thread Cert.ScatterIdeal.nD Cert.ScatterIdeal.τ).loc Cert.ScatterIdeal.main_arg1))
      ∧ r.2.sem = fun _ => 0)

def quiescent_ScatterRefIdeal [hScatterRefIdeal : Cert.ScatterRefIdeal.Facts] : Prop :=
  ∀ (m : (ℓ : Loc Cert.ScatterRefIdeal.nD Cert.ScatterRefIdeal.τ Cert.ScatterRefIdeal.sig) → Buf (Elt Ideal) ℓ) (g : Dev Cert.ScatterRefIdeal.nD → PrngReg), Pre_ScatterRefIdeal m →
    θ_run (Cert.ScatterRefIdeal.defs (F := Ideal)) (onTc (τ := Cert.ScatterRefIdeal.τ) (Cert.ScatterRefIdeal.main (F := Ideal))) ⟨m, fun _ => 0, g⟩ (fun r => (∀ c : Dev Cert.ScatterRefIdeal.nD,
      r.2.mem ((c.tc : Thread Cert.ScatterRefIdeal.nD Cert.ScatterRefIdeal.τ).loc Cert.ScatterRefIdeal.main_arg0) = m ((c.tc : Thread Cert.ScatterRefIdeal.nD Cert.ScatterRefIdeal.τ).loc Cert.ScatterRefIdeal.main_arg0)
      ∧ r.2.mem ((c.tc : Thread Cert.ScatterRefIdeal.nD Cert.ScatterRefIdeal.τ).loc Cert.ScatterRefIdeal.main_arg1) = m ((c.tc : Thread Cert.ScatterRefIdeal.nD Cert.ScatterRefIdeal.τ).loc Cert.ScatterRefIdeal.main_arg1))
      ∧ r.2.sem = fun _ => 0)

def quiescent_ScatterRefIdeal_pre_experts_named [hScatterRefIdeal : Cert.ScatterRefIdeal.Facts] [hPre_experts_named : Cert.Pre_experts_named.Facts] : Prop :=
  ∀ (m : (ℓ : Loc Cert.ScatterRefIdeal.nD Cert.ScatterRefIdeal.τ Cert.ScatterRefIdeal.sig) → Buf (Elt Ideal) ℓ) (g : Dev Cert.ScatterRefIdeal.nD → PrngReg), Pre_ScatterRefIdeal_experts_named m →
    θ_run (Cert.ScatterRefIdeal.defs (F := Ideal)) (onTc (τ := Cert.ScatterRefIdeal.τ) (Cert.ScatterRefIdeal.main (F := Ideal))) ⟨m, fun _ => 0, g⟩ (fun r => (∀ c : Dev Cert.ScatterRefIdeal.nD,
      r.2.mem ((c.tc : Thread Cert.ScatterRefIdeal.nD Cert.ScatterRefIdeal.τ).loc Cert.ScatterRefIdeal.main_arg0) = m ((c.tc : Thread Cert.ScatterRefIdeal.nD Cert.ScatterRefIdeal.τ).loc Cert.ScatterRefIdeal.main_arg0)
      ∧ r.2.mem ((c.tc : Thread Cert.ScatterRefIdeal.nD Cert.ScatterRefIdeal.τ).loc Cert.ScatterRefIdeal.main_arg1) = m ((c.tc : Thread Cert.ScatterRefIdeal.nD Cert.ScatterRefIdeal.τ).loc Cert.ScatterRefIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Combine_CombineIdeal : Prop :=
  True

def algebraic_CombineIdeal_CombineRefIdeal [hCombineIdeal : Cert.CombineIdeal.Facts] [hCombineRefIdeal : Cert.CombineRefIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal m →
    (∀ c : Dev Cert.CombineIdeal.nD,
      m' ((c.tc : Thread Cert.CombineRefIdeal.nD Cert.CombineRefIdeal.τ).loc Cert.CombineRefIdeal.main_arg0) = m ((c.tc : Thread Cert.CombineIdeal.nD Cert.CombineIdeal.τ).loc Cert.CombineIdeal.main_arg0)
      ∧ m' ((c.tc : Thread Cert.CombineRefIdeal.nD Cert.CombineRefIdeal.τ).loc Cert.CombineRefIdeal.main_arg1) = m ((c.tc : Thread Cert.CombineIdeal.nD Cert.CombineIdeal.τ).loc Cert.CombineIdeal.main_arg1)
      ∧ m' ((c.tc : Thread Cert.CombineRefIdeal.nD Cert.CombineRefIdeal.τ).loc Cert.CombineRefIdeal.main_arg2) = m ((c.tc : Thread Cert.CombineIdeal.nD Cert.CombineIdeal.τ).loc Cert.CombineIdeal.main_arg2)
      ∧ m' ((c.tc : Thread Cert.CombineRefIdeal.nD Cert.CombineRefIdeal.τ).loc Cert.CombineRefIdeal.main_arg3) = m ((c.tc : Thread Cert.CombineIdeal.nD Cert.CombineIdeal.τ).loc Cert.CombineIdeal.main_arg3)
      ∧ m' ((c.tc : Thread Cert.CombineRefIdeal.nD Cert.CombineRefIdeal.τ).loc Cert.CombineRefIdeal.main_arg4) = m ((c.tc : Thread Cert.CombineIdeal.nD Cert.CombineIdeal.τ).loc Cert.CombineIdeal.main_arg4)
      ∧ m' ((c.tc : Thread Cert.CombineRefIdeal.nD Cert.CombineRefIdeal.τ).loc Cert.CombineRefIdeal.main_arg5) = m ((c.tc : Thread Cert.CombineIdeal.nD Cert.CombineIdeal.τ).loc Cert.CombineIdeal.main_arg5)
      ∧ m' ((c.tc : Thread Cert.CombineRefIdeal.nD Cert.CombineRefIdeal.τ).loc Cert.CombineRefIdeal.main_arg6) = m ((c.tc : Thread Cert.CombineIdeal.nD Cert.CombineIdeal.τ).loc Cert.CombineIdeal.main_arg6)
      ∧ m' ((c.tc : Thread Cert.CombineRefIdeal.nD Cert.CombineRefIdeal.τ).loc Cert.CombineRefIdeal.main_arg7) = m ((c.tc : Thread Cert.CombineIdeal.nD Cert.CombineIdeal.τ).loc Cert.CombineIdeal.main_arg7)
      ∧ m' ((c.tc : Thread Cert.CombineRefIdeal.nD Cert.CombineRefIdeal.τ).loc Cert.CombineRefIdeal.main_arg8) = m ((c.tc : Thread Cert.CombineIdeal.nD Cert.CombineIdeal.τ).loc Cert.CombineIdeal.main_arg8)) →
    ∃ (v0 : (c : Dev Cert.CombineIdeal.nD) → Buf (Elt Ideal) ((c.tc : Thread Cert.CombineIdeal.nD Cert.CombineIdeal.τ).loc Cert.CombineIdeal.main_v2)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v2) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
          ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)
          ∧ r.2.mem ((c.tc : Thread Cert.CombineIdeal.nD Cert.CombineIdeal.τ).loc Cert.CombineIdeal.main_arg6) = m ((c.tc : Thread Cert.CombineIdeal.nD Cert.CombineIdeal.τ).loc Cert.CombineIdeal.main_arg6)
          ∧ r.2.mem ((c.tc : Thread Cert.CombineIdeal.nD Cert.CombineIdeal.τ).loc Cert.CombineIdeal.main_arg7) = m ((c.tc : Thread Cert.CombineIdeal.nD Cert.CombineIdeal.τ).loc Cert.CombineIdeal.main_arg7)
          ∧ r.2.mem ((c.tc : Thread Cert.CombineIdeal.nD Cert.CombineIdeal.τ).loc Cert.CombineIdeal.main_arg8) = m ((c.tc : Thread Cert.CombineIdeal.nD Cert.CombineIdeal.τ).loc Cert.CombineIdeal.main_arg8))
      ∧ θ_run (Cert.CombineRefIdeal.defs (F := Ideal)) (onTc (τ := Cert.CombineRefIdeal.τ) (Cert.CombineRefIdeal.main (F := Ideal))) ⟨m', fun _ => 0, g'⟩ (fun r => ∀ c : Dev Cert.CombineRefIdeal.nD,
          r.2.mem ((c.tc : Thread Cert.CombineRefIdeal.nD Cert.CombineRefIdeal.τ).loc Cert.CombineRefIdeal.main_v15) = v0 c
          ∧ r.2.mem ((c.tc : Thread Cert.CombineRefIdeal.nD Cert.CombineRefIdeal.τ).loc Cert.CombineRefIdeal.main_arg0) = m' ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m' ((c.tc : Thread Cert.CombineRefIdeal.nD Cert.CombineRefIdeal.τ).loc Cert.CombineRefIdeal.main_arg1)
          ∧ r.2.mem ((c.tc : Thread Cert.CombineRefIdeal.nD Cert.CombineRefIdeal.τ).loc Cert.CombineRefIdeal.main_arg2) = m' ((c.tc : Thread Cert.CombineRefIdeal.nD Cert.CombineRefIdeal.τ).loc Cert.CombineRefIdeal.main_arg2)
          ∧ r.2.mem ((c.tc : Thread Cert.CombineRefIdeal.nD Cert.CombineRefIdeal.τ).loc Cert.CombineRefIdeal.main_arg3) = m' ((c.tc : Thread Cert.CombineRefIdeal.nD Cert.CombineRefIdeal.τ).loc Cert.CombineRefIdeal.main_arg3)
          ∧ r.2.mem ((c.tc : Thread Cert.CombineRefIdeal.nD Cert.CombineRefIdeal.τ).loc Cert.CombineRefIdeal.main_arg4) = m' ((c.tc : Thread Cert.CombineRefIdeal.nD Cert.CombineRefIdeal.τ).loc Cert.CombineRefIdeal.main_arg4)
          ∧ r.2.mem ((c.tc : Thread Cert.CombineRefIdeal.nD Cert.CombineRefIdeal.τ).loc Cert.CombineRefIdeal.main_arg5) = m' ((c.tc : Thread Cert.CombineRefIdeal.nD Cert.CombineRefIdeal.τ).loc Cert.CombineRefIdeal.main_arg5)
          ∧ r.2.mem ((c.tc : Thread Cert.CombineRefIdeal.nD Cert.CombineRefIdeal.τ).loc Cert.CombineRefIdeal.main_arg6) = m' ((c.tc : Thread Cert.CombineRefIdeal.nD Cert.CombineRefIdeal.τ).loc Cert.CombineRefIdeal.main_arg6)
          ∧ r.2.mem ((c.tc : Thread Cert.CombineRefIdeal.nD Cert.CombineRefIdeal.τ).loc Cert.CombineRefIdeal.main_arg7) = m' ((c.tc : Thread Cert.CombineRefIdeal.nD Cert.CombineRefIdeal.τ).loc Cert.CombineRefIdeal.main_arg7)
          ∧ r.2.mem ((c.tc : Thread Cert.CombineRefIdeal.nD Cert.CombineRefIdeal.τ).loc Cert.CombineRefIdeal.main_arg8) = m' ((c.tc : Thread Cert.CombineRefIdeal.nD Cert.CombineRefIdeal.τ).loc Cert.CombineRefIdeal.main_arg8))

def preserves_Router_RouterIdeal : Prop :=
  True

def algebraic_RouterIdeal_RouterRefIdeal [hRouterIdeal : Cert.RouterIdeal.Facts] [hRouterRefIdeal : Cert.RouterRefIdeal.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterRefIdeal.nD Cert.RouterRefIdeal.τ Cert.RouterRefIdeal.sig) → Buf (Elt Ideal) ℓ) (g' : Dev Cert.RouterRefIdeal.nD → PrngReg), Pre_RouterIdeal m →
    (∀ c : Dev Cert.RouterIdeal.nD,
      m' ((c.tc : Thread Cert.RouterRefIdeal.nD Cert.RouterRefIdeal.τ).loc Cert.RouterRefIdeal.main_arg0) = m ((c.tc : Thread Cert.RouterIdeal.nD Cert.RouterIdeal.τ).loc Cert.RouterIdeal.main_arg0)
      ∧ m' ((c.tc : Thread Cert.RouterRefIdeal.nD Cert.RouterRefIdeal.τ).loc Cert.RouterRefIdeal.main_arg1) = m ((c.tc : Thread Cert.RouterIdeal.nD Cert.RouterIdeal.τ).loc Cert.RouterIdeal.main_arg1)
      ∧ m' ((c.tc : Thread Cert.RouterRefIdeal.nD Cert.RouterRefIdeal.τ).loc Cert.RouterRefIdeal.main_arg2) = m ((c.tc : Thread Cert.RouterIdeal.nD Cert.RouterIdeal.τ).loc Cert.RouterIdeal.main_arg2)
      ∧ m' ((c.tc : Thread Cert.RouterRefIdeal.nD Cert.RouterRefIdeal.τ).loc Cert.RouterRefIdeal.main_arg3) = m ((c.tc : Thread Cert.RouterIdeal.nD Cert.RouterIdeal.τ).loc Cert.RouterIdeal.main_arg3)) →
    ∃ (v0 : (c : Dev Cert.RouterIdeal.nD) → Buf (Elt Ideal) ((c.tc : Thread Cert.RouterIdeal.nD Cert.RouterIdeal.τ).loc Cert.RouterIdeal.main_v3_0)) (v1 : (c : Dev Cert.RouterIdeal.nD) → Buf (Elt Ideal) ((c.tc : Thread Cert.RouterIdeal.nD Cert.RouterIdeal.τ).loc Cert.RouterIdeal.main_v3_1)) (v2 : (c : Dev Cert.RouterIdeal.nD) → Buf (Elt Ideal) ((c.tc : Thread Cert.RouterIdeal.nD Cert.RouterIdeal.τ).loc Cert.RouterIdeal.main_v3_2)) (v3 : (c : Dev Cert.RouterIdeal.nD) → Buf (Elt Ideal) ((c.tc : Thread Cert.RouterIdeal.nD Cert.RouterIdeal.τ).loc Cert.RouterIdeal.main_v3_3)) (v4 : (c : Dev Cert.RouterIdeal.nD) → Buf (Elt Ideal) ((c.tc : Thread Cert.RouterIdeal.nD Cert.RouterIdeal.τ).loc Cert.RouterIdeal.main_v3_4)) (v5 : (c : Dev Cert.RouterIdeal.nD) → Buf (Elt Ideal) ((c.tc : Thread Cert.RouterIdeal.nD Cert.RouterIdeal.τ).loc Cert.RouterIdeal.main_v3_5)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v3_0) = v0 c
          ∧ r.2.mem ((c.tc : Thread Cert.RouterIdeal.nD Cert.RouterIdeal.τ).loc Cert.RouterIdeal.main_v3_1) = v1 c
          ∧ r.2.mem ((c.tc : Thread Cert.RouterIdeal.nD Cert.RouterIdeal.τ).loc Cert.RouterIdeal.main_v3_2) = v2 c
          ∧ r.2.mem ((c.tc : Thread Cert.RouterIdeal.nD Cert.RouterIdeal.τ).loc Cert.RouterIdeal.main_v3_3) = v3 c
          ∧ r.2.mem ((c.tc : Thread Cert.RouterIdeal.nD Cert.RouterIdeal.τ).loc Cert.RouterIdeal.main_v3_4) = v4 c
          ∧ r.2.mem ((c.tc : Thread Cert.RouterIdeal.nD Cert.RouterIdeal.τ).loc Cert.RouterIdeal.main_v3_5) = v5 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
          ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
          ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3))
      ∧ θ_run (Cert.RouterRefIdeal.defs (F := Ideal)) (onTc (τ := Cert.RouterRefIdeal.τ) (Cert.RouterRefIdeal.main (F := Ideal))) ⟨m', fun _ => 0, g'⟩ (fun r => ∀ c : Dev Cert.RouterRefIdeal.nD,
          r.2.mem ((c.tc : Thread Cert.RouterRefIdeal.nD Cert.RouterRefIdeal.τ).loc Cert.RouterRefIdeal.main_v235) = v0 c
          ∧ r.2.mem ((c.tc : Thread Cert.RouterRefIdeal.nD Cert.RouterRefIdeal.τ).loc Cert.RouterRefIdeal.main_v236) = v1 c
          ∧ r.2.mem ((c.tc : Thread Cert.RouterRefIdeal.nD Cert.RouterRefIdeal.τ).loc Cert.RouterRefIdeal.main_v237) = v2 c
          ∧ r.2.mem ((c.tc : Thread Cert.RouterRefIdeal.nD Cert.RouterRefIdeal.τ).loc Cert.RouterRefIdeal.main_v239) = v3 c
          ∧ r.2.mem ((c.tc : Thread Cert.RouterRefIdeal.nD Cert.RouterRefIdeal.τ).loc Cert.RouterRefIdeal.main_v241) = v4 c
          ∧ r.2.mem ((c.tc : Thread Cert.RouterRefIdeal.nD Cert.RouterRefIdeal.τ).loc Cert.RouterRefIdeal.main_v234) = v5 c
          ∧ r.2.mem ((c.tc : Thread Cert.RouterRefIdeal.nD Cert.RouterRefIdeal.τ).loc Cert.RouterRefIdeal.main_arg0) = m' ((c.tc : Thread Cert.RouterRefIdeal.nD Cert.RouterRefIdeal.τ).loc Cert.RouterRefIdeal.main_arg0)
          ∧ r.2.mem ((c.tc : Thread Cert.RouterRefIdeal.nD Cert.RouterRefIdeal.τ).loc Cert.RouterRefIdeal.main_arg1) = m' ((c.tc : Thread Cert.RouterRefIdeal.nD Cert.RouterRefIdeal.τ).loc Cert.RouterRefIdeal.main_arg1)
          ∧ r.2.mem ((c.tc : Thread Cert.RouterRefIdeal.nD Cert.RouterRefIdeal.τ).loc Cert.RouterRefIdeal.main_arg2) = m' ((c.tc : Thread Cert.RouterRefIdeal.nD Cert.RouterRefIdeal.τ).loc Cert.RouterRefIdeal.main_arg2)
          ∧ r.2.mem ((c.tc : Thread Cert.RouterRefIdeal.nD Cert.RouterRefIdeal.τ).loc Cert.RouterRefIdeal.main_arg3) = m' ((c.tc : Thread Cert.RouterRefIdeal.nD Cert.RouterRefIdeal.τ).loc Cert.RouterRefIdeal.main_arg3))

def preserves_Experts_ExpertsIdeal : Prop :=
  True

def algebraic_ExpertsIdeal_ExpertsRefIdeal [hExpertsIdeal : Cert.ExpertsIdeal.Facts] [hExpertsRefIdeal : Cert.ExpertsRefIdeal.Facts] [hPre_tables_agree : Cert.Pre_tables_agree.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)
      ∧ m' ((c.tc : Thread Cert.ExpertsRefIdeal.nD Cert.ExpertsRefIdeal.τ).loc Cert.ExpertsRefIdeal.main_arg6) = m ((c.tc : Thread Cert.ExpertsIdeal.nD Cert.ExpertsIdeal.τ).loc Cert.ExpertsIdeal.main_arg6)
      ∧ m' ((c.tc : Thread Cert.ExpertsRefIdeal.nD Cert.ExpertsRefIdeal.τ).loc Cert.ExpertsRefIdeal.main_arg7) = m ((c.tc : Thread Cert.ExpertsIdeal.nD Cert.ExpertsIdeal.τ).loc Cert.ExpertsIdeal.main_arg7)
      ∧ m' ((c.tc : Thread Cert.ExpertsRefIdeal.nD Cert.ExpertsRefIdeal.τ).loc Cert.ExpertsRefIdeal.main_arg8) = m ((c.tc : Thread Cert.ExpertsIdeal.nD Cert.ExpertsIdeal.τ).loc Cert.ExpertsIdeal.main_arg8)) →
    ∃ (v0 : (c : Dev Cert.ExpertsIdeal.nD) → Buf (Elt Ideal) ((c.tc : Thread Cert.ExpertsIdeal.nD Cert.ExpertsIdeal.τ).loc Cert.ExpertsIdeal.main_v2)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v2) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
          ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
          ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v38) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5)
          ∧ r.2.mem ((c.tc : Thread Cert.ExpertsRefIdeal.nD Cert.ExpertsRefIdeal.τ).loc Cert.ExpertsRefIdeal.main_arg6) = m' ((c.tc : Thread Cert.ExpertsRefIdeal.nD Cert.ExpertsRefIdeal.τ).loc Cert.ExpertsRefIdeal.main_arg6)
          ∧ r.2.mem ((c.tc : Thread Cert.ExpertsRefIdeal.nD Cert.ExpertsRefIdeal.τ).loc Cert.ExpertsRefIdeal.main_arg7) = m' ((c.tc : Thread Cert.ExpertsRefIdeal.nD Cert.ExpertsRefIdeal.τ).loc Cert.ExpertsRefIdeal.main_arg7)
          ∧ r.2.mem ((c.tc : Thread Cert.ExpertsRefIdeal.nD Cert.ExpertsRefIdeal.τ).loc Cert.ExpertsRefIdeal.main_arg8) = m' ((c.tc : Thread Cert.ExpertsRefIdeal.nD Cert.ExpertsRefIdeal.τ).loc Cert.ExpertsRefIdeal.main_arg8))

def preserves_Scatter_ScatterIdeal : Prop :=
  True

def algebraic_ScatterIdeal_ScatterRefIdeal [hScatterIdeal : Cert.ScatterIdeal.Facts] [hScatterRefIdeal : Cert.ScatterRefIdeal.Facts] [hPre_experts_named : Cert.Pre_experts_named.Facts] : Prop :=
  ∀ (m : (ℓ : Loc Cert.ScatterIdeal.nD Cert.ScatterIdeal.τ Cert.ScatterIdeal.sig) → Buf (Elt Ideal) ℓ) (g : Dev Cert.ScatterIdeal.nD → PrngReg)
    (m' : (ℓ : Loc Cert.ScatterRefIdeal.nD Cert.ScatterRefIdeal.τ Cert.ScatterRefIdeal.sig) → Buf (Elt Ideal) ℓ) (g' : Dev Cert.ScatterRefIdeal.nD → PrngReg), Pre_ScatterIdeal m →
    (∀ c : Dev Cert.ScatterIdeal.nD,
      m' ((c.tc : Thread Cert.ScatterRefIdeal.nD Cert.ScatterRefIdeal.τ).loc Cert.ScatterRefIdeal.main_arg0) = m ((c.tc : Thread Cert.ScatterIdeal.nD Cert.ScatterIdeal.τ).loc Cert.ScatterIdeal.main_arg0)
      ∧ m' ((c.tc : Thread Cert.ScatterRefIdeal.nD Cert.ScatterRefIdeal.τ).loc Cert.ScatterRefIdeal.main_arg1) = m ((c.tc : Thread Cert.ScatterIdeal.nD Cert.ScatterIdeal.τ).loc Cert.ScatterIdeal.main_arg1)) →
    ∃ (v0 : (c : Dev Cert.ScatterIdeal.nD) → Buf (Elt Ideal) ((c.tc : Thread Cert.ScatterIdeal.nD Cert.ScatterIdeal.τ).loc Cert.ScatterIdeal.main_v48)) (v1 : (c : Dev Cert.ScatterIdeal.nD) → Buf (Elt Ideal) ((c.tc : Thread Cert.ScatterIdeal.nD Cert.ScatterIdeal.τ).loc Cert.ScatterIdeal.main_v57)),
      θ_run (Cert.ScatterIdeal.defs (F := Ideal)) (Cert.ScatterIdeal.threads (F := Ideal)) ⟨m, fun _ => 0, g⟩ (fun r => ∀ c : Dev Cert.ScatterIdeal.nD,
          r.2.mem ((c.tc : Thread Cert.ScatterIdeal.nD Cert.ScatterIdeal.τ).loc Cert.ScatterIdeal.main_v48) = v0 c
          ∧ r.2.mem ((c.tc : Thread Cert.ScatterIdeal.nD Cert.ScatterIdeal.τ).loc Cert.ScatterIdeal.main_v57) = v1 c
          ∧ r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0)
          ∧ r.2.mem ((c.tc : Thread Cert.ScatterIdeal.nD Cert.ScatterIdeal.τ).loc Cert.ScatterIdeal.main_arg1) = m ((c.tc : Thread Cert.ScatterIdeal.nD Cert.ScatterIdeal.τ).loc Cert.ScatterIdeal.main_arg1))
      ∧ θ_run (Cert.ScatterRefIdeal.defs (F := Ideal)) (onTc (τ := Cert.ScatterRefIdeal.τ) (Cert.ScatterRefIdeal.main (F := Ideal))) ⟨m', fun _ => 0, g'⟩ (fun r => ∀ c : Dev Cert.ScatterRefIdeal.nD,
          r.2.mem ((c.tc : Thread Cert.ScatterRefIdeal.nD Cert.ScatterRefIdeal.τ).loc Cert.ScatterRefIdeal.main_arg0) = v0 c
          ∧ r.2.mem ((c.tc : Thread Cert.ScatterRefIdeal.nD Cert.ScatterRefIdeal.τ).loc Cert.ScatterRefIdeal.main_arg0) = v1 c
          ∧ r.2.mem ((c.tc : Thread Cert.ScatterRefIdeal.nD Cert.ScatterRefIdeal.τ).loc Cert.ScatterRefIdeal.main_arg0) = m' ((c.tc : Thread Cert.ScatterRefIdeal.nD Cert.ScatterRefIdeal.τ).loc Cert.ScatterRefIdeal.main_arg0)
          ∧ r.2.mem ((c.tc : Thread Cert.ScatterRefIdeal.nD Cert.ScatterRefIdeal.τ).loc Cert.ScatterRefIdeal.main_arg1) = m' ((c.tc : Thread Cert.ScatterRefIdeal.nD Cert.ScatterRefIdeal.τ).loc Cert.ScatterRefIdeal.main_arg1))

def Claim : Prop :=
  ∃ (hKernel : Cert.Kernel.Facts) (hKernelIdeal : Cert.KernelIdeal.Facts) (hReferenceIdeal : Cert.ReferenceIdeal.Facts) (hCombine : Cert.Combine.Facts) (hCombineIdeal : Cert.CombineIdeal.Facts) (hCombineRefIdeal : Cert.CombineRefIdeal.Facts) (hRouter : Cert.Router.Facts) (hRouterIdeal : Cert.RouterIdeal.Facts) (hRouterRefIdeal : Cert.RouterRefIdeal.Facts) (hExperts : Cert.Experts.Facts) (hExpertsIdeal : Cert.ExpertsIdeal.Facts) (hExpertsRefIdeal : Cert.ExpertsRefIdeal.Facts) (hScatter : Cert.Scatter.Facts) (hScatterIdeal : Cert.ScatterIdeal.Facts) (hScatterRefIdeal : Cert.ScatterRefIdeal.Facts) (hPre_in_range : Cert.Pre_in_range.Facts) (hPre_tables_agree : Cert.Pre_tables_agree.Facts) (hPre_experts_named : Cert.Pre_experts_named.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Combine (hCombine := hCombine)
    ∧ quiescent_CombineIdeal (hCombineIdeal := hCombineIdeal)
    ∧ quiescent_CombineRefIdeal (hCombineRefIdeal := hCombineRefIdeal)
    ∧ quiescent_Router (hRouter := hRouter)
    ∧ quiescent_RouterIdeal (hRouterIdeal := hRouterIdeal)
    ∧ quiescent_RouterRefIdeal (hRouterRefIdeal := hRouterRefIdeal)
    ∧ quiescent_Experts (hExperts := hExperts) (hPre_tables_agree := hPre_tables_agree)
    ∧ quiescent_ExpertsIdeal (hExpertsIdeal := hExpertsIdeal) (hPre_tables_agree := hPre_tables_agree)
    ∧ quiescent_ExpertsRefIdeal (hExpertsRefIdeal := hExpertsRefIdeal)
    ∧ quiescent_ExpertsRefIdeal_pre_tables_agree (hExpertsRefIdeal := hExpertsRefIdeal) (hPre_tables_agree := hPre_tables_agree)
    ∧ quiescent_Scatter (hScatter := hScatter) (hPre_experts_named := hPre_experts_named)
    ∧ quiescent_ScatterIdeal (hScatterIdeal := hScatterIdeal) (hPre_experts_named := hPre_experts_named)
    ∧ quiescent_ScatterRefIdeal (hScatterRefIdeal := hScatterRefIdeal)
    ∧ quiescent_ScatterRefIdeal_pre_experts_named (hScatterRefIdeal := hScatterRefIdeal) (hPre_experts_named := hPre_experts_named)
    ∧ preserves_Kernel_KernelIdeal
    ∧ algebraic_KernelIdeal_ReferenceIdeal (hKernelIdeal := hKernelIdeal) (hReferenceIdeal := hReferenceIdeal) (hPre_in_range := hPre_in_range)
    ∧ preserves_Combine_CombineIdeal
    ∧ algebraic_CombineIdeal_CombineRefIdeal (hCombineIdeal := hCombineIdeal) (hCombineRefIdeal := hCombineRefIdeal)
    ∧ preserves_Router_RouterIdeal
    ∧ algebraic_RouterIdeal_RouterRefIdeal (hRouterIdeal := hRouterIdeal) (hRouterRefIdeal := hRouterRefIdeal)
    ∧ preserves_Experts_ExpertsIdeal
    ∧ algebraic_ExpertsIdeal_ExpertsRefIdeal (hExpertsIdeal := hExpertsIdeal) (hExpertsRefIdeal := hExpertsRefIdeal) (hPre_tables_agree := hPre_tables_agree)
    ∧ preserves_Scatter_ScatterIdeal
    ∧ algebraic_ScatterIdeal_ScatterRefIdeal (hScatterIdeal := hScatterIdeal) (hScatterRefIdeal := hScatterRefIdeal) (hPre_experts_named := hPre_experts_named)
-- ==== Pre_experts_named.lean ====
abbrev S4096x768 : Shape := ⟨2, ![4096, 768]⟩
abbrev S8192x1 : Shape := ⟨2, ![8192, 1]⟩
abbrev S_ : Shape := ⟨0, ![]⟩

class Facts : Prop where
  bcast_S_S8192x1 : S_.BroadcastsInDim S8192x1 (![] : Fin 0 → Fin S8192x1.rank)
  reducesTo_S8192x1_S_d0_1 : S8192x1.ReducesTo [0, 1] S_
  h_S_ : 0 < S_.numel

variable [Facts]

def fn {F : FTy → Type} [FloatOps F] (main_arg0 : FVec F S4096x768 .f32) (main_arg1 : IVec S8192x1 32) : IVec S_ 1 :=
  let main_c : IVec S_ 32 := constantI S_ 32 0#32
  let main_v0 : IVec S8192x1 32 := broadcastInDim S8192x1 ![] bcast_S_S8192x1 main_c
  let main_v1 : IVec S8192x1 1 := cmpi .sge main_arg1 main_v0
  let main_c_0 : IVec S_ 1 := constantI S_ 1 1#1
  let main_v2 : IVec S_ 1 := (fun x v => Host.reduce IntOp.andi x v reducesTo_S8192x1_S_d0_1 h_S_) main_v1 main_c_0
  let main_c_1 : IVec S_ 32 := constantI S_ 32 8#32
  let main_v3 : IVec S8192x1 32 := broadcastInDim S8192x1 ![] bcast_S_S8192x1 main_c_1
  let main_v4 : IVec S8192x1 1 := cmpi .slt main_arg1 main_v3
  let main_c_2 : IVec S_ 1 := constantI S_ 1 1#1
  let main_v5 : IVec S_ 1 := (fun x v => Host.reduce IntOp.andi x v reducesTo_S8192x1_S_d0_1 h_S_) main_v4 main_c_2
  let main_v6 : IVec S_ 1 := andi main_v2 main_v5
  main_v6
-- ==== Pre_in_range.lean ====
abbrev S9984x768 : Shape := ⟨2, ![9984, 768]⟩
abbrev S4096 : Shape := ⟨1, ![4096]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel

variable [Facts]

def fn {F : FTy → Type} [FloatOps F] (main_arg0 : FVec F S9984x768 .f32) (main_arg1 : IVec S4096 32) (main_arg2 : IVec S4096 32) : IVec S_ 1 :=
  let main_c : IVec S_ 32 := constantI S_ 32 0#32
  let main_v0 : IVec S4096 32 := broadcastInDim S4096 ![] bcast_S_S4096 main_c
  let main_v1 : IVec S4096 1 := cmpi .sge main_arg1 main_v0
  let main_c_0 : IVec S_ 1 := constantI S_ 1 1#1
  let main_v2 : IVec S_ 1 := (fun x v => Host.reduce IntOp.andi x v reducesTo_S4096_S_d0 h_S_) main_v1 main_c_0
  let main_c_1 : IVec S_ 32 := constantI S_ 32 9984#32
  let main_v3 : IVec S4096 32 := broadcastInDim S4096 ![] bcast_S_S4096 main_c_1
  let main_v4 : IVec S4096 1 := cmpi .slt main_arg1 main_v3
  let main_c_2 : IVec S_ 1 := constantI S_ 1 1#1
  let main_v5 : IVec S_ 1 := (fun x v => Host.reduce IntOp.andi x v reducesTo_S4096_S_d0 h_S_) main_v4 main_c_2
  let main_v6 : IVec S_ 1 := andi main_v2 main_v5
  let main_c_3 : IVec S_ 32 := constantI S_ 32 0#32
  let main_v7 : IVec S4096 32 := broadcastInDim S4096 ![] bcast_S_S4096 main_c_3
  let main_v8 : IVec S4096 1 := cmpi .sge main_arg2 main_v7
  let main_c_4 : IVec S_ 1 := constantI S_ 1 1#1
  let main_v9 : IVec S_ 1 := (fun x v => Host.reduce IntOp.andi x v reducesTo_S4096_S_d0 h_S_) main_v8 main_c_4
  let main_v10 : IVec S_ 1 := andi main_v6 main_v9
  let main_c_5 : IVec S_ 32 := constantI S_ 32 9984#32
  let main_v11 : IVec S4096 32 := broadcastInDim S4096 ![] bcast_S_S4096 main_c_5
  let main_v12 : IVec S4096 1 := cmpi .slt main_arg2 main_v11
  let main_c_6 : IVec S_ 1 := constantI S_ 1 1#1
  let main_v13 : IVec S_ 1 := (fun x v => Host.reduce IntOp.andi x v reducesTo_S4096_S_d0 h_S_) main_v12 main_c_6
  let main_v14 : IVec S_ 1 := andi main_v10 main_v13
  main_v14
-- ==== Pre_tables_agree.lean ====
abbrev S39 : Shape := ⟨1, ![39]⟩
abbrev S9984x768 : Shape := ⟨2, ![9984, 768]⟩
abbrev S8x768x2048 : Shape := ⟨3, ![8, 768, 2048]⟩
abbrev S8x2048 : Shape := ⟨2, ![8, 2048]⟩
abbrev S8x2048x768 : Shape := ⟨3, ![8, 2048, 768]⟩
abbrev S8x768 : Shape := ⟨2, ![8, 768]⟩
abbrev S38 : Shape := ⟨1, ![38]⟩
abbrev S_ : Shape := ⟨0, ![]⟩
abbrev S1 : Shape := ⟨1, ![1]⟩

class Facts : Prop where
  slices_S39_S38_1 : S39.Slices ![1] S38
  bcast_S_S38 : S_.BroadcastsInDim S38 (![] : Fin 0 → Fin S38.rank)
  bcast_S_S39 : S_.BroadcastsInDim S39 (![] : Fin 0 → Fin S39.rank)
  reducesTo_S39_S_d0 : S39.ReducesTo [0] S_
  h_S_ : 0 < S_.numel
  slices_S39_S1_0 : S39.Slices ![0] S1
  shapeCasts_S1_S_ : S1.ShapeCasts S_
  slices_S39_S1_38 : S39.Slices ![38] S1
  slices_S39_S38_0 : S39.Slices ![0] S38
  reducesTo_S38_S_d0 : S38.ReducesTo [0] S_

variable [Facts]

def fn_where {F : FTy → Type} [FloatOps F] (arg0 : IVec S38 1) (arg1 : IVec S38 1) (arg2 : IVec S38 1) : IVec S38 1 :=
  let v0 : IVec S38 1 := select arg0 arg1 arg2
  v0

def fn_part2 {F : FTy → Type} [FloatOps F] (main_arg2 : IVec S39 32) (main_arg3 : IVec S39 32) (main_v2 : IVec S38 1) (main_v29 : IVec S_ 1) (main_v32 : IVec S38 1) (main_v33 : IVec S38 32) (main_v34 : IVec S38 32) : IVec S_ 1 :=
  let main_v35 : IVec S38 1 := cmpi .eq main_v33 main_v34
  let main_v36 : IVec S38 32 := (extractStridedSlice S38 ![1] · slices_S39_S38_1) main_arg3
  let main_v37 : IVec S38 32 := (extractStridedSlice S38 ![0] · slices_S39_S38_0) main_arg3
  let main_v38 : IVec S38 1 := cmpi .eq main_v36 main_v37
  let main_v39 : IVec S38 1 := andi main_v35 main_v38
  let main_v40 : IVec S38 1 := fn_where (F := F) main_v2 main_v32 main_v39
  let main_c_12 : IVec S_ 1 := constantI S_ 1 1#1
  let main_v41 : IVec S_ 1 := (fun x v => Host.reduce IntOp.andi x v reducesTo_S38_S_d0 h_S_) main_v40 main_c_12
  let main_v42 : IVec S_ 1 := andi main_v29 main_v41
  let main_v43 : IVec S38 32 := (extractStridedSlice S38 ![1] · slices_S39_S38_1) main_arg2
  let main_v44 : IVec S38 32 := (extractStridedSlice S38 ![0] · slices_S39_S38_0) main_arg2
  let main_c_13 : IVec S_ 32 := constantI S_ 32 1#32
  let main_v45 : IVec S38 32 := broadcastInDim S38 ![] bcast_S_S38 main_c_13
  let main_v46 : IVec S38 32 := subi main_v45 main_v44
  let main_v47 : IVec S38 1 := cmpi .eq main_v43 main_v46
  let main_v48 : IVec S38 32 := (extractStridedSlice S38 ![1] · slices_S39_S38_1) main_arg2
  let main_v49 : IVec S38 32 := (extractStridedSlice S38 ![0] · slices_S39_S38_0) main_arg2
  let main_v50 : IVec S38 1 := cmpi .eq main_v48 main_v49
  let main_v51 : IVec S38 1 := fn_where (F := F) main_v2 main_v47 main_v50
  let main_c_14 : IVec S_ 1 := constantI S_ 1 1#1
  let main_v52 : IVec S_ 1 := (fun x v => Host.reduce IntOp.andi x v reducesTo_S38_S_d0 h_S_) main_v51 main_c_14
  let main_v53 : IVec S_ 1 := andi main_v42 main_v52
  main_v53

def fn_part1 {F : FTy → Type} [FloatOps F] (main_arg0 : IVec S39 32) (main_arg1 : IVec S39 32) (main_arg2 : IVec S39 32) (main_arg3 : IVec S39 32) (main_v2 : IVec S38 1) (main_v13 : IVec S_ 1) (main_v15 : IVec S39 1) : IVec S_ 1 :=
  let main_c_7 : IVec S_ 1 := constantI S_ 1 1#1
  let main_v16 : IVec S_ 1 := (fun x v => Host.reduce IntOp.andi x v reducesTo_S39_S_d0 h_S_) main_v15 main_c_7
  let main_v17 : IVec S_ 1 := andi main_v13 main_v16
  let main_c_8 : IVec S_ 32 := constantI S_ 32 0#32
  let main_v18 : IVec S39 32 := broadcastInDim S39 ![] bcast_S_S39 main_c_8
  let main_v19 : IVec S39 1 := cmpi .sge main_arg3 main_v18
  let main_c_9 : IVec S_ 1 := constantI S_ 1 1#1
  let main_v20 : IVec S_ 1 := (fun x v => Host.reduce IntOp.andi x v reducesTo_S39_S_d0 h_S_) main_v19 main_c_9
  let main_v21 : IVec S_ 1 := andi main_v17 main_v20
  let main_v22 : IVec S1 32 := (extractStridedSlice S1 ![0] · slices_S39_S1_0) main_arg1
  let main_v23 : IVec S_ 32 := shapeCast S_ main_v22 shapeCasts_S1_S_
  let main_c_10 : IVec S_ 32 := constantI S_ 32 1#32
  let main_v24 : IVec S_ 1 := cmpi .eq main_v23 main_c_10
  let main_v25 : IVec S_ 1 := andi main_v21 main_v24
  let main_v26 : IVec S1 32 := (extractStridedSlice S1 ![38] · slices_S39_S1_38) main_arg3
  let main_v27 : IVec S_ 32 := shapeCast S_ main_v26 shapeCasts_S1_S_
  let main_c_11 : IVec S_ 32 := constantI S_ 32 8#32
  let main_v28 : IVec S_ 1 := cmpi .eq main_v27 main_c_11
  let main_v29 : IVec S_ 1 := andi main_v25 main_v28
  let main_v30 : IVec S38 32 := (extractStridedSlice S38 ![1] · slices_S39_S38_1) main_arg0
  let main_v31 : IVec S38 32 := (extractStridedSlice S38 ![0] · slices_S39_S38_0) main_arg3
  let main_v32 : IVec S38 1 := cmpi .eq main_v30 main_v31
  let main_v33 : IVec S38 32 := (extractStridedSlice S38 ![1] · slices_S39_S38_1) main_arg0
  let main_v34 : IVec S38 32 := (extractStridedSlice S38 ![0] · slices_S39_S38_0) main_arg0
  fn_part2 (F := F) main_arg2 main_arg3 main_v2 main_v29 main_v32 main_v33 main_v34

def fn {F : FTy → Type} [FloatOps F] (main_arg0 : IVec S39 32) (main_arg1 : IVec S39 32) (main_arg2 : IVec S39 32) (main_arg3 : IVec S39 32) (main_arg4 : FVec F S9984x768 .f32) (main_arg5 : FVec F S8x768x2048 .f32) (main_arg6 : FVec F S8x2048 .f32) (main_arg7 : FVec F S8x2048x768 .f32) (main_arg8 : FVec F S8x768 .f32) : IVec S_ 1 :=
  let main_v0 : IVec S38 32 := (extractStridedSlice S38 ![1] · slices_S39_S38_1) main_arg1
  let main_c : IVec S_ 32 := constantI S_ 32 1#32
  let main_v1 : IVec S38 32 := broadcastInDim S38 ![] bcast_S_S38 main_c
  let main_v2 : IVec S38 1 := cmpi .eq main_v0 main_v1
  let main_c_0 : IVec S_ 32 := constantI S_ 32 0#32
  let main_v3 : IVec S39 32 := broadcastInDim S39 ![] bcast_S_S39 main_c_0
  let main_v4 : IVec S39 1 := cmpi .sge main_arg0 main_v3
  let main_c_1 : IVec S_ 1 := constantI S_ 1 1#1
  let main_v5 : IVec S_ 1 := (fun x v => Host.reduce IntOp.andi x v reducesTo_S39_S_d0 h_S_) main_v4 main_c_1
  let main_c_2 : IVec S_ 32 := constantI S_ 32 8#32
  let main_v6 : IVec S39 32 := broadcastInDim S39 ![] bcast_S_S39 main_c_2
  let main_v7 : IVec S39 1 := cmpi .slt main_arg0 main_v6
  let main_c_3 : IVec S_ 1 := constantI S_ 1 1#1
  let main_v8 : IVec S_ 1 := (fun x v => Host.reduce IntOp.andi x v reducesTo_S39_S_d0 h_S_) main_v7 main_c_3
  let main_v9 : IVec S_ 1 := andi main_v5 main_v8
  let main_c_4 : IVec S_ 32 := constantI S_ 32 0#32
  let main_v10 : IVec S39 32 := broadcastInDim S39 ![] bcast_S_S39 main_c_4
  let main_v11 : IVec S39 1 := cmpi .sge main_arg2 main_v10
  let main_c_5 : IVec S_ 1 := constantI S_ 1 1#1
  let main_v12 : IVec S_ 1 := (fun x v => Host.reduce IntOp.andi x v reducesTo_S39_S_d0 h_S_) main_v11 main_c_5
  let main_v13 : IVec S_ 1 := andi main_v9 main_v12
  let main_c_6 : IVec S_ 32 := constantI S_ 32 2#32
  let main_v14 : IVec S39 32 := broadcastInDim S39 ![] bcast_S_S39 main_c_6
  let main_v15 : IVec S39 1 := cmpi .slt main_arg2 main_v14
  fn_part1 (F := F) main_arg0 main_arg1 main_arg2 main_arg3 main_v2 main_v13 main_v15
-- ==== Kernel.lean ====
abbrev S9984x768 : Shape := ⟨2, ![9984, 768]⟩
abbrev S4096 : Shape := ⟨1, ![4096]⟩
abbrev S4096x768 : Shape := ⟨2, ![4096, 768]⟩
abbrev S128 : Shape := ⟨1, ![128]⟩
abbrev S128x768 : Shape := ⟨2, ![128, 768]⟩
abbrev S_ : Shape := ⟨0, ![]⟩
abbrev S128x128 : Shape := ⟨2, ![128, 128]⟩
abbrev S9984x128 : Shape := ⟨2, ![9984, 128]⟩

abbrev nBuf : Table → Nat
  | .hbm => 5
  | .local .scVector .vmem => 2
  | _ => 0

abbrev bufTy : (tb : Table) → Fin (nBuf tb) → BufTy
  | .hbm, ⟨0, _⟩ => ⟨S9984x768, .f32⟩
  | .hbm, ⟨1, _⟩ => ⟨S4096, .i32⟩
  | .hbm, ⟨2, _⟩ => ⟨S4096, .i32⟩
  | .hbm, ⟨3, _⟩ => ⟨S4096x768, .f32⟩
  | .hbm, ⟨4, _⟩ => ⟨S4096x768, .f32⟩
  | .local .scVector .vmem, ⟨0, _⟩ => ⟨S128, .i32⟩
  | .local .scVector .vmem, ⟨1, _⟩ => ⟨S128x768, .f32⟩
  | _, _ => ⟨S9984x768, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_v0_0_scv : Ref sig .scVector := ⟨.hbm, 3, rfl⟩
abbrev main_v0_1_scv : Ref sig .scVector := ⟨.hbm, 4, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
@[reducible] def k0_t1_loop : Scf.Loop 32 :=
  let c0_i32 : BitVec 32 := 0#32
  let c6_i32 : BitVec 32 := 6#32
  let v3 : BitVec 32 := Scalar.addi c0_i32 c6_i32
  let c1_i32 : BitVec 32 := 1#32
  ⟨c0_i32, v3, c1_i32⟩
def k0_mult1 (k0_t1 : Fin k0_t1_loop.trips) : BitVec 32 :=
  let c0_i32_6 : BitVec 32 := 0#32
  let c0_i32 : BitVec 32 := 0#32
  let c1_i32 : BitVec 32 := 1#32
  let arg10 : BitVec 32 := Scf.iv c0_i32 c1_i32 k0_t1
  let c1_i32_5 : BitVec 32 := 1#32
  let v5 : BitVec 32 := Scalar.muli arg10 c1_i32_5
  let v6 : BitVec 32 := Scalar.addi c0_i32_6 v5
  let c128_i32_7 : BitVec 32 := 128#32
  let v7 : BitVec 32 := Scalar.muli v6 c128_i32_7
  v7
def k0_off2 (k0_t1 : Fin k0_t1_loop.trips) : Fin 2 → Nat :=
  let c0_i32_8 : BitVec 32 := 0#32
  let c0_i32_6 : BitVec 32 := 0#32
  let c0_i32 : BitVec 32 := 0#32
  let c1_i32 : BitVec 32 := 1#32
  let arg10 : BitVec 32 := Scf.iv c0_i32 c1_i32 k0_t1
  let c1_i32_5 : BitVec 32 := 1#32
  let v5 : BitVec 32 := Scalar.muli arg10 c1_i32_5
  let v6 : BitVec 32 := Scalar.addi c0_i32_6 v5
  let c128_i32_7 : BitVec 32 := 128#32
  let v7 : BitVec 32 := Scalar.muli v6 c128_i32_7
  let v8 : BitVec 32 := v7
  ![0, v8.toNat]
def k0_off3 (k0_t1 : Fin k0_t1_loop.trips) : Fin 2 → Nat :=
  let c0_i32_9 : BitVec 32 := 0#32
  let c0_i32_6 : BitVec 32 := 0#32
  let c0_i32 : BitVec 32 := 0#32
  let c1_i32 : BitVec 32 := 1#32
  let arg10 : BitVec 32 := Scf.iv c0_i32 c1_i32 k0_t1
  let c1_i32_5 : BitVec 32 := 1#32
  let v5 : BitVec 32 := Scalar.muli arg10 c1_i32_5
  let v6 : BitVec 32 := Scalar.addi c0_i32_6 v5
  let c128_i32_7 : BitVec 32 := 128#32
  let v7 : BitVec 32 := Scalar.muli v6 c128_i32_7
  let v8 : BitVec 32 := v7
  ![0, v8.toNat]
def k0_off4 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_5_r1 : BitVec 32 := 0#32
  ![v2.toNat, 0]
@[reducible] def k0_t2_loop : Scf.Loop 32 :=
  let c0_i32_1 : BitVec 32 := 0#32
  let c6_i32_2 : BitVec 32 := 6#32
  let v4 : BitVec 32 := Scalar.addi c0_i32_1 c6_i32_2
  let c1_i32_3 : BitVec 32 := 1#32
  ⟨c0_i32_1, v4, c1_i32_3⟩
def k0_mult2 (k0_t2 : Fin k0_t2_loop.trips) : BitVec 32 :=
  let c0_i32_6 : BitVec 32 := 0#32
  let c0_i32_1 : BitVec 32 := 0#32
  let c1_i32_3 : BitVec 32 := 1#32
  let arg10 : BitVec 32 := Scf.iv c0_i32_1 c1_i32_3 k0_t2
  let c1_i32_5 : BitVec 32 := 1#32
  let v5 : BitVec 32 := Scalar.muli arg10 c1_i32_5
  let v6 : BitVec 32 := Scalar.addi c0_i32_6 v5
  let c128_i32_7 : BitVec 32 := 128#32
  let v7 : BitVec 32 := Scalar.muli v6 c128_i32_7
  v7
def k0_off5 (k0_t2 : Fin k0_t2_loop.trips) : Fin 2 → Nat :=
  let c0_i32_8 : BitVec 32 := 0#32
  let c0_i32_6 : BitVec 32 := 0#32
  let c0_i32_1 : BitVec 32 := 0#32
  let c1_i32_3 : BitVec 32 := 1#32
  let arg10 : BitVec 32 := Scf.iv c0_i32_1 c1_i32_3 k0_t2
  let c1_i32_5 : BitVec 32 := 1#32
  let v5 : BitVec 32 := Scalar.muli arg10 c1_i32_5
  let v6 : BitVec 32 := Scalar.addi c0_i32_6 v5
  let c128_i32_7 : BitVec 32 := 128#32
  let v7 : BitVec 32 := Scalar.muli v6 c128_i32_7
  let v8 : BitVec 32 := v7
  ![0, v8.toNat]
def k0_off6 (k0_t2 : Fin k0_t2_loop.trips) : Fin 2 → Nat :=
  let c0_i32_9 : BitVec 32 := 0#32
  let c0_i32_6 : BitVec 32 := 0#32
  let c0_i32_1 : BitVec 32 := 0#32
  let c1_i32_3 : BitVec 32 := 1#32
  let arg10 : BitVec 32 := Scf.iv c0_i32_1 c1_i32_3 k0_t2
  let c1_i32_5 : BitVec 32 := 1#32
  let v5 : BitVec 32 := Scalar.muli arg10 c1_i32_5
  let v6 : BitVec 32 := Scalar.addi c0_i32_6 v5
  let c128_i32_7 : BitVec 32 := 128#32
  let v7 : BitVec 32 := Scalar.muli v6 c128_i32_7
  let v8 : BitVec 32 := v7
  ![0, v8.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S9984x768 : Shape := ⟨2, ![9984, 768]⟩
abbrev S4096 : Shape := ⟨1, ![4096]⟩
abbrev S_ : Shape := ⟨0, ![]⟩
abbrev S4096x1 : Shape := ⟨2, ![4096, 1]⟩
abbrev S4096x768 : Shape := ⟨2, ![4096, 768]⟩

abbrev nBuf : Space → Nat
  | .hbm => 21
  | .vmem => 0
  | .smem => 0
  | _ => 0

abbrev bufTy : (tb : Table) → Fin (tcTables nBuf tb) → BufTy
  | .hbm, ⟨0, _⟩ => ⟨S9984x768, .f32⟩
  | .hbm, ⟨1, _⟩ => ⟨S4096, .i32⟩
  | .hbm, ⟨2, _⟩ => ⟨S4096, .i32⟩
  | .hbm, ⟨3, _⟩ => ⟨S_, .i32⟩
  | .hbm, ⟨4, _⟩ => ⟨S4096, .i32⟩
  | .hbm, ⟨5, _⟩ => ⟨S4096, .i1⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S4096x1, .i32⟩
  | .hbm, ⟨11, _⟩ => ⟨S4096x768, .f32⟩
  | .hbm, ⟨12, _⟩ => ⟨S_, .i32⟩
  | .hbm, ⟨13, _⟩ => ⟨S4096, .i32⟩
  | .hbm, ⟨14, _⟩ => ⟨S4096, .i1⟩
  | .hbm, ⟨15, _⟩ => ⟨S_, .i32⟩
  | .hbm, ⟨16, _⟩ => ⟨S4096, .i32⟩
  | .hbm, ⟨17, _⟩ => ⟨S4096, .i32⟩
  | .hbm, ⟨18, _⟩ => ⟨S4096, .i32⟩
  | .hbm, ⟨19, _⟩ => ⟨S4096x1, .i32⟩
  | .hbm, ⟨20, _⟩ => ⟨S4096x768, .f32⟩
  | _, _ => ⟨S9984x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]
-- ==== Combine.lean ====
abbrev S4096x768 : Shape := ⟨2, ![4096, 768]⟩
abbrev S4096x1 : Shape := ⟨2, ![4096, 1]⟩
abbrev S768x2048 : Shape := ⟨2, ![768, 2048]⟩
abbrev S2048 : Shape := ⟨1, ![2048]⟩
abbrev S2048x768 : Shape := ⟨2, ![2048, 768]⟩
abbrev S768 : Shape := ⟨1, ![768]⟩
abbrev S1x2048 : Shape := ⟨2, ![1, 2048]⟩
abbrev S1x768 : Shape := ⟨2, ![1, 768]⟩
abbrev S512x768 : Shape := ⟨2, ![512, 768]⟩
abbrev S512x1 : Shape := ⟨2, ![512, 1]⟩
abbrev S512x2048 : Shape := ⟨2, ![512, 2048]⟩

abbrev nBuf : Space → Nat
  | .hbm => 12
  | .vmem => 16
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x1, .f32⟩
  | .hbm, ⟨3, _⟩ => ⟨S4096x1, .f32⟩
  | .hbm, ⟨4, _⟩ => ⟨S4096x768, .f32⟩
  | .hbm, ⟨5, _⟩ => ⟨S768x2048, .f32⟩
  | .hbm, ⟨6, _⟩ => ⟨S2048, .f32⟩
  | .hbm, ⟨7, _⟩ => ⟨S2048x768, .f32⟩
  | .hbm, ⟨8, _⟩ => ⟨S768, .f32⟩
  | .hbm, ⟨9, _⟩ => ⟨S1x2048, .f32⟩
  | .hbm, ⟨10, _⟩ => ⟨S1x768, .f32⟩
  | .hbm, ⟨11, _⟩ => ⟨S4096x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x1, .f32⟩
  | .local _ .vmem, ⟨5, _⟩ => ⟨S512x1, .f32⟩
  | .local _ .vmem, ⟨6, _⟩ => ⟨S512x1, .f32⟩
  | .local _ .vmem, ⟨7, _⟩ => ⟨S512x1, .f32⟩
  | .local _ .vmem, ⟨8, _⟩ => ⟨S512x768, .f32⟩
  | .local _ .vmem, ⟨9, _⟩ => ⟨S512x768, .f32⟩
  | .local _ .vmem, ⟨10, _⟩ => ⟨S768x2048, .f32⟩
  | .local _ .vmem, ⟨11, _⟩ => ⟨S1x2048, .f32⟩
  | .local _ .vmem, ⟨12, _⟩ => ⟨S2048x768, .f32⟩
  | .local _ .vmem, ⟨13, _⟩ => ⟨S1x768, .f32⟩
  | .local _ .vmem, ⟨14, _⟩ => ⟨S512x768, .f32⟩
  | .local _ .vmem, ⟨15, _⟩ => ⟨S512x768, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S768x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== CombineRefIdeal.lean ====
abbrev S4096x768 : Shape := ⟨2, ![4096, 768]⟩
abbrev S4096x1 : Shape := ⟨2, ![4096, 1]⟩
abbrev S768x2048 : Shape := ⟨2, ![768, 2048]⟩
abbrev S2048 : Shape := ⟨1, ![2048]⟩
abbrev S2048x768 : Shape := ⟨2, ![2048, 768]⟩
abbrev S768 : Shape := ⟨1, ![768]⟩
abbrev S4096x2048 : Shape := ⟨2, ![4096, 2048]⟩
abbrev S1x2048 : Shape := ⟨2, ![1, 2048]⟩
abbrev S_ : Shape := ⟨0, ![]⟩
abbrev S1x768 : Shape := ⟨2, ![1, 768]⟩

abbrev nBuf : Space → Nat
  | .hbm => 26
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x1, .f32⟩
  | .hbm, ⟨3, _⟩ => ⟨S4096x1, .f32⟩
  | .hbm, ⟨4, _⟩ => ⟨S4096x768, .f32⟩
  | .hbm, ⟨5, _⟩ => ⟨S768x2048, .f32⟩
  | .hbm, ⟨6, _⟩ => ⟨S2048, .f32⟩
  | .hbm, ⟨7, _⟩ => ⟨S2048x768, .f32⟩
  | .hbm, ⟨8, _⟩ => ⟨S768, .f32⟩
  | .hbm, ⟨9, _⟩ => ⟨S4096x2048, .f32⟩
  | .hbm, ⟨10, _⟩ => ⟨S1x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x768, .f32⟩
  | .hbm, ⟨17, _⟩ => ⟨S1x768, .f32⟩
  | .hbm, ⟨18, _⟩ => ⟨S4096x768, .f32⟩
  | .hbm, ⟨19, _⟩ => ⟨S4096x768, .f32⟩
  | .hbm, ⟨20, _⟩ => ⟨S4096x768, .f32⟩
  | .hbm, ⟨21, _⟩ => ⟨S4096x768, .f32⟩
  | .hbm, ⟨22, _⟩ => ⟨S4096x768, .f32⟩
  | .hbm, ⟨23, _⟩ => ⟨S4096x768, .f32⟩
  | .hbm, ⟨24, _⟩ => ⟨S4096x768, .f32⟩
  | .hbm, ⟨25, _⟩ => ⟨S4096x768, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Router.lean ====
abbrev S2x2048x768 : Shape := ⟨3, ![2, 2048, 768]⟩
abbrev S768x8 : Shape := ⟨2, ![768, 8]⟩
abbrev S8 : Shape := ⟨1, ![8]⟩
abbrev S1 : Shape := ⟨1, ![1]⟩
abbrev S4096x768 : Shape := ⟨2, ![4096, 768]⟩
abbrev S1x8 : Shape := ⟨2, ![1, 8]⟩
abbrev S1x1 : Shape := ⟨2, ![1, 1]⟩
abbrev S4096x1 : Shape := ⟨2, ![4096, 1]⟩
abbrev S128x4 : Shape := ⟨2, ![128, 4]⟩
abbrev S4096x8 : Shape := ⟨2, ![4096, 8]⟩
abbrev S4096 : Shape := ⟨1, ![4096]⟩
abbrev S1x1x8 : Shape := ⟨3, ![1, 1, 8]⟩
abbrev S1x1x1 : Shape := ⟨3, ![1, 1, 1]⟩
abbrev S8x1 : Shape := ⟨2, ![8, 1]⟩
abbrev S8x8 : Shape := ⟨2, ![8, 8]⟩
abbrev S512x512 : Shape := ⟨2, ![512, 512]⟩
abbrev S4096x16 : Shape := ⟨2, ![4096, 16]⟩
abbrev S1x16 : Shape := ⟨2, ![1, 16]⟩
abbrev S512x16 : Shape := ⟨2, ![512, 16]⟩
abbrev S512x8 : Shape := ⟨2, ![512, 8]⟩
abbrev S512 : Shape := ⟨1, ![512]⟩
abbrev S512x1 : Shape := ⟨2, ![512, 1]⟩
abbrev S16 : Shape := ⟨1, ![16]⟩
abbrev S128x1 : Shape := ⟨2, ![128, 1]⟩
abbrev S128x8 : Shape := ⟨2, ![128, 8]⟩
abbrev S128 : Shape := ⟨1, ![128]⟩
abbrev S127x1 : Shape := ⟨2, ![127, 1]⟩
abbrev S128x128 : Shape := ⟨2, ![128, 128]⟩
abbrev S1x128 : Shape := ⟨2, ![1, 128]⟩

abbrev nBuf : Space → Nat
  | .hbm => 13
  | .vmem => 10
  | .smem => 0
  | _ => 0

abbrev bufTy : (tb : Table) → Fin (tcTables nBuf tb) → BufTy
  | .hbm, ⟨0, _⟩ => ⟨S2x2048x768, .f32⟩
  | .hbm, ⟨1, _⟩ => ⟨S768x8, .f32⟩
  | .hbm, ⟨2, _⟩ => ⟨S8, .f32⟩
  | .hbm, ⟨3, _⟩ => ⟨S1, .f32⟩
  | .hbm, ⟨4, _⟩ => ⟨S4096x768, .f32⟩
  | .hbm, ⟨5, _⟩ => ⟨S1x8, .f32⟩
  | .hbm, ⟨6, _⟩ => ⟨S1x1, .f32⟩
  | .hbm, ⟨7, _⟩ => ⟨S1x1, .f32⟩
  | .hbm, ⟨8, _⟩ => ⟨S4096x1, .f32⟩
  | .hbm, ⟨9, _⟩ => ⟨S4096x1, .f32⟩
  | .hbm, ⟨10, _⟩ => ⟨S4096x1, .i32⟩
  | .hbm, ⟨11, _⟩ => ⟨S4096x1, .i32⟩
  | .hbm, ⟨12, _⟩ => ⟨S128x4, .i32⟩
  | .local _ .vmem, ⟨0, _⟩ => ⟨S4096x768, .f32⟩
  | .local _ .vmem, ⟨1, _⟩ => ⟨S768x8, .f32⟩
  | .local _ .vmem, ⟨2, _⟩ => ⟨S1x8, .f32⟩
  | .local _ .vmem, ⟨3, _⟩ => ⟨S1x1, .f32⟩
  | .local _ .vmem, ⟨4, _⟩ => ⟨S1x1, .f32⟩
  | .local _ .vmem, ⟨5, _⟩ => ⟨S4096x1, .f32⟩
  | .local _ .vmem, ⟨6, _⟩ => ⟨S4096x1, .f32⟩
  | .local _ .vmem, ⟨7, _⟩ => ⟨S4096x1, .i32⟩
  | .local _ .vmem, ⟨8, _⟩ => ⟨S4096x1, .i32⟩
  | .local _ .vmem, ⟨9, _⟩ => ⟨S128x4, .i32⟩
  | _, _ => ⟨S2x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev main_v3_5 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S4096x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4096x1 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4096x1 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128x4 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== RouterRefIdeal.lean ====
abbrev S2x2048x768 : Shape := ⟨3, ![2, 2048, 768]⟩
abbrev S768x8 : Shape := ⟨2, ![768, 8]⟩
abbrev S8 : Shape := ⟨1, ![8]⟩
abbrev S1 : Shape := ⟨1, ![1]⟩
abbrev S4096x768 : Shape := ⟨2, ![4096, 768]⟩
abbrev S4096x8 : Shape := ⟨2, ![4096, 8]⟩
abbrev S1x8 : Shape := ⟨2, ![1, 8]⟩
abbrev S1x1 : Shape := ⟨2, ![1, 1]⟩
abbrev S_ : Shape := ⟨0, ![]⟩
abbrev S4096 : Shape := ⟨1, ![4096]⟩
abbrev S4096x1 : Shape := ⟨2, ![4096, 1]⟩
abbrev S4096x2 : Shape := ⟨2, ![4096, 2]⟩
abbrev S4096x2x1 : Shape := ⟨3, ![4096, 2, 1]⟩
abbrev S1x1x1 : Shape := ⟨3, ![1, 1, 1]⟩
abbrev S8192x1 : Shape := ⟨2, ![8192, 1]⟩
abbrev S8192 : Shape := ⟨1, ![8192]⟩
abbrev S8192x8 : Shape := ⟨2, ![8192, 8]⟩
abbrev S1x8192 : Shape := ⟨2, ![1, 8192]⟩
abbrev S8192x8192 : Shape := ⟨2, ![8192, 8192]⟩
abbrev S2x4096x1 : Shape := ⟨3, ![2, 4096, 1]⟩
abbrev S8x1 : Shape := ⟨2, ![8, 1]⟩
abbrev S8x8 : Shape := ⟨2, ![8, 8]⟩
abbrev S128 : Shape := ⟨1, ![128]⟩
abbrev S128x1 : Shape := ⟨2, ![128, 1]⟩
abbrev S128x8 : Shape := ⟨2, ![128, 8]⟩
abbrev S127 : Shape := ⟨1, ![127]⟩
abbrev S1x128 : Shape := ⟨2, ![1, 128]⟩
abbrev S128x128 : Shape := ⟨2, ![128, 128]⟩
abbrev S128x4 : Shape := ⟨2, ![128, 4]⟩
abbrev S1x4096x1 : Shape := ⟨3, ![1, 4096, 1]⟩

abbrev nBuf : Space → Nat
  | .hbm => 348
  | .vmem => 0
  | .smem => 0
  | _ => 0

abbrev hbmTy0_0 (i : Nat) : BufTy := match i % 128 with
  | 0 => ⟨S2x2048x768, .f32⟩
  | 1 => ⟨S768x8, .f32⟩
  | 2 => ⟨S8, .f32⟩
  | 3 => ⟨S1, .f32⟩
  | 4 => ⟨S4096x768, .f32⟩
  | 5 => ⟨S4096x8, .f32⟩
  | 6 => ⟨S1x8, .f32⟩
  | 7 => ⟨S4096x8, .f32⟩
  | 8 => ⟨S4096x8, .f32⟩
  | 9 => ⟨S1x1, .f32⟩
  | 10 => ⟨S4096x8, .f32⟩
  | 11 => ⟨S4096x8, .f32⟩
  | 12 => ⟨S_, .f32⟩
  | 13 => ⟨S4096, .f32⟩
  | 14 => ⟨S_, .f32⟩
  | 15 => ⟨S4096, .f32⟩
  | 16 => ⟨S4096, .f32⟩
  | 17 => ⟨S4096x1, .f32⟩
  | 18 => ⟨S4096x8, .f32⟩
  | 19 => ⟨S4096x8, .f32⟩
  | 20 => ⟨S4096x8, .f32⟩
  | 21 => ⟨S_, .f32⟩
  | 22 => ⟨S4096, .f32⟩
  | 23 => ⟨S4096x1, .f32⟩
  | 24 => ⟨S4096x8, .f32⟩
  | 25 => ⟨S4096x8, .f32⟩
  | 26 => ⟨S4096x2, .f32⟩
  | 27 => ⟨S4096x2, .i32⟩
  | 28 => ⟨S4096x1, .i32⟩
  | 29 => ⟨S4096, .i32⟩
  | 30 => ⟨S_, .i32⟩
  | 31 => ⟨S8, .i32⟩
  | 32 => ⟨S_, .i32⟩
  | 33 => ⟨S_, .i32⟩
  | 34 => ⟨S4096, .i32⟩
  | 35 => ⟨S4096, .i32⟩
  | 36 => ⟨S_, .i32⟩
  | 37 => ⟨S4096, .i32⟩
  | 38 => ⟨S4096, .i1⟩
  | 39 => ⟨S_, .i32⟩
  | 40 => ⟨S4096, .i32⟩
  | 41 => ⟨S4096, .i32⟩
  | 42 => ⟨S4096, .i32⟩
  | 43 => ⟨S4096x1, .i32⟩
  | 44 => ⟨S_, .i32⟩
  | 45 => ⟨S4096, .i32⟩
  | 46 => ⟨S8, .i32⟩
  | 47 => ⟨S8, .f32⟩
  | 48 => ⟨S_, .f32⟩
  | 49 => ⟨S8, .f32⟩
  | 50 => ⟨S8, .f32⟩
  | 51 => ⟨S_, .f32⟩
  | 52 => ⟨S8, .f32⟩
  | 53 => ⟨S8, .f32⟩
  | 54 => ⟨S_, .f32⟩
  | 55 => ⟨S_, .f32⟩
  | 56 => ⟨S8, .f32⟩
  | 57 => ⟨S8, .f32⟩
  | 58 => ⟨S_, .f32⟩
  | 59 => ⟨S8, .f32⟩
  | 60 => ⟨S_, .f32⟩
  | 61 => ⟨S8, .f32⟩
  | 62 => ⟨S8, .f32⟩
  | 63 => ⟨S8, .f32⟩
  | 64 => ⟨S8, .f32⟩
  | 65 => ⟨S8, .f32⟩
  | 66 => ⟨S8, .f32⟩
  | 67 => ⟨S_, .f32⟩
  | 68 => ⟨S_, .f32⟩
  | 69 => ⟨S_, .f32⟩
  | 70 => ⟨S_, .f32⟩
  | 71 => ⟨S_, .f32⟩
  | 72 => ⟨S8, .f32⟩
  | 73 => ⟨S_, .f32⟩
  | 74 => ⟨S8, .f32⟩
  | 75 => ⟨S8, .f32⟩
  | 76 => ⟨S1x8, .f32⟩
  | 77 => ⟨S4096x8, .f32⟩
  | 78 => ⟨S4096x8, .f32⟩
  | 79 => ⟨S_, .f32⟩
  | 80 => ⟨S4096, .f32⟩
  | 81 => ⟨S4096x1, .f32⟩
  | 82 => ⟨S_, .f32⟩
  | 83 => ⟨S4096x1, .f32⟩
  | 84 => ⟨S4096x1, .f32⟩
  | 85 => ⟨S4096x8, .f32⟩
  | 86 => ⟨S4096x8, .f32⟩
  | 87 => ⟨S_, .f32⟩
  | 88 => ⟨S8, .f32⟩
  | 89 => ⟨S_, .f32⟩
  | 90 => ⟨S_, .f32⟩
  | 91 => ⟨S_, .f32⟩
  | 92 => ⟨S_, .f32⟩
  | 93 => ⟨S8, .f32⟩
  | 94 => ⟨S8, .f32⟩
  | 95 => ⟨S1x8, .f32⟩
  | 96 => ⟨S4096x8, .f32⟩
  | 97 => ⟨S4096x8, .f32⟩
  | 98 => ⟨S_, .f32⟩
  | 99 => ⟨S4096, .f32⟩
  | 100 => ⟨S4096x1, .f32⟩
  | 101 => ⟨S_, .f32⟩
  | 102 => ⟨S4096x1, .f32⟩
  | 103 => ⟨S4096x1, .f32⟩
  | 104 => ⟨S4096x8, .f32⟩
  | 105 => ⟨S4096x8, .f32⟩
  | 106 => ⟨S_, .f32⟩
  | 107 => ⟨S8, .f32⟩
  | 108 => ⟨S_, .f32⟩
  | 109 => ⟨S_, .f32⟩
  | 110 => ⟨S_, .f32⟩
  | 111 => ⟨S_, .f32⟩
  | 112 => ⟨S8, .f32⟩
  | 113 => ⟨S8, .f32⟩
  | 114 => ⟨S1x8, .f32⟩
  | 115 => ⟨S4096x8, .f32⟩
  | 116 => ⟨S4096x8, .f32⟩
  | 117 => ⟨S_, .f32⟩
  | 118 => ⟨S4096, .f32⟩
  | 119 => ⟨S4096x1, .f32⟩
  | 120 => ⟨S_, .f32⟩
  | 121 => ⟨S4096x1, .f32⟩
  | 122 => ⟨S4096x1, .f32⟩
  | 123 => ⟨S4096x8, .f32⟩
  | 124 => ⟨S4096x8, .f32⟩
  | 125 => ⟨S_, .f32⟩
  | 126 => ⟨S8, .f32⟩
  | 127 => ⟨S_, .f32⟩
  | _ => ⟨S2x2048x768, .f32⟩

abbrev hbmTy0_1 (i : Nat) : BufTy := match i % 128 with
  | 0 => ⟨S_, .f32⟩
  | 1 => ⟨S_, .f32⟩
  | 2 => ⟨S_, .f32⟩
  | 3 => ⟨S8, .f32⟩
  | 4 => ⟨S8, .f32⟩
  | 5 => ⟨S1x8, .f32⟩
  | 6 => ⟨S4096x8, .f32⟩
  | 7 => ⟨S4096x8, .f32⟩
  | 8 => ⟨S_, .f32⟩
  | 9 => ⟨S4096, .f32⟩
  | 10 => ⟨S4096x1, .f32⟩
  | 11 => ⟨S_, .f32⟩
  | 12 => ⟨S4096x1, .f32⟩
  | 13 => ⟨S4096x1, .f32⟩
  | 14 => ⟨S4096x8, .f32⟩
  | 15 => ⟨S4096x8, .f32⟩
  | 16 => ⟨S_, .f32⟩
  | 17 => ⟨S8, .f32⟩
  | 18 => ⟨S_, .f32⟩
  | 19 => ⟨S_, .f32⟩
  | 20 => ⟨S_, .f32⟩
  | 21 => ⟨S_, .f32⟩
  | 22 => ⟨S8, .f32⟩
  | 23 => ⟨S8, .f32⟩
  | 24 => ⟨S1x8, .f32⟩
  | 25 => ⟨S4096x8, .f32⟩
  | 26 => ⟨S4096x8, .f32⟩
  | 27 => ⟨S_, .f32⟩
  | 28 => ⟨S4096, .f32⟩
  | 29 => ⟨S4096x1, .f32⟩
  | 30 => ⟨S_, .f32⟩
  | 31 => ⟨S4096x1, .f32⟩
  | 32 => ⟨S4096x1, .f32⟩
  | 33 => ⟨S4096x8, .f32⟩
  | 34 => ⟨S4096x8, .f32⟩
  | 35 => ⟨S_, .f32⟩
  | 36 => ⟨S8, .f32⟩
  | 37 => ⟨S_, .f32⟩
  | 38 => ⟨S_, .f32⟩
  | 39 => ⟨S_, .f32⟩
  | 40 => ⟨S_, .f32⟩
  | 41 => ⟨S8, .f32⟩
  | 42 => ⟨S8, .f32⟩
  | 43 => ⟨S1x8, .f32⟩
  | 44 => ⟨S4096x8, .f32⟩
  | 45 => ⟨S4096x8, .f32⟩
  | 46 => ⟨S_, .i32⟩
  | 47 => ⟨S4096x2, .i32⟩
  | 48 => ⟨S4096x2, .i1⟩
  | 49 => ⟨S_, .i32⟩
  | 50 => ⟨S4096x2, .i32⟩
  | 51 => ⟨S4096x2, .i32⟩
  | 52 => ⟨S4096x2, .i32⟩
  | 53 => ⟨S4096x2x1, .i32⟩
  | 54 => ⟨S1, .i32⟩
  | 55 => ⟨S_, .i32⟩
  | 56 => ⟨S4096x2x1, .i32⟩
  | 57 => ⟨S4096x2x1, .i1⟩
  | 58 => ⟨S1x1x1, .i32⟩
  | 59 => ⟨S4096x2x1, .i32⟩
  | 60 => ⟨S4096x2x1, .i1⟩
  | 61 => ⟨S4096x2x1, .i1⟩
  | 62 => ⟨S_, .i1⟩
  | 63 => ⟨S4096x2, .i1⟩
  | 64 => ⟨S4096x2, .f32⟩
  | 65 => ⟨S_, .f32⟩
  | 66 => ⟨S4096x2, .f32⟩
  | 67 => ⟨S4096x2, .f32⟩
  | 68 => ⟨S_, .f32⟩
  | 69 => ⟨S4096, .f32⟩
  | 70 => ⟨S4096x1, .f32⟩
  | 71 => ⟨S_, .f32⟩
  | 72 => ⟨S4096x1, .f32⟩
  | 73 => ⟨S4096x1, .f32⟩
  | 74 => ⟨S4096x2, .f32⟩
  | 75 => ⟨S4096x2, .f32⟩
  | 76 => ⟨S4096x1, .i32⟩
  | 77 => ⟨S8, .i32⟩
  | 78 => ⟨S1x8, .i32⟩
  | 79 => ⟨S4096x8, .i32⟩
  | 80 => ⟨S4096x8, .i32⟩
  | 81 => ⟨S4096x8, .i1⟩
  | 82 => ⟨S_, .f32⟩
  | 83 => ⟨S_, .f32⟩
  | 84 => ⟨S4096x8, .f32⟩
  | 85 => ⟨S4096x8, .f32⟩
  | 86 => ⟨S4096x1, .f32⟩
  | 87 => ⟨S4096x1, .i32⟩
  | 88 => ⟨S4096x1, .i32⟩
  | 89 => ⟨S8192x1, .i32⟩
  | 90 => ⟨S8192, .i32⟩
  | 91 => ⟨S8, .i32⟩
  | 92 => ⟨S1x8, .i32⟩
  | 93 => ⟨S8192x8, .i32⟩
  | 94 => ⟨S8192x8, .i32⟩
  | 95 => ⟨S8192x8, .i1⟩
  | 96 => ⟨S8192x8, .i32⟩
  | 97 => ⟨S_, .i32⟩
  | 98 => ⟨S8, .i32⟩
  | 99 => ⟨S_, .i32⟩
  | 100 => ⟨S8, .i32⟩
  | 101 => ⟨S8, .i32⟩
  | 102 => ⟨S_, .i32⟩
  | 103 => ⟨S8, .i32⟩
  | 104 => ⟨S8, .i32⟩
  | 105 => ⟨S_, .i32⟩
  | 106 => ⟨S8, .i32⟩
  | 107 => ⟨S8, .i32⟩
  | 108 => ⟨S8, .i32⟩
  | 109 => ⟨S1x8, .i32⟩
  | 110 => ⟨S8192x8, .i32⟩
  | 111 => ⟨S8192x8, .i32⟩
  | 112 => ⟨S8192x8, .i1⟩
  | 113 => ⟨S_, .i32⟩
  | 114 => ⟨S_, .i32⟩
  | 115 => ⟨S8192x8, .i32⟩
  | 116 => ⟨S8192x8, .i32⟩
  | 117 => ⟨S8192x8, .i32⟩
  | 118 => ⟨S_, .i32⟩
  | 119 => ⟨S8192, .i32⟩
  | 120 => ⟨S1x8192, .i32⟩
  | 121 => ⟨S8192x8192, .i32⟩
  | 122 => ⟨S8192x8192, .i32⟩
  | 123 => ⟨S8192x8192, .i1⟩
  | 124 => ⟨S8192x1, .i32⟩
  | 125 => ⟨S1x8192, .i32⟩
  | 126 => ⟨S8192x8192, .i32⟩
  | 127 => ⟨S8192x8192, .i32⟩
  | _ => ⟨S2x2048x768, .f32⟩

abbrev hbmTy0_2 (i : Nat) : BufTy := match i % 128 with
  | 0 => ⟨S8192x8192, .i1⟩
  | 1 => ⟨S8192x8192, .i1⟩
  | 2 => ⟨S8192x8192, .i32⟩
  | 3 => ⟨S_, .i32⟩
  | 4 => ⟨S8192, .i32⟩
  | 5 => ⟨S8192, .i32⟩
  | 6 => ⟨S2x4096x1, .i32⟩
  | 7 => ⟨S8, .i32⟩
  | 8 => ⟨S8, .i32⟩
  | 9 => ⟨S8x1, .i32⟩
  | 10 => ⟨S1x8, .i32⟩
  | 11 => ⟨S8x8, .i32⟩
  | 12 => ⟨S8x8, .i32⟩
  | 13 => ⟨S8x8, .i1⟩
  | 14 => ⟨S_, .i32⟩
  | 15 => ⟨S_, .i32⟩
  | 16 => ⟨S8x8, .i32⟩
  | 17 => ⟨S8x8, .i32⟩
  | 18 => ⟨S8x8, .i32⟩
  | 19 => ⟨S_, .i32⟩
  | 20 => ⟨S8, .i32⟩
  | 21 => ⟨S128, .i32⟩
  | 22 => ⟨S128x1, .i32⟩
  | 23 => ⟨S_, .i32⟩
  | 24 => ⟨S128x1, .i32⟩
  | 25 => ⟨S128x1, .i32⟩
  | 26 => ⟨S1x8, .i32⟩
  | 27 => ⟨S128x8, .i32⟩
  | 28 => ⟨S128x8, .i32⟩
  | 29 => ⟨S128x8, .i1⟩
  | 30 => ⟨S128x8, .i32⟩
  | 31 => ⟨S_, .i32⟩
  | 32 => ⟨S128, .i32⟩
  | 33 => ⟨S_, .i32⟩
  | 34 => ⟨S128, .i32⟩
  | 35 => ⟨S128, .i32⟩
  | 36 => ⟨S_, .i32⟩
  | 37 => ⟨S128, .i32⟩
  | 38 => ⟨S128, .i1⟩
  | 39 => ⟨S1, .i32⟩
  | 40 => ⟨S127, .i32⟩
  | 41 => ⟨S128, .i32⟩
  | 42 => ⟨S128, .i1⟩
  | 43 => ⟨S128, .i1⟩
  | 44 => ⟨S128x1, .i32⟩
  | 45 => ⟨S1x128, .i32⟩
  | 46 => ⟨S128x128, .i32⟩
  | 47 => ⟨S128x128, .i32⟩
  | 48 => ⟨S128x128, .i1⟩
  | 49 => ⟨S1x128, .i1⟩
  | 50 => ⟨S128x128, .i1⟩
  | 51 => ⟨S128x128, .i1⟩
  | 52 => ⟨S128x128, .i32⟩
  | 53 => ⟨S_, .i32⟩
  | 54 => ⟨S128, .i32⟩
  | 55 => ⟨S_, .i32⟩
  | 56 => ⟨S128, .i32⟩
  | 57 => ⟨S128, .i1⟩
  | 58 => ⟨S128x1, .i32⟩
  | 59 => ⟨S1x128, .i32⟩
  | 60 => ⟨S128x128, .i32⟩
  | 61 => ⟨S128x128, .i32⟩
  | 62 => ⟨S128x128, .i1⟩
  | 63 => ⟨S1x128, .i1⟩
  | 64 => ⟨S128x128, .i1⟩
  | 65 => ⟨S128x128, .i1⟩
  | 66 => ⟨S_, .i32⟩
  | 67 => ⟨S_, .i32⟩
  | 68 => ⟨S128x128, .i32⟩
  | 69 => ⟨S128x128, .i32⟩
  | 70 => ⟨S128x128, .i32⟩
  | 71 => ⟨S_, .i32⟩
  | 72 => ⟨S128, .i32⟩
  | 73 => ⟨S128, .i32⟩
  | 74 => ⟨S_, .i32⟩
  | 75 => ⟨S128, .i32⟩
  | 76 => ⟨S128, .i32⟩
  | 77 => ⟨S_, .i32⟩
  | 78 => ⟨S128, .i32⟩
  | 79 => ⟨S128, .i32⟩
  | 80 => ⟨S128x1, .i32⟩
  | 81 => ⟨S128x1, .i32⟩
  | 82 => ⟨S128x1, .i32⟩
  | 83 => ⟨S128x1, .i32⟩
  | 84 => ⟨S128x4, .i32⟩
  | 85 => ⟨S1x1, .f32⟩
  | 86 => ⟨S4096x1, .f32⟩
  | 87 => ⟨S4096x1, .f32⟩
  | 88 => ⟨S1x4096x1, .i32⟩
  | 89 => ⟨S4096x1, .i32⟩
  | 90 => ⟨S1x4096x1, .i32⟩
  | 91 => ⟨S4096x1, .i32⟩
  | _ => ⟨S2x2048x768, .f32⟩

abbrev hbmTy (i : Nat) : BufTy := match i / 128 with
  | 0 => hbmTy0_0 i
  | 1 => hbmTy0_1 i
  | 2 => hbmTy0_2 i
  | _ => ⟨S2x2048x768, .f32⟩

abbrev bufTy : (tb : Table) → Fin (tcTables nBuf tb) → BufTy
  | .hbm, ⟨i, _⟩ => hbmTy i
  | _, _ => ⟨S2x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_values : Ref sig .tc := ⟨.hbm, 26, rfl⟩
abbrev main_indices : Ref sig .tc := ⟨.hbm, 27, rfl⟩
abbrev main_v19 : Ref sig .tc := ⟨.hbm, 28, rfl⟩
abbrev main_v20 : Ref sig .tc := ⟨.hbm, 29, rfl⟩
abbrev main_c : Ref sig .tc := ⟨.hbm, 30, rfl⟩
abbrev main_v21 : Ref sig .tc := ⟨.hbm, 31, rfl⟩
abbrev main_c_2 : Ref sig .tc := ⟨.hbm, 32, rfl⟩
abbrev main_call0_v0 : Ref sig .tc := ⟨.hbm, 33, rfl⟩
abbrev main_call0_v1 : Ref sig .tc := ⟨.hbm, 34, rfl⟩
abbrev main_v22 : Ref sig .tc := ⟨.hbm, 35, rfl⟩
abbrev main_c_3 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_cst_10 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_11 : Ref sig .tc := ⟨.hbm, 67, rfl⟩
abbrev main_v46 : Ref sig .tc := ⟨.hbm, 68, rfl⟩
abbrev main_cst_12 : Ref sig .tc := ⟨.hbm, 69, rfl⟩
abbrev main_v47 : Ref sig .tc := ⟨.hbm, 70, rfl⟩
abbrev main_cst_13 : Ref sig .tc := ⟨.hbm, 71, rfl⟩
abbrev main_v48 : Ref sig .tc := ⟨.hbm, 72, rfl⟩
abbrev main_cst_14 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_15 : Ref sig .tc := ⟨.hbm, 79, rfl⟩
abbrev main_v54 : Ref sig .tc := ⟨.hbm, 80, rfl⟩
abbrev main_v55 : Ref sig .tc := ⟨.hbm, 81, rfl⟩
abbrev main_cst_16 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_17 : Ref sig .tc := ⟨.hbm, 87, rfl⟩
abbrev main_v60 : Ref sig .tc := ⟨.hbm, 88, rfl⟩
abbrev main_cst_18 : Ref sig .tc := ⟨.hbm, 89, rfl⟩
abbrev main_v61 : Ref sig .tc := ⟨.hbm, 90, rfl⟩
abbrev main_cst_19 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_20 : Ref sig .tc := ⟨.hbm, 98, rfl⟩
abbrev main_v68 : Ref sig .tc := ⟨.hbm, 99, rfl⟩
abbrev main_v69 : Ref sig .tc := ⟨.hbm, 100, rfl⟩
abbrev main_cst_21 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_22 : Ref sig .tc := ⟨.hbm, 106, rfl⟩
abbrev main_v74 : Ref sig .tc := ⟨.hbm, 107, rfl⟩
abbrev main_cst_23 : Ref sig .tc := ⟨.hbm, 108, rfl⟩
abbrev main_v75 : Ref sig .tc := ⟨.hbm, 109, rfl⟩
abbrev main_cst_24 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_25 : Ref sig .tc := ⟨.hbm, 117, rfl⟩
abbrev main_v82 : Ref sig .tc := ⟨.hbm, 118, rfl⟩
abbrev main_v83 : Ref sig .tc := ⟨.hbm, 119, rfl⟩
abbrev main_cst_26 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_cst_27 : Ref sig .tc := ⟨.hbm, 125, rfl⟩
abbrev main_v88 : Ref sig .tc := ⟨.hbm, 126, rfl⟩
abbrev main_cst_28 : Ref sig .tc := ⟨.hbm, 127, rfl⟩
abbrev main_v89 : Ref sig .tc := ⟨.hbm, 128, rfl⟩
abbrev main_cst_29 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_cst_30 : Ref sig .tc := ⟨.hbm, 136, rfl⟩
abbrev main_v96 : Ref sig .tc := ⟨.hbm, 137, rfl⟩
abbrev main_v97 : Ref sig .tc := ⟨.hbm, 138, rfl⟩
abbrev main_cst_31 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_cst_32 : Ref sig .tc := ⟨.hbm, 144, rfl⟩
abbrev main_v102 : Ref sig .tc := ⟨.hbm, 145, rfl⟩
abbrev main_cst_33 : Ref sig .tc := ⟨.hbm, 146, rfl⟩
abbrev main_v103 : Ref sig .tc := ⟨.hbm, 147, rfl⟩
abbrev main_cst_34 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_cst_35 : Ref sig .tc := ⟨.hbm, 155, rfl⟩
abbrev main_v110 : Ref sig .tc := ⟨.hbm, 156, rfl⟩
abbrev main_v111 : Ref sig .tc := ⟨.hbm, 157, rfl⟩
abbrev main_cst_36 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_cst_37 : Ref sig .tc := ⟨.hbm, 163, rfl⟩
abbrev main_v116 : Ref sig .tc := ⟨.hbm, 164, rfl⟩
abbrev main_cst_38 : Ref sig .tc := ⟨.hbm, 165, rfl⟩
abbrev main_v117 : Ref sig .tc := ⟨.hbm, 166, rfl⟩
abbrev main_cst_39 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_call1_c : Ref sig .tc := ⟨.hbm, 174, rfl⟩
abbrev main_call1_v0 : Ref sig .tc := ⟨.hbm, 175, rfl⟩
abbrev main_call1_v1 : Ref sig .tc := ⟨.hbm, 176, rfl⟩
abbrev main_call1_c_0 : Ref sig .tc := ⟨.hbm, 177, rfl⟩
abbrev main_call1_v2 : Ref sig .tc := ⟨.hbm, 178, rfl⟩
abbrev main_call1_v3 : Ref sig .tc := ⟨.hbm, 179, rfl⟩
abbrev main_call1_v4 : Ref sig .tc := ⟨.hbm, 180, rfl⟩
abbrev main_call1_v5 : Ref sig .tc := ⟨.hbm, 181, rfl⟩
abbrev main_call1_c_1 : Ref sig .tc := ⟨.hbm, 182, rfl⟩
abbrev main_call1_c_2 : Ref sig .tc := ⟨.hbm, 183, rfl⟩
abbrev main_call1_v6 : Ref sig .tc := ⟨.hbm, 184, rfl⟩
abbrev main_call1_v7 : Ref sig .tc := ⟨.hbm, 185, rfl⟩
abbrev main_call1_v8 : Ref sig .tc := ⟨.hbm, 186, rfl⟩
abbrev main_call1_v9 : Ref sig .tc := ⟨.hbm, 187, rfl⟩
abbrev main_call1_v10 : Ref sig .tc := ⟨.hbm, 188, rfl⟩
abbrev main_call1_v11 : Ref sig .tc := ⟨.hbm, 189, rfl⟩
abbrev main_call1_c_3 : Ref sig .tc := ⟨.hbm, 190, rfl⟩
abbrev main_call1_v12 : Ref sig .tc := ⟨.hbm, 191, rfl⟩
abbrev main_call1_v13 : Ref sig .tc := ⟨.hbm, 192, rfl⟩
abbrev main_call1_cst : Ref sig .tc := ⟨.hbm, 193, rfl⟩
abbrev main_call1_v14 : Ref sig .tc := ⟨.hbm, 194, rfl⟩
abbrev main_v124 : Ref sig .tc := ⟨.hbm, 195, rfl⟩
abbrev main_cst_40 : Ref sig .tc := ⟨.hbm, 196, rfl⟩
abbrev main_v125 : Ref sig .tc := ⟨.hbm, 197, rfl⟩
abbrev main_v126 : Ref sig .tc := ⟨.hbm, 198, rfl⟩
abbrev main_cst_41 : Ref sig .tc := ⟨.hbm, 199, rfl⟩
abbrev main_v127 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_v134 : Ref sig .tc := ⟨.hbm, 207, rfl⟩
abbrev main_v135 : Ref sig .tc := ⟨.hbm, 208, rfl⟩
abbrev main_v136 : Ref sig .tc := ⟨.hbm, 209, rfl⟩
abbrev main_cst_42 : Ref sig .tc := ⟨.hbm, 210, rfl⟩
abbrev main_call2_v0 : Ref sig .tc := ⟨.hbm, 211, rfl⟩
abbrev main_call2_v1 : Ref sig .tc := ⟨.hbm, 212, rfl⟩
abbrev main_v137 : Ref sig .tc := ⟨.hbm, 213, rfl⟩
abbrev main_values_43 : Ref sig .tc := ⟨.hbm, 214, rfl⟩
abbrev main_indices_44 : Ref sig .tc := ⟨.hbm, 215, rfl⟩
abbrev main_v138 : Ref sig .tc := ⟨.hbm, 216, rfl⟩
abbrev main_v139 : Ref sig .tc := ⟨.hbm, 217, rfl⟩
abbrev main_v140 : Ref sig .tc := ⟨.hbm, 218, rfl⟩
abbrev main_v141 : Ref sig .tc := ⟨.hbm, 219, rfl⟩
abbrev main_v142 : Ref sig .tc := ⟨.hbm, 220, rfl⟩
abbrev main_v143 : Ref sig .tc := ⟨.hbm, 221, rfl⟩
abbrev main_v144 : Ref sig .tc := ⟨.hbm, 222, rfl⟩
abbrev main_v145 : Ref sig .tc := ⟨.hbm, 223, rfl⟩
abbrev main_v146 : Ref sig .tc := ⟨.hbm, 224, rfl⟩
abbrev main_c_45 : Ref sig .tc := ⟨.hbm, 225, rfl⟩
abbrev main_v147 : Ref sig .tc := ⟨.hbm, 226, rfl⟩
abbrev main_c_46 : Ref sig .tc := ⟨.hbm, 227, rfl⟩
abbrev main_v148 : Ref sig .tc := ⟨.hbm, 228, rfl⟩
abbrev main_v149 : Ref sig .tc := ⟨.hbm, 229, rfl⟩
abbrev main_c_47 : Ref sig .tc := ⟨.hbm, 230, rfl⟩
abbrev main_v150 : Ref sig .tc := ⟨.hbm, 231, rfl⟩
abbrev main_v151 : Ref sig .tc := ⟨.hbm, 232, rfl⟩
abbrev main_c_48 : Ref sig .tc := ⟨.hbm, 233, rfl⟩
abbrev main_v152 : Ref sig .tc := ⟨.hbm, 234, rfl⟩
abbrev main_v153 : Ref sig .tc := ⟨.hbm, 235, rfl⟩
abbrev main_v154 : Ref sig .tc := ⟨.hbm, 236, rfl⟩
abbrev main_v155 : Ref sig .tc := ⟨.hbm, 237, rfl⟩
abbrev main_v156 : Ref sig .tc := ⟨.hbm, 238, rfl⟩
abbrev main_v157 : Ref sig .tc := ⟨.hbm, 239, rfl⟩
abbrev main_v158 : Ref sig .tc := ⟨.hbm, 240, rfl⟩
abbrev main_c_49 : Ref sig .tc := ⟨.hbm, 241, rfl⟩
abbrev main_call3_v0 : Ref sig .tc := ⟨.hbm, 242, rfl⟩
abbrev main_call3_v1 : Ref sig .tc := ⟨.hbm, 243, rfl⟩
abbrev main_call3_v2 : Ref sig .tc := ⟨.hbm, 244, rfl⟩
abbrev main_v159 : Ref sig .tc := ⟨.hbm, 245, rfl⟩
abbrev main_c_50 : Ref sig .tc := ⟨.hbm, 246, rfl⟩
abbrev main_v160 : Ref sig .tc := ⟨.hbm, 247, rfl⟩
abbrev main_v161 : Ref sig .tc := ⟨.hbm, 248, rfl⟩
abbrev main_v162 : Ref sig .tc := ⟨.hbm, 249, rfl⟩
abbrev main_v163 : Ref sig .tc := ⟨.hbm, 250, rfl⟩
abbrev main_v164 : Ref sig .tc := ⟨.hbm, 251, rfl⟩
abbrev main_v165 : Ref sig .tc := ⟨.hbm, 252, rfl⟩
abbrev main_v166 : Ref sig .tc := ⟨.hbm, 253, rfl⟩
abbrev main_v167 : Ref sig .tc := ⟨.hbm, 254, rfl⟩
abbrev main_v168 : Ref sig .tc := ⟨.hbm, 255, rfl⟩
abbrev main_v169 : Ref sig .tc := ⟨.hbm, 256, rfl⟩
abbrev main_v170 : Ref sig .tc := ⟨.hbm, 257, rfl⟩
abbrev main_v171 : Ref sig .tc := ⟨.hbm, 258, rfl⟩
abbrev main_c_51 : Ref sig .tc := ⟨.hbm, 259, rfl⟩
abbrev main_v172 : Ref sig .tc := ⟨.hbm, 260, rfl⟩
abbrev main_v173 : Ref sig .tc := ⟨.hbm, 261, rfl⟩
abbrev main_v174 : Ref sig .tc := ⟨.hbm, 262, rfl⟩
abbrev main_v175 : Ref sig .tc := ⟨.hbm, 263, rfl⟩
abbrev main_v176 : Ref sig .tc := ⟨.hbm, 264, rfl⟩
abbrev main_v177 : Ref sig .tc := ⟨.hbm, 265, rfl⟩
abbrev main_v178 : Ref sig .tc := ⟨.hbm, 266, rfl⟩
abbrev main_v179 : Ref sig .tc := ⟨.hbm, 267, rfl⟩
abbrev main_v180 : Ref sig .tc := ⟨.hbm, 268, rfl⟩
abbrev main_v181 : Ref sig .tc := ⟨.hbm, 269, rfl⟩
abbrev main_c_52 : Ref sig .tc := ⟨.hbm, 270, rfl⟩
abbrev main_call4_v0 : Ref sig .tc := ⟨.hbm, 271, rfl⟩
abbrev main_call4_v1 : Ref sig .tc := ⟨.hbm, 272, rfl⟩
abbrev main_call4_v2 : Ref sig .tc := ⟨.hbm, 273, rfl⟩
abbrev main_v182 : Ref sig .tc := ⟨.hbm, 274, rfl⟩
abbrev main_c_53 : Ref sig .tc := ⟨.hbm, 275, rfl⟩
abbrev main_v183 : Ref sig .tc := ⟨.hbm, 276, rfl⟩
abbrev main_v184 : Ref sig .tc := ⟨.hbm, 277, rfl⟩
abbrev main_v185 : Ref sig .tc := ⟨.hbm, 278, rfl⟩
abbrev main_c_54 : Ref sig .tc := ⟨.hbm, 279, rfl⟩
abbrev main_v186 : Ref sig .tc := ⟨.hbm, 280, rfl⟩
abbrev main_v187 : Ref sig .tc := ⟨.hbm, 281, rfl⟩
abbrev main_v188 : Ref sig .tc := ⟨.hbm, 282, rfl⟩
abbrev main_v189 : Ref sig .tc := ⟨.hbm, 283, rfl⟩
abbrev main_v190 : Ref sig .tc := ⟨.hbm, 284, rfl⟩
abbrev main_v191 : Ref sig .tc := ⟨.hbm, 285, rfl⟩
abbrev main_v192 : Ref sig .tc := ⟨.hbm, 286, rfl⟩
abbrev main_c_55 : Ref sig .tc := ⟨.hbm, 287, rfl⟩
abbrev main_v193 : Ref sig .tc := ⟨.hbm, 288, rfl⟩
abbrev main_c_56 : Ref sig .tc := ⟨.hbm, 289, rfl⟩
abbrev main_v194 : Ref sig .tc := ⟨.hbm, 290, rfl⟩
abbrev main_v195 : Ref sig .tc := ⟨.hbm, 291, rfl⟩
abbrev main_c_57 : Ref sig .tc := ⟨.hbm, 292, rfl⟩
abbrev main_v196 : Ref sig .tc := ⟨.hbm, 293, rfl⟩
abbrev main_v197 : Ref sig .tc := ⟨.hbm, 294, rfl⟩
abbrev main_v198 : Ref sig .tc := ⟨.hbm, 295, rfl⟩
abbrev main_v199 : Ref sig .tc := ⟨.hbm, 296, rfl⟩
abbrev main_v200 : Ref sig .tc := ⟨.hbm, 297, rfl⟩
abbrev main_v201 : Ref sig .tc := ⟨.hbm, 298, rfl⟩
abbrev main_v202 : Ref sig .tc := ⟨.hbm, 299, rfl⟩
abbrev main_v203 : Ref sig .tc := ⟨.hbm, 300, rfl⟩
abbrev main_v204 : Ref sig .tc := ⟨.hbm, 301, rfl⟩
abbrev main_v205 : Ref sig .tc := ⟨.hbm, 302, rfl⟩
abbrev main_v206 : Ref sig .tc := ⟨.hbm, 303, rfl⟩
abbrev main_v207 : Ref sig .tc := ⟨.hbm, 304, rfl⟩
abbrev main_v208 : Ref sig .tc := ⟨.hbm, 305, rfl⟩
abbrev main_v209 : Ref sig .tc := ⟨.hbm, 306, rfl⟩
abbrev main_v210 : Ref sig .tc := ⟨.hbm, 307, rfl⟩
abbrev main_v211 : Ref sig .tc := ⟨.hbm, 308, rfl⟩
abbrev main_c_58 : Ref sig .tc := ⟨.hbm, 309, rfl⟩
abbrev main_v212 : Ref sig .tc := ⟨.hbm, 310, rfl⟩
abbrev main_c_59 : Ref sig .tc := ⟨.hbm, 311, rfl⟩
abbrev main_v213 : Ref sig .tc := ⟨.hbm, 312, rfl⟩
abbrev main_v214 : Ref sig .tc := ⟨.hbm, 313, rfl⟩
abbrev main_v215 : Ref sig .tc := ⟨.hbm, 314, rfl⟩
abbrev main_v216 : Ref sig .tc := ⟨.hbm, 315, rfl⟩
abbrev main_v217 : Ref sig .tc := ⟨.hbm, 316, rfl⟩
abbrev main_v218 : Ref sig .tc := ⟨.hbm, 317, rfl⟩
abbrev main_v219 : Ref sig .tc := ⟨.hbm, 318, rfl⟩
abbrev main_v220 : Ref sig .tc := ⟨.hbm, 319, rfl⟩
abbrev main_v221 : Ref sig .tc := ⟨.hbm, 320, rfl⟩
abbrev main_v222 : Ref sig .tc := ⟨.hbm, 321, rfl⟩
abbrev main_c_60 : Ref sig .tc := ⟨.hbm, 322, rfl⟩
abbrev main_call5_v0 : Ref sig .tc := ⟨.hbm, 323, rfl⟩
abbrev main_call5_v1 : Ref sig .tc := ⟨.hbm, 324, rfl⟩
abbrev main_call5_v2 : Ref sig .tc := ⟨.hbm, 325, rfl⟩
abbrev main_v223 : Ref sig .tc := ⟨.hbm, 326, rfl⟩
abbrev main_c_61 : Ref sig .tc := ⟨.hbm, 327, rfl⟩
abbrev main_v224 : Ref sig .tc := ⟨.hbm, 328, rfl⟩
abbrev main_v225 : Ref sig .tc := ⟨.hbm, 329, rfl⟩
abbrev main_c_62 : Ref sig .tc := ⟨.hbm, 330, rfl⟩
abbrev main_v226 : Ref sig .tc := ⟨.hbm, 331, rfl⟩
abbrev main_v227 : Ref sig .tc := ⟨.hbm, 332, rfl⟩
abbrev main_c_63 : Ref sig .tc := ⟨.hbm, 333, rfl⟩
abbrev main_v228 : Ref sig .tc := ⟨.hbm, 334, rfl⟩
abbrev main_v229 : Ref sig .tc := ⟨.hbm, 335, rfl⟩
abbrev main_v230 : Ref sig .tc := ⟨.hbm, 336, rfl⟩
abbrev main_v231 : Ref sig .tc := ⟨.hbm, 337, rfl⟩
abbrev main_v232 : Ref sig .tc := ⟨.hbm, 338, rfl⟩
abbrev main_v233 : Ref sig .tc := ⟨.hbm, 339, rfl⟩
abbrev main_v234 : Ref sig .tc := ⟨.hbm, 340, rfl⟩
abbrev main_v235 : Ref sig .tc := ⟨.hbm, 341, rfl⟩
abbrev main_v236 : Ref sig .tc := ⟨.hbm, 342, rfl⟩
abbrev main_v237 : Ref sig .tc := ⟨.hbm, 343, rfl⟩
abbrev main_v238 : Ref sig .tc := ⟨.hbm, 344, rfl⟩
abbrev main_v239 : Ref sig .tc := ⟨.hbm, 345, rfl⟩
abbrev main_v240 : Ref sig .tc := ⟨.hbm, 346, rfl⟩
abbrev main_v241 : Ref sig .tc := ⟨.hbm, 347, rfl⟩

abbrev nD : Nat := 1
abbrev τ : Topo := Topo.v7x

variable {F : FTy → Type} [FloatOps F]
-- ==== Experts.lean ====
abbrev S39 : Shape := ⟨1, ![39]⟩
abbrev S9984x768 : Shape := ⟨2, ![9984, 768]⟩
abbrev S8x768x2048 : Shape := ⟨3, ![8, 768, 2048]⟩
abbrev S8x2048 : Shape := ⟨2, ![8, 2048]⟩
abbrev S8x2048x768 : Shape := ⟨3, ![8, 2048, 768]⟩
abbrev S8x768 : Shape := ⟨2, ![8, 768]⟩
abbrev S8x1x2048 : Shape := ⟨3, ![8, 1, 2048]⟩
abbrev S8x1x768 : Shape := ⟨3, ![8, 1, 768]⟩
abbrev S256x768 : Shape := ⟨2, ![256, 768]⟩
abbrev S1x1x2048 : Shape := ⟨3, ![1, 1, 2048]⟩
abbrev S1 : Shape := ⟨1, ![1]⟩
abbrev S1x1x768 : Shape := ⟨3, ![1, 1, 768]⟩
abbrev S2x768x2048 : Shape := ⟨3, ![2, 768, 2048]⟩
abbrev S2x2048x768 : Shape := ⟨3, ![2, 2048, 768]⟩
abbrev S2 : Shape := ⟨1, ![2]⟩
abbrev S_ : Shape := ⟨0, ![]⟩
abbrev S1x768x2048 : Shape := ⟨3, ![1, 768, 2048]⟩
abbrev S768x2048 : Shape := ⟨2, ![768, 2048]⟩
abbrev S1x2048x768 : Shape := ⟨3, ![1, 2048, 768]⟩
abbrev S2048x768 : Shape := ⟨2, ![2048, 768]⟩
abbrev S256x2048 : Shape := ⟨2, ![256, 2048]⟩
abbrev S1x2048 : Shape := ⟨2, ![1, 2048]⟩
abbrev S1x768 : Shape := ⟨2, ![1, 768]⟩

abbrev nBuf : Space → Nat
  | .hbm => 8
  | .vmem => 10
  | .smem => 4
  | _ => 0

abbrev bufTy : (tb : Table) → Fin (tcTables nBuf tb) → BufTy
  | .hbm, ⟨0, _⟩ => ⟨S9984x768, .f32⟩
  | .hbm, ⟨1, _⟩ => ⟨S8x768x2048, .f32⟩
  | .hbm, ⟨2, _⟩ => ⟨S8x2048, .f32⟩
  | .hbm, ⟨3, _⟩ => ⟨S8x2048x768, .f32⟩
  | .hbm, ⟨4, _⟩ => ⟨S8x768, .f32⟩
  | .hbm, ⟨5, _⟩ => ⟨S8x1x2048, .f32⟩
  | .hbm, ⟨6, _⟩ => ⟨S8x1x768, .f32⟩
  | .hbm, ⟨7, _⟩ => ⟨S9984x768, .f32⟩
  | .local _ .vmem, ⟨0, _⟩ => ⟨S256x768, .f32⟩
  | .local _ .vmem, ⟨1, _⟩ => ⟨S256x768, .f32⟩
  | .local _ .vmem, ⟨2, _⟩ => ⟨S1x1x2048, .f32⟩
  | .local _ .vmem, ⟨3, _⟩ => ⟨S1x1x2048, .f32⟩
  | .local _ .vmem, ⟨4, _⟩ => ⟨S1x1x768, .f32⟩
  | .local _ .vmem, ⟨5, _⟩ => ⟨S1x1x768, .f32⟩
  | .local _ .vmem, ⟨6, _⟩ => ⟨S256x768, .f32⟩
  | .local _ .vmem, ⟨7, _⟩ => ⟨S256x768, .f32⟩
  | .local _ .vmem, ⟨8, _⟩ => ⟨S2x768x2048, .f32⟩
  | .local _ .vmem, ⟨9, _⟩ => ⟨S2x2048x768, .f32⟩
  | .local _ .smem, ⟨0, _⟩ => ⟨S39, .i32⟩
  | .local _ .smem, ⟨1, _⟩ => ⟨S39, .i32⟩
  | .local _ .smem, ⟨2, _⟩ => ⟨S39, .i32⟩
  | .local _ .smem, ⟨3, _⟩ => ⟨S39, .i32⟩
  | _, _ => ⟨S9984x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg4 : Ref sig .tc := ⟨.hbm, 0, rfl⟩
abbrev main_arg5 : Ref sig .tc := ⟨.hbm, 1, rfl⟩
abbrev main_arg6 : Ref sig .tc := ⟨.hbm, 2, rfl⟩
abbrev main_arg7 : Ref sig .tc := ⟨.hbm, 3, rfl⟩
abbrev main_arg8 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![39], ![false]⟩

abbrev pre0 : Pipeline.Prefetch sig := ⟨4, ![main_arg0.idx, main_arg1.idx, main_arg2.idx, main_arg3.idx], fun | 0 => main_arg0.names | 1 => main_arg1.names | 2 => main_arg2.names | 3 => main_arg3.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32 : BitVec 32 := 0#32
  let v4 : BitVec 1 := Scalar.cmpi .eq arg0 c0_i32
  let v5 : BitVec 32 := Scalar.extui v4
  let c0_i32_0 : BitVec 32 := 0#32
  let v6 : BitVec 1 := Scalar.cmpi .ne v5 c0_i32_0
  v6

def k0_off2 (v3 : BitVec 32) : Fin 1 → Nat :=
  ![v3.toNat]

def k0_off3 (v3 : BitVec 32) : Fin 3 → Nat :=
  let c0_i32_17 : BitVec 32 := 0#32
  let c0_i32_18 : BitVec 32 := 0#32
  ![v3.toNat, 0, 0]
def k0_off4 (v1 : BitVec 32) : Fin 3 → Nat :=
  let c0_i32_19 : BitVec 32 := 0#32
  let c0_i32_20 : BitVec 32 := 0#32
  ![v1.toNat, 0, 0]

def k0_off5 (v3 : BitVec 32) : Fin 1 → Nat :=
  ![v3.toNat]
def k0_off6 (v3 : BitVec 32) : Fin 3 → Nat :=
  let c0_i32_21 : BitVec 32 := 0#32
  let c0_i32_22 : BitVec 32 := 0#32
  ![v3.toNat, 0, 0]
def k0_off7 (v1 : BitVec 32) : Fin 3 → Nat :=
  let c0_i32_23 : BitVec 32 := 0#32
  let c0_i32_24 : BitVec 32 := 0#32
  ![v1.toNat, 0, 0]

def k0_chk2 (i : grid0.Coords) (v1 : BitVec 32) : Prop :=
  (∀ (k0_h1 : k0_cond1 i = 1#1), ∀ a, (k0_off4 v1) a + S1x768x2048.size a ≤ S8x768x2048.size a) ∧
  (∀ (k0_h1 : k0_cond1 i = 1#1), ∀ a, (k0_off7 v1) a + S1x2048x768.size a ≤ S8x2048x768.size a)
theorem k0_off4_inb : ∀ (i : grid0.Coords) (v1 : BitVec 32) (k0_hw2 : k0_chk2 i v1), ∀ (k0_h1 : k0_cond1 i = 1#1), ∀ a, (k0_off4 v1) a + S1x768x2048.size a ≤ S8x768x2048.size a := fun i v1 k0_hw2 k0_h1 => k0_hw2.1 k0_h1
theorem k0_off7_inb : ∀ (i : grid0.Coords) (v1 : BitVec 32) (k0_hw2 : k0_chk2 i v1), ∀ (k0_h1 : k0_cond1 i = 1#1), ∀ a, (k0_off7 v1) a + S1x2048x768.size a ≤ S8x2048x768.size a := fun i v1 k0_hw2 k0_h1 => k0_hw2.2 k0_h1

def k0_off8 (i : grid0.Coords) : Fin 1 → Nat :=
  let arg0 : BitVec 32 := BitVec.ofNat 32 (i 0).val
  let v7 : Index := Scalar.indexCast arg0
  ![v7.toNat]
def k0_off9 (i : grid0.Coords) : Fin 1 → Nat :=
  let arg0 : BitVec 32 := BitVec.ofNat 32 (i 0).val
  let v32 : Index := Scalar.indexCast arg0
  ![v32.toNat]
def k0_off10 (v3 : BitVec 32) : Fin 1 → Nat :=
  let c1_i32_26 : BitVec 32 := 1#32
  let v49 : BitVec 32 := Scalar.subi c1_i32_26 v3
  ![v49.toNat]
def k0_cond2 (v8 : BitVec 32) : BitVec 1 :=
  let c1_i32 : BitVec 32 := 1#32
  let v9 : BitVec 1 := Scalar.cmpi .eq v8 c1_i32
  let v10 : BitVec 32 := Scalar.extui v9
  let c0_i32_1 : BitVec 32 := 0#32
  let v11 : BitVec 1 := Scalar.cmpi .ne v10 c0_i32_1
  v11

def k0_cond3 (v33 : BitVec 32) : BitVec 1 :=
  let c8_i32 : BitVec 32 := 8#32
  let v34 : BitVec 1 := Scalar.cmpi .slt v33 c8_i32
  let v35 : BitVec 32 := Scalar.extui v34
  let c0_i32_17 : BitVec 32 := 0#32
  let v36 : BitVec 1 := Scalar.cmpi .ne v35 c0_i32_17
  v36

def k0_off11 (v3 : BitVec 32) : Fin 3 → Nat :=
  let c1_i32_26 : BitVec 32 := 1#32
  let v49 : BitVec 32 := Scalar.subi c1_i32_26 v3
  let c0_i32_27 : BitVec 32 := 0#32
  let c0_i32_28 : BitVec 32 := 0#32
  ![v49.toNat, 0, 0]
def k0_off12 (v33 : BitVec 32) : Fin 3 → Nat :=
  let c0_i32_29 : BitVec 32 := 0#32
  let c0_i32_30 : BitVec 32 := 0#32
  ![v33.toNat, 0, 0]
def k0_off13 (v3 : BitVec 32) : Fin 3 → Nat :=
  let c1_i32_26 : BitVec 32 := 1#32
  let v49 : BitVec 32 := Scalar.subi c1_i32_26 v3
  let c0_i32_31 : BitVec 32 := 0#32
  let c0_i32_32 : BitVec 32 := 0#32
  ![v49.toNat, 0, 0]
def k0_off14 (v33 : BitVec 32) : Fin 3 → Nat :=
  let c0_i32_33 : BitVec 32 := 0#32
  let c0_i32_34 : BitVec 32 := 0#32
  ![v33.toNat, 0, 0]

def k0_chk3 (v3 : BitVec 32) (v8 : BitVec 32) (v33 : BitVec 32) : Prop :=
  (∀ (k0_h2 : k0_cond2 v8 = 1#1), ∀ (k0_h3 : k0_cond3 v33 = 1#1), ∀ a, (k0_off10 v3) a + S1.size a ≤ S2.size a) ∧
  (∀ (k0_h2 : k0_cond2 v8 = 1#1), ∀ (k0_h3 : k0_cond3 v33 = 1#1), ∀ a, (k0_off11 v3) a + S1x768x2048.size a ≤ S2x768x2048.size a) ∧
  (∀ (k0_h2 : k0_cond2 v8 = 1#1), ∀ (k0_h3 : k0_cond3 v33 = 1#1), ∀ a, (k0_off12 v33) a + S1x768x2048.size a ≤ S8x768x2048.size a) ∧
  (∀ (k0_h2 : k0_cond2 v8 = 1#1), ∀ (k0_h3 : k0_cond3 v33 = 1#1), ∀ a, (k0_off13 v3) a + S1x2048x768.size a ≤ S2x2048x768.size a) ∧
  (∀ (k0_h2 : k0_cond2 v8 = 1#1), ∀ (k0_h3 : k0_cond3 v33 = 1#1), ∀ a, (k0_off14 v33) a + S1x2048x768.size a ≤ S8x2048x768.size a)
theorem k0_off10_inb : ∀ (v3 : BitVec 32) (v8 : BitVec 32) (v33 : BitVec 32) (k0_hw3 : k0_chk3 v3 v8 v33), ∀ (k0_h2 : k0_cond2 v8 = 1#1), ∀ (k0_h3 : k0_cond3 v33 = 1#1), ∀ a, (k0_off10 v3) a + S1.size a ≤ S2.size a := fun v3 v8 v33 k0_hw3 k0_h2 k0_h3 => k0_hw3.1 k0_h2 k0_h3
theorem k0_off11_inb : ∀ (v3 : BitVec 32) (v8 : BitVec 32) (v33 : BitVec 32) (k0_hw3 : k0_chk3 v3 v8 v33), ∀ (k0_h2 : k0_cond2 v8 = 1#1), ∀ (k0_h3 : k0_cond3 v33 = 1#1), ∀ a, (k0_off11 v3) a + S1x768x2048.size a ≤ S2x768x2048.size a := fun v3 v8 v33 k0_hw3 k0_h2 k0_h3 => k0_hw3.2.1 k0_h2 k0_h3
theorem k0_off12_inb : ∀ (v3 : BitVec 32) (v8 : BitVec 32) (v33 : BitVec 32) (k0_hw3 : k0_chk3 v3 v8 v33), ∀ (k0_h2 : k0_cond2 v8 = 1#1), ∀ (k0_h3 : k0_cond3 v33 = 1#1), ∀ a, (k0_off12 v33) a + S1x768x2048.size a ≤ S8x768x2048.size a := fun v3 v8 v33 k0_hw3 k0_h2 k0_h3 => k0_hw3.2.2.1 k0_h2 k0_h3
theorem k0_off13_inb : ∀ (v3 : BitVec 32) (v8 : BitVec 32) (v33 : BitVec 32) (k0_hw3 : k0_chk3 v3 v8 v33), ∀ (k0_h2 : k0_cond2 v8 = 1#1), ∀ (k0_h3 : k0_cond3 v33 = 1#1), ∀ a, (k0_off13 v3) a + S1x2048x768.size a ≤ S2x2048x768.size a := fun v3 v8 v33 k0_hw3 k0_h2 k0_h3 => k0_hw3.2.2.2.1 k0_h2 k0_h3
theorem k0_off14_inb : ∀ (v3 : BitVec 32) (v8 : BitVec 32) (v33 : BitVec 32) (k0_hw3 : k0_chk3 v3 v8 v33), ∀ (k0_h2 : k0_cond2 v8 = 1#1), ∀ (k0_h3 : k0_cond3 v33 = 1#1), ∀ a, (k0_off14 v33) a + S1x2048x768.size a ≤ S8x2048x768.size a := fun v3 v8 v33 k0_hw3 k0_h2 k0_h3 => k0_hw3.2.2.2.2 k0_h2 k0_h3

def k0_off15 (v3 : BitVec 32) : Fin 1 → Nat :=
  ![v3.toNat]

def k0_off16 (v3 : BitVec 32) : Fin 3 → Nat :=
  let c0_i32_18 : BitVec 32 := 0#32
  let c0_i32_19 : BitVec 32 := 0#32
  ![v3.toNat, 0, 0]
def k0_off17 (v1 : BitVec 32) : Fin 3 → Nat :=
  let c0_i32_20 : BitVec 32 := 0#32
  let c0_i32_21 : BitVec 32 := 0#32
  ![v1.toNat, 0, 0]
def k0_off18 (v3 : BitVec 32) : Fin 3 → Nat :=
  let c0_i32_22 : BitVec 32 := 0#32
  let c0_i32_23 : BitVec 32 := 0#32
  ![v3.toNat, 0, 0]
def k0_off19 (v1 : BitVec 32) : Fin 3 → Nat :=
  let c0_i32_24 : BitVec 32 := 0#32
  let c0_i32_25 : BitVec 32 := 0#32
  ![v1.toNat, 0, 0]

def k0_chk4 (v1 : BitVec 32) (v3 : BitVec 32) (v8 : BitVec 32) : Prop :=
  (∀ (k0_h2 : k0_cond2 v8 = 1#1), ∀ a, (k0_off15 v3) a + S1.size a ≤ S2.size a) ∧
  (∀ (k0_h2 : k0_cond2 v8 = 1#1), ∀ a, (k0_off16 v3) a + S1x768x2048.size a ≤ S2x768x2048.size a) ∧
  (∀ (k0_h2 : k0_cond2 v8 = 1#1), ∀ a, (k0_off17 v1) a + S1x768x2048.size a ≤ S8x768x2048.size a) ∧
  (∀ (k0_h2 : k0_cond2 v8 = 1#1), ∀ a, (k0_off18 v3) a + S1x2048x768.size a ≤ S2x2048x768.size a) ∧
  (∀ (k0_h2 : k0_cond2 v8 = 1#1), ∀ a, (k0_off19 v1) a + S1x2048x768.size a ≤ S8x2048x768.size a)
theorem k0_off15_inb : ∀ (v1 : BitVec 32) (v3 : BitVec 32) (v8 : BitVec 32) (k0_hw4 : k0_chk4 v1 v3 v8), ∀ (k0_h2 : k0_cond2 v8 = 1#1), ∀ a, (k0_off15 v3) a + S1.size a ≤ S2.size a := fun v1 v3 v8 k0_hw4 k0_h2 => k0_hw4.1 k0_h2
theorem k0_off16_inb : ∀ (v1 : BitVec 32) (v3 : BitVec 32) (v8 : BitVec 32) (k0_hw4 : k0_chk4 v1 v3 v8), ∀ (k0_h2 : k0_cond2 v8 = 1#1), ∀ a, (k0_off16 v3) a + S1x768x2048.size a ≤ S2x768x2048.size a := fun v1 v3 v8 k0_hw4 k0_h2 => k0_hw4.2.1 k0_h2
theorem k0_off17_inb : ∀ (v1 : BitVec 32) (v3 : BitVec 32) (v8 : BitVec 32) (k0_hw4 : k0_chk4 v1 v3 v8), ∀ (k0_h2 : k0_cond2 v8 = 1#1), ∀ a, (k0_off17 v1) a + S1x768x2048.size a ≤ S8x768x2048.size a := fun v1 v3 v8 k0_hw4 k0_h2 => k0_hw4.2.2.1 k0_h2
theorem k0_off18_inb : ∀ (v1 : BitVec 32) (v3 : BitVec 32) (v8 : BitVec 32) (k0_hw4 : k0_chk4 v1 v3 v8), ∀ (k0_h2 : k0_cond2 v8 = 1#1), ∀ a, (k0_off18 v3) a + S1x2048x768.size a ≤ S2x2048x768.size a := fun v1 v3 v8 k0_hw4 k0_h2 => k0_hw4.2.2.2.1 k0_h2
theorem k0_off19_inb : ∀ (v1 : BitVec 32) (v3 : BitVec 32) (v8 : BitVec 32) (k0_hw4 : k0_chk4 v1 v3 v8), ∀ (k0_h2 : k0_cond2 v8 = 1#1), ∀ a, (k0_off19 v1) a + S1x2048x768.size a ≤ S8x2048x768.size a := fun v1 v3 v8 k0_hw4 k0_h2 => k0_hw4.2.2.2.2 k0_h2

def k0_off20 (v3 : BitVec 32) : Fin 3 → Nat :=
  let v13 : Index := Scalar.indexCast v3
  let c0_3 : Index := 0#32
  let c0_4 : Index := 0#32
  ![v13.toNat, 0, 0]
def k0_off21 (v3 : BitVec 32) : Fin 3 → Nat :=
  let v23 : Index := Scalar.indexCast v3
  let c0_9 : Index := 0#32
  let c0_10 : Index := 0#32
  ![v23.toNat, 0, 0]

def k0_chk1 (i : grid0.Coords) (v3 : BitVec 32) : Prop :=
  (∀ (k0_h1 : k0_cond1 i = 1#1), ∀ a, (k0_off2 v3) a + S1.size a ≤ S2.size a) ∧
  (∀ (k0_h1 : k0_cond1 i = 1#1), ∀ a, (k0_off3 v3) a + S1x768x2048.size a ≤ S2x768x2048.size a) ∧
  (∀ (k0_h1 : k0_cond1 i = 1#1), ∀ a, (k0_off5 v3) a + S1.size a ≤ S2.size a) ∧
  (∀ (k0_h1 : k0_cond1 i = 1#1), ∀ a, (k0_off6 v3) a + S1x2048x768.size a ≤ S2x2048x768.size a) ∧
  (∀ a, (k0_off20 v3) a + S1x768x2048.size a ≤ S2x768x2048.size a) ∧
  (∀ a, (k0_off21 v3) a + S1x2048x768.size a ≤ S2x2048x768.size a)
theorem k0_off2_inb : ∀ (i : grid0.Coords) (v3 : BitVec 32) (k0_hw1 : k0_chk1 i v3), ∀ (k0_h1 : k0_cond1 i = 1#1), ∀ a, (k0_off2 v3) a + S1.size a ≤ S2.size a := fun i v3 k0_hw1 k0_h1 => k0_hw1.1 k0_h1
theorem k0_off3_inb : ∀ (i : grid0.Coords) (v3 : BitVec 32) (k0_hw1 : k0_chk1 i v3), ∀ (k0_h1 : k0_cond1 i = 1#1), ∀ a, (k0_off3 v3) a + S1x768x2048.size a ≤ S2x768x2048.size a := fun i v3 k0_hw1 k0_h1 => k0_hw1.2.1 k0_h1
theorem k0_off5_inb : ∀ (i : grid0.Coords) (v3 : BitVec 32) (k0_hw1 : k0_chk1 i v3), ∀ (k0_h1 : k0_cond1 i = 1#1), ∀ a, (k0_off5 v3) a + S1.size a ≤ S2.size a := fun i v3 k0_hw1 k0_h1 => k0_hw1.2.2.1 k0_h1
theorem k0_off6_inb : ∀ (i : grid0.Coords) (v3 : BitVec 32) (k0_hw1 : k0_chk1 i v3), ∀ (k0_h1 : k0_cond1 i = 1#1), ∀ a, (k0_off6 v3) a + S1x2048x768.size a ≤ S2x2048x768.size a := fun i v3 k0_hw1 k0_h1 => k0_hw1.2.2.2.1 k0_h1
theorem k0_off20_inb : ∀ (i : grid0.Coords) (v3 : BitVec 32) (k0_hw1 : k0_chk1 i v3), ∀ a, (k0_off20 v3) a + S1x768x2048.size a ≤ S2x768x2048.size a := fun i v3 k0_hw1 => k0_hw1.2.2.2.2.1
theorem k0_off21_inb : ∀ (i : grid0.Coords) (v3 : BitVec 32) (k0_hw1 : k0_chk1 i v3), ∀ a, (k0_off21 v3) a + S1x2048x768.size a ≤ S2x2048x768.size a := fun i v3 k0_hw1 => k0_hw1.2.2.2.2.2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (k0_off1_inb : ∀ i : grid0.Coords, ∀ a, (k0_off1 i) a + S1.size a ≤ S39.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S39) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S39.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S39) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ExpertsRefIdeal.lean ====
abbrev S39 : Shape := ⟨1, ![39]⟩
abbrev S9984x768 : Shape := ⟨2, ![9984, 768]⟩
abbrev S8x768x2048 : Shape := ⟨3, ![8, 768, 2048]⟩
abbrev S8x2048 : Shape := ⟨2, ![8, 2048]⟩
abbrev S8x2048x768 : Shape := ⟨3, ![8, 2048, 768]⟩
abbrev S8x768 : Shape := ⟨2, ![8, 768]⟩
abbrev S39x256x768 : Shape := ⟨3, ![39, 256, 768]⟩
abbrev S_ : Shape := ⟨0, ![]⟩
abbrev S39x1 : Shape := ⟨2, ![39, 1]⟩
abbrev S39x768x2048 : Shape := ⟨3, ![39, 768, 2048]⟩
abbrev S39x256x2048 : Shape := ⟨3, ![39, 256, 2048]⟩
abbrev S39x2048 : Shape := ⟨2, ![39, 2048]⟩
abbrev S39x1x2048 : Shape := ⟨3, ![39, 1, 2048]⟩
abbrev S39x2048x768 : Shape := ⟨3, ![39, 2048, 768]⟩
abbrev S39x768 : Shape := ⟨2, ![39, 768]⟩
abbrev S39x1x768 : Shape := ⟨3, ![39, 1, 768]⟩

abbrev nBuf : Space → Nat
  | .hbm => 58
  | .vmem => 0
  | .smem => 0
  | _ => 0

abbrev bufTy : (tb : Table) → Fin (tcTables nBuf tb) → BufTy
  | .hbm, ⟨0, _⟩ => ⟨S39, .i32⟩
  | .hbm, ⟨1, _⟩ => ⟨S39, .i32⟩
  | .hbm, ⟨2, _⟩ => ⟨S39, .i32⟩
  | .hbm, ⟨3, _⟩ => ⟨S39, .i32⟩
  | .hbm, ⟨4, _⟩ => ⟨S9984x768, .f32⟩
  | .hbm, ⟨5, _⟩ => ⟨S8x768x2048, .f32⟩
  | .hbm, ⟨6, _⟩ => ⟨S8x2048, .f32⟩
  | .hbm, ⟨7, _⟩ => ⟨S8x2048x768, .f32⟩
  | .hbm, ⟨8, _⟩ => ⟨S8x768, .f32⟩
  | .hbm, ⟨9, _⟩ => ⟨S39x256x768, .f32⟩
  | .hbm, ⟨10, _⟩ => ⟨S_, .i32⟩
  | .hbm, ⟨11, _⟩ => ⟨S39, .i32⟩
  | .hbm, ⟨12, _⟩ => ⟨S39, .i1⟩
  | .hbm, ⟨13, _⟩ => ⟨S_, .i32⟩
  | .hbm, ⟨14, _⟩ => ⟨S39, .i32⟩
  | .hbm, ⟨15, _⟩ => ⟨S39, .i32⟩
  | .hbm, ⟨16, _⟩ => ⟨S39, .i32⟩
  | .hbm, ⟨17, _⟩ => ⟨S39x1, .i32⟩
  | .hbm, ⟨18, _⟩ => ⟨S39x768x2048, .f32⟩
  | .hbm, ⟨19, _⟩ => ⟨S39x256x2048, .f32⟩
  | .hbm, ⟨20, _⟩ => ⟨S_, .i32⟩
  | .hbm, ⟨21, _⟩ => ⟨S39, .i32⟩
  | .hbm, ⟨22, _⟩ => ⟨S39, .i1⟩
  | .hbm, ⟨23, _⟩ => ⟨S_, .i32⟩
  | .hbm, ⟨24, _⟩ => ⟨S39, .i32⟩
  | .hbm, ⟨25, _⟩ => ⟨S39, .i32⟩
  | .hbm, ⟨26, _⟩ => ⟨S39, .i32⟩
  | .hbm, ⟨27, _⟩ => ⟨S39x1, .i32⟩
  | .hbm, ⟨28, _⟩ => ⟨S39x2048, .f32⟩
  | .hbm, ⟨29, _⟩ => ⟨S39x1x2048, .f32⟩
  | .hbm, ⟨30, _⟩ => ⟨S39x256x2048, .f32⟩
  | .hbm, ⟨31, _⟩ => ⟨S39x256x2048, .f32⟩
  | .hbm, ⟨32, _⟩ => ⟨S_, .f32⟩
  | .hbm, ⟨33, _⟩ => ⟨S39x256x2048, .f32⟩
  | .hbm, ⟨34, _⟩ => ⟨S39x256x2048, .f32⟩
  | .hbm, ⟨35, _⟩ => ⟨S_, .i32⟩
  | .hbm, ⟨36, _⟩ => ⟨S39, .i32⟩
  | .hbm, ⟨37, _⟩ => ⟨S39, .i1⟩
  | .hbm, ⟨38, _⟩ => ⟨S_, .i32⟩
  | .hbm, ⟨39, _⟩ => ⟨S39, .i32⟩
  | .hbm, ⟨40, _⟩ => ⟨S39, .i32⟩
  | .hbm, ⟨41, _⟩ => ⟨S39, .i32⟩
  | .hbm, ⟨42, _⟩ => ⟨S39x1, .i32⟩
  | .hbm, ⟨43, _⟩ => ⟨S39x2048x768, .f32⟩
  | .hbm, ⟨44, _⟩ => ⟨S39x256x768, .f32⟩
  | .hbm, ⟨45, _⟩ => ⟨S_, .i32⟩
  | .hbm, ⟨46, _⟩ => ⟨S39, .i32⟩
  | .hbm, ⟨47, _⟩ => ⟨S39, .i1⟩
  | .hbm, ⟨48, _⟩ => ⟨S_, .i32⟩
  | .hbm, ⟨49, _⟩ => ⟨S39, .i32⟩
  | .hbm, ⟨50, _⟩ => ⟨S39, .i32⟩
  | .hbm, ⟨51, _⟩ => ⟨S39, .i32⟩
  | .hbm, ⟨52, _⟩ => ⟨S39x1, .i32⟩
  | .hbm, ⟨53, _⟩ => ⟨S39x768, .f32⟩
  | .hbm, ⟨54, _⟩ => ⟨S39x1x768, .f32⟩
  | .hbm, ⟨55, _⟩ => ⟨S39x256x768, .f32⟩
  | .hbm, ⟨56, _⟩ => ⟨S39x256x768, .f32⟩
  | .hbm, ⟨57, _⟩ => ⟨S9984x768, .f32⟩
  | _, _ => ⟨S39, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_v9 : Ref sig .tc := ⟨.hbm, 21, rfl⟩
abbrev main_v10 : Ref sig .tc := ⟨.hbm, 22, rfl⟩
abbrev main_c_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_cst : Ref sig .tc := ⟨.hbm, 32, rfl⟩
abbrev main_call0_v0 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩

abbrev nD : Nat := 1
abbrev τ : Topo := Topo.v7x

variable {F : FTy → Type} [FloatOps F]
-- ==== Scatter.lean ====
abbrev S4096x768 : Shape := ⟨2, ![4096, 768]⟩
abbrev S8192x1 : Shape := ⟨2, ![8192, 1]⟩
abbrev S8192 : Shape := ⟨1, ![8192]⟩
abbrev S8 : Shape := ⟨1, ![8]⟩
abbrev S1x8 : Shape := ⟨2, ![1, 8]⟩
abbrev S8192x8 : Shape := ⟨2, ![8192, 8]⟩
abbrev S_ : Shape := ⟨0, ![]⟩
abbrev S1x8192 : Shape := ⟨2, ![1, 8192]⟩
abbrev S8192x8192 : Shape := ⟨2, ![8192, 8192]⟩
abbrev S2x4096 : Shape := ⟨2, ![2, 4096]⟩
abbrev S1x4096 : Shape := ⟨2, ![1, 4096]⟩
abbrev S4096 : Shape := ⟨1, ![4096]⟩
abbrev S9984x768 : Shape := ⟨2, ![9984, 768]⟩
abbrev S128 : Shape := ⟨1, ![128]⟩
abbrev S128x768 : Shape := ⟨2, ![128, 768]⟩
abbrev S128x128 : Shape := ⟨2, ![128, 128]⟩
abbrev S9984x128 : Shape := ⟨2, ![9984, 128]⟩
abbrev S4096x1 : Shape := ⟨2, ![4096, 1]⟩

abbrev nBuf : Table → Nat
  | .hbm => 74
  | .local .scVector .vmem => 3
  | _ => 0

abbrev bufTy : (tb : Table) → Fin (nBuf tb) → BufTy
  | .hbm, ⟨0, _⟩ => ⟨S4096x768, .f32⟩
  | .hbm, ⟨1, _⟩ => ⟨S8192x1, .i32⟩
  | .hbm, ⟨2, _⟩ => ⟨S8192, .i32⟩
  | .hbm, ⟨3, _⟩ => ⟨S8, .i32⟩
  | .hbm, ⟨4, _⟩ => ⟨S1x8, .i32⟩
  | .hbm, ⟨5, _⟩ => ⟨S8192x8, .i32⟩
  | .hbm, ⟨6, _⟩ => ⟨S8192x8, .i32⟩
  | .hbm, ⟨7, _⟩ => ⟨S8192x8, .i1⟩
  | .hbm, ⟨8, _⟩ => ⟨S8192x8, .i32⟩
  | .hbm, ⟨9, _⟩ => ⟨S_, .i32⟩
  | .hbm, ⟨10, _⟩ => ⟨S8, .i32⟩
  | .hbm, ⟨11, _⟩ => ⟨S_, .i32⟩
  | .hbm, ⟨12, _⟩ => ⟨S8, .i32⟩
  | .hbm, ⟨13, _⟩ => ⟨S8, .i32⟩
  | .hbm, ⟨14, _⟩ => ⟨S_, .i32⟩
  | .hbm, ⟨15, _⟩ => ⟨S8, .i32⟩
  | .hbm, ⟨16, _⟩ => ⟨S8, .i32⟩
  | .hbm, ⟨17, _⟩ => ⟨S_, .i32⟩
  | .hbm, ⟨18, _⟩ => ⟨S8, .i32⟩
  | .hbm, ⟨19, _⟩ => ⟨S8, .i32⟩
  | .hbm, ⟨20, _⟩ => ⟨S8, .i32⟩
  | .hbm, ⟨21, _⟩ => ⟨S1x8, .i32⟩
  | .hbm, ⟨22, _⟩ => ⟨S8192x8, .i32⟩
  | .hbm, ⟨23, _⟩ => ⟨S8192x8, .i32⟩
  | .hbm, ⟨24, _⟩ => ⟨S8192x8, .i1⟩
  | .hbm, ⟨25, _⟩ => ⟨S_, .i32⟩
  | .hbm, ⟨26, _⟩ => ⟨S_, .i32⟩
  | .hbm, ⟨27, _⟩ => ⟨S8192x8, .i32⟩
  | .hbm, ⟨28, _⟩ => ⟨S8192x8, .i32⟩
  | .hbm, ⟨29, _⟩ => ⟨S8192x8, .i32⟩
  | .hbm, ⟨30, _⟩ => ⟨S_, .i32⟩
  | .hbm, ⟨31, _⟩ => ⟨S8192, .i32⟩
  | .hbm, ⟨32, _⟩ => ⟨S1x8192, .i32⟩
  | .hbm, ⟨33, _⟩ => ⟨S8192x8192, .i32⟩
  | .hbm, ⟨34, _⟩ => ⟨S8192x8192, .i32⟩
  | .hbm, ⟨35, _⟩ => ⟨S8192x8192, .i1⟩
  | .hbm, ⟨36, _⟩ => ⟨S8192x1, .i32⟩
  | .hbm, ⟨37, _⟩ => ⟨S1x8192, .i32⟩
  | .hbm, ⟨38, _⟩ => ⟨S8192x8192, .i32⟩
  | .hbm, ⟨39, _⟩ => ⟨S8192x8192, .i32⟩
  | .hbm, ⟨40, _⟩ => ⟨S8192x8192, .i1⟩
  | .hbm, ⟨41, _⟩ => ⟨S8192x8192, .i1⟩
  | .hbm, ⟨42, _⟩ => ⟨S8192x8192, .i32⟩
  | .hbm, ⟨43, _⟩ => ⟨S_, .i32⟩
  | .hbm, ⟨44, _⟩ => ⟨S8192, .i32⟩
  | .hbm, ⟨45, _⟩ => ⟨S8192, .i32⟩
  | .hbm, ⟨46, _⟩ => ⟨S2x4096, .i32⟩
  | .hbm, ⟨47, _⟩ => ⟨S1x4096, .i32⟩
  | .hbm, ⟨48, _⟩ => ⟨S4096, .i32⟩
  | .hbm, ⟨49, _⟩ => ⟨S1x4096, .i32⟩
  | .hbm, ⟨50, _⟩ => ⟨S4096, .i32⟩
  | .hbm, ⟨51, _⟩ => ⟨S9984x768, .f32⟩
  | .hbm, ⟨52, _⟩ => ⟨S1x4096, .i32⟩
  | .hbm, ⟨53, _⟩ => ⟨S4096, .i32⟩
  | .hbm, ⟨54, _⟩ => ⟨S_, .i32⟩
  | .hbm, ⟨55, _⟩ => ⟨S4096, .i32⟩
  | .hbm, ⟨56, _⟩ => ⟨S4096, .i1⟩
  | .hbm, ⟨57, _⟩ => ⟨S_, .i32⟩
  | .hbm, ⟨58, _⟩ => ⟨S4096, .i32⟩
  | .hbm, ⟨59, _⟩ => ⟨S4096, .i32⟩
  | .hbm, ⟨60, _⟩ => ⟨S4096, .i32⟩
  | .hbm, ⟨61, _⟩ => ⟨S4096x1, .i32⟩
  | .hbm, ⟨62, _⟩ => ⟨S4096x768, .f32⟩
  | .hbm, ⟨63, _⟩ => ⟨S1x4096, .i32⟩
  | .hbm, ⟨64, _⟩ => ⟨S4096, .i32⟩
  | .hbm, ⟨65, _⟩ => ⟨S_, .i32⟩
  | .hbm, ⟨66, _⟩ => ⟨S4096, .i32⟩
  | .hbm, ⟨67, _⟩ => ⟨S4096, .i1⟩
  | .hbm, ⟨68, _⟩ => ⟨S_, .i32⟩
  | .hbm, ⟨69, _⟩ => ⟨S4096, .i32⟩
  | .hbm, ⟨70, _⟩ => ⟨S4096, .i32⟩
  | .hbm, ⟨71, _⟩ => ⟨S4096, .i32⟩
  | .hbm, ⟨72, _⟩ => ⟨S4096x1, .i32⟩
  | .hbm, ⟨73, _⟩ => ⟨S4096x768, .f32⟩
  | .local .scVector .vmem, ⟨0, _⟩ => ⟨S128, .i32⟩
  | .local .scVector .vmem, ⟨1, _⟩ => ⟨S128, .i32⟩
  | .local .scVector .vmem, ⟨2, _⟩ => ⟨S128x768, .f32⟩
  | _, _ => ⟨S4096x768, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_c_0 : Ref sig .tc := ⟨.hbm, 11, rfl⟩
abbrev main_v8 : Ref sig .tc := ⟨.hbm, 12, rfl⟩
abbrev main_v9 : Ref sig .tc := ⟨.hbm, 13, rfl⟩
abbrev main_c_1 : Ref sig .tc := ⟨.hbm, 14, rfl⟩
abbrev main_v10 : Ref sig .tc := ⟨.hbm, 15, rfl⟩
abbrev main_v11 : Ref sig .tc := ⟨.hbm, 16, rfl⟩
abbrev main_c_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c_3 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v19 : Ref sig .tc := ⟨.hbm, 29, rfl⟩
abbrev main_c_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_c_6 : Ref sig .tc := ⟨.hbm, 54, rfl⟩
abbrev main_v42 : Ref sig .tc := ⟨.hbm, 55, rfl⟩
abbrev main_v43 : Ref sig .tc := ⟨.hbm, 56, rfl⟩
abbrev main_c_7 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_c_8 : Ref sig .tc := ⟨.hbm, 65, rfl⟩
abbrev main_v51 : Ref sig .tc := ⟨.hbm, 66, rfl⟩
abbrev main_v52 : Ref sig .tc := ⟨.hbm, 67, rfl⟩
abbrev main_c_9 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_arg0_scv : Ref sig .scVector := ⟨.hbm, 0, rfl⟩
abbrev main_v36_scv : Ref sig .scVector := ⟨.hbm, 48, rfl⟩
abbrev main_v38_scv : Ref sig .scVector := ⟨.hbm, 50, rfl⟩
abbrev main_v39_scv : Ref sig .scVector := ⟨.hbm, 51, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_1_r2 : BitVec 32 := 0#32
  ![v2.toNat, 0]
@[reducible] def k0_t1_loop : Scf.Loop 32 :=
  let c0_i32 : BitVec 32 := 0#32
  let c6_i32 : BitVec 32 := 6#32
  let v3 : BitVec 32 := Scalar.addi c0_i32 c6_i32
  let c1_i32 : BitVec 32 := 1#32
  ⟨c0_i32, v3, c1_i32⟩
def k0_mult1 (k0_t1 : Fin k0_t1_loop.trips) : BitVec 32 :=
  let c0_i32_2 : BitVec 32 := 0#32
  let c0_i32 : BitVec 32 := 0#32
  let c1_i32 : BitVec 32 := 1#32
  let arg11 : BitVec 32 := Scf.iv c0_i32 c1_i32 k0_t1
  let c1_i32_1 : BitVec 32 := 1#32
  let v4 : BitVec 32 := Scalar.muli arg11 c1_i32_1
  let v5 : BitVec 32 := Scalar.addi c0_i32_2 v4
  let c128_i32_3 : BitVec 32 := 128#32
  let v6 : BitVec 32 := Scalar.muli v5 c128_i32_3
  v6
def k0_off3 (k0_t1 : Fin k0_t1_loop.trips) : Fin 2 → Nat :=
  let c0_i32_4 : BitVec 32 := 0#32
  let c0_i32_2 : BitVec 32 := 0#32
  let c0_i32 : BitVec 32 := 0#32
  let c1_i32 : BitVec 32 := 1#32
  let arg11 : BitVec 32 := Scf.iv c0_i32 c1_i32 k0_t1
  let c1_i32_1 : BitVec 32 := 1#32
  let v4 : BitVec 32 := Scalar.muli arg11 c1_i32_1
  let v5 : BitVec 32 := Scalar.addi c0_i32_2 v4
  let c128_i32_3 : BitVec 32 := 128#32
  let v6 : BitVec 32 := Scalar.muli v5 c128_i32_3
  let v7 : BitVec 32 := v6
  ![0, v7.toNat]
def k0_off4 (k0_t1 : Fin k0_t1_loop.trips) : Fin 2 → Nat :=
  let c0_i32_5 : BitVec 32 := 0#32
  let c0_i32_2 : BitVec 32 := 0#32
  let c0_i32 : BitVec 32 := 0#32
  let c1_i32 : BitVec 32 := 1#32
  let arg11 : BitVec 32 := Scf.iv c0_i32 c1_i32 k0_t1
  let c1_i32_1 : BitVec 32 := 1#32
  let v4 : BitVec 32 := Scalar.muli arg11 c1_i32_1
  let v5 : BitVec 32 := Scalar.addi c0_i32_2 v4
  let c128_i32_3 : BitVec 32 := 128#32
  let v6 : BitVec 32 := Scalar.muli v5 c128_i32_3
  let v7 : BitVec 32 := v6
  ![0, v7.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ScatterRefIdeal.lean ====
abbrev S4096x768 : Shape := ⟨2, ![4096, 768]⟩
abbrev S8192x1 : Shape := ⟨2, ![8192, 1]⟩

abbrev nBuf : Space → Nat
  | .hbm => 2
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S8192x1, .i32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩

abbrev nD : Nat := 1
abbrev τ : Topo := Topo.v7x

variable {F : FTy → Type} [FloatOps F]
-- ==== Proof.Setup.lean ====
/-
  What the row-gather launch is to the launch theorem: the program's pieces under short names, the ghost state, the
  arrays and the part of each that one tile works on, and what the handshakes carry. The thirty-two tiles (two
  SparseCores of sixteen) each own 128 consecutive positions of the two index lists and the same rows of the two
  results; all of them read the whole table, each under its own read share.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.Routing.Ops
public import proofs.«01_k».proof.Proof.Gen.KernelIdeal
public import proofs.«01_k».proof.Proof.Gen.KernelIdeal.Skeleton

@[expose] public section

noncomputable section

namespace Cert.Proof

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ) (ρ : Dev nD → PrngReg)

/-- The table of rows. -/
abbrev yLoc (d : Dev nD) : Loc nD τ sig := (SparseCore.T d).loc main_arg0
/-- The two lists of positions. -/
abbrev pLoc (d : Dev nD) : Loc nD τ sig := (SparseCore.T d).loc main_arg1
abbrev qLoc (d : Dev nD) : Loc nD τ sig := (SparseCore.T d).loc main_arg2
/-- The two results. -/
abbrev gLoc (d : Dev nD) : Loc nD τ sig := (SparseCore.T d).loc main_v0_0
abbrev hLoc (d : Dev nD) : Loc nD τ sig := (SparseCore.T d).loc main_v0_1

abbrev yV : Memref sig .scVector .hbm S9984x768 .f32 := Memref.whole main_arg0_scv
abbrev pV : Memref sig .scVector .hbm S4096 .i32 := Memref.whole main_arg1_scv
abbrev qV : Memref sig .scVector .hbm S4096 .i32 := Memref.whole main_arg2_scv
abbrev gV : Memref sig .scVector .hbm S4096x768 .f32 := Memref.whole main_v0_0_scv
abbrev hV : Memref sig .scVector .hbm S4096x768 .f32 := Memref.whole main_v0_1_scv
/-- A tile's scratch: its 128 positions, its 128 gathered rows. -/
abbrev sV : Memref sig .scVector .vmem S128 .i32 := Memref.whole cc0_scratch0
abbrev rV : Memref sig .scVector .vmem S128x768 .f32 := Memref.whole cc0_scratch1

/-! ## The tiles and their parts -/

/-- Tile `i` of SparseCore `c` is worker `2 i + c`. -/
def wid (c : Fin 2) (i : Fin 16) : Fin 32 := ⟨2 * i.val + c.val, by omega⟩

/-- The workers are the pairs of a SparseCore and a tile. -/
def widEquiv : Fin 2 × Fin 16 ≃ Fin 32 where
  toFun x := wid x.1 x.2
  invFun w := (⟨w.val % 2, by omega⟩, ⟨w.val / 2, by omega⟩)
  left_inv x := by
    obtain ⟨c, i⟩ := x
    simp only [wid, Prod.mk.injEq, Fin.ext_iff]
    omega
  right_inv w := by simp only [wid, Fin.ext_iff]; omega

theorem widEquiv_apply (c : Fin 2) (i : Fin 16) : widEquiv (c, i) = wid c i := rfl

theorem posDiv : 32 ∣ S4096.size 0 := ⟨128, rfl⟩
theorem rowDiv : 32 ∣ S4096x768.size 0 := ⟨128, rfl⟩
/-- Worker `w`'s 128 positions, and its 128 rows of a result. -/
abbrev posPart (w : Fin 32) : Rect S4096 := Rect.part (s := S4096) (a₀ := 0) posDiv w
abbrev rowPart (w : Fin 32) : Rect S4096x768 := Rect.part (s := S4096x768) (a₀ := 0) rowDiv w

/-- Worker `w`'s read share of the table. -/
abbrev tShare (w : Fin 32) : PosShare TreeShare := Transfers.dealOf fullShare (Finset.univ : Finset (Fin 32)) w

/-! ## What is gathered -/

/-- The table's row that a position names; the table's first row when it names none. -/
def rowOf (v : BitVec 32) : Fin 9984 := if h : v.toNat < 9984 then ⟨v.toNat, h⟩ else 0

theorem rowOf_val {v : BitVec 32} (h : v.toNat < 9984) : (rowOf v).val = v.toNat := by unfold rowOf; rw [dif_pos h]

/-- Row `t` of the gathered array is the table's row at position `p t`. -/
def taken (y : S9984x768.Idx → Elt F .f32) (p : S4096.Idx → Elt F .i32) : S4096x768.Idx → Elt F .f32 :=
  fun x => y (ix2 (rowOf (p (ix1 (x 0)))) (x 1))

/-! ## What the handshakes carry -/

abbrev yPts (d : Dev nD) (w : Fin 32) : sProp 𝕄 := yLoc d ↦{tShare w} m (yLoc d)
abbrev pPts (d : Dev nD) (w : Fin 32) : sProp 𝕄 := pLoc d ↦[(posPart w).set]{fullShare} m (pLoc d)
abbrev qPts (d : Dev nD) (w : Fin 32) : sProp 𝕄 := qLoc d ↦[(posPart w).set]{fullShare} m (qLoc d)
abbrev gPts (d : Dev nD) (w : Fin 32) (f : Buf (Elt F) (gLoc d)) : sProp 𝕄 := gLoc d ↦[(rowPart w).set]{fullShare} f
abbrev hPts (d : Dev nD) (w : Fin 32) (f : Buf (Elt F) (hLoc d)) : sProp 𝕄 := hLoc d ↦[(rowPart w).set]{fullShare} f

/-- The two results: the table's rows at the first and at the second list's positions. -/
abbrev gVal (d : Dev nD) : Buf (Elt F) (gLoc d) := taken (m (yLoc d)) (m (pLoc d))
abbrev hVal (d : Dev nD) : Buf (Elt F) (hLoc d) := taken (m (yLoc d)) (m (qLoc d))

/-- What worker `w` is handed: a read share of the table, its positions, its rows of the results as they were. -/
abbrev handed (d : Dev nD) (w : Fin 32) : sProp 𝕄 :=
  iprop(yPts m d w ∗ pPts m d w ∗ qPts m d w ∗ gPts d w (m (gLoc d)) ∗ hPts d w (m (hLoc d)))
/-- What it hands back: the same, its rows of the results gathered. -/
abbrev returned (d : Dev nD) (w : Fin 32) : sProp 𝕄 :=
  iprop(yPts m d w ∗ pPts m d w ∗ qPts m d w ∗ gPts d w (gVal m d) ∗ hPts d w (hVal m d))

/-- The call takes each SparseCore the parts of its tiles, and brings them back gathered. -/
def P : (K (F := F)).Pay (nD := nD) (Val := Elt F) (Name := ℕ) (U := UU) where
  st := fun q d c => match q with
    | 0 => bigSep Finset.univ fun i : Fin 16 => handed m d (wid (Fin.cast nCore_zero c) i)
  dn := fun q d c => match q with
    | 0 => bigSep Finset.univ fun i : Fin 16 => returned m d (wid (Fin.cast nCore_zero c) i)
  go := fun q d c i => match q with | 0 => handed m d (wid (Fin.cast nCore_zero c) (Fin.cast nSub_zero i))
  td := fun q d c i => match q with | 0 => returned m d (wid (Fin.cast nCore_zero c) (Fin.cast nSub_zero i))
  x := fun _ _ => iprop(emp)

instance P_storable : (P (F := F) m).IsStorable where
  st q d c := match q with
    | 0 => (inferInstance : BI.Storable (upEmb : UEmb _ 𝕄) (bigSep Finset.univ fun i : Fin 16 => handed m d (wid (Fin.cast nCore_zero c) i)))
  dn q d c := match q with
    | 0 => (inferInstance : BI.Storable (upEmb : UEmb _ 𝕄) (bigSep Finset.univ fun i : Fin 16 => returned m d (wid (Fin.cast nCore_zero c) i)))
  go q d c i := match q with
    | 0 => (inferInstance : BI.Storable (upEmb : UEmb _ 𝕄) (handed m d (wid (Fin.cast nCore_zero c) (Fin.cast nSub_zero i))))
  td q d c i := match q with
    | 0 => (inferInstance : BI.Storable (upEmb : UEmb _ 𝕄) (returned m d (wid (Fin.cast nCore_zero c) (Fin.cast nSub_zero i))))

/-- What the proof asks of the launch memory: every position names a row of the table. -/
def PreOK : Prop := ∀ d : Dev nD, (∀ j : S4096.Idx, (m (pLoc d) j).toNat < 9984) ∧ ∀ j : S4096.Idx, (m (qLoc d) j).toNat < 9984

end Cert.Proof

end
-- ==== Proof.Tile.lean ====
/-
  One tile of the row gather: it fetches its 128 positions of the first list, reads the table's rows at them into its
  scratch in six column windows of 128, copies the rows out to its part of the first result, and does the same for the
  second list. One lemma (`trip`) covers a window of either loop; `tile_body` covers a tile at a symbolic pair of
  SparseCore and tile.
-/
module

public import proofs.«01_k».proof.Proof.Setup

@[expose] public section

noncomputable section

namespace Cert.Proof

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-! ## One window -/

/-- The columns of the scratch rows, and of the table, that trip `k` moves. -/
abbrev rWin (o : Fin 2 → ℕ) (h : ∀ a, o a + S128x128.size a ≤ S128x768.size a) : Memref sig .scVector .vmem S128x128 .f32 :=
  rV.slice (Rect.unit (s := S128x768) o S128x128.size h) (fun _ => rfl)
abbrev yWin (o : Fin 2 → ℕ) (h : ∀ a, o a + S9984x128.size a ≤ S9984x768.size a) : Memref sig .scVector .hbm S9984x128 .f32 :=
  yV.slice (Rect.unit (s := S9984x768) o S9984x128.size h) (fun _ => rfl)

/-- The scratch rows after `k` windows: their first `128 k` columns are the table's rows at the list's positions. -/
def Done (y : S9984x768.Idx → Elt F .f32) (ls : S128.Idx → Elt F .i32) (k : ℕ) (f : S128x768.Idx → Elt F .f32) : Prop :=
  ∀ x : S128x768.Idx, (x 1).val < 128 * k → f x = y (ix2 (rowOf (ls (ix1 (x 0)))) (x 1))

theorem gatherPayload_window (k : ℕ) (hk : k < 6) (o : Fin 2 → ℕ) (h : ∀ a, o a + S9984x128.size a ≤ S9984x768.size a) (ho : o = ![0, 128 * k])
    (y : S9984x768.Idx → Elt F .f32) (ls : S128.Idx → Elt F .i32) (hn : S128.numel = S128x128.size gathers_S9984x128_S128x128.axis')
    (hin : ∀ x, (ls x).toNat < S9984x128.size gathers_S9984x128_S128x128.axis) (x : S128x128.Idx) :
    SparseCore.gatherPayload gathers_S9984x128_S128x128 ((yWin o h).view.read (Elt F) y) (SparseCore.rows ls hn hin) x
      = y (ix2 (rowOf (ls (ix1 (x 0)))) ⟨128 * k + (x 1).val, by have := idx2_lt1 x; omega⟩) := by
  have e0 : gathers_S9984x128_S128x128.idx (SparseCore.rows ls hn hin) x 0 = SparseCore.rows ls hn hin (x 0) :=
    Shape.Gathers.idx_axis gathers_S9984x128_S128x128 (SparseCore.rows ls hn hin) x
  have e1 : (gathers_S9984x128_S128x128.idx (SparseCore.rows ls hn hin) x 1).val = (x 1).val :=
    Shape.Gathers.idx_of_ne gathers_S9984x128_S128x128 (SparseCore.rows ls hn hin) x 1 (by decide)
  unfold SparseCore.gatherPayload
  refine (View.read_apply _ _).trans ((cast_eq _ _).trans (congrArg y ?_))
  subst ho
  funext a
  apply Fin.ext
  match a with
  | 0 =>
    show 0 + 1 * (gathers_S9984x128_S128x128.idx (SparseCore.rows ls hn hin) x 0).val = (rowOf (ls (ix1 (x 0)))).val
    rw [e0]
    have hl : S128.rowMajor.symm ((x 0).cast hn.symm) = ix1 (x 0) := Routing.symm1 (N := 128) _
    unfold SparseCore.rows
    rw [rowOf_val (hin _)]
    show 0 + 1 * (ls (S128.rowMajor.symm ((x 0).cast hn.symm))).toNat = _
    rw [hl]; exact (Nat.zero_add _).trans (Nat.one_mul _)
  | 1 =>
    show 128 * k + 1 * (gathers_S9984x128_S128x128.idx (SparseCore.rows ls hn hin) x 1).val = 128 * k + (x 1).val
    rw [e1]; omega

theorem Done.step {y : S9984x768.Idx → Elt F .f32} {ls : S128.Idx → Elt F .i32} {k : ℕ} {f : S128x768.Idx → Elt F .f32} (hk : k < 6)
    (o : Fin 2 → ℕ) (h : ∀ a, o a + S128x128.size a ≤ S128x768.size a) (ho : o = ![0, 128 * k]) (hd : Done y ls k f)
    (w : S128x128.Idx → Elt F .f32)
    (hw : ∀ x : S128x128.Idx, w x = y (ix2 (rowOf (ls (ix1 (x 0)))) ⟨128 * k + (x 1).val, by have := idx2_lt1 x; omega⟩)) :
    Done y ls (k + 1) ((rWin o h).view.write (Elt F) f w Finset.univ) := by
  intro x hx
  subst ho
  have e := View.read_whole (Val := Elt F) (b := (cc0_scratch1 : Ref sig .scVector))
  by_cases hlt : (x 1).val < 128 * k
  · have := View.read_writes_cons_miss_of_axis rV.view f ⟨Rect.unit (s := S128x768) ![0, 128 * k] S128x128.size h, w⟩ [] x 1 (128 * k) 128 rfl rfl rfl (.inl hlt)
    exact this.trans (hd x hlt)
  · have hx1 : (x 1).val - 128 * k < 128 := by omega
    have := View.read_writes_cons_hit_of_coords rV.view f (Rect.unit (s := S128x768) ![0, 128 * k] S128x128.size h) w []
      (ix2 (x 0) ⟨(x 1).val - 128 * k, hx1⟩) x (fun a => by
        match a with
        | 0 => show (x 0).val = 0 + 1 * (x 0).val; omega
        | 1 => show (x 1).val = 128 * k + 1 * ((x 1).val - 128 * k); omega)
    refine this.trans ((hw _).trans (congrArg y ?_))
    funext a
    match a with
    | 0 => rfl
    | 1 => apply Fin.ext; show 128 * k + ((x 1).val - 128 * k) = (x 1).val; omega

/-! ## A trip of either loop -/

section Tile

variable [FloatOps F]
variable (d : Dev nD) (L : grid0.Coords)

abbrev cV (L : grid0.Coords) : Fin τ.nSC := (L 0).castLE hcore0
abbrev jV (L : grid0.Coords) : Fin τ.nSub := (L 1).castLE hsub0
/-- The tile's own thread. -/
abbrev tV (d : Dev nD) (L : grid0.Coords) : Thread nD τ := V d (cV L) (jV L)
/-- The tile's worker number. -/
abbrev wL (L : grid0.Coords) : Fin 32 := wid (L 0) (L 1)

/-- What a trip keeps: the waits allowed, the tile's share of the table, the list, the rows so far, the cell at zero. -/
def inv (O : CellTallies nD τ sig (HIx 1)) (W : Waits sig (HIx 1)) (q : PosShare TreeShare)
    (y : S9984x768.Idx → Elt F .f32) (ls : S128.Idx → Elt F .i32) (k : ℕ) : sProp 𝕄 :=
  iprop(Transfers.MayWaits (tV d L) (default : HIx 1) O ∗ (yV.view.loc (tV d L) ↦{q} y) ∗ (sV.view.loc (tV d L) ↦{fullShare} ls)
    ∗ (∃ f, ⌜Done y ls k f⌝ ∗ rV.view.loc (tV d L) ↦{fullShare} f)
    ∗ semVal (tV d L, .dma cc0_scratch2.sem) 0
    ∗ ∃ W', ⌜∀ p ∈ W', p ∈ W ∨ p.2 = none⌝ ∗ owes (tV d L) O W')

set_option maxHeartbeats 1000000 in
theorem trip (O : CellTallies nD τ sig (HIx 1)) (W : Waits sig (HIx 1)) (q : PosShare TreeShare)
    (y : S9984x768.Idx → Elt F .f32) (ls : S128.Idx → Elt F .i32) (hin : ∀ x, (ls x).toNat < 9984) (k : ℕ) (hk : k < 6)
    (o : Fin 2 → ℕ) (h : ∀ a, o a + S128x128.size a ≤ S128x768.size a) (ho : o = ![0, 128 * k])
    (o' : Fin 2 → ℕ) (h' : ∀ a, o' a + S9984x128.size a ≤ S9984x768.size a) (ho' : o' = ![0, 128 * k]) :
    inv d L O W q y ls k
      ⊢ wp frame (wpE (defs₀ (F := F)) 𝒱₀ (tV d L) none) Set.univ
          (do
            SparseCore.enqueueIndirectGather rfl (yWin o' h') (rWin o h) gathers_S9984x128_S128x128 sV rfl cc0_scratch2.sem (View.wordExact_bits rfl) rfl (Or.inl rfl)
            SparseCore.waitIndirectGather cc0_scratch2.sem (yWin o' h') (rWin o h) (View.wordExact_bits rfl) (View.wordExact_bits rfl)
            pure (⟨⟩ : Unit))
          fun _ => inv d L O W q y ls (k + 1) := by
  unfold inv
  iintro ⟨#Hmw, Hy, Hs, ⟨%f, %hf, Hr⟩, Hsem, %W', %hW', HO⟩
  have hss : sV.view.set = Finset.univ := View.set_whole _
  ihave Hys := (pointsTo_split_subset (ℓ := yV.view.loc (tV d L)) (q := q) (f := y) (S := Finset.univ) (I := (yWin o' h').view.set) (Finset.subset_univ _)).1 $$ Hy
  icases Hys with ⟨Hys, Hyr⟩
  ihave Hrs := (pointsTo_split_subset (ℓ := rV.view.loc (tV d L)) (q := fullShare) (f := f) (S := Finset.univ) (I := (rWin o h).view.set) (Finset.subset_univ _)).1 $$ Hr
  icases Hrs with ⟨Hrs, Hrr⟩
  ihave Hs' := (Entails.of_eq (show (sV.view.loc (tV d L) ↦{fullShare} ls : sProp 𝕄) = sV.view.loc (tV d L) ↦[sV.view.set]{fullShare} ls by rw [hss])) $$ Hs
  have hin' : ∀ x, (sV.view.read (Elt F) ls x).toNat < S9984x128.size gathers_S9984x128_S128x128.axis := hin
  iapply (SparseCore.wp_indirectGatherLocal countersEmb 𝒱₀ (tV d L) none (hg := gathers_S9984x128_S128x128) (default : HIx 1)
      (rWin o h).view.dmaCredit (SparseCore.sum_rowCredit_eq_dmaCredit (rWin o h) _ (fun _ => rfl)) (by decide) hin') $$ [Hys Hrs Hs' Hsem]
  · isplitl [Hys]; · iexact Hys
    isplitl [Hrs]; · iexact Hrs
    isplitl [Hs']; · iexact Hs'
    iexact Hsem
  iintro Hfl
  sl_exec
  iapply (Transfers.wp_waitLocalO countersEmb 𝒱₀ (tV d L) none (default : HIx 1) (rfl : (rWin o h).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hrs, Hys, Hs'⟩, Hsem, HO⟩
  ihave Hy := (pointsTo_split_subset (ℓ := yV.view.loc (tV d L)) (q := q) (f := y) (S := Finset.univ) (I := (yWin o' h').view.set) (Finset.subset_univ _)).2 $$ [Hys Hyr]; · isplitl [Hys] <;> iassumption
  ihave Hs := (Entails.of_eq (show (sV.view.loc (tV d L) ↦[sV.view.set]{fullShare} ls : sProp 𝕄) = sV.view.loc (tV d L) ↦{fullShare} ls by rw [hss])) $$ Hs'
  have hfr : ∀ w : S128x128.Idx → Elt F .f32, (rV.view.loc (tV d L) ↦[Finset.univ \ (rWin o h).view.set]{fullShare} f : sProp 𝕄)
      = rV.view.loc (tV d L) ↦[Finset.univ \ (rWin o h).view.set]{fullShare} ((rWin o h).view.write (Elt F) f w Finset.univ) := fun w =>
    pointsTo_congr fun i hi => (View.write_of_not_mem _ _ _ (Finset.mem_sdiff.mp hi).2).symm
  ihave Hrr' := (Entails.of_eq (hfr _)) $$ Hrr
  ihave Hr := (pointsTo_split_subset (ℓ := rV.view.loc (tV d L)) (q := fullShare) (S := Finset.univ) (I := (rWin o h).view.set) (Finset.subset_univ _)).2 $$ [Hrs Hrr']
  · isplitl [Hrs] <;> iassumption
  sl_exec
  sl_step
  isplitl []; · iexact Hmw
  isplitl [Hy]; · iexact Hy
  isplitl [Hs]; · iexact Hs
  isplitl [Hr]
  · iexists _
    isplitr
    swap; · iexact Hr
    ipureintro
    exact Done.step hk o h ho hf _ fun x => gatherPayload_window k hk o' h' ho' y ls rfl hin' x
  isplitl [Hsem]; · iexact Hsem
  iexists _; isplitr
  swap; · iexact HO
  ipureintro; intro p hp
  rcases Finset.mem_insert.mp hp with hp | hp
  · exact .inr (hp ▸ rfl)
  · exact hW' p hp

/-! ## The tile's parts of the arrays, as it addresses them -/

abbrev posK (L : grid0.Coords) : Rect S4096 := Rect.unit (s := S4096) (k0_off1 L) S128.size (k0_off1_inb L)
abbrev rowK (L : grid0.Coords) : Rect S4096x768 := Rect.unit (s := S4096x768) (k0_off4 L) S128x768.size (k0_off4_inb L)
abbrev pK (L : grid0.Coords) : Memref sig .scVector .hbm S128 .i32 := pV.slice (posK L) (fun _ => rfl)
abbrev qK (L : grid0.Coords) : Memref sig .scVector .hbm S128 .i32 := qV.slice (posK L) (fun _ => rfl)
abbrev gK (L : grid0.Coords) : Memref sig .scVector .hbm S128x768 .f32 := gV.slice (rowK L) (fun _ => rfl)
abbrev hK (L : grid0.Coords) : Memref sig .scVector .hbm S128x768 .f32 := hV.slice (rowK L) (fun _ => rfl)

omit [FloatOps F] in
theorem posK_eq : posK L = posPart (wL L) := by
  unfold posK posPart Rect.part Rect.block
  congr 1 <;> funext a
  · rw [k0_off1_eq]
    match a with
    | 0 =>
          have e : (wL L).val = 2 * (L 1).val + (L 0).val := rfl
          simp [Shape.partIx, Shape.partSize]; omega
  · match a with
    | 0 => simp [Shape.partSize]
omit [FloatOps F] in
theorem rowK_eq : rowK L = rowPart (wL L) := by
  unfold rowK rowPart Rect.part Rect.block
  congr 1 <;> funext a
  · rw [k0_off4_eq]
    match a with
    | 0 =>
          have e : (wL L).val = 2 * (L 1).val + (L 0).val := rfl
          simp [Shape.partIx, Shape.partSize]; omega
    | 1 => simp [Shape.partIx, Shape.partSize]
  · match a with
    | 0 => simp [Shape.partSize]
    | 1 => simp [Shape.partSize]

omit [FloatOps F] in
theorem set_whole_slice (b : Ref sig .scVector) (r : Rect b.ty.shape) : ((View.whole b).slice r).set = r.set := by
  rw [View.set_slice]; exact Finset.map_refl

omit [FloatOps F] in
theorem set_pK : (pK L).view.set = (posPart (wL L)).set :=
  (set_whole_slice (main_arg1_scv : Ref sig .scVector) (posK L)).trans (congrArg (fun r => r.set) (posK_eq L))
omit [FloatOps F] in
theorem set_qK : (qK L).view.set = (posPart (wL L)).set :=
  (set_whole_slice (main_arg2_scv : Ref sig .scVector) (posK L)).trans (congrArg (fun r => r.set) (posK_eq L))
omit [FloatOps F] in
theorem set_gK : (gK L).view.set = (rowPart (wL L)).set :=
  (set_whole_slice (main_v0_0_scv : Ref sig .scVector) (rowK L)).trans (congrArg (fun r => r.set) (rowK_eq L))
omit [FloatOps F] in
theorem set_hK : (hK L).view.set = (rowPart (wL L)).set :=
  (set_whole_slice (main_v0_1_scv : Ref sig .scVector) (rowK L)).trans (congrArg (fun r => r.set) (rowK_eq L))

omit [FloatOps F] in
theorem pts_y (q : PosShare TreeShare) (f : Buf (Elt F) (yLoc d)) : (yV.view.loc (tV d L) ↦{q} f : sProp 𝕄) = yLoc d ↦{q} f := rfl
omit [FloatOps F] in
theorem pts_p (f : Buf (Elt F) (pLoc d)) :
    ((pK L).view.loc (tV d L) ↦[(pK L).view.set]{fullShare} f : sProp 𝕄) = pLoc d ↦[(posPart (wL L)).set]{fullShare} f := by rw [set_pK]
omit [FloatOps F] in
theorem pts_q (f : Buf (Elt F) (qLoc d)) :
    ((qK L).view.loc (tV d L) ↦[(qK L).view.set]{fullShare} f : sProp 𝕄) = qLoc d ↦[(posPart (wL L)).set]{fullShare} f := by rw [set_qK]
omit [FloatOps F] in
theorem pts_g (f : Buf (Elt F) (gLoc d)) :
    ((gK L).view.loc (tV d L) ↦[(gK L).view.set]{fullShare} f : sProp 𝕄) = gLoc d ↦[(rowPart (wL L)).set]{fullShare} f := by rw [set_gK]
omit [FloatOps F] in
theorem pts_h (f : Buf (Elt F) (hLoc d)) :
    ((hK L).view.loc (tV d L) ↦[(hK L).view.set]{fullShare} f : sProp 𝕄) = hLoc d ↦[(rowPart (wL L)).set]{fullShare} f := by rw [set_hK]
omit [FloatOps F] in
theorem pts_s (f : Buf (Elt F) ((tV d L).loc cc0_scratch0)) :
    (sV.view.loc (tV d L) ↦{fullShare} f : sProp 𝕄) = (tV d L).loc cc0_scratch0 ↦{fullShare} f := rfl
omit [FloatOps F] in
theorem pts_r (f : Buf (Elt F) ((tV d L).loc cc0_scratch1)) :
    (rV.view.loc (tV d L) ↦{fullShare} f : sProp 𝕄) = (tV d L).loc cc0_scratch1 ↦{fullShare} f := rfl

/-! ## The tile's own cells and scratch -/

abbrev cell (d : Dev nD) (L : grid0.Coords) (s : DmaSems sig S_) : GSem nD τ sig := (tV d L, .dma s.sem)

/-- The tile's cells but the five that its copies use. -/
abbrev restCells (d : Dev nD) (L : grid0.Coords) : Finset (GSem nD τ sig) :=
  (((((ownCells (tV d L)).erase (cell d L cc0_scratch2)).erase (cell d L cc0_scoped0)).erase (cell d L cc0_scoped1)).erase (cell d L cc0_scoped2)).erase (cell d L cc0_scoped3)

omit [FloatOps F] in
theorem cell_ne (s t : DmaSems sig S_) (h : s.sem ≠ t.sem) : cell d L s ≠ cell d L t := fun e => by
  have := congrArg Prod.snd e
  exact h (by simpa [cell] using this)

omit [FloatOps F] in
theorem ownSems0_V :
    (ownSems0 (tV d L) : sProp 𝕄)
      = iprop(semVal (cell d L cc0_scratch2) 0 ∗ semVal (cell d L cc0_scoped0) 0 ∗ semVal (cell d L cc0_scoped1) 0
          ∗ semVal (cell d L cc0_scoped2) 0 ∗ semVal (cell d L cc0_scoped3) 0 ∗ bigSep (restCells d L) fun g => semVal g 0) := by
  have own : ∀ s : DmaSems sig S_, (SemLoc.dma s.sem : SemLoc sig).isScoped .scVector = true → cell d L s ∈ ownCells (tV d L) :=
    fun s hs => mem_ownCells.mpr ⟨rfl, hs⟩
  unfold SparseCore.Cfg.ownSems0
  rw [SparseCore.bigSep_erase' (own cc0_scratch2 (by decide)),
    SparseCore.bigSep_erase' (Finset.mem_erase.mpr ⟨cell_ne d L _ _ (by decide), own cc0_scoped0 (by decide)⟩),
    SparseCore.bigSep_erase' (Finset.mem_erase.mpr ⟨cell_ne d L _ _ (by decide), Finset.mem_erase.mpr ⟨cell_ne d L _ _ (by decide), own cc0_scoped1 (by decide)⟩⟩),
    SparseCore.bigSep_erase' (Finset.mem_erase.mpr ⟨cell_ne d L _ _ (by decide), Finset.mem_erase.mpr ⟨cell_ne d L _ _ (by decide),
      Finset.mem_erase.mpr ⟨cell_ne d L _ _ (by decide), own cc0_scoped2 (by decide)⟩⟩⟩),
    SparseCore.bigSep_erase' (Finset.mem_erase.mpr ⟨cell_ne d L _ _ (by decide), Finset.mem_erase.mpr ⟨cell_ne d L _ _ (by decide),
      Finset.mem_erase.mpr ⟨cell_ne d L _ _ (by decide), Finset.mem_erase.mpr ⟨cell_ne d L _ _ (by decide), own cc0_scoped3 (by decide)⟩⟩⟩⟩)]

omit [FloatOps F] in
/-- The two scratch buffers are among the tile's own: they are them, at some contents, and the rest. -/
theorem ownBufs_V :
    (ownBufs (tV d L) : sProp 𝕄)
      = iprop((∃ f, (tV d L).loc cc0_scratch0 ↦{fullShare} f) ∗ (∃ f, (tV d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The list fetched, the rows written -/

/-- The tile's 128 words of a list. -/
def lst (p : S4096.Idx → Elt F .i32) : S128.Idx → Elt F .i32 := fun j => p ((posK L).emb j)

omit [FloatOps F] in
theorem lst_lt {p : S4096.Idx → Elt F .i32} (hp : ∀ j, (p j).toNat < 9984) (x : S128.Idx) : (lst L p x).toNat < 9984 := hp _

omit [FloatOps F] in
/-- Rows gathered in full, laid over the tile's part of a result, are the gathered array there. -/
theorem rows_landed {y : S9984x768.Idx → Elt F .f32} {p : S4096.Idx → Elt F .i32} {f : S128x768.Idx → Elt F .f32}
    (hd : Done y (lst L p) 6 f) (x : S128x768.Idx) : f x = taken y p ((rowK L).emb x) := by
  rw [hd x (idx2_lt1 x)]
  unfold taken lst
  have e0 : (posK L).emb (ix1 (x 0)) = ix1 ((rowK L).emb x 0) := by
    funext a; apply Fin.ext
    match a with
    | 0 =>
      show k0_off1 L 0 + 1 * (x 0).val = k0_off4 L 0 + 1 * (x 0).val
      rw [k0_off1_eq, k0_off4_eq]; rfl
  have e1 : (rowK L).emb x 1 = x 1 := by
    apply Fin.ext
    show k0_off4 L 1 + 1 * (x 1).val = (x 1).val
    rw [k0_off4_eq]
    show 0 + 1 * (x 1).val = (x 1).val
    omega
  rw [e0, e1]; rfl

omit [FloatOps F] in
theorem landed_g {y : S9984x768.Idx → Elt F .f32} {p : S4096.Idx → Elt F .i32} {f : S128x768.Idx → Elt F .f32}
    (hd : Done y (lst L p) 6 f) (j : Buf (Elt F) (gLoc d)) :
    (gLoc d ↦[(rowPart (wL L)).set]{fullShare} ((gK L).view.writes (Elt F) j [⟨Rect.whole S128x768, f⟩]) : sProp 𝕄)
      = gLoc d ↦[(rowPart (wL L)).set]{fullShare} taken y p := by
  refine pointsTo_congr fun i hi => ?_
  rw [← set_gK] at hi
  obtain ⟨x, -, rfl⟩ := Finset.mem_map.mp hi
  have e := View.read_writes_cons_hit_of_coords (gK L).view j (Rect.whole S128x768) f [] x x (fun a => by
    show (x a).val = 0 + 1 * (x a).val; omega)
  exact ((cast_eq _ _).symm.trans ((View.read_apply _ _).symm.trans e)).trans (rows_landed L hd x)
omit [FloatOps F] in
theorem landed_h {y : S9984x768.Idx → Elt F .f32} {p : S4096.Idx → Elt F .i32} {f : S128x768.Idx → Elt F .f32}
    (hd : Done y (lst L p) 6 f) (j : Buf (Elt F) (hLoc d)) :
    (hLoc d ↦[(rowPart (wL L)).set]{fullShare} ((hK L).view.writes (Elt F) j [⟨Rect.whole S128x768, f⟩]) : sProp 𝕄)
      = hLoc d ↦[(rowPart (wL L)).set]{fullShare} taken y p := by
  refine pointsTo_congr fun i hi => ?_
  rw [← set_hK] at hi
  obtain ⟨x, -, rfl⟩ := Finset.mem_map.mp hi
  have e := View.read_writes_cons_hit_of_coords (hK L).view j (Rect.whole S128x768) f [] x x (fun a => by
    show (x a).val = 0 + 1 * (x a).val; omega)
  exact ((cast_eq _ _).symm.trans ((View.read_apply _ _).symm.trans e)).trans (rows_landed L hd x)

set_option maxHeartbeats 4000000 in
/-- The tile on vector subcore `(L 0, L 1)` of device `d`. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ handed m d (wL L)
        ∗ scopedBufs (tV d L) ∗ scopedSems0 (tV d L) ∗ owes (tV d L) O W)
      ⊢ wp frame (wpE (defs₀ (F := F)) 𝒱₀ (tV d L) none) Set.univ
          (cc0_gather_kernel L yV (Memref.isWhole_whole _) pV (Memref.isWhole_whole _) qV (Memref.isWhole_whole _)
            gV (Memref.isWhole_whole _) hV (Memref.isWhole_whole _)
            sV (Memref.isWhole_whole _) rV (Memref.isWhole_whole _) cc0_scratch2 cc0_scoped0 cc0_scoped1 cc0_scoped2 cc0_scoped3)
          fun _ => iprop(returned m d (wL L)
            ∗ scopedBufs (tV d L) ∗ scopedSems0 (tV d L)
            ∗ ∃ W', ⌜∀ p ∈ W', p ∈ W ∨ p.2 = none⌝ ∗ owes (tV d L) O W') := by
  simp only [cc0_gather_kernel_eq_skeleton]; unfold cc0_gather_kernel_skel
  rw [(K (F := F)).scopedBufs_V hF d (cV L) (jV L), SparseCore.Cfg.scopedSems0_V (Val := Elt F) d (cV L) (jV L), ownSems0_V, ownBufs_V]
  iintro ⟨#Hlv, -, ⟨Hy, Hp, Hq, Hg, Hh⟩, ⟨⟨%fs, Hs⟩, ⟨%fr, Hr⟩, Hbufs⟩, ⟨Hsem, Hsem0, Hsem1, Hsem2, Hsem3, Hsems⟩, HO⟩
  ihave #Hmw := (show levAts (K (F := F)).L (K (F := F)).lev ⊢ Transfers.MayWaits (tV d L) (default : HIx 1) O from
    (K (F := F)).mayWaits_none (thr := tV d L) hO) $$ Hlv
  ihave Hy' := (Entails.of_eq (pts_y (F := F) d L _ _).symm) $$ Hy
  ihave Hp' := (Entails.of_eq (pts_p (F := F) d L _).symm) $$ Hp
  ihave Hq' := (Entails.of_eq (pts_q (F := F) d L _).symm) $$ Hq
  ihave Hg' := (Entails.of_eq (pts_g (F := F) d L _).symm) $$ Hg
  ihave Hh' := (Entails.of_eq (pts_h (F := F) d L _).symm) $$ Hh
  ihave Hs' := (Entails.of_eq (pts_s (F := F) d L _).symm) $$ Hs
  ihave Hr' := (Entails.of_eq (pts_r (F := F) d L _).symm) $$ Hr
  sl_exec
  have eP : View.write (Elt F) sV.view fs (tile_body.sl.dma0 m d L) Finset.univ = lst L (m (pLoc d)) :=
    (View.write_whole_univ _ _ _).trans (funext fun j => (View.read_apply _ _).trans (cast_eq _ _))
  ihave Hs := (Entails.of_eq (congrArg (fun f => (sV.view.loc (tV d L) ↦{fullShare} f : sProp 𝕄)) eP)) $$ Hs'
  sl_for (fun k _ => inv d L O W (tShare (wL L)) (m (yLoc d)) (lst L (m (pLoc d))) k) $$ [Hy' Hs Hr' Hsem HO]
  case region =>
    intro k _
    exact trip d L O W _ _ _ (lst_lt L (hpre d).1) k.val k.isLt _ _ (k0_off2_eq k) _ _ (k0_off3_eq k)
  · unfold inv
    isplitl []; · iexact Hmw
    isplitl [Hy']; · iexact Hy'
    isplitl [Hs]; · iexact Hs
    isplitl [Hr']
    · iexists fr; isplitr
      swap; · iexact Hr'
      ipureintro; intro x hx; omega
    isplitl [Hsem]; · iexact Hsem
    iexists _; isplitr
    swap; · iexact HO
    ipureintro; intro p hp
    rcases Finset.mem_insert.mp hp with hp | hp
    · exact .inr (hp ▸ rfl)
    · exact .inl hp
  iintro %_ HI
  unfold inv
  icases HI with ⟨-, Hy', Hs', ⟨%f1, %hf1, Hr'⟩, Hsem, %W1, %hW1, HO⟩
  sl_exec
  have eQ : View.write (Elt F) sV.view (lst L (m (pLoc d))) (tile_body.sl.dma0_2 m d L) Finset.univ = lst L (m (qLoc d)) :=
    (View.write_whole_univ _ _ _).trans (funext fun j => (View.read_apply _ _).trans (cast_eq _ _))
  ihave Hs := (Entails.of_eq (congrArg (fun f => (sV.view.loc (tV d L) ↦{fullShare} f : sProp 𝕄)) eQ)) $$ Hs'
  sl_for (fun k _ => inv d L O W (tShare (wL L)) (m (yLoc d)) (lst L (m (qLoc d))) k) $$ [Hy' Hs Hr' Hsem HO]
  case region =>
    intro k _
    exact trip d L O W _ _ _ (lst_lt L (hpre d).2) k.val k.isLt _ _ (k0_off5_eq k) _ _ (k0_off6_eq k)
  · unfold inv
    isplitl []; · iexact Hmw
    isplitl [Hy']; · iexact Hy'
    isplitl [Hs]; · iexact Hs
    isplitl [Hr']
    · iexists f1; isplitr
      swap; · iexact Hr'
      ipureintro; intro x hx; omega
    isplitl [Hsem]; · iexact Hsem
    iexists _; isplitr
    swap; · iexact HO
    ipureintro; intro p hp
    rcases Finset.mem_insert.mp hp with hp | hp
    · exact .inr (hp ▸ rfl)
    rcases Finset.mem_insert.mp hp with hp | hp
    · exact .inr (hp ▸ rfl)
    · exact hW1 p hp
  iintro %_ HI
  unfold inv
  icases HI with ⟨-, Hy', Hs', ⟨%f2, %hf2, Hr'⟩, Hsem, %W2, %hW2, HO⟩
  sl_exec
  sl_step
  have hd1 : Done (m (yLoc d)) (lst L (m (pLoc d))) 6 f1 := hf1
  have hd2 : Done (m (yLoc d)) (lst L (m (qLoc d))) 6 f2 := hf2
  isplitl [Hy' Hp' Hq' Hg' Hh']
  · isplitl [Hy']; · iexact Hy'
    isplitl [Hp']; · iapply (Entails.of_eq (pts_p (F := F) d L _)); iexact Hp'
    isplitl [Hq']; · iapply (Entails.of_eq (pts_q (F := F) d L _)); iexact Hq'
    isplitl [Hg']
    · iapply (Entails.of_eq (landed_g d L hd1 _)); iapply (Entails.of_eq (pts_g (F := F) d L _)); iexact Hg'
    · iapply (Entails.of_eq (landed_h d L hd2 _)); iapply (Entails.of_eq (pts_h (F := F) d L _)); iexact Hh'
  isplitl [Hs' Hr' Hbufs]
  · isplitl [Hs']; · iexists _; iexact Hs'
    isplitl [Hr']; · iexists _; iexact Hr'
    iexact Hbufs
  isplitl [Hsem Hsem0 Hsem1 Hsem2 Hsem3 Hsems]
  · isplitl [Hsem]; · iexact Hsem
    isplitl [Hsem0]; · iexact Hsem0
    isplitl [Hsem1]; · iexact Hsem1
    isplitl [Hsem2]; · iexact Hsem2
    isplitl [Hsem3]; · iexact Hsem3
    iexact Hsems
  iexists _; isplitr
  swap; · iexact HO
  ipureintro; intro p hp
  rcases Finset.mem_insert.mp hp with hp | hp
  · exact .inr (hp ▸ rfl)
  · exact hW2 p hp

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_kernel (coordsV c s)
          yV (Memref.isWhole_whole _) pV (Memref.isWhole_whole _) qV (Memref.isWhole_whole _)
          gV (Memref.isWhole_whole _) hV (Memref.isWhole_whole _)
          sV (Memref.isWhole_whole _) rV (Memref.isWhole_whole _) cc0_scratch2 cc0_scoped0 cc0_scoped1 cc0_scoped2 cc0_scoped3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

end Tile

end Cert.Proof

end
-- ==== Proof.Launch.lean ====
/-
  The launch: how the whole arrays are dealt to the thirty-two workers and joined again, the program on the TensorCore,
  and the run it gives: the arguments unchanged, the two results the gathered rows, every semaphore back at zero.
-/
module

public import proofs.«01_k».proof.Proof.Tile

@[expose] public section

noncomputable section

namespace Cert.Proof

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The arrays dealt to the workers -/

theorem posParts_disjoint : ∀ i ∈ (Finset.univ : Finset (Fin 32)), ∀ j ∈ (Finset.univ : Finset (Fin 32)), i ≠ j → Disjoint (posPart i).set (posPart j).set :=
  fun _ _ _ _ h => Rect.part_disjoint posDiv h
theorem rowParts_disjoint : ∀ i ∈ (Finset.univ : Finset (Fin 32)), ∀ j ∈ (Finset.univ : Finset (Fin 32)), i ≠ j → Disjoint (rowPart i).set (rowPart j).set :=
  fun _ _ _ _ h => Rect.part_disjoint rowDiv h

theorem y_dealt (d : Dev nD) (f : Buf (Elt F) (yLoc d)) :
    (yLoc d ↦{fullShare} f : sProp 𝕄) = bigSep Finset.univ fun w : Fin 32 => yLoc d ↦{tShare w} f :=
  Transfers.pointsTo_deal Finset.univ ⟨0, Finset.mem_univ _⟩ fullShare
theorem p_dealt (d : Dev nD) (f : Buf (Elt F) (pLoc d)) :
    (pLoc d ↦{fullShare} f : sProp 𝕄) = bigSep Finset.univ fun w : Fin 32 => pLoc d ↦[(posPart w).set]{fullShare} f := by
  rw [← pointsTo_biUnion Finset.univ (ℓ := pLoc d) (fun w => (posPart w).set) posParts_disjoint, Rect.biUnion_part posDiv]; try rfl
theorem q_dealt (d : Dev nD) (f : Buf (Elt F) (qLoc d)) :
    (qLoc d ↦{fullShare} f : sProp 𝕄) = bigSep Finset.univ fun w : Fin 32 => qLoc d ↦[(posPart w).set]{fullShare} f := by
  rw [← pointsTo_biUnion Finset.univ (ℓ := qLoc d) (fun w => (posPart w).set) posParts_disjoint, Rect.biUnion_part posDiv]; try rfl
theorem g_dealt (d : Dev nD) (f : Buf (Elt F) (gLoc d)) :
    (gLoc d ↦{fullShare} f : sProp 𝕄) = bigSep Finset.univ fun w : Fin 32 => gLoc d ↦[(rowPart w).set]{fullShare} f := by
  rw [← pointsTo_biUnion Finset.univ (ℓ := gLoc d) (fun w => (rowPart w).set) rowParts_disjoint, Rect.biUnion_part rowDiv]; try rfl
theorem h_dealt (d : Dev nD) (f : Buf (Elt F) (hLoc d)) :
    (hLoc d ↦{fullShare} f : sProp 𝕄) = bigSep Finset.univ fun w : Fin 32 => hLoc d ↦[(rowPart w).set]{fullShare} f := by
  rw [← pointsTo_biUnion Finset.univ (ℓ := hLoc d) (fun w => (rowPart w).set) rowParts_disjoint, Rect.biUnion_part rowDiv]; try rfl

/-- The five arrays whole, the results at `g` and `h`. -/
abbrev whole5 (d : Dev nD) (g : Buf (Elt F) (gLoc d)) (h : Buf (Elt F) (hLoc d)) : sProp 𝕄 :=
  iprop((yLoc d ↦{fullShare} m (yLoc d)) ∗ (pLoc d ↦{fullShare} m (pLoc d)) ∗ (qLoc d ↦{fullShare} m (qLoc d))
    ∗ (gLoc d ↦{fullShare} g) ∗ hLoc d ↦{fullShare} h)

/-- The arrays whole are the workers' parts, SparseCore by SparseCore and tile by tile. -/
theorem whole5_dealt (d : Dev nD) (g : Buf (Elt F) (gLoc d)) (h : Buf (Elt F) (hLoc d)) :
    (whole5 m d g h : sProp 𝕄)
      = bigSep Finset.univ fun c : Fin 2 => bigSep Finset.univ fun i : Fin 16 =>
          iprop(yPts m d (wid c i) ∗ pPts m d (wid c i) ∗ qPts m d (wid c i) ∗ gPts d (wid c i) g ∗ hPts d (wid c i) h) := by
  have e := bigSep_univ_equiv widEquiv (fun w : Fin 32 => (iprop(yPts m d w ∗ pPts m d w ∗ qPts m d w ∗ gPts d w g ∗ hPts d w h) : sProp 𝕄))
  rw [bigSep_univ_prod] at e
  refine Eq.trans ?_ e
  rw [bigSep_sep', bigSep_sep', bigSep_sep', bigSep_sep', ← y_dealt, ← p_dealt, ← q_dealt, ← g_dealt, ← h_dealt]

variable [FloatOps F]

theorem vecSplit : (K (F := F)).VecSplit' (P m) 0 := by
  intro d c
  show (bigSep Finset.univ fun i : Fin 16 => handed m d (wid (Fin.cast nCore_zero c) i)) ⊢ |={Set.univ}=> iprop(
      (bigSep Finset.univ fun i : Fin 16 => handed m d (wid (Fin.cast nCore_zero c) i))
      ∗ ((bigSep Finset.univ fun i : Fin 16 => returned m d (wid (Fin.cast nCore_zero c) i))
          -∗ (bigSep Finset.univ fun i : Fin 16 => returned m d (wid (Fin.cast nCore_zero c) i))))
  iintro H; imodintro
  isplitl [H]; · iexact H
  iintro H; iexact H

/-! ## The ghost state at launch -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The program on the TensorCore -/

omit [FloatOps F] in
theorem unscopedBufs_eq (d : Dev nD) (W : (b : Ref sig .tc) → Buf (Elt F) ((d.tc : Thread nD τ).loc b)) :
    (unscopedBufs d W : sProp 𝕄) = iprop((yLoc d ↦{fullShare} W main_arg0) ∗ (pLoc d ↦{fullShare} W main_arg1) ∗ (qLoc d ↦{fullShare} W main_arg2)
      ∗ (gLoc d ↦{fullShare} W main_v0_0) ∗ hLoc d ↦{fullShare} W main_v0_1) := by
  unfold unscopedBufs
  rw [show (Finset.univ.filter fun b : Ref sig .tc => ¬ b.isScoped) = {main_arg0, main_arg1, main_arg2, main_v0_0, main_v0_1} by decide,
    SparseCore.bigSep_insert' (by decide), SparseCore.bigSep_insert' (by decide), SparseCore.bigSep_insert' (by decide),
    SparseCore.bigSep_insert' (by decide), bigSep_singleton]

theorem st0_eq (d : Dev nD) : (bigSep Finset.univ fun c : Fin ((K (F := F)).nCore 0) => (P m).st 0 d c) = whole5 m d (m (gLoc d)) (m (hLoc d)) :=
  (whole5_dealt m d _ _).symm
theorem dn0_eq (d : Dev nD) : (bigSep Finset.univ fun c : Fin ((K (F := F)).nCore 0) => (P m).dn 0 d c) = whole5 m d (gVal m d) (hVal m d) :=
  (whole5_dealt m d _ _).symm

abbrev FIN (d : Dev nD) : sProp 𝕄 := whole5 m d (gVal m d) (hVal m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, Harr, Hts, -⟩, -⟩
  iapply ((K (F := F)).wp_run (D (F := F)) 𝒱 (EH := EH) (P := P m) κ d 0) $$ [Hst Harr Hb Hts]
  isplitr; · iexact Hctx
  isplitl [Hst]; · iexact Hst
  isplitl [Harr]
  · rw [st0_eq]; iexact Harr
  iintro ⟨Hst, Hdn⟩
  ihave Hdn' := (Entails.of_eq (dn0_eq m d)) $$ Hdn
  imodintro
  isplitl [Hst]; · iexact Hst
  isplitl [Hdn']; · iexact Hdn'
  isplitl [Hb] <;> iassumption

def fq (d : Dev nD) (s' : Phys nD τ sig (Elt F)) : Prop :=
  s'.mem.mem (yLoc d) = m (yLoc d) ∧ s'.mem.mem (pLoc d) = m (pLoc d) ∧ s'.mem.mem (qLoc d) = m (qLoc d)
    ∧ s'.mem.mem (gLoc d) = gVal m d ∧ s'.mem.mem (hLoc d) = hVal m d

set_option maxRecDepth 16384 in
theorem hfin (d : Dev nD) (s' : Phys nD τ sig (Elt F)) : iprop(FIN m d ∗ SI s') ⊢ (⌜fq m d s'⌝ : sProp 𝕄) := by
  iintro ⟨⟨Hy, Hp, Hq, Hg, Hh⟩, HSI⟩
  ihave H := (persistent_entails_right (SI_pointsTo_agree (st := s') (ℓ := yLoc d) (I := Finset.univ) (q := fullShare) (f := m (yLoc d)))) $$ [HSI Hy]
  · isplitl [HSI] <;> iassumption
  icases H with ⟨%h1, HSI, -⟩
  ihave H := (persistent_entails_right (SI_pointsTo_agree (st := s') (ℓ := pLoc d) (I := Finset.univ) (q := fullShare) (f := m (pLoc d)))) $$ [HSI Hp]
  · isplitl [HSI] <;> iassumption
  icases H with ⟨%h2, HSI, -⟩
  ihave H := (persistent_entails_right (SI_pointsTo_agree (st := s') (ℓ := qLoc d) (I := Finset.univ) (q := fullShare) (f := m (qLoc d)))) $$ [HSI Hq]
  · isplitl [HSI] <;> iassumption
  icases H with ⟨%h3, HSI, -⟩
  ihave H := (persistent_entails_right (SI_pointsTo_agree (st := s') (ℓ := gLoc d) (I := Finset.univ) (q := fullShare) (f := gVal m d))) $$ [HSI Hg]
  · isplitl [HSI] <;> iassumption
  icases H with ⟨%h4, HSI, -⟩
  ihave H := (SI_pointsTo_agree (st := s') (ℓ := hLoc d) (I := Finset.univ) (q := fullShare) (f := hVal m d)) $$ [HSI Hh]
  · isplitl [HSI] <;> iassumption
  icases H with %h5
  ipureintro
  exact ⟨funext fun i => h1 i (Finset.mem_univ i), funext fun i => h2 i (Finset.mem_univ i), funext fun i => h3 i (Finset.mem_univ i),
    funext fun i => h4 i (Finset.mem_univ i), funext fun i => h5 i (Finset.mem_univ i)⟩

/-! ## The run -/

/-- The arguments unchanged, the results the gathered rows, every semaphore at zero. -/
def QC : PUnit × MemSt nD τ sig (Elt F) → Prop := fun r =>
  (∀ c : Dev nD, r.2.mem (yLoc c) = m (yLoc c) ∧ r.2.mem (pLoc c) = m (pLoc c) ∧ r.2.mem (qLoc c) = m (qLoc c)
    ∧ r.2.mem (gLoc c) = gVal m c ∧ r.2.mem (hLoc c) = hVal m c) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof

end
-- ==== Proof.Value.lean ====
/-
  The claims, from the run. The precondition says that every position names a row of the table; the reference's gather,
  read at such positions, is the row copy; and the program's run is then each claim's run.
-/
module

public import proofs.«01_k».proof.Proof.Launch
public import proofs.«01_k».proof.Proof.Gen.Kernel
public import proofs.«01_k».proof.Proof.Gen.ReferenceIdeal
public import proofs.«01_k».proof.Proof.Gen.ReferenceIdeal.Run
public import Idealize.ShloMosaic.Lib.ReduceAll
public import Idealize.ShloMosaic.Lib.Affine
public import Idealize.ShloMosaic.Lib.Quiescent

@[expose] public section

noncomputable section

namespace Cert.Proof

open Idealize.ShloMosaic Idealize.ShloMosaic.ValueIdx Idealize.SL.Sem

variable {F : FTy → Type} [FloatOps F]

/-! ## The precondition -/

/-- The shape relations that the precondition's operations take. -/
instance preFacts : Cert.Pre_in_range.Facts where
  bcast_S_S4096 := by decide
  reducesTo_S4096_S_d0 := by decide
  h_S_ := by decide

/-- A word that is at least zero and below 9984 as a signed number is below 9984 as an unsigned one. -/
theorem word_lt {v : BitVec 32} (h₁ : IntOp.cmpi .sge v 0#32 = 1#1) (h₂ : IntOp.cmpi .slt v 9984#32 = 1#1) : v.toNat < 9984 := by
  have one (p : Bool) : (BitVec.ofBool p = 1#1) ↔ p = true := by cases p <;> decide
  simp only [IntOp.cmpi, one, BitVec.sle_eq_decide, BitVec.slt_eq_decide, decide_eq_true_eq, BitVec.toInt_eq_toNat_cond,
    BitVec.toNat_ofNat, Nat.reducePow, Nat.reduceMod] at h₁ h₂
  omega

/-- Where the precondition's function is all ones, every position of both lists is below 9984. -/
theorem lists_lt (y : FVec F Cert.Pre_in_range.S9984x768 .f32) (p q : IVec Cert.Pre_in_range.S4096 32)
    (h : Cert.Pre_in_range.fn y p q = fun _ => 1#1) :
    (∀ j, (p j).toNat < 9984) ∧ ∀ j, (q j).toNat < 9984 := by
  have e := congrFun h (Shape.Idx.first (s := Cert.Pre_in_range.S_) (by decide))
  simp only [Cert.Pre_in_range.fn, andi] at e
  obtain ⟨e, e₄⟩ := IntOp.andi_eq_one.1 e
  obtain ⟨e, e₃⟩ := IntOp.andi_eq_one.1 e
  obtain ⟨e₁, e₂⟩ := IntOp.andi_eq_one.1 e
  haveI : Subsingleton Cert.Pre_in_range.S_.Idx := ⟨fun a b => funext fun i => i.elim0⟩
  exact ⟨fun j => word_lt (Host.reduce_andi_all _ _ _ _ _ e₁ j) (Host.reduce_andi_all _ _ _ _ _ e₂ j),
    fun j => word_lt (Host.reduce_andi_all _ _ _ _ _ e₃ j) (Host.reduce_andi_all _ _ _ _ _ e₄ j)⟩

/-! ## The reference's rows -/

section Rows
open Cert.ReferenceIdeal Cert.ReferenceIdeal.Gen

/-- The positions as the reference hands them to its gather: a negative one counted from the table's end. -/
abbrev wrapped (p : IVec S4096 32) : IVec S4096x1 32 :=
  broadcastInDim S4096x1 ![0] bcast_S4096_S4096x1_0
    (select (cmpi .slt p (broadcastInDim S4096 ![] bcast_S_S4096 (constantI S_ 32 0#32)))
      (addi p (broadcastInDim S4096 ![] bcast_S_S4096 (constantI S_ 32 9984#32))) p)

theorem wrapped_eq (p : IVec S4096 32) (c : Fin 4096) (h : (p (ix1 c)).toNat < 9984) : wrapped p (ix2 c (0 : Fin 1)) = p (ix1 c) := by
  have hn : cmpi .slt p (broadcastInDim S4096 ![] bcast_S_S4096 (constantI S_ 32 0#32)) (ix1 c) = 0#1 := by
    show IntOp.cmpi .slt (p (ix1 c)) 0#32 = 0#1
    have zero (b : Bool) : (BitVec.ofBool b = 0#1) ↔ b = false := by cases b <;> decide
    simp only [IntOp.cmpi, zero, BitVec.slt_eq_decide, decide_eq_false_iff_not, BitVec.toInt_eq_toNat_cond, BitVec.toNat_ofNat,
      Nat.reducePow, Nat.reduceMod]
    omega
  have hi (x : S4096.Idx → BitVec 32) : broadcastInDim S4096x1 ![0] bcast_S4096_S4096x1_0 x (ix2 c (0 : Fin 1)) = x (ix1 c) := by
    unfold broadcastInDim
    refine congrArg x (funext fun a => Fin.ext ?_)
    match a with
    | 0 => rfl
  rw [wrapped, hi, select, hn]
  rfl

/-- The reference's gather is the row copy where every position names a row. -/
theorem gather_eq (y : FVec F S9984x768 .f32) (p : IVec S4096 32) (h : ∀ j, (p j).toNat < 9984) :
    Host.gather gather_S9984x768_S4096x1_S4096x768_1_0_n_n_0_1_1768 y (wrapped p) = taken y p := by
  funext x
  obtain ⟨c, b, rfl⟩ : ∃ c b, x = ix2 c b := ⟨x 0, x 1, eq_ix2 x⟩
  have hc := h (ix1 c)
  refine Routing.gather_row _ rfl rfl rfl rfl rfl y (wrapped p) c b (rowOf (p (ix1 c))) ?_ (by decide)
  rw [wrapped_eq p c hc, rowOf_val hc]
  simp

end Rows

/-! ## The claims -/

theorem frame_kernel : @Cert.quiescent_Kernel Cert.Kernel.Gen.facts preFacts := fun m ρ hpre =>
  (θ_run Cert.KernelIdeal.defs _ _).mono (fun _ h => ⟨fun c => ⟨(h.1 c).1, (h.1 c).2.1, (h.1 c).2.2.1⟩, h.2⟩)
    (run_main (F := Bits) m ρ fun d => lists_lt _ _ _ (hpre d))

theorem frame_ideal : @Cert.quiescent_KernelIdeal Cert.KernelIdeal.Gen.facts preFacts := fun m ρ hpre =>
  (θ_run Cert.KernelIdeal.defs _ _).mono (fun _ h => ⟨fun c => ⟨(h.1 c).1, (h.1 c).2.1, (h.1 c).2.2.1⟩, h.2⟩)
    (run_main (F := Ideal) m ρ fun d => lists_lt _ _ _ (hpre d))

theorem frame_reference : @Cert.quiescent_ReferenceIdeal Cert.ReferenceIdeal.Gen.facts := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem frame_reference_in_range : @Cert.quiescent_ReferenceIdeal_pre_in_range Cert.ReferenceIdeal.Gen.facts preFacts := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- Both programs end with the gathered rows in their two results. -/
theorem algebraic : @Cert.algebraic_KernelIdeal_ReferenceIdeal Cert.KernelIdeal.Gen.facts Cert.ReferenceIdeal.Gen.facts preFacts := by
  intro m ρ m' ρ' hpre hagree
  have hlt := fun d => lists_lt _ _ _ (hpre d)
  refine ⟨fun c => gVal m c, fun c => hVal m c,
    (θ_run Cert.KernelIdeal.defs _ _).mono
      (fun _ h c => ⟨(h.1 c).2.2.2.1, (h.1 c).2.2.2.2, (h.1 c).1, (h.1 c).2.1, (h.1 c).2.2.1⟩) (run_main (F := Ideal) m ρ hlt),
    (θ_run Cert.ReferenceIdeal.defs _ _).mono (fun r h c => ⟨(h c).1.trans ?_, (h c).2.1.trans ?_, (h c).2.2⟩)
      (Cert.ReferenceIdeal.Value.run (F := Ideal) m' ρ')⟩
  · rw [(hagree c).1, (hagree c).2.1]
    exact gather_eq (F := Ideal) _ _ (hlt c).1
  · rw [(hagree c).1, (hagree c).2.2]
    exact gather_eq (F := Ideal) _ _ (hlt c).2

end Cert.Proof

end
-- ==== Proof.Combine.lean ====
module

public import proofs.«01_k».proof.Defs
public import proofs.«01_k».proof.Proof.Gen.Combine.Frame
public import proofs.«01_k».proof.Proof.Gen.CombineIdeal.Value
public import proofs.«01_k».proof.Proof.Gen.CombineRefIdeal.Run
public import Idealize.ShloMosaic.Lib.Pipeline.ValueKit
public import Idealize.ShloMosaic.Lib.Pointwise
public import Idealize.ShloMosaic.Lib.StackMember
public import Idealize.ShloMosaic.Lib.MatmulPlain
public import Idealize.ShloMosaic.Lib.Quiescent

/-! # The combination's claims

The kernel's blocks of 512 rows put together are the whole array that the reference computes: each row of the result
is the two gathered rows weighted, plus the shared expert's row. -/

@[expose] public section

noncomputable section

namespace Cert.Proof.CombineClaims

open Idealize.ShloMosaic Idealize.ShloMosaic.TcCoe Idealize.SL.Sem
open Cert.CombineIdeal Cert.CombineIdeal.Gen

/-- One entry of the combination: row `r`, column `k`. -/
def entry {n : ℕ} (g1 g2 : FVec Ideal ⟨2, ![n, 768]⟩ .f32) (c1 c2 : FVec Ideal ⟨2, ![n, 1]⟩ .f32)
    (x : FVec Ideal ⟨2, ![n, 768]⟩ .f32) (a1 : FVec Ideal ⟨2, ![768, 2048]⟩ .f32) (b1 : Fin 2048 → Ideal .f32)
    (a2 : FVec Ideal ⟨2, ![2048, 768]⟩ .f32) (b2 : Fin 768 → Ideal .f32) (r : Fin n) (k : Fin 768) : Ideal .f32 :=
  c1 (ix2 r 0) * g1 (ix2 r k) + c2 (ix2 r 0) * g2 (ix2 r k)
    + ((∑ j : Fin 2048, max ((∑ i : Fin 768, x (ix2 r i) * a1 (ix2 i j)) + b1 j) 0 * a2 (ix2 j k)) + b2 k)

/-- What the body computes from its blocks, read at an index. -/
theorem pay_apply (x : FVec Ideal S512x768 .f32) (a1 : FVec Ideal S768x2048 .f32) (b1 : FVec Ideal S1x2048 .f32)
    (a2 : FVec Ideal S2048x768 .f32) (b2 : FVec Ideal S1x768 .f32) (c1 : FVec Ideal S512x1 .f32) (g1 : FVec Ideal S512x768 .f32)
    (c2 : FVec Ideal S512x1 .f32) (g2 : FVec Ideal S512x768 .f32) (r : Fin 512) (k : Fin 768) :
    k0_pay1 (F := Ideal) x a1 b1 a2 b2 c1 g1 c2 g2 (ix2 r k)
      = entry g1 g2 c1 c2 x a1 (fun j => b1 (ix2 0 j)) a2 (fun j => b2 (ix2 0 j)) r k := by
  unfold k0_pay1 entry
  pointwise

variable (m : (ℓ : Loc nD τ sig) → Buf (Elt Ideal) ℓ)

/-- The first bias, made one row before the region, read at a column. -/
theorem bias1 (c : Dev nD) (j : Fin 2048) : V m c main_v0 (ix2 0 j) = m ((c : Thread nD τ).loc main_arg6) (ix1 j) := by
  have e : V m c main_v0 = shapeCast S1x2048 (m ((c : Thread nD τ).loc main_arg6)) shapeCasts_S2048_S1x2048 := by
    unfold V
    after_results
    rfl
  rw [e]
  exact shapeCast_apply _ _ _ _ (by rw [Shape.rowMajor_val_two]; exact (Shape.rowMajor_val_one _).trans (by simp))

/-- The second bias, made one row before the region, read at a column. -/
theorem bias2 (c : Dev nD) (j : Fin 768) : V m c main_v1 (ix2 0 j) = m ((c : Thread nD τ).loc main_arg8) (ix1 j) := by
  have e : V m c main_v1 = shapeCast S1x768 (m ((c : Thread nD τ).loc main_arg8)) shapeCasts_S768_S1x768 := by
    unfold V
    after_results
    rfl
  rw [e]
  exact shapeCast_apply _ _ _ _ (by rw [Shape.rowMajor_val_two]; exact (Shape.rowMajor_val_one _).trans (by simp))

/-! ## Where each operand's block lies at a point -/

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![0, 0] := (by decide +kernel : ∀ t : Fin grid0.N, _)
theorem e8 : ∀ t : Fin cfg0.N, win0_8.index t = ![0, 0] := (by decide +kernel : ∀ t : Fin grid0.N, _)
theorem e9 : ∀ t : Fin cfg0.N, win0_9.index t = ![t.val, 0] := (by decide +kernel : ∀ t : Fin grid0.N, _)

/-- Row `r` of point `t`'s block is row `512 t + r` of the array. -/
def row (t : Fin cfg0.N) (r : Fin 512) : Fin 4096 := ⟨t.val * 512 + r.val, by have := t.isLt; have : cfg0.N = 8 := N_0; omega⟩

theorem blk0 (c : Dev nD) (t : Fin cfg0.N) (r : Fin 512) (k : Fin 768) :
    iblk m c 0 t (ix2 r k) = m ((c : Thread nD τ).loc main_arg0) (ix2 (row t r) k) := by
  blk_simp [iblk]
  rw [V_main_arg0]
  refine congrArg _ ?_
  blk_ext [e0, row]

theorem blk1 (c : Dev nD) (t : Fin cfg0.N) (r : Fin 512) (k : Fin 768) :
    iblk m c 1 t (ix2 r k) = m ((c : Thread nD τ).loc main_arg1) (ix2 (row t r) k) := by
  blk_simp [iblk]
  rw [V_main_arg1]
  refine congrArg _ ?_
  blk_ext [e1, row]

theorem blk2 (c : Dev nD) (t : Fin cfg0.N) (r : Fin 512) (k : Fin 1) :
    iblk m c 2 t (ix2 r k) = m ((c : Thread nD τ).loc main_arg2) (ix2 (row t r) k) := by
  blk_simp [iblk]
  rw [V_main_arg2]
  refine congrArg _ ?_
  blk_ext [e2, row]

theorem blk3 (c : Dev nD) (t : Fin cfg0.N) (r : Fin 512) (k : Fin 1) :
    iblk m c 3 t (ix2 r k) = m ((c : Thread nD τ).loc main_arg3) (ix2 (row t r) k) := by
  blk_simp [iblk]
  rw [V_main_arg3]
  refine congrArg _ ?_
  blk_ext [e3, row]

theorem blk4 (c : Dev nD) (t : Fin cfg0.N) (r : Fin 512) (k : Fin 768) :
    iblk m c 4 t (ix2 r k) = m ((c : Thread nD τ).loc main_arg4) (ix2 (row t r) k) := by
  blk_simp [iblk]
  rw [V_main_arg4]
  refine congrArg _ ?_
  blk_ext [e4, row]

theorem blk5 (c : Dev nD) (t : Fin cfg0.N) : iblk m c 5 t = m ((c : Thread nD τ).loc main_arg5) := by
  funext y
  blk_simp [iblk]
  rw [V_main_arg5]
  refine congrArg _ ?_
  blk_ext [e5]

theorem blk7 (c : Dev nD) (t : Fin cfg0.N) : iblk m c 7 t = m ((c : Thread nD τ).loc main_arg7) := by
  funext y
  blk_simp [iblk]
  rw [V_main_arg7]
  refine congrArg _ ?_
  blk_ext [e7]

theorem blk6 (c : Dev nD) (t : Fin cfg0.N) (k : Fin 2048) :
    iblk m c 6 t (ix2 0 k) = m ((c : Thread nD τ).loc main_arg6) (ix1 k) := by
  refine Eq.trans ?_ (bias1 m c k)
  blk_simp [iblk]
  refine congrArg _ ?_
  blk_ext [e6]

theorem blk8 (c : Dev nD) (t : Fin cfg0.N) (k : Fin 768) :
    iblk m c 8 t (ix2 0 k) = m ((c : Thread nD τ).loc main_arg8) (ix1 k) := by
  refine Eq.trans ?_ (bias2 m c k)
  blk_simp [iblk]
  refine congrArg _ ?_
  blk_ext [e8]

/-- The whole array the combination ends at, from the arrays the program is given. -/
def result (c : Dev nD) : FVec Ideal S4096x768 .f32 := fun i =>
  entry (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (fun j => m ((c : Thread nD τ).loc main_arg6) (ix1 j)) (m ((c : Thread nD τ).loc main_arg7))
    (fun j => m ((c : Thread nD τ).loc main_arg8) (ix1 j)) (i 0) (i 1)

/-- The region writes that array, block of rows by block of rows. -/
theorem final (c : Dev nD) : (dats m 0 c).arrAt 9 cfg0.N = result m c := by
  refine (dats m 0 c).arrAt_eq_of_covers 9 _ (by decide +kernel) fun t hf y => ?_
  blk_simp
  rw [after0_9]; frame_out
  obtain ⟨r, k, rfl⟩ : ∃ (r : Fin 512) (k : Fin 768), y = ix2 r k := ⟨y 0, y 1, eq_ix2 y⟩
  rw [pay_apply]
  have hi : (win0_9.blk t).view.emb (ix2 r k) = ix2 (row t r) k := by blk_ext [e9, row]
  refine Eq.trans ?_ (congrArg (result m c) hi).symm
  unfold result entry
  simp only [blk0, blk1, blk2, blk3, blk4, blk5, blk6, blk7, blk8]
  rfl

/-! ## The claims -/

theorem frame_kernel : @Cert.quiescent_Combine Cert.Combine.Gen.facts := fun m ρ _ => Cert.Combine.Gen.frame m ρ
theorem frame_ideal : @Cert.quiescent_CombineIdeal Cert.CombineIdeal.Gen.facts := fun m ρ _ => Cert.CombineIdeal.Gen.frame m ρ
/-- The reference runs on the host alone and declares no semaphore. -/
theorem frame_reference : @Cert.quiescent_CombineRefIdeal Cert.CombineRefIdeal.Gen.facts := fun m ρ _ =>
  (θ_run Cert.CombineRefIdeal.defs _ _).mono (fun r h => ⟨fun c => (h c).2,
      Idealize.ShloMosaic.sem_eq_zero_of_no_sems (by decide) r.2⟩)
    (Cert.CombineRefIdeal.Value.run (F := Ideal) m ρ)

theorem algebraic : @Cert.algebraic_CombineIdeal_CombineRefIdeal Cert.CombineIdeal.Gen.facts Cert.CombineRefIdeal.Gen.facts := by
  intro m ρ m' ρ' _ hagree
  refine ⟨fun c => result m c, ?_, ?_⟩
  · exact (θ_run Cert.CombineIdeal.defs _ _).mono (fun _ h c => ⟨(h c).1.trans (final m c), (h c).2⟩)
      (Cert.CombineIdeal.Value.run_blocks (F := Ideal) m ρ)
  refine (θ_run Cert.CombineRefIdeal.defs _ _).mono (fun _ h c => ⟨(h c).1.trans ?_, (h c).2⟩)
    (Cert.CombineRefIdeal.Value.run (F := Ideal) m' ρ')
  obtain ⟨h0, h1, h2, h3, h4, h5, h6, h7, h8⟩ := hagree c
  funext i
  obtain ⟨r, k, rfl⟩ : ∃ (r : Fin 4096) (k : Fin 768), i = ix2 r k := ⟨i 0, i 1, eq_ix2 i⟩
  rw [h0, h1, h2, h3, h4, h5, h6, h7, h8]
  show _ = entry _ _ _ _ _ _ _ _ _ r k
  unfold entry
  pointwise

end Cert.Proof.CombineClaims
-- ==== Proof.RouterMath.lean ====
module

public import Idealize.ShloMosaic.Lib.Pipeline.ValueKit
public import Idealize.ShloMosaic.Lib.Pointwise
public import Idealize.ShloMosaic.Lib.SortPrefix

/-! # The router's mathematics, apart from any program

One token's eight scores come from a softmax; the two best experts of a token are found; the experts' popularity is
estimated by a fixed number of rounds, each of which divides every token's weighted scores by their sum and adds the
quotients up per expert. The facts here are about rows of eight extended reals alone. -/

@[expose] public section

noncomputable section

namespace Cert.Proof.RouterMath

open Idealize.ShloMosaic

/-! ## The constants -/

theorem neg_inf : Ideal.ofBits .f32 0xFF800000#32 = (⊥ : EReal) := by simp [Ideal.ofBits, Ideal.ieee]

theorem eighth : Ideal.ofBits .f32 0x3E000000#32 = (((1 : ℝ) / 8 : ℝ) : EReal) := by
  simp [Ideal.ofBits, Ideal.ieee]; norm_num [← EReal.coe_mul]

theorem eight : Ideal.ofBits .f32 0x41000000#32 = ((8 : ℝ) : EReal) := by
  simp [Ideal.ofBits, Ideal.ieee]; norm_num [← EReal.coe_mul]

/-- The small number added to every divisor is a positive real. -/
theorem small : ∃ e : ℝ, 0 < e ∧ Ideal.ofBits .f32 0x322BCC77#32 = (e : EReal) := by
  refine ⟨_, ?_, by simp only [Ideal.ofBits, Ideal.ieee]; rfl⟩
  simp
  try positivity

/-- The small number added to every divisor. -/
abbrev eps : EReal := Ideal.ofBits .f32 0x322BCC77#32

/-! ## Quotients of reals -/

theorem div_coe (x y : ℝ) (h : y ≠ 0) : Ideal.div (x : EReal) (y : EReal) = ((x / y : ℝ) : EReal) := by
  unfold Ideal.div
  rw [if_neg (by exact_mod_cast h), ← EReal.coe_inv, ← EReal.coe_mul, div_eq_mul_inv]

theorem coe_sum {ι : Type} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

theorem div_bot (x : EReal) : Ideal.div x ⊥ = 0 := by
  unfold Ideal.div
  rw [if_neg (by simp)]
  simp

/-! ## The greatest of a row, and the softmax -/

/-- The greatest entry of a row. -/
def mx (l : Fin 8 → EReal) : EReal := Finset.fold max (Ideal.ofBits .f32 0xFF800000#32) (fun k => l k) Finset.univ

theorem le_mx (l : Fin 8 → EReal) (k : Fin 8) : l k ≤ mx l :=
  (Finset.le_fold_max (l k)).2 (Or.inr ⟨k, Finset.mem_univ _, le_rfl⟩)

theorem exists_mx (l : Fin 8 → EReal) : ∃ k, l k = mx l := by
  by_contra h
  have h' : ∀ k, l k < mx l := fun k => lt_of_le_of_ne (le_mx l k) fun e => h ⟨k, e⟩
  have hb : (⊥ : EReal) < mx l := lt_of_le_of_lt bot_le (h' 0)
  exact lt_irrefl (mx l) ((Finset.fold_max_lt (mx l)).2 ⟨by rw [neg_inf]; exact hb, fun k _ => h' k⟩)

theorem mx_eq (l : Fin 8 → EReal) (i : Fin 8) (h : ∀ k, l k ≤ l i) : mx l = l i := by
  obtain ⟨k, e⟩ := exists_mx l
  exact le_antisymm (e ▸ h k) (le_mx l i)

/-- The softmax of a row. -/
def soft (l : Fin 8 → EReal) (j : Fin 8) : EReal :=
  Ideal.div (Ideal.exp (l j - mx l)) (∑ k, Ideal.exp (l k - mx l))

/-- A row of nonnegative reals. -/
def Fine (v : Fin 8 → EReal) : Prop := ∃ r : Fin 8 → ℝ, (∀ j, 0 ≤ r j) ∧ v = fun j => (r j : EReal)

/-- The softmax of a row is a row of nonnegative reals, but where an infinite logit leaves every score `⊥`. -/
theorem soft_cases (l : Fin 8 → EReal) : Fine (soft l) ∨ soft l = fun _ => ⊥ := by
  rcases h : mx l with _ | _ | M
  · -- no logit above `⊥`: every difference is `⊥`, every exponential zero
    refine Or.inr (funext fun j => ?_)
    have h' : mx l = ⊥ := h
    have e : ∀ k, Ideal.exp (l k - mx l) = 0 := fun k => by
      have : l k = ⊥ := le_bot_iff.1 (h' ▸ le_mx l k)
      rw [this, EReal.bot_sub]; rfl
    unfold soft
    simp only [e, Finset.sum_const_zero]
    unfold Ideal.div
    rw [if_pos rfl, if_neg (lt_irrefl _)]
  · refine Or.inr (funext fun j => ?_)
    have h' : mx l = ⊤ := h
    have e : ∀ k, Ideal.exp (l k - mx l) = 0 := fun k => by
      rw [h', EReal.sub_top]; rfl
    unfold soft
    simp only [e, Finset.sum_const_zero]
    unfold Ideal.div
    rw [if_pos rfl, if_neg (lt_irrefl _)]
  · have h' : mx l = (M : EReal) := h
    have e : ∀ k, ∃ a : ℝ, 0 ≤ a ∧ Ideal.exp (l k - mx l) = (a : EReal) := fun k => by
      rw [h']
      have hk : l k ≤ (M : EReal) := h' ▸ le_mx l k
      rcases hl : l k with _ | _ | x
      · exact ⟨0, le_rfl, by exact congrArg Ideal.exp (EReal.bot_sub (M : EReal))⟩
      · rw [hl] at hk
        exact absurd hk (not_le.2 (EReal.coe_lt_top M))
      · exact ⟨Real.exp (x - M), (Real.exp_pos _).le, rfl⟩
    choose a ha hae using e
    obtain ⟨k₀, hk₀⟩ := exists_mx l
    have hpos : 0 < ∑ k, a k := by
      refine Finset.sum_pos' (fun k _ => ha k) ⟨k₀, Finset.mem_univ _, ?_⟩
      have h1 := hae k₀
      rw [hk₀, h', ← EReal.coe_sub, sub_self] at h1
      have h2 : Ideal.exp ((0 : ℝ) : EReal) = ((1 : ℝ) : EReal) := by
        show ((Real.exp 0 : ℝ) : EReal) = _
        rw [Real.exp_zero]
      rw [h2] at h1
      rw [← EReal.coe_eq_coe_iff.1 h1]; exact one_pos
    refine Or.inl ⟨fun j => a j / ∑ k, a k, fun j => div_nonneg (ha j) hpos.le, funext fun j => ?_⟩
    unfold soft
    simp only [hae]
    rw [coe_sum, div_coe _ _ hpos.ne']

/-! ## The two best of a row -/

/-- `i` is the first place at which a row is greatest, `i'` the first such place of the others. -/
structure Best (v : Fin 8 → EReal) (i i' : Fin 8) : Prop where
  ge : ∀ k, v k ≤ v i
  first : ∀ k, k < i → v k < v i
  ne : i' ≠ i
  ge' : ∀ k, k ≠ i → v k ≤ v i'
  first' : ∀ k, k ≠ i → k < i' → v k < v i'

theorem exists_first (v : Fin 8 → EReal) (S : Finset (Fin 8)) (hS : S.Nonempty) :
    ∃ i ∈ S, (∀ k ∈ S, v k ≤ v i) ∧ ∀ k ∈ S, k < i → v k < v i := by
  obtain ⟨a, ha, hm⟩ := S.exists_max_image v hS
  have hT : (S.filter fun k => v k = v a).Nonempty := ⟨a, Finset.mem_filter.2 ⟨ha, rfl⟩⟩
  have hmem := Finset.mem_filter.1 (Finset.min'_mem _ hT)
  refine ⟨_, hmem.1, fun k hk => by rw [hmem.2]; exact hm k hk, fun k hk hlt => ?_⟩
  rw [hmem.2]
  exact lt_of_le_of_ne (hm k hk) fun e => absurd (Finset.min'_le _ k (Finset.mem_filter.2 ⟨hk, e⟩)) (not_le.2 hlt)

theorem exists_best (v : Fin 8 → EReal) : ∃ p : Fin 8 × Fin 8, Best v p.1 p.2 := by
  obtain ⟨i, -, h1, h2⟩ := exists_first v Finset.univ ⟨0, Finset.mem_univ _⟩
  obtain ⟨i', hi', h3, h4⟩ := exists_first v (Finset.univ.erase i) (by
    refine ⟨i + 1, Finset.mem_erase.2 ⟨?_, Finset.mem_univ _⟩⟩
    exact (by decide : ∀ i : Fin 8, i + 1 ≠ i) i)
  exact ⟨(i, i'), fun k => h1 k (Finset.mem_univ _), fun k => h2 k (Finset.mem_univ _), (Finset.mem_erase.1 hi').1,
    fun k hk => h3 k (Finset.mem_erase.2 ⟨hk, Finset.mem_univ _⟩), fun k hk => h4 k (Finset.mem_erase.2 ⟨hk, Finset.mem_univ _⟩)⟩

/-- The best place of a row. -/
def i1 (v : Fin 8 → EReal) : Fin 8 := (exists_best v).choose.1
/-- The second best. -/
def i2 (v : Fin 8 → EReal) : Fin 8 := (exists_best v).choose.2

theorem best (v : Fin 8 → EReal) : Best v (i1 v) (i2 v) := (exists_best v).choose_spec

/-! ### By a sort -/

/-- A stable sort of an increasing list compares a later element only with an earlier one. -/
theorem stableSort_later {ι : Type} [LinearOrder ι] (R R' : ι → ι → Bool) (h : ∀ a b, a < b → R b a = R' b a) (l : List ι)
    (hl : l.Pairwise (· < ·)) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

theorem sortedFrom_later {n : Nat} (R R' : Fin n → Fin n → Bool) (h : ∀ a b, a < b → R b a = R' b a) :
    sortedFrom R = sortedFrom R' := by
  have e : sortPositions n R = sortPositions n R' := stableSort_later R R' h _ (List.pairwise_lt_finRange n)
  funext k
  unfold sortedFrom
  rw [List.get_of_eq e]
  rfl

/-- The order in which a top-k lists places: greater first, and of equals the earlier. -/
def before (v : Fin 8 → EReal) (k k' : Fin 8) : Bool := decide (v k' < v k) || (decide (v k = v k') && decide (k < k'))

theorem before_total (v : Fin 8 → EReal) : StrictTotalBefore (before v) :=
  StrictTotalBefore.of_key_then_position (fun a b : EReal => decide (b < a)) v (fun a => by simp)
    (fun a b c => by simp only [decide_eq_true_eq]; exact fun h h' => h'.trans h)
    (fun a b => by simp only [decide_eq_true_eq]; rcases lt_trichotomy a b with h | h | h <;> simp [h])

theorem before_false {v : Fin 8 → EReal} {k k' : Fin 8} (h : v k ≤ v k') (h' : k ≤ k' → v k < v k') : before v k k' = false := by
  unfold before
  rw [Bool.or_eq_false_iff, Bool.and_eq_false_iff]
  refine ⟨by simpa using h, ?_⟩
  by_cases e : v k = v k'
  · exact Or.inr (by simpa using not_lt.1 fun hk => absurd (h' hk.le) (by rw [e]; exact lt_irrefl _))
  · exact Or.inl (by simpa using e)

/-- The first two places of the sort a top-k makes. -/
theorem sorted_two (v : Fin 8 → EReal) (k : Fin 2) :
    sortedFrom (fun a b => Ideal.cmp .ogt (v a) (v b) == 1#1) (k.castLE (by decide)) = ![i1 v, i2 v] k := by
  have hB := best v
  rw [sortedFrom_later _ (before v) fun a b hab => by
    unfold before Ideal.cmp
    have : ¬ b < a := not_lt.2 hab.le
    by_cases h : v a < v b <;> simp [h, this]]
  refine (before_total v).sortedFrom_eq_of_prefix (by decide) ![i1 v, i2 v] ?_ ?_ ?_ k
  · intro a b h
    fin_cases a <;> fin_cases b <;> simp_all [hB.ne, hB.ne.symm]
  · intro a b hab
    have : a = 0 ∧ b = 1 := by revert a b; decide
    obtain ⟨rfl, rfl⟩ := this
    show before v (i2 v) (i1 v) = false
    exact before_false (hB.ge _) fun h => hB.first _ (lt_of_le_of_ne h hB.ne)
  · intro a p hp
    have h0 : i1 v ≠ p := hp 0
    have h1 : i2 v ≠ p := hp 1
    fin_cases a
    · exact before_false (hB.ge _) fun h => hB.first _ (lt_of_le_of_ne h h0.symm)
    · exact before_false (hB.ge' _ h0.symm) fun h => hB.first' _ h0.symm (lt_of_le_of_ne h h1.symm)

/-! ### By a least index -/

theorem least_index : ∀ (P : Fin 8 → Bool) (i : Fin 8), P i = true → (∀ k, k < i → P k = false) →
    Finset.fold IntOp.minsi (2147483647#32) (fun x : Fin 8 => if P x = true then BitVec.ofNat 32 x.val else 8#32) Finset.univ
      = BitVec.ofNat 32 i.val := by
  decide +kernel

/-- The least index at which a row equals `m`, where `i` is the first such. -/
theorem least_index_of (v : Fin 8 → EReal) (m : EReal) (i : Fin 8) (h : v i = m) (h' : ∀ k, k < i → v k ≠ m) :
    Finset.fold IntOp.minsi (2147483647#32) (fun x : Fin 8 => if v x = m then BitVec.ofNat 32 x.val else 8#32) Finset.univ
      = BitVec.ofNat 32 i.val := by
  rw [← least_index (fun x => decide (v x = m)) i (by simpa using h) (fun k hk => by simpa using h' k hk)]
  simp only [decide_eq_true_eq]

theorem mx_best (v : Fin 8 → EReal) : mx v = v (i1 v) := mx_eq v _ (best v).ge

theorem first_index (v : Fin 8 → EReal) :
    Finset.fold IntOp.minsi (2147483647#32) (fun x : Fin 8 => if v x = mx v then BitVec.ofNat 32 x.val else 8#32) Finset.univ
      = BitVec.ofNat 32 (i1 v).val :=
  least_index_of v _ _ (mx_best v).symm fun k hk => by rw [mx_best]; exact ((best v).first k hk).ne

/-- The row with its best place covered. -/
def cover (v : Fin 8 → EReal) (k : Fin 8) : EReal := if k = i1 v then ⊥ else v k

theorem mx_cover (v : Fin 8 → EReal) : mx (cover v) = v (i2 v) := by
  have h : cover v (i2 v) = v (i2 v) := if_neg (best v).ne
  rw [← h]
  refine mx_eq _ _ fun k => ?_
  rw [h]
  unfold cover
  split
  · exact bot_le
  · rename_i hk; exact (best v).ge' k hk

theorem second_index {v : Fin 8 → EReal} (hv : Fine v) :
    Finset.fold IntOp.minsi (2147483647#32) (fun x : Fin 8 => if cover v x = mx (cover v) then BitVec.ofNat 32 x.val else 8#32)
      Finset.univ = BitVec.ofNat 32 (i2 v).val := by
  obtain ⟨r, -, hr⟩ := hv
  refine least_index_of _ _ _ ((if_neg (best v).ne).trans (mx_cover v).symm) fun k hk => ?_
  rw [mx_cover]
  unfold cover
  split
  · rw [hr]; exact (EReal.bot_lt_coe _).ne
  · rename_i h; exact ((best v).first' k h hk).ne

theorem best_bot : i1 (fun _ => (⊥ : EReal)) = 0 :=
  not_ne_iff.1 fun h => lt_irrefl _ ((best fun _ => (⊥ : EReal)).first 0 (Fin.pos_iff_ne_zero.2 h))

theorem second_index_bot :
    Finset.fold IntOp.minsi (2147483647#32) (fun x : Fin 8 => if cover (fun _ => ⊥) x = mx (cover fun _ => ⊥) then BitVec.ofNat 32 x.val
      else 8#32) Finset.univ = BitVec.ofNat 32 (0 : Fin 8).val := by
  have e : cover (fun _ => (⊥ : EReal)) = fun _ => ⊥ := by funext k; unfold cover; split <;> rfl
  rw [e]
  exact least_index_of _ _ _ (mx_eq (fun _ => (⊥ : EReal)) 0 fun _ => le_rfl).symm fun k hk => absurd hk (Fin.not_lt_zero k)

/-! ## The rounds -/

/-- One round, as a plain program writes it, before the division by the total. -/
def gather1 {T : ℕ} (s : Fin T → Fin 8 → EReal) (p : Fin 8 → EReal) (j : Fin 8) : EReal :=
  ∑ t, Ideal.div (s t j * p j) ((∑ k, s t k * p k) + eps)

/-- The same with the weight taken out of the sum and the quotient made a product with the inverse. -/
def gather2 {T : ℕ} (s : Fin T → Fin 8 → EReal) (p : Fin 8 → EReal) (j : Fin 8) : EReal :=
  p j * ∑ t, s t j * Ideal.div 1 ((∑ k, s t k * p k) + eps)

/-- The division by the total. -/
def norm (g : Fin 8 → EReal) (j : Fin 8) : EReal := Ideal.div (g j) ((∑ k, g k) + eps)

theorem fine_norm {g : Fin 8 → EReal} (h : Fine g) : Fine (norm g) := by
  obtain ⟨r, hr, rfl⟩ := h
  obtain ⟨e, he, hee⟩ := small
  have hs : 0 < (∑ k, r k) + e := add_pos_of_nonneg_of_pos (Finset.sum_nonneg fun k _ => hr k) he
  refine ⟨fun j => r j / ((∑ k, r k) + e), fun j => div_nonneg (hr j) hs.le, funext fun j => ?_⟩
  unfold norm eps
  rw [hee, coe_sum, ← EReal.coe_add, div_coe _ _ hs.ne']

variable {T : ℕ} {s : Fin T → Fin 8 → EReal} {p : Fin 8 → EReal}

/-- What one token adds, both ways: a nonnegative real, provided some weight is not zero. -/
theorem token {v p : Fin 8 → EReal} (hv : Fine v ∨ v = fun _ => ⊥) (hp : Fine p) (h0 : ∃ k, p k ≠ 0) (j : Fin 8) :
    ∃ a b : ℝ, 0 ≤ b ∧ v j * Ideal.div 1 ((∑ k, v k * p k) + eps) = (a : EReal)
      ∧ Ideal.div (v j * p j) ((∑ k, v k * p k) + eps) = (b : EReal) ∧ p j * (a : EReal) = (b : EReal) := by
  obtain ⟨q, hq, rfl⟩ := hp
  obtain ⟨e, he, hee⟩ := small
  rcases hv with ⟨r, hr, rfl⟩ | rfl
  · have hs : 0 < (∑ k, r k * q k) + e :=
      add_pos_of_nonneg_of_pos (Finset.sum_nonneg fun k _ => mul_nonneg (hr k) (hq k)) he
    have hd : (∑ k, (r k : EReal) * (q k : EReal)) + eps = (((∑ k, r k * q k) + e : ℝ) : EReal) := by
      simp only [← EReal.coe_mul]
      rw [coe_sum, eps, hee, ← EReal.coe_add]
    refine ⟨r j * (1 / ((∑ k, r k * q k) + e)), r j * q j / ((∑ k, r k * q k) + e),
      div_nonneg (mul_nonneg (hr j) (hq j)) hs.le, ?_, ?_, ?_⟩
    · rw [hd, show (1 : EReal) = ((1 : ℝ) : EReal) from rfl, div_coe _ _ hs.ne', ← EReal.coe_mul]
    · rw [hd, ← EReal.coe_mul, div_coe _ _ hs.ne']
    · rw [← EReal.coe_mul]; congr 1; ring
  · obtain ⟨k, hk⟩ := h0
    have hk' : 0 < q k := lt_of_le_of_ne (hq k) fun e => hk (congrArg (fun a : ℝ => (a : EReal)) e.symm)
    have hd : (∑ k, (⊥ : EReal) * (q k : EReal)) + eps = ⊥ := by
      rw [← Finset.add_sum_erase _ _ (Finset.mem_univ k), EReal.bot_mul_coe_of_pos hk', EReal.bot_add, EReal.bot_add]
    refine ⟨0, 0, le_rfl, ?_, ?_, by simp⟩
    · rw [hd, div_bot, mul_zero]; rfl
    · rw [hd, div_bot]; rfl

/-- The two ways of writing a round agree, and leave nonnegative reals. -/
theorem gather_eq (hs : ∀ t, Fine (s t) ∨ s t = fun _ => ⊥) (hp : Fine p) : gather2 s p = gather1 s p ∧ Fine (gather1 s p) := by
  by_cases h0 : ∃ k, p k ≠ 0
  · have key : ∀ t j, ∃ a b : ℝ, 0 ≤ b ∧ s t j * Ideal.div 1 ((∑ k, s t k * p k) + eps) = (a : EReal)
        ∧ Ideal.div (s t j * p j) ((∑ k, s t k * p k) + eps) = (b : EReal) ∧ p j * (a : EReal) = (b : EReal) :=
      fun t j => token (hs t) hp h0 j
    choose a b hb ha hbe hab using key
    have e1 : gather1 s p = fun j => ((∑ t, b t j : ℝ) : EReal) := by
      funext j
      unfold gather1
      simp only [hbe]
      exact coe_sum _ _
    refine ⟨?_, e1 ▸ ⟨_, fun j => Finset.sum_nonneg fun t _ => hb t j, rfl⟩⟩
    rw [e1]
    funext j
    obtain ⟨q, -, rfl⟩ := hp
    unfold gather2
    simp only [ha]
    rw [coe_sum]
    simp only [← EReal.coe_mul] at hab ⊢
    rw [Finset.mul_sum]
    congr 1
    exact Finset.sum_congr rfl fun t _ => EReal.coe_eq_coe_iff.1 (hab t j)
  · push Not at h0
    obtain ⟨e, he, hee⟩ := small
    have e1 : gather1 s p = fun _ => ((0 : ℝ) : EReal) := by
      funext j
      unfold gather1 eps
      simp only [h0, mul_zero, Finset.sum_const_zero, zero_add, hee]
      refine Finset.sum_eq_zero fun t _ => ?_
      rw [show (0 : EReal) = ((0 : ℝ) : EReal) from rfl, div_coe _ _ he.ne', zero_div]
    refine ⟨?_, e1 ▸ ⟨fun _ => 0, fun _ => le_rfl, rfl⟩⟩
    rw [e1]
    funext j
    unfold gather2
    rw [h0, zero_mul]
    rfl

/-- The weights after `n` rounds. -/
def weights (s : Fin T → Fin 8 → EReal) (p : Fin 8 → EReal) : ℕ → Fin 8 → EReal
  | 0 => p
  | n + 1 => norm (gather1 s (weights s p n))

theorem fine_weights (hs : ∀ t, Fine (s t) ∨ s t = fun _ => ⊥) (hp : Fine p) : ∀ n, Fine (weights s p n)
  | 0 => hp
  | n + 1 => fine_norm (gather_eq hs (fine_weights hs hp n)).2

theorem norm_gather2 (hs : ∀ t, Fine (s t) ∨ s t = fun _ => ⊥) (hp : Fine p) (n : ℕ) :
    norm (gather2 s (weights s p n)) = weights s p (n + 1) := by
  rw [(gather_eq hs (fine_weights hs hp n)).1]; rfl

/-! ## The two coefficients of a token -/

/-- A one-hot row picks an entry. -/
theorem pick (p : Fin 8 → EReal) (i : Fin 8) :
    ∑ k, (if k = i then (1 : EReal) else 0) * p k = p i := by
  rw [Finset.sum_eq_single i]
  · rw [if_pos rfl, one_mul]
  · intro k _ hk; rw [if_neg hk, zero_mul]
  · intro h; exact absurd (Finset.mem_univ _) h

/-- Where the scores are `⊥`, both coefficients are zero whatever the places are. -/
theorem coeff_bot {a b : EReal} (ha : a = 0 ∨ a = ⊥) (hb : b = 0 ∨ b = ⊥) :
    Ideal.div a (a + b + eps) = 0 ∧ Ideal.div b (a + b + eps) = 0 := by
  obtain ⟨e, he, hee⟩ := small
  have zero : Ideal.div 0 (0 + 0 + eps) = 0 := by
    rw [add_zero, zero_add, eps, hee, show (0 : EReal) = ((0 : ℝ) : EReal) from rfl, div_coe _ _ he.ne', _root_.zero_div]
  rcases hb with rfl | rfl
  · rcases ha with rfl | rfl
    · exact ⟨zero, zero⟩
    · rw [EReal.bot_add, EReal.bot_add, div_bot, div_bot]; exact ⟨rfl, rfl⟩
  · rw [EReal.add_bot, EReal.bot_add, div_bot, div_bot]; exact ⟨rfl, rfl⟩

theorem bot_mul {p : Fin 8 → EReal} (hp : Fine p) (i : Fin 8) : (⊥ : EReal) * p i = 0 ∨ (⊥ : EReal) * p i = ⊥ := by
  obtain ⟨q, hq, rfl⟩ := hp
  rcases (hq i).eq_or_lt with h | h
  · left; show ⊥ * ((q i : ℝ) : EReal) = 0; rw [← h]; exact mul_zero _
  · right; exact EReal.bot_mul_coe_of_pos h

variable (t : Fin 4096)

/-- A token's weighted score at a place. -/
def bal (S : Fin 4096 → Fin 8 → EReal) (i : Fin 8) : EReal := S t i * weights S (fun _ => (((1 : ℝ) / 8 : ℝ) : EReal)) 5 i

/-- A token's first coefficient: its weighted score at its best place, over the sum of both. -/
def coeff1 (S : Fin 4096 → Fin 8 → EReal) : EReal := Ideal.div (bal t S (i1 (S t))) (bal t S (i1 (S t)) + bal t S (i2 (S t)) + eps)

/-- The second, at the second best. -/
def coeff2 (S : Fin 4096 → Fin 8 → EReal) : EReal := Ideal.div (bal t S (i2 (S t))) (bal t S (i1 (S t)) + bal t S (i2 (S t)) + eps)

theorem coeff_of_bot (S : Fin 4096 → Fin 8 → EReal) (hS : ∀ t, Fine (S t) ∨ S t = fun _ => ⊥) (h : S t = fun _ => ⊥) (i k : Fin 8) :
    Ideal.div (bal t S i) (bal t S i + bal t S k + eps) = 0 ∧ Ideal.div (bal t S k) (bal t S i + bal t S k + eps) = 0 := by
  have hp := fine_weights hS (p := fun _ => (((1 : ℝ) / 8 : ℝ) : EReal)) ⟨fun _ => 1 / 8, fun _ => by norm_num, rfl⟩ 5
  have hb : ∀ k, bal t S k = 0 ∨ bal t S k = ⊥ := fun k => by
    unfold bal
    rw [h]
    exact bot_mul hp k
  exact coeff_bot (hb i) (hb k)

/-- How many tokens have each expert as their best. -/
def count (S : Fin 4096 → Fin 8 → EReal) (j : Fin 8) : EReal := ∑ t, if j = i1 (S t) then (1 : EReal) else 0

/-- The loss: the distance of the experts' shares from equal shares. -/
def loss (S : Fin 4096 → Fin 8 → EReal) : EReal :=
  Ideal.ofBits .f32 0x3DCCCCCD#32 * ∑ j, (((1 : ℝ) / 8 : ℝ) : EReal) * (Ideal.log (((1 : ℝ) / 8 : ℝ) : EReal) -
    Ideal.log (Ideal.div (Ideal.div (count S j) (Ideal.ofBits .f32 0x45800000#32) + eps)
      (∑ k, (Ideal.div (count S k) (Ideal.ofBits .f32 0x45800000#32) + eps))))

end Cert.Proof.RouterMath

end
-- ==== Proof.RouterKernel.lean ====
module

public import proofs.«01_k».proof.Defs
public import proofs.«01_k».proof.Proof.RouterMath
public import proofs.«01_k».proof.Proof.Gen.RouterIdeal.Value
public import Idealize.ShloMosaic.Lib.Pipeline.ValueKit
public import Idealize.ShloMosaic.Lib.Pointwise

/-! # What the router kernel computes

The kernel's stored values, read entry by entry as functions of its inputs: the softmax scores of every token, its two
best experts, the popularity after five rounds, the two coefficients and the balance loss. -/

@[expose] public section

noncomputable section

namespace Cert.Proof.RouterKernel

open Idealize.ShloMosaic Idealize.ShloMosaic.TcCoe Idealize.SL.Sem
open Cert.RouterIdeal Cert.RouterIdeal.Gen Cert.Proof.RouterMath

/-- A token's row of a table. -/
abbrev row (s : FVec Ideal S4096x8 .f32) (t : Fin 4096) (j : Fin 8) : EReal := s (ix2 t j)

/-- A row vector as a function. -/
abbrev vec (p : FVec Ideal S1x8 .f32) (j : Fin 8) : EReal := p (ix2 0 j)

/-! ## The rounds, on the kernel's vectors -/

/-- Half a round: every weight times the sum over the tokens of their scores by their weighted sums. -/
def spread (s : FVec Ideal S4096x8 .f32) (p : FVec Ideal S1x8 .f32) : FVec Ideal S1x8 .f32 :=
  mulf p (shapeCast S1x8 (multiReduction .add [0] S8 (mulf s (broadcastTo S4096x8
    (divf (broadcast S4096x1 (Scalar.ofBits .f32 0x3F800000#32))
      (addf (matmul dot_S4096x8_S8x1_S4096x1_1_0_0_1_n_n none s (shapeCast S8x1 p shapeCasts_S1x8_S8x1)
          (constant S4096x1 .f32 0x00000000#32))
        (broadcast S4096x1 (Scalar.ofBits .f32 0x322BCC77#32)))) broadcasts_S4096x1_S4096x8))
    0x00000000#32 reduces_S4096x8_S8 (.inl rfl) rfl) shapeCasts_S8_S1x8)

/-- The other half: the division by the total. -/
def total (g : FVec Ideal S1x8 .f32) : FVec Ideal S1x8 .f32 :=
  divf g (broadcast S1x8 (Scalar.addf (extractAt ![0, 0, 0] (shapeCast S1x1x1 (multiReduction .add [1, 2] S1
    (shapeCast S1x1x8 g shapeCasts_S1x8_S1x1x8) 0x00000000#32 reduces_S1x1x8_S1 (.inl rfl) rfl) shapeCasts_S1_S1x1x1)
    inpos_S1x1x1_p0_0_0) (Scalar.ofBits .f32 0x322BCC77#32)))

theorem spread_vec (s : FVec Ideal S4096x8 .f32) (p : FVec Ideal S1x8 .f32) : vec (spread s p) = gather2 (row s) (vec p) := by
  funext j
  show spread s p (ix2 0 j) = _
  unfold spread
  pointwise
  unfold gather2
  simp only [Ideal.ofBits_one_f32]

theorem total_vec (g : FVec Ideal S1x8 .f32) : vec (total g) = norm (vec g) := by
  funext j
  show total g (ix2 0 j) = _
  unfold total
  pointwise
  simp only [Finset.univ_unique, Finset.sum_singleton]
  rfl

/-- The starting weights. -/
def start : FVec Ideal S1x8 .f32 := broadcast S1x8 (Scalar.ofBits .f32 0x3E000000#32)

theorem start_vec : vec start = fun _ => (((1 : ℝ) / 8 : ℝ) : EReal) := by
  funext j
  exact eighth

theorem fine_start : Fine (vec start) := ⟨fun _ => 1 / 8, fun _ => by norm_num, start_vec⟩

/-- The weights as the kernel has them after its rounds. -/
def final (s : FVec Ideal S4096x8 .f32) : FVec Ideal S1x8 .f32 :=
  k0_pay15 s (k0_pay13 s (k0_pay11 s) (k0_pay12 s)) (k0_pay14 s (k0_pay11 s) (k0_pay12 s)) (Scalar.ofBits .f32 0x322BCC77#32)

theorem final_eq (s : FVec Ideal S4096x8 .f32) :
    final s = total (spread s (total (spread s (total (spread s (total (spread s (total (spread s start))))))))) := rfl

theorem final_vec (s : FVec Ideal S4096x8 .f32) (hs : ∀ t, Fine (row s t) ∨ row s t = fun _ => ⊥) :
    vec (final s) = weights (row s) (vec start) 5 := by
  rw [final_eq]
  simp only [total_vec, spread_vec]
  have h := norm_gather2 hs fine_start
  have h0 : norm (gather2 (row s) (vec start)) = weights (row s) (vec start) 1 := h 0
  rw [h0, h, h, h, h]

/-! ## The scores and the places -/

variable (x : FVec Ideal S4096x768 .f32) (gw : FVec Ideal S768x8 .f32) (gb : FVec Ideal S1x8 .f32) (gt : FVec Ideal S1x1 .f32)
  (t : Fin 4096)

/-- A token's logits. -/
def logit (j : Fin 8) : EReal :=
  Ideal.div ((∑ i : Fin 768, x (ix2 t i) * gw (ix2 i j)) + gb (ix2 0 j)) (gt (ix2 0 0))

theorem scores : row (k0_pay2 (F := Ideal) x gw gb gt) t = soft (logit x gw gb gt t) := by
  funext j
  show k0_pay2 (F := Ideal) x gw gb gt (ix2 t j) = _
  unfold k0_pay2
  pointwise
  rfl

theorem rows : Fine (row (k0_pay2 (F := Ideal) x gw gb gt) t) ∨ row (k0_pay2 (F := Ideal) x gw gb gt) t = fun _ => ⊥ := by
  rw [scores]; exact soft_cases _

theorem greatest : k0_pay3 (F := Ideal) x gw gb gt (ix2 t 0) = mx (row (k0_pay2 (F := Ideal) x gw gb gt) t) := by
  unfold k0_pay3
  pointwise
  rfl

theorem place : k0_pay4 (F := Ideal) x gw gb gt (ix2 t 0) = BitVec.ofNat 32 (i1 (row (k0_pay2 (F := Ideal) x gw gb gt) t)).val := by
  rw [← first_index, ← greatest]
  unfold k0_pay4
  pointwise

theorem eq_index (i j : Fin 8) : IntOp.cmpi .eq (BitVec.ofNat 32 j.val) (BitVec.ofNat 32 i.val) = if j = i then 1#1 else 0#1 := by
  revert i j; decide

theorem covered (j : Fin 8) :
    k0_pay5 (F := Ideal) x gw gb gt (ix2 t j) = cover (row (k0_pay2 (F := Ideal) x gw gb gt) t) j := by
  unfold k0_pay5
  have h := place x gw gb gt t
  revert h
  generalize k0_pay2 (F := Ideal) x gw gb gt = s
  generalize k0_pay4 (F := Ideal) x gw gb gt = m
  intro h
  pointwise
  rw [h, eq_index]
  unfold cover
  split
  · exact neg_inf
  · rfl

theorem greatest' : k0_pay6 (F := Ideal) x gw gb gt (ix2 t 0) = mx (cover (row (k0_pay2 (F := Ideal) x gw gb gt) t)) := by
  rw [← funext (covered x gw gb gt t)]
  unfold k0_pay6
  pointwise
  rfl

theorem place' : k0_pay7 (F := Ideal) x gw gb gt (ix2 t 0) = Finset.fold IntOp.minsi (2147483647#32) (fun k : Fin 8 =>
    if cover (row (k0_pay2 (F := Ideal) x gw gb gt) t) k = mx (cover (row (k0_pay2 (F := Ideal) x gw gb gt) t)) then BitVec.ofNat 32 k.val
      else 8#32) Finset.univ := by
  rw [← greatest', ← funext (covered x gw gb gt t)]
  unfold k0_pay7
  pointwise

theorem place'_fine (h : Fine (row (k0_pay2 (F := Ideal) x gw gb gt) t)) :
    k0_pay7 (F := Ideal) x gw gb gt (ix2 t 0) = BitVec.ofNat 32 (i2 (row (k0_pay2 (F := Ideal) x gw gb gt) t)).val := by
  rw [place', second_index h]

theorem place'_bot (h : row (k0_pay2 (F := Ideal) x gw gb gt) t = fun _ => ⊥) :
    k0_pay7 (F := Ideal) x gw gb gt (ix2 t 0) = BitVec.ofNat 32 (0 : Fin 8).val := by
  rw [place', h, second_index_bot]

/-! ## One-hot rows -/

theorem hot_value (i j : Fin 8) :
    (FloatOps.sitofp (F := Ideal) .f32 (BitVec.setWidth 32 (IntOp.cmpi .eq (BitVec.ofNat 32 j.val) (BitVec.ofNat 32 i.val))) : EReal)
      = if j = i then 1 else 0 := by
  rw [eq_index]
  split
  · show (((BitVec.setWidth 32 1#1).toInt : ℝ) : EReal) = 1
    norm_num
  · show (((BitVec.setWidth 32 0#1).toInt : ℝ) : EReal) = 0
    norm_num

/-- The column numbers. -/
abbrev columns : IVec S4096x8 32 := iota .tc S4096x8 32 [1] iota_S4096x8_d1_w32

theorem hot (w : IVec S4096x1 32) (i : Fin 8) (h : w (ix2 t 0) = BitVec.ofNat 32 i.val) (j : Fin 8) :
    k0_pay8 (F := Ideal) columns w (ix2 t j) = if j = i then (1 : EReal) else 0 := by
  rw [← hot_value, ← h]
  unfold k0_pay8
  pointwise

theorem hot' (w : IVec S4096x1 32) (i : Fin 8) (h : w (ix2 t 0) = BitVec.ofNat 32 i.val) (j : Fin 8) :
    k0_pay9 (F := Ideal) columns w (ix2 t j) = if j = i then (1 : EReal) else 0 := by
  rw [← hot_value, ← h]
  unfold k0_pay9
  pointwise

/-! ## The coefficients -/

theorem weighted (s : FVec Ideal S4096x8 .f32) (m : FVec Ideal S4096x1 .f32) (o : FVec Ideal S4096x8 .f32) (p : FVec Ideal S1x8 .f32)
    (q : FVec Ideal S4096x1 .f32) (i : Fin 8) (ho : ∀ j, o (ix2 t j) = if j = i then (1 : EReal) else 0) :
    k0_pay16 (F := Ideal) s m o p q (Scalar.ofBits .f32 0x322BCC77#32) (ix2 t 0)
      = m (ix2 t 0) * k0_pay15 (F := Ideal) s p q (Scalar.ofBits .f32 0x322BCC77#32) (ix2 0 i) := by
  unfold k0_pay16
  generalize k0_pay15 (F := Ideal) s p q (Scalar.ofBits .f32 0x322BCC77#32) = w
  pointwise
  simp only [ho]
  rw [pick]

theorem weighted' (s : FVec Ideal S4096x8 .f32) (m : FVec Ideal S4096x1 .f32) (o : FVec Ideal S4096x8 .f32) (p : FVec Ideal S1x8 .f32)
    (q : FVec Ideal S4096x1 .f32) (i : Fin 8) (ho : ∀ j, o (ix2 t j) = if j = i then (1 : EReal) else 0) :
    k0_pay17 (F := Ideal) s m o p q (Scalar.ofBits .f32 0x322BCC77#32) (ix2 t 0)
      = m (ix2 t 0) * k0_pay15 (F := Ideal) s p q (Scalar.ofBits .f32 0x322BCC77#32) (ix2 0 i) := by
  unfold k0_pay17
  generalize k0_pay15 (F := Ideal) s p q (Scalar.ofBits .f32 0x322BCC77#32) = w
  pointwise
  simp only [ho]
  rw [pick]

/-! ## What is stored -/

/-- The scores of the whole table. -/
abbrev sc : FVec Ideal S4096x8 .f32 := k0_pay2 (F := Ideal) x gw gb gt
/-- The weighted score the kernel has for a token's best place. -/
abbrev bal1 : FVec Ideal S4096x1 .f32 :=
  k0_pay16 (F := Ideal) (sc x gw gb gt) (k0_pay3 x gw gb gt) (k0_pay8 (F := Ideal) columns (k0_pay4 (F := Ideal) x gw gb gt))
    (k0_pay13 (sc x gw gb gt) (k0_pay11 (sc x gw gb gt)) (k0_pay12 (sc x gw gb gt)))
    (k0_pay14 (sc x gw gb gt) (k0_pay11 (sc x gw gb gt)) (k0_pay12 (sc x gw gb gt))) (Scalar.ofBits .f32 0x322BCC77#32)
/-- The weighted score the kernel has for its second place. -/
abbrev bal2 : FVec Ideal S4096x1 .f32 :=
  k0_pay17 (F := Ideal) (sc x gw gb gt) (k0_pay6 x gw gb gt) (k0_pay9 (F := Ideal) columns (k0_pay7 (F := Ideal) x gw gb gt))
    (k0_pay13 (sc x gw gb gt) (k0_pay11 (sc x gw gb gt)) (k0_pay12 (sc x gw gb gt)))
    (k0_pay14 (sc x gw gb gt) (k0_pay11 (sc x gw gb gt)) (k0_pay12 (sc x gw gb gt))) (Scalar.ofBits .f32 0x322BCC77#32)
/-- The divisor of both coefficients. -/
abbrev both : FVec Ideal S4096x1 .f32 :=
  k0_pay18 (F := Ideal) (sc x gw gb gt) (k0_pay3 x gw gb gt) (k0_pay6 x gw gb gt) (k0_pay8 (F := Ideal) columns (k0_pay4 (F := Ideal) x gw gb gt))
    (k0_pay9 (F := Ideal) columns (k0_pay7 (F := Ideal) x gw gb gt))
    (k0_pay13 (sc x gw gb gt) (k0_pay11 (sc x gw gb gt)) (k0_pay12 (sc x gw gb gt)))
    (k0_pay14 (sc x gw gb gt) (k0_pay11 (sc x gw gb gt)) (k0_pay12 (sc x gw gb gt))) (Scalar.ofBits .f32 0x322BCC77#32)

theorem weighted_first : bal1 x gw gb gt (ix2 t 0) = bal t (row (sc x gw gb gt)) (i1 (row (sc x gw gb gt) t)) := by
  unfold bal1
  rw [weighted t _ _ _ _ _ _ (hot t _ _ (place x gw gb gt t)), greatest, mx_best]
  unfold bal
  rw [← start_vec, ← final_vec (sc x gw gb gt) (rows x gw gb gt)]
  rfl

/-- The place the kernel finds second is the second best, unless no score is a number. -/
theorem weighted_second : ∃ i : Fin 8, (Fine (row (sc x gw gb gt) t) → i = i2 (row (sc x gw gb gt) t)) ∧
    bal2 x gw gb gt (ix2 t 0) = bal t (row (sc x gw gb gt)) i := by
  have key : ∀ i : Fin 8, k0_pay7 (F := Ideal) x gw gb gt (ix2 t 0) = BitVec.ofNat 32 i.val →
      row (sc x gw gb gt) t (i2 (row (sc x gw gb gt) t)) = row (sc x gw gb gt) t i →
      bal2 x gw gb gt (ix2 t 0) = bal t (row (sc x gw gb gt)) i := fun i hi hv => by
    unfold bal2
    rw [weighted' t _ _ _ _ _ _ (hot' t _ _ hi), greatest', mx_cover, hv]
    unfold bal
    rw [← start_vec, ← final_vec (sc x gw gb gt) (rows x gw gb gt)]
    rfl
  by_cases h : Fine (row (sc x gw gb gt) t)
  · exact ⟨_, fun _ => rfl, key _ (place'_fine x gw gb gt t h) rfl⟩
  · have h' := (rows x gw gb gt t).resolve_left h
    exact ⟨0, fun f => absurd f h, key _ (place'_bot x gw gb gt t h') (by rw [h'])⟩

theorem divisor : both x gw gb gt (ix2 t 0) = bal1 x gw gb gt (ix2 t 0) + bal2 x gw gb gt (ix2 t 0) + eps := by
  unfold both k0_pay18
  pointwise
  rfl

theorem quotient (a b : FVec Ideal S4096x1 .f32) (y : S4096x1.Idx) : k0_pay19 (F := Ideal) a b y = Ideal.div (a y) (b y) := rfl
theorem quotient' (a b : FVec Ideal S4096x1 .f32) (y : S4096x1.Idx) : k0_pay20 (F := Ideal) a b y = Ideal.div (a y) (b y) := rfl

/-- The first coefficient stored. -/
theorem stored5 : k0_pay19 (F := Ideal) (bal1 x gw gb gt) (both x gw gb gt) (ix2 t 0) = coeff1 t (row (sc x gw gb gt)) := by
  obtain ⟨i, hi, h2⟩ := weighted_second x gw gb gt t
  rw [quotient, divisor, weighted_first, h2]
  by_cases h : Fine (row (sc x gw gb gt) t)
  · rw [hi h]; rfl
  · have h' := (rows x gw gb gt t).resolve_left h
    exact (coeff_of_bot t _ (rows x gw gb gt) h' _ _).1.trans (coeff_of_bot t _ (rows x gw gb gt) h' _ _).1.symm

/-- The second coefficient stored. -/
theorem stored6 : k0_pay20 (F := Ideal) (bal2 x gw gb gt) (both x gw gb gt) (ix2 t 0) = coeff2 t (row (sc x gw gb gt)) := by
  obtain ⟨i, hi, h2⟩ := weighted_second x gw gb gt t
  rw [quotient', divisor, weighted_first, h2]
  by_cases h : Fine (row (sc x gw gb gt) t)
  · rw [hi h]; rfl
  · have h' := (rows x gw gb gt t).resolve_left h
    exact (coeff_of_bot t _ (rows x gw gb gt) h' _ _).2.trans (coeff_of_bot t _ (rows x gw gb gt) h' _ _).2.symm

/-- The loss stored. -/
theorem stored4 : k0_pay10 (F := Ideal) columns (k0_pay4 (F := Ideal) x gw gb gt) (ix2 0 0) = loss (row (sc x gw gb gt)) := by
  unfold k0_pay10
  have h := fun t => hot t _ _ (place x gw gb gt t)
  revert h
  generalize k0_pay8 (F := Ideal) columns (k0_pay4 (F := Ideal) x gw gb gt) = o
  intro h
  pointwise
  simp only [h, Finset.univ_unique, Finset.sum_singleton]
  unfold loss RouterMath.count
  rw [← eighth]
  rfl

end Cert.Proof.RouterKernel

end
-- ==== Proof.RouterRef.lean ====
module

public import proofs.«01_k».proof.Defs
public import proofs.«01_k».proof.Proof.RouterMath
public import proofs.«01_k».proof.Proof.Gen.RouterRefIdeal.Run
public import Idealize.ShloMosaic.Lib.Pipeline.ValueKit
public import Idealize.ShloMosaic.Lib.Pointwise
public import Idealize.ShloMosaic.Lib.Tactic.CleanTypes
public import Idealize.ShloMosaic.Lib.Routing.Ops
public import Idealize.ShloMosaic.Lib.Routing.OpsPair

/-! # What the router's reference computes -/

@[expose] public section

noncomputable section

namespace Cert.Proof.RouterRef

open Idealize.ShloMosaic Idealize.ShloMosaic.TcCoe Idealize.SL.Sem
open Cert.RouterRefIdeal Cert.RouterRefIdeal.Gen Cert.RouterRefIdeal.Value Cert.Proof.RouterMath

variable (V0 : Valuation τ sig (Elt Ideal)) (t : Fin 4096)

/-- The tokens. -/
def arg0 : FVec Ideal S4096x768 .f32 := shapeCast S4096x768 (V0 (Proc.devRef .tc main_arg0)) shapeCasts_S2x2048x768_S4096x768
/-- The gate's weights. -/
def arg1 : FVec Ideal S768x8 .f32 := V0 (Proc.devRef .tc main_arg1)
/-- The gate's bias. -/
def arg2 : FVec Ideal S8 .f32 := V0 (Proc.devRef .tc main_arg2)
/-- The gate's temperature. -/
def arg3 : FVec Ideal S1 .f32 := V0 (Proc.devRef .tc main_arg3)

/-- A token's logits. -/
def logit (j : Fin 8) : EReal :=
  Ideal.div ((∑ i : Fin 768, arg0 V0 (ix2 t i) * arg1 V0 (ix2 i j)) + arg2 V0 (ix1 j)) (arg3 V0 (ix1 0))

theorem v7 (j : Fin 8) : (res_main_v7 V0 : FVec Ideal S4096x8 .f32) (ix2 t j) = logit V0 t j := by
  show Host.divf (addf (Host.dotGeneral dot_S4096x768_S768x8_S4096x8_1_0_0_1_n_n none (arg0 V0) (arg1 V0))
    (broadcastInDim S4096x8 ![0, 1] bcast_S1x8_S4096x8_0_1 (broadcastInDim S1x8 ![1] bcast_S8_S1x8_1 (arg2 V0))))
    (broadcastInDim S4096x8 ![0, 1] bcast_S1x1_S4096x8_0_1 (broadcastInDim S1x1 ![1] bcast_S1_S1x1_1 (arg3 V0))) (ix2 t j) = _
  pointwise
  rfl

theorem v14 (j : Fin 8) : (res_main_v14 V0 : FVec Ideal S4096x8 .f32) (ix2 t j) = Ideal.exp (logit V0 t j - mx (logit V0 t)) := by
  unfold res_main_v14
  clean_types
  pointwise
  simp only [v7]
  rw [max_eq_right (by rw [RouterMath.neg_inf]; exact bot_le)]
  rfl

/-- The reference's scores, by token. -/
abbrev scores (t : Fin 4096) (j : Fin 8) : EReal := (res_main_v18 V0 : FVec Ideal S4096x8 .f32) (ix2 t j)

theorem scores_eq : scores V0 t = soft (logit V0 t) := by
  funext j
  show res_main_v18 V0 (ix2 t j) = _
  unfold res_main_v18
  pointwise
  simp only [v14]
  rfl

theorem rows : Fine (scores V0 t) ∨ scores V0 t = fun _ => ⊥ := by
  rw [scores_eq]; exact soft_cases _

/-! ## The rounds -/

/-- Every score times its expert's weight. -/
def weigh (s : FVec Ideal S4096x8 .f32) (p : FVec Ideal S8 .f32) : FVec Ideal S4096x8 .f32 :=
  mulf s (broadcastInDim S4096x8 ![0, 1] bcast_S1x8_S4096x8_0_1 (broadcastInDim S1x8 ![1] bcast_S8_S1x8_1 p))

/-- Every token's row divided by its sum, added up over the tokens. -/
def collect (w : FVec Ideal S4096x8 .f32) : FVec Ideal S8 .f32 :=
  Host.reduceAdd (Host.divf w (broadcastInDim S4096x8 ![0, 1] bcast_S4096x1_S4096x8_0_1 (addf (broadcastInDim S4096x1 ![0]
    bcast_S4096_S4096x1_0 (Host.reduceAdd w (constant S_ .f32 0x00000000#32) reducesTo_S4096x8_S4096_d1 h_S_))
    (broadcastInDim S4096x1 ![] bcast_S_S4096x1 (constant S_ .f32 0x322BCC77#32))))) (constant S_ .f32 0x00000000#32)
    reducesTo_S4096x8_S8_d0 h_S_

/-- The counts divided by their total. -/
def share (g : FVec Ideal S8 .f32) : FVec Ideal S8 .f32 :=
  Host.divf g (broadcastInDim S8 ![] bcast_S_S8 (addf (Host.reduceAdd g (constant S_ .f32 0x00000000#32) reducesTo_S8_S_d0 h_S_)
    (constant S_ .f32 0x322BCC77#32)))

/-- Equal weights. -/
def equal : FVec Ideal S8 .f32 :=
  Host.divf (broadcastInDim S8 ![] bcast_S_S8 (constant S_ .f32 0x3F800000#32))
    (broadcastInDim S8 ![] bcast_S_S8 (constant S_ .f32 0x41000000#32))

/-- A vector of eight as a function. -/
abbrev vec (p : FVec Ideal S8 .f32) (j : Fin 8) : EReal := p (ix1 j)

theorem weigh_apply (s : FVec Ideal S4096x8 .f32) (p : FVec Ideal S8 .f32) (j : Fin 8) :
    weigh s p (ix2 t j) = s (ix2 t j) * p (ix1 j) := by
  unfold weigh
  pointwise

theorem collect_vec (s : FVec Ideal S4096x8 .f32) (p : FVec Ideal S8 .f32) :
    vec (collect (weigh s p)) = gather1 (fun t j => s (ix2 t j)) (vec p) := by
  funext j
  show collect (weigh s p) (ix1 j) = _
  unfold collect
  pointwise
  simp only [weigh_apply]
  rfl

theorem share_vec (g : FVec Ideal S8 .f32) : vec (share g) = norm (vec g) := by
  funext j
  show share g (ix1 j) = _
  unfold share
  pointwise
  rfl

theorem equal_vec : vec equal = fun _ => (((1 : ℝ) / 8 : ℝ) : EReal) := by
  funext j
  show equal (ix1 j) = _
  unfold equal
  pointwise
  rw [eight, show (1 : EReal) = ((1 : ℝ) : EReal) from rfl, div_coe _ _ (by norm_num)]

/-- The weights after the five rounds. -/
def final : FVec Ideal S8 .f32 := share (res_main_v116 V0)

/-! Each round's counts, from those of the round before. -/

theorem round1 : res_main_v60 V0 = collect (weigh (res_main_v18 V0) equal) := rfl
theorem round2 : res_main_v74 V0 = collect (weigh (res_main_v18 V0) (share (res_main_v60 V0))) := rfl
theorem round3 : res_main_v88 V0 = collect (weigh (res_main_v18 V0) (share (res_main_v74 V0))) := rfl
theorem round4 : res_main_v102 V0 = collect (weigh (res_main_v18 V0) (share (res_main_v88 V0))) := rfl
theorem round5 : res_main_v116 V0 = collect (weigh (res_main_v18 V0) (share (res_main_v102 V0))) := rfl

theorem final_vec : vec (final V0) = weights (scores V0) (fun _ => (((1 : ℝ) / 8 : ℝ) : EReal)) 5 := by
  unfold final
  rw [round5, round4, round3, round2, round1]
  simp only [share_vec, collect_vec, equal_vec, weights]

/-! ## The two places -/

/-- A token's two places. -/
abbrev places (k : Fin 2) : Fin 8 := ![i1 (scores V0 t), i2 (scores V0 t)] k

theorem along_row (i : Fin 8) (x : Fin 8) : (ix2 t i : S4096x8.Idx).along (1 : Fin 2) x = ix2 t x := by
  funext a
  match a with
  | ⟨0, _⟩ => rfl
  | ⟨1, _⟩ => rfl

theorem top (s : FVec Ideal S4096x8 .f32) (k : Fin 2) :
    (Host.topK S4096x2 1 (FloatOps.cmpfTotal .gt) s sliceFits_S4096x8_S4096x2).2 (ix2 t k)
      = BitVec.ofNat 32 (![i1 fun j => s (ix2 t j), i2 fun j => s (ix2 t j)] k : Fin 8).val := by
  refine Eq.trans ?_ (congrArg (fun i : Fin 8 => BitVec.ofNat 32 i.val) (sorted_two (fun j => s (ix2 t j)) k))
  unfold Host.topK Host.sort2
  simp only [dif_pos (show 1 < S4096x8.rank by decide)]
  pointwise
  simp only [along_row]
  rfl

theorem indices (k : Fin 2) : (res_main_indices V0 : IVec S4096x2 32) (ix2 t k) = BitVec.ofNat 32 (places V0 t k).val :=
  top t (res_main_v18 V0) k

theorem nat_lt (i : Fin 8) : (BitVec.ofNat 32 i.val).toNat < 2 ^ 31 := by
  revert i; decide

theorem wrapped (i : Fin 8) (a : BitVec 32) :
    Scalar.select (IntOp.cmpi .slt (BitVec.ofNat 32 i.val) 0#32) a (BitVec.ofNat 32 i.val) = BitVec.ofNat 32 i.val :=
  Routing.wrap_of_lt _ _ (nat_lt i)

theorem clipped : (res_main_v22 V0 : IVec S4096 32) (ix1 t) = BitVec.ofNat 32 (i1 (scores V0 t)).val := by
  unfold res_main_v22
  pointwise
  rw [indices]
  show IntOp.maxsi 0#32 (BitVec.ofNat 32 (i1 (scores V0 t)).val) = _
  generalize i1 (scores V0 t) = i
  revert i; decide

theorem positions (k : Fin 2) : (res_main_call1_v5 V0 : IVec S4096x2x1 32) (ix3 t k 0) = BitVec.ofNat 32 (places V0 t k).val := by
  unfold res_main_call1_v5
  pointwise
  rw [indices, wrapped]

/-! ## The coefficients -/

theorem fold_one {ι : Type} [DecidableEq ι] (s : Finset ι) (f : ι → BitVec 1) (h : ∀ x ∈ s, f x = 1#1) :
    Finset.fold IntOp.andi (1#1) f s = 1#1 := by
  induction s using Finset.induction_on with
  | empty => rfl
  | insert a s ha ih =>
    rw [Finset.fold_insert ha, ih fun x hx => h x (Finset.mem_insert_of_mem hx), h a (Finset.mem_insert_self a s)]
    rfl

theorem in_range (i : Fin 8) : IntOp.andi (IntOp.cmpi .sge (BitVec.ofNat 32 i.val) 0#32) (IntOp.cmpi .sle (BitVec.ofNat 32 i.val) 7#32) = 1#1 := by
  revert i; decide

/-- The pick along a row: the entry at the listed place. -/
theorem take (x : FVec Ideal S4096x8 .f32) (idx : IVec S4096x2x1 32) (k : Fin 2) (i : Fin 8) (h : idx (ix3 t k 0) = BitVec.ofNat 32 i.val) :
    Host.gather gather_S4096x8_S4096x2x1_S4096x2_n_1_0_0_1_2_11 x idx (ix2 t k) = x (ix2 t i) := by
  unfold Host.gather
  refine congrArg x (funext fun a => Fin.ext ?_)
  generalize hd : gather_S4096x8_S4096x2x1_S4096x2_n_1_0_0_1_2_11 = d
  show d.start (ix2 t k) idx a + d.batchCoord (ix2 t k) a + d.offCoord (ix2 t k) a = _
  subst hd
  obtain rfl | rfl : a = (0 : Fin 2) ∨ a = (1 : Fin 2) := by
    match a with
    | ⟨0, _⟩ => exact Or.inl rfl
    | ⟨1, _⟩ => exact Or.inr rfl
  · rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (show (0 : Fin 2) ∈ gather_S4096x8_S4096x2x1_S4096x2_n_1_0_0_1_2_11.operandBatchingDims from List.mem_singleton.mpr rfl)]
    simp only [Nat.zero_add, Nat.add_zero]
    rfl
  · rw [GatherDims.batchCoord_eq_zero _ _ _ (fun h => absurd (List.mem_singleton.1 h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S4096x8_S4096x2x1_S4096x2_n_1_0_0_1_2_11.startIndexMap from List.mem_singleton.mpr rfl)]
    have e : GatherDims.siIdx gather_S4096x8_S4096x2x1_S4096x2_n_1_0_0_1_2_11 (ix2 t k)
        ⟨List.idxOf (1 : Fin 2) [1], List.idxOf_lt_length_iff.2 (List.mem_singleton.mpr rfl)⟩ = ix3 t k 0 := by
      funext b
      refine Fin.ext ?_
      match b with
      | ⟨0, _⟩ => rfl
      | ⟨1, _⟩ => rfl
      | ⟨2, _⟩ => rfl
    refine (congrArg (fun z => min (idx z).toInt.toNat 7) e).trans ?_
    rw [h]
    exact (by decide : ∀ i : Fin 8, min (BitVec.ofNat 32 i.val).toInt.toNat 7 = i.val) i

theorem taken (k : Fin 2) : (res_main_v124 V0 : FVec Ideal S4096x2 .f32) (ix2 t k) = bal t (scores V0) (places V0 t k) := by
  unfold res_main_v124
  pointwise
  rw [fold_one _ _ fun x _ => ?_]
  · refine (if_pos rfl).trans ?_
    rw [take t _ _ k _ (positions V0 t k)]
    refine (weigh_apply t (res_main_v18 V0) (final V0) _).trans ?_
    unfold bal
    rw [← final_vec]
  · obtain ⟨a, b, c, rfl⟩ : ∃ (a : Fin 4096) (b : Fin 2) (c : Fin 1), x = ix3 a b c := ⟨x 0, x 1, x 2, eq_ix3 x⟩
    obtain rfl : c = 0 := Subsingleton.elim _ _
    rw [positions, in_range]

theorem quotient (k : Fin 2) : (res_main_v130 V0 : FVec Ideal S4096x2 .f32) (ix2 t k)
    = Ideal.div (bal t (scores V0) (places V0 t k)) (bal t (scores V0) (places V0 t 0) + bal t (scores V0) (places V0 t 1) + eps) := by
  unfold res_main_v130
  pointwise
  rw [Fin.sum_univ_two, taken, taken, taken]
  rfl

theorem first : (res_main_v130 V0 : FVec Ideal S4096x2 .f32) (ix2 t 0) = coeff1 t (scores V0) := quotient V0 t 0
theorem second : (res_main_v130 V0 : FVec Ideal S4096x2 .f32) (ix2 t 1) = coeff2 t (scores V0) := quotient V0 t 1

/-! ## The loss -/

/-- An update lands on the expert its index names. -/
theorem lands (idx : IVec S4096x1 32) (i e : Fin 8) (h : idx (ix2 t 0) = BitVec.ofNat 32 i.val) :
    scatter_S8_S4096x1_S4096_n_0_0_1.resultIdx? (ix1 t) idx = some (ix1 e) ↔ e = i := by
  refine (Routing.resultIdx?_ix1 _ _ _ _).trans ?_
  have hw : scatter_S8_S4096x1_S4096_n_0_0_1.window (ix1 t) 0 = 0 := by
    unfold ScatterDims.window
    rw [dif_neg fun h => (of_decide_eq_true (List.mem_filter.1 h).2) (List.mem_singleton.2 rfl)]
  have hs : scatter_S8_S4096x1_S4096_n_0_0_1.start (ix1 t) idx 0 = (idx (ix2 t 0)).toInt := by
    unfold ScatterDims.start
    rw [dif_pos (show (0 : Fin 1) ∈ scatter_S8_S4096x1_S4096_n_0_0_1.scatterDimsToOperandDims from List.mem_singleton.2 rfl)]
    refine congrArg (fun z => (idx z).toInt) (funext fun b => Fin.ext ?_)
    match b with
    | ⟨0, _⟩ => rfl
    | ⟨1, _⟩ => rfl
  rw [hw, hs, h]
  exact (by decide : ∀ i e : Fin 8, (BitVec.ofNat 32 i.val).toInt + ((0 : ℕ) : ℤ) = (e.val : ℤ) ↔ e = i) i e

theorem histogram (x0 : IVec S8 32) (hx : ∀ i, x0 i = 0#32) (idx : IVec S4096x1 32) (u : IVec S4096 32) (hu : ∀ i, u i = 1#32)
    (g : Fin 4096 → Fin 8) (hg : ∀ t, idx (ix2 t 0) = BitVec.ofNat 32 (g t).val) (e : Fin 8) :
    Host.scatter scatter_S8_S4096x1_S4096_n_0_0_1 IntOp.addi x0 idx u (ix1 e)
      = BitVec.ofNat 32 ((List.finRange 4096).countP fun t => decide (e = g t)) := by
  unfold Host.scatter
  refine (Routing.foldl_count _ (ix1 e) (fun n => decide (e = g (n.cast (Routing.numel1 4096)))) (fun r n => ?_) _ x0 0 (hx _)).trans ?_
  · rw [show S4096.rowMajor.symm n = ix1 (n.cast (Routing.numel1 4096)) from Routing.symm1 n]
    have hi := lands (n.cast (Routing.numel1 4096)) idx _ e (hg _)
    generalize scatter_S8_S4096x1_S4096_n_0_0_1.resultIdx? (ix1 (n.cast (Routing.numel1 4096))) idx = o at hi ⊢
    cases o with
    | none =>
      dsimp only
      rw [if_neg fun h => by have := hi.2 (of_decide_eq_true h); cases this]
    | some k =>
      dsimp only
      by_cases h : e = g (n.cast (Routing.numel1 4096))
      · have hk : k = ix1 e := Option.some.inj (hi.2 h)
        rw [hk, if_pos rfl, hu, if_pos (decide_eq_true h)]
      · rw [if_neg fun h' : ix1 e = k => h (hi.1 (congrArg some h'.symm)), if_neg fun h' => h (of_decide_eq_true h')]
  · rw [Nat.zero_add]
    refine congrArg _ ?_
    have key : ∀ (N M : ℕ) (h : N = M) (f : Fin M → Bool),
        (List.finRange N).countP (fun n => f (n.cast h)) = (List.finRange M).countP f := by
      rintro N _ rfl f; rfl
    exact key _ _ (Routing.numel1 4096) fun t => decide (e = g t)

theorem count_real (S : Fin 4096 → Fin 8 → EReal) (j : Fin 8) :
    (FloatOps.sitofp (F := Ideal) .f32 (BitVec.ofNat 32 ((List.finRange 4096).countP fun t => decide (j = i1 (S t)))) : EReal)
      = count S j := by
  have hle : (List.finRange 4096).countP (fun t => decide (j = i1 (S t))) ≤ 4096 :=
    List.countP_le_length.trans (by rw [List.length_finRange])
  have hc : (List.finRange 4096).countP (fun t => decide (j = i1 (S t))) = (Finset.univ.filter fun t => j = i1 (S t)).card := by
    rw [List.countP_eq_length_filter]
    rfl
  show (((BitVec.ofNat 32 _).toInt : ℝ) : EReal) = _
  rw [StableHlo.Predicate.toInt_ofNat_small _ (by omega), hc]
  unfold RouterMath.count
  rw [Finset.sum_ite, Finset.sum_const_zero, add_zero, Finset.sum_const]
  simp

theorem usage (j : Fin 8) : (res_main_v35 V0 : FVec Ideal S8 .f32) (ix1 j)
    = Ideal.div (count (scores V0) j) (Ideal.ofBits .f32 0x45800000#32) + eps := by
  unfold res_main_v35
  pointwise
  rw [histogram _ (fun i => by pointwise) _ _ (fun i => by pointwise) (fun t => i1 (scores V0 t)) (fun t => by
    pointwise
    rw [clipped, wrapped]) j, count_real]

theorem uniform (j : Fin 8) : (res_main_v41 V0 : FVec Ideal S8 .f32) (ix1 j) = (((1 : ℝ) / 8 : ℝ) : EReal) :=
  congrFun equal_vec j

end Cert.Proof.RouterRef

end
-- ==== Proof.RouterCounts.lean ====
module

public import proofs.«01_k».proof.Proof.RouterMath
public import Idealize.ShloMosaic.Lib.StableHlo.Predicate

/-! # Counting the choices

Every token has a first and a second choice among the eight experts. The choices of one expert are laid in order, the first
choices before the second ones, each expert's group begins at a multiple of 256, and the position of a choice is where it
lies. Here the positions are natural numbers, with no program in sight. -/

@[expose] public section

noncomputable section

namespace Cert.Proof.RouterCounts

open Idealize.ShloMosaic

/-- One where token `n` chooses `j`. -/
def ind (a : Fin 4096 → Fin 8) (j : Fin 8) (n : ℕ) : ℕ := if h : n < 4096 then (if j = a ⟨n, h⟩ then 1 else 0) else 0

/-- How many tokens before `n` choose `j`. -/
def upto (a : Fin 4096 → Fin 8) (j : Fin 8) (n : ℕ) : ℕ := ∑ i ∈ Finset.range n, ind a j i

/-- The room of an expert's group: its choices in both lists, rounded up to a multiple of 256. -/
def room (a b : Fin 4096 → Fin 8) (j : Fin 8) : ℕ := (upto a j 4096 + upto b j 4096 + 255) / 256 * 256

/-- Where an expert's group begins. -/
def start (a b : Fin 4096 → Fin 8) (j : Fin 8) : ℕ := ∑ i : Fin 8, if i < j then room a b i else 0

/-- Where a token's first choice lies. -/
def spot1 (a b : Fin 4096 → Fin 8) (t : Fin 4096) : ℕ := start a b (a t) + upto a (a t) t

/-- Where its second choice lies. -/
def spot2 (a b : Fin 4096 → Fin 8) (t : Fin 4096) : ℕ := start a b (b t) + (upto b (b t) t + upto a (b t) 4096)

theorem ind_at (a : Fin 4096 → Fin 8) (j : Fin 8) (t : Fin 4096) : ind a j t = if j = a t then 1 else 0 := by
  unfold ind; rw [dif_pos t.isLt]

theorem ind_le (a : Fin 4096 → Fin 8) (j : Fin 8) (n : ℕ) : ind a j n ≤ 1 := by
  unfold ind
  split
  · split <;> omega
  · omega

theorem upto_le (a : Fin 4096 → Fin 8) (j : Fin 8) (n : ℕ) : upto a j n ≤ n := by
  unfold upto
  refine (Finset.sum_le_sum fun i _ => ind_le a j i).trans ?_
  simp

theorem upto_succ (a : Fin 4096 → Fin 8) (j : Fin 8) (n : ℕ) : upto a j (n + 1) = upto a j n + ind a j n := Finset.sum_range_succ _ _

/-- All the choices of an expert, counted over the tokens. -/
theorem upto_all (a : Fin 4096 → Fin 8) (j : Fin 8) : upto a j 4096 = ∑ t : Fin 4096, if j = a t then 1 else 0 := by
  unfold upto
  rw [Finset.sum_range]
  exact Finset.sum_congr rfl fun t _ => ind_at a j t

/-- The ones before a token, counted over the tokens. -/
theorem upto_before (a : Fin 4096 → Fin 8) (j : Fin 8) (t : Fin 4096) :
    upto a j t = ∑ r : Fin 4096, if j = a r ∧ r < t then 1 else 0 := by
  have e : upto a j t = ∑ i ∈ Finset.range 4096, if i < t.val then ind a j i else 0 := by
    unfold upto
    rw [← Finset.sum_filter]
    refine Finset.sum_congr (Finset.ext fun i => ?_) fun _ _ => rfl
    simp only [Finset.mem_range, Finset.mem_filter]
    have := t.isLt
    omega
  rw [e, Finset.sum_range]
  refine Finset.sum_congr rfl fun r _ => ?_
  rw [ind_at]
  by_cases h1 : r < t
  · rw [if_pos (show r.val < t.val from h1)]; simp [h1]
  · rw [if_neg (show ¬ r.val < t.val from h1)]; simp [h1]

theorem room_le (a b : Fin 4096 → Fin 8) (j : Fin 8) : room a b j ≤ 8447 := by
  have h1 := upto_le a j 4096
  have h2 := upto_le b j 4096
  unfold room
  omega

theorem start_le (a b : Fin 4096 → Fin 8) (j : Fin 8) : start a b j ≤ 67576 := by
  unfold start
  refine (Finset.sum_le_sum (g := fun _ => 8447) fun i _ => ?_).trans (by simp)
  split
  · exact room_le a b i
  · omega

theorem spot1_lt (a b : Fin 4096 → Fin 8) (t : Fin 4096) : spot1 a b t < 2 ^ 31 := by
  have h1 := start_le a b (a t)
  have h2 := upto_le a (a t) t
  have := t.isLt
  unfold spot1
  omega

theorem spot2_lt (a b : Fin 4096 → Fin 8) (t : Fin 4096) : spot2 a b t < 2 ^ 31 := by
  have h1 := start_le a b (b t)
  have h2 := upto_le b (b t) t
  have h3 := upto_le a (b t) 4096
  have := t.isLt
  unfold spot2
  omega

/-! ## Natural numbers among the extended reals -/

theorem cast_real (n : ℕ) : ((n : ℕ) : EReal) = ((n : ℝ) : EReal) := rfl

theorem cast_sum {ι : Type} [Fintype ι] (f : ι → ℕ) : ∑ i, ((f i : ℕ) : EReal) = ((∑ i, f i : ℕ) : EReal) := by
  exact (Nat.cast_sum _ _).symm

theorem cast_mul (a b : ℕ) : ((a : ℕ) : EReal) * ((b : ℕ) : EReal) = ((a * b : ℕ) : EReal) := by
  exact (EReal.natCast_mul a b).symm

theorem cast_add (a b : ℕ) : ((a : ℕ) : EReal) + ((b : ℕ) : EReal) = ((a + b : ℕ) : EReal) := by
  exact (Nat.cast_add a b).symm

theorem cast_ite (p : Prop) [Decidable p] : (if p then (1 : EReal) else 0) = (((if p then 1 else 0 : ℕ)) : EReal) := by
  split <;> simp

/-- One less. -/
theorem cast_pred (n : ℕ) : ((n + 1 : ℕ) : EReal) - 1 = ((n : ℕ) : EReal) := by
  rw [cast_real, cast_real, ← EReal.coe_one, ← EReal.coe_sub]
  refine congrArg _ ?_
  push_cast
  ring

/-- The number of blocks of 256, from a quotient rounded up. -/
theorem blocks (n : ℕ) : Ideal.liftRound Int.ceil (Ideal.div ((n : ℕ) : EReal) ((256 : ℝ) : EReal)) = (((n + 255) / 256 : ℕ) : EReal) := by
  rw [Ideal.div_coe (by norm_num), cast_real, ← EReal.coe_mul, Ideal.liftRound_coe, cast_real]
  refine congrArg _ ?_
  have h1 : (n + 255) / 256 * 256 ≤ n + 255 := Nat.div_mul_le_self _ _
  have h2 : n ≤ (n + 255) / 256 * 256 := by omega
  generalize (n + 255) / 256 = q at h1 h2 ⊢
  have h1' : (q : ℝ) * 256 ≤ n + 255 := by exact_mod_cast h1
  have h2' : (n : ℝ) ≤ q * 256 := by exact_mod_cast h2
  have : ⌈(n : ℝ) * (1 / 256)⌉ = (q : ℤ) := by
    rw [Int.ceil_eq_iff]
    constructor
    · push_cast; linarith
    · push_cast; linarith
  rw [this]
  simp

/-- A small natural number among the reals, as a word. -/
theorem word (n : ℕ) (h : n < 2 ^ 31) : Ideal.fptosi 32 ((n : ℕ) : EReal) = BitVec.ofNat 32 n := by
  rw [Ideal.fptosi, cast_real, Ideal.toIntClamped_coe, if_pos (by positivity)]
  rw [show ⌊(n : ℝ)⌋ = (n : ℤ) from Int.floor_natCast n]
  rw [show max (-((2 ^ (32 - 1) : ℕ) : ℤ)) (min (((2 ^ (32 - 1) : ℕ) : ℤ) - 1) (n : ℤ)) = (n : ℤ) by omega]
  exact BitVec.ofInt_natCast 32 n

/-- A bit widened to a word and read as a number. -/
theorem bit (p : Prop) [Decidable p] (w : BitVec 1) (h : w = 1#1 ↔ p) :
    (FloatOps.sitofp (F := Ideal) .f32 (BitVec.setWidth 32 w) : EReal) = (((if p then 1 else 0 : ℕ)) : EReal) := by
  by_cases hp : p
  · rw [h.2 hp, if_pos hp]
    show (((BitVec.setWidth 32 1#1).toInt : ℝ) : EReal) = _
    norm_num
  · have : w = 0#1 := (BitVec.eq_zero_or_eq_one w).resolve_right fun e => hp (h.1 e)
    rw [this, if_neg hp]
    show (((BitVec.setWidth 32 0#1).toInt : ℝ) : EReal) = _
    norm_num

/-- A sum that keeps only one term. -/
theorem pick (f : Fin 8 → ℕ) (i : Fin 8) : ∑ j, (if j = i then 1 else 0) * f j = f i := by
  simp

/-- A row's terms up to and including place `r`. -/
theorem below (f : ℕ → ℕ) (r : Fin 512) : ∑ i : Fin 512, (if i.val ≤ r.val then 1 else 0) * f i = ∑ i ∈ Finset.range (r.val + 1), f i := by
  have e : ∑ i ∈ Finset.range (r.val + 1), f i = ∑ i ∈ Finset.range 512, (if i ≤ r.val then 1 else 0) * f i := by
    simp only [ite_mul, one_mul, zero_mul]
    rw [← Finset.sum_filter]
    refine Finset.sum_congr (Finset.ext fun i => ?_) fun _ _ => rfl
    simp only [Finset.mem_range, Finset.mem_filter]
    have := r.isLt
    omega
  rw [e, Finset.sum_range]

/-! ## The two lists as one -/

/-- The first choices, then the second ones. -/
def pair (a b : Fin 4096 → Fin 8) (q : Fin 8192) : Fin 8 :=
  if h : q.val < 4096 then a ⟨q.val, h⟩ else b ⟨q.val - 4096, by omega⟩

/-- A first choice's place in the list. -/
abbrev lo (t : Fin 4096) : Fin 8192 := ⟨t.val, by omega⟩
/-- A second choice's. -/
abbrev hi (t : Fin 4096) : Fin 8192 := ⟨4096 + t.val, by omega⟩

theorem pair_lo (a b : Fin 4096 → Fin 8) (t : Fin 4096) : pair a b (lo t) = a t := by
  unfold pair; rw [dif_pos t.isLt]

theorem pair_hi (a b : Fin 4096 → Fin 8) (t : Fin 4096) : pair a b (hi t) = b t := by
  unfold pair
  rw [dif_neg (show ¬ 4096 + t.val < 4096 by omega)]
  exact congrArg b (Fin.ext (Nat.add_sub_cancel_left 4096 t.val))

theorem halves (f : Fin 8192 → ℕ) : ∑ q, f q = (∑ t, f (lo t)) + ∑ t, f (hi t) := Fin.sum_univ_add (a := 4096) (b := 4096) f

theorem pair_all (a b : Fin 4096 → Fin 8) (j : Fin 8) :
    (∑ q : Fin 8192, if pair a b q = j then 1 else 0) = upto a j 4096 + upto b j 4096 := by
  rw [halves, upto_all, upto_all]
  simp only [pair_lo, pair_hi, eq_comm]

theorem pair_lo_before (a b : Fin 4096 → Fin 8) (t : Fin 4096) :
    (∑ q : Fin 8192, if pair a b (lo t) = pair a b q ∧ q < lo t then 1 else 0) = upto a (a t) t := by
  rw [halves, upto_before]
  simp only [pair_lo, pair_hi]
  have h : ∀ r : Fin 4096, ¬ hi r < lo t := fun r h => by
    have : 4096 + r.val < t.val := h
    omega
  simp only [h, and_false, if_false, Finset.sum_const_zero, add_zero]
  rfl

theorem pair_hi_before (a b : Fin 4096 → Fin 8) (t : Fin 4096) :
    (∑ q : Fin 8192, if pair a b (hi t) = pair a b q ∧ q < hi t then 1 else 0) = upto b (b t) t + upto a (b t) 4096 := by
  rw [halves, upto_before, upto_all, add_comm]
  simp only [pair_lo, pair_hi]
  have h : ∀ r : Fin 4096, lo r < hi t := fun r => show r.val < 4096 + t.val by omega
  have h' : ∀ r : Fin 4096, hi r < hi t ↔ r < t := fun r => by
    show 4096 + r.val < 4096 + t.val ↔ r.val < t.val
    omega
  simp only [h, h', and_true]

/-! ## Words -/

/-- Words that are natural numbers add up to the word of the sum. -/
theorem fold_word {ι : Type} (s : Finset ι) (f : ι → ℕ) :
    Finset.fold IntOp.addi (0#32) (fun i => BitVec.ofNat 32 (f i)) s = BitVec.ofNat 32 (∑ i ∈ s, f i) := by
  classical
  induction s using Finset.induction_on with
  | empty => rfl
  | insert a s ha ih =>
    rw [Finset.fold_insert ha, ih, Finset.sum_insert ha]
    exact (BitVec.ofNat_add _ _).symm

/-- A bit widened to a word. -/
theorem bit_word (p : Prop) [Decidable p] (w : BitVec 1) (h : w = 1#1 ↔ p) :
    BitVec.setWidth 32 w = BitVec.ofNat 32 (if p then 1 else 0) := by
  by_cases hp : p
  · rw [h.2 hp, if_pos hp]; rfl
  · rw [(BitVec.eq_zero_or_eq_one w).resolve_right fun e => hp (h.1 e), if_neg hp]; rfl

/-- A small word over 256. -/
theorem over (u : ArithUnit) (n : ℕ) (h : n < 2 ^ 31) : IntOp.divsi u (BitVec.ofNat 32 n) 256#32 = BitVec.ofNat 32 (n / 256) := by
  have hcorner : ¬ IntOp.SDivCorner (BitVec.ofNat 32 n) 256#32 := by
    intro hc; rcases hc with hc | ⟨_, hc⟩ <;> exact absurd hc (by decide)
  have hm : (BitVec.ofNat 32 n).msb = false := BitVec.msb_eq_false_iff_two_mul_lt.mpr (by rw [BitVec.toNat_ofNat]; omega)
  apply BitVec.eq_of_toNat_eq
  simp only [IntOp.divsi, if_neg hcorner, BitVec.sdiv_eq, hm, show (256#32 : BitVec 32).msb = false from by decide, BitVec.udiv_eq,
    BitVec.toNat_udiv, BitVec.toNat_ofNat]
  rw [show 256 % 2 ^ 32 = 256 from rfl, Nat.mod_eq_of_lt (show n < 2 ^ 32 by omega), Nat.mod_eq_of_lt (show n / 256 < 2 ^ 32 by omega)]

/-! ## The two choices, of the scores -/

/-- The first choices: the best. -/
abbrev one (s : Fin 4096 → Fin 8 → EReal) (t : Fin 4096) : Fin 8 := RouterMath.i1 (s t)
/-- The second ones: the best with the first covered. -/
abbrev two (s : Fin 4096 → Fin 8 → EReal) (t : Fin 4096) : Fin 8 := RouterMath.i1 (RouterMath.cover (s t))

end Cert.Proof.RouterCounts

end
-- ==== Proof.RouterSpots.lean ====
module

public import proofs.«01_k».proof.Proof.RouterKernel
public import proofs.«01_k».proof.Proof.RouterCounts

/-! # The positions the kernel stores

The kernel lays its two one-hot tables side by side and walks down them in eight slabs of 512 tokens, carrying the column
sums of the slabs above. A slab's inclusive counts are one product with a lower triangle; kept where a token has its one and
summed over the columns they are, less one, the number of earlier tokens with the same choice. -/

@[expose] public section

noncomputable section

namespace Cert.Proof.RouterSpots

open Idealize.ShloMosaic Idealize.ShloMosaic.TcCoe Idealize.SL.Sem
open Cert.RouterIdeal Cert.RouterIdeal.Gen Cert.Proof.RouterMath Cert.Proof.RouterCounts

/-! ## The walk, on the kernel's vectors -/

/-- The rows of a slab. -/
def slab (o : FVec Ideal S4096x16 .f32) (k : Fin 8) : FVec Ideal S512x16 .f32 := fun i =>
  o (ix2 ⟨512 * k.val + (i 0).val, by have h : (i 0).val < 512 := (i 0).isLt; have := k.isLt; omega⟩ (i 1))

/-- The column sums carried on past a slab. -/
def grow (b : FVec Ideal S1x16 .f32) (s : FVec Ideal S512x16 .f32) : FVec Ideal S1x16 .f32 :=
  addf b (shapeCast S1x16 (multiReduction .add [0] S16 s 0x00000000#32 reduces_S512x16_S16 (.inl rfl) rfl) shapeCasts_S16_S1x16)

/-- A slab's inclusive counts where it has ones. -/
def run (s : FVec Ideal S512x16 .f32) (b : FVec Ideal S1x16 .f32) : FVec Ideal S512x16 .f32 :=
  mulf s (addf (matmul dot_S512x512_S512x16_S512x16_1_0_0_1_n_n none (k0_pay23 (F := Ideal)) s (constant S512x16 .f32 0x00000000#32))
    (broadcastTo S512x16 b broadcasts_S1x16_S512x16))

/-- The first list's share of the counts, less one. -/
def left (v : FVec Ideal S512x16 .f32) : FVec Ideal S512x1 .f32 :=
  subf (shapeCast S512x1 (multiReduction .add [1] S512 (extractStridedSlice S512x8 ![0, 0] v slices_S512x16_o0_0_S512x8) 0x00000000#32
    reduces_S512x8_S512 (.inl rfl) rfl) shapeCasts_S512_S512x1) (broadcast S512x1 (Scalar.ofBits .f32 0x3F800000#32))

/-- The second list's. -/
def right (v : FVec Ideal S512x16 .f32) : FVec Ideal S512x1 .f32 :=
  subf (shapeCast S512x1 (multiReduction .add [1] S512 (extractStridedSlice S512x8 ![0, 8] v slices_S512x16_o0_8_S512x8) 0x00000000#32
    reduces_S512x8_S512 (.inl rfl) rfl) shapeCasts_S512_S512x1) (broadcast S512x1 (Scalar.ofBits .f32 0x3F800000#32))

/-- The sums above slab `k`. -/
def base (o : FVec Ideal S4096x16 .f32) : ℕ → FVec Ideal S1x16 .f32
  | 0 => k0_pay25 (F := Ideal)
  | k + 1 => if h : k < 8 then grow (base o k) (slab o ⟨k, h⟩) else base o k

theorem base_succ (o : FVec Ideal S4096x16 .f32) (k : Fin 8) : base o (k.val + 1) = grow (base o k.val) (slab o k) := by
  show (if h : k.val < 8 then grow (base o k.val) (slab o ⟨k.val, h⟩) else base o k.val) = _
  rw [dif_pos k.isLt]

/-- A slice of 512 rows is a slab. -/
theorem slice (o : FVec Ideal S4096x16 .f32) (off : ℕ) (k : Fin 8) (e : off = 512 * k.val) (h : S4096x16.Slices ![off, 0] S512x16) :
    extractStridedSlice S512x16 ![off, 0] o h = slab o k := by
  subst e
  funext i
  unfold extractStridedSlice slab
  refine congrArg o ?_
  funext a
  match a with
  | ⟨0, _⟩ => rfl
  | ⟨1, _⟩ => exact Fin.ext (Nat.zero_add _)

/-! ## Its values -/

section
variable (o : FVec Ideal S4096x16 .f32) (g : Fin 16 → ℕ → ℕ) (hg : ∀ (t : Fin 4096) (c : Fin 16), o (ix2 t c) = ((g c t : ℕ) : EReal))
include hg

theorem slab_at (k : Fin 8) (r : Fin 512) (c : Fin 16) : slab o k (ix2 r c) = ((g c (512 * k.val + r.val) : ℕ) : EReal) := hg _ _

theorem base_at (k : ℕ) (hk : k ≤ 8) (c : Fin 16) : base o k (ix2 0 c) = ((∑ i ∈ Finset.range (512 * k), g c i : ℕ) : EReal) := by
  induction k with
  | zero =>
    show k0_pay25 (F := Ideal) (ix2 0 c) = _
    unfold k0_pay25
    pointwise
    simp
  | succ k ih =>
    rw [base_succ o ⟨k, by omega⟩]
    show grow (base o k) (slab o ⟨k, _⟩) (ix2 0 c) = _
    unfold grow
    have hs := slab_at o g hg ⟨k, by omega⟩
    revert hs
    generalize slab o ⟨k, _⟩ = s
    intro hs
    pointwise
    rw [ih (by omega)]
    simp only [hs]
    rw [cast_sum, cast_add, Nat.mul_succ, Finset.sum_range_add]
    rw [Finset.sum_range (fun x => g c (512 * k + x))]

theorem triangle (r i : Fin 512) : k0_pay23 (F := Ideal) (ix2 r i) = (((if i.val ≤ r.val then 1 else 0 : ℕ)) : EReal) := by
  have e := bit (i.val ≤ r.val) (IntOp.cmpi .sge (BitVec.ofNat 32 r.val) (BitVec.ofNat 32 i.val)) (by
    unfold IntOp.cmpi
    have := r.isLt
    have := i.isLt
    exact StableHlo.Predicate.sle_ofNat_iff _ _ (by omega) (by omega))
  rw [← e]
  unfold k0_pay23
  pointwise

theorem run_at (k : Fin 8) (r : Fin 512) (c : Fin 16) : run (slab o k) (base o k.val) (ix2 r c)
    = ((g c (512 * k.val + r.val) * ∑ i ∈ Finset.range (512 * k.val + r.val + 1), g c i : ℕ) : EReal) := by
  have hs := slab_at o g hg k
  have hb := base_at o g hg k.val (by have := k.isLt; omega)
  have ht := triangle o g hg
  unfold run
  revert hs hb ht
  generalize slab o k = s
  generalize base o k.val = b
  generalize k0_pay23 (F := Ideal) = d
  intro hs hb ht
  pointwise
  simp only [hs, hb, ht, cast_mul]
  rw [cast_sum, cast_add, cast_mul, below (fun i => g c (512 * k.val + i)), add_assoc (512 * k.val),
    Finset.sum_range_add (fun i => g c i) (512 * k.val) (r.val + 1), add_comm (∑ i ∈ Finset.range (512 * k.val), g c i)]

end

/-! ## The two halves, of one-hot rows -/

section
variable (a b : Fin 4096 → Fin 8)

/-- The two lists' indicators, side by side. -/
def sides (c : Fin 16) (n : ℕ) : ℕ := if h : c.val < 8 then ind a ⟨c.val, h⟩ n else ind b ⟨c.val - 8, by omega⟩ n

variable (o : FVec Ideal S4096x16 .f32) (ho : ∀ (t : Fin 4096) (c : Fin 16), o (ix2 t c) = ((sides a b c t : ℕ) : EReal))

theorem gather (f : Fin 8 → ℕ) (i : Fin 8) : ∑ j : Fin 8, (((if j = i then 1 else 0) * f j : ℕ) : EReal) = ((f i : ℕ) : EReal) := by
  rw [cast_sum, RouterCounts.pick]

include ho

theorem left_at (k : Fin 8) (r : Fin 512) (t : Fin 4096) (e : t.val = 512 * k.val + r.val) :
    left (run (slab o k) (base o k.val)) (ix2 r 0) = ((upto a (a t) t : ℕ) : EReal) := by
  have h := fun c => run_at o (sides a b) ho k r c
  unfold left
  revert h
  generalize run (slab o k) (base o k.val) = v
  intro h
  pointwise
  have h' : ∀ j : Fin 8, v (ix2 r ⟨j.val, by omega⟩) = (((if j = a t then 1 else 0) * upto a j (t.val + 1) : ℕ) : EReal) := fun j => by
    rw [h, ← e, ← ind_at]
    have hs : sides a b ⟨j.val, by omega⟩ = ind a j := by
      funext n
      unfold sides
      rw [dif_pos (show (⟨j.val, by omega⟩ : Fin 16).val < 8 from j.isLt)]
    rw [hs]
    rfl
  rw [Finset.sum_congr rfl fun j _ => h' j]
  rw [gather, upto_succ, ind_at, if_pos rfl, cast_pred]

theorem right_at (k : Fin 8) (r : Fin 512) (t : Fin 4096) (e : t.val = 512 * k.val + r.val) :
    right (run (slab o k) (base o k.val)) (ix2 r 0) = ((upto b (b t) t : ℕ) : EReal) := by
  have h := fun c => run_at o (sides a b) ho k r c
  unfold right
  revert h
  generalize run (slab o k) (base o k.val) = v
  intro h
  pointwise
  have h' : ∀ j : Fin 8, v (ix2 r ⟨8 + j.val, by omega⟩) = (((if j = b t then 1 else 0) * upto b j (t.val + 1) : ℕ) : EReal) := fun j => by
    rw [h, ← e, ← ind_at]
    have hs : sides a b ⟨8 + j.val, by omega⟩ = ind b j := by
      funext n
      unfold sides
      rw [dif_neg (show ¬ (⟨8 + j.val, by omega⟩ : Fin 16).val < 8 from by simp)]
      exact congrArg (fun x => ind b x n) (Fin.ext (Nat.add_sub_cancel_left 8 j.val))
    rw [hs]
    rfl
  rw [Finset.sum_congr rfl fun j _ => h' j]
  rw [gather, upto_succ, ind_at, if_pos rfl, cast_pred]

/-- Eight columns of 512, one under another. -/
def stack (f : Fin 8 → FVec Ideal S512x1 .f32) : FVec Ideal S4096x1 .f32 :=
  concatenate S4096x1 0 [⟨S512x1, f 0⟩, ⟨S512x1, f 1⟩, ⟨S512x1, f 2⟩, ⟨S512x1, f 3⟩, ⟨S512x1, f 4⟩, ⟨S512x1, f 5⟩, ⟨S512x1, f 6⟩, ⟨S512x1, f 7⟩]
    concatenates_S512x1_S512x1_S512x1_S512x1_S512x1_S512x1_S512x1_S512x1_S4096x1_d0

omit ho in
theorem stack_at (f : Fin 8 → FVec Ideal S512x1 .f32) (k : Fin 8) (r : Fin 512) (t : Fin 4096) (e : t.val = 512 * k.val + r.val) :
    stack f (ix2 t 0) = f k (ix2 r 0) := by
  refine concatenate_ofFn_apply (s₁ := S512x1) (0 : Fin S4096x1.rank) f _ rfl 512 rfl (ix2 t 0) k ?_ (ix2 r 0) ?_ ?_
  · show t.val / 512 = k.val
    omega
  · show r.val = t.val % 512
    omega
  · intro x hx
    match x with
    | ⟨0, _⟩ => exact absurd rfl hx
    | ⟨1, _⟩ => rfl

omit ho in
theorem split (t : Fin 4096) : ∃ (k : Fin 8) (r : Fin 512), t.val = 512 * k.val + r.val :=
  ⟨⟨t.val / 512, by omega⟩, ⟨t.val % 512, by omega⟩, by show t.val = 512 * (t.val / 512) + t.val % 512; omega⟩

/-- How many tokens before it made a token's first choice, as the kernel counts them. -/
theorem lefts_at (t : Fin 4096) : stack (fun k => left (run (slab o k) (base o k.val))) (ix2 t 0) = ((upto a (a t) t : ℕ) : EReal) := by
  obtain ⟨k, r, e⟩ := split t
  rw [stack_at _ k r t e, left_at a b o ho k r t e]

/-- The same of the second choice. -/
theorem rights_at (t : Fin 4096) : stack (fun k => right (run (slab o k) (base o k.val))) (ix2 t 0) = ((upto b (b t) t : ℕ) : EReal) := by
  obtain ⟨k, r, e⟩ := split t
  rw [stack_at _ k r t e, right_at a b o ho k r t e]

end

/-! ## The groups -/

section
variable (a b : Fin 4096 → Fin 8) (p q : FVec Ideal S4096x8 .f32)
  (hp : ∀ t j, p (ix2 t j) = if j = a t then (1 : EReal) else 0) (hq : ∀ t j, q (ix2 t j) = if j = b t then (1 : EReal) else 0)

include hp in
theorem counts_at (j : Fin 8) : k0_pay21 (F := Ideal) p (ix2 0 j) = ((upto a j 4096 : ℕ) : EReal) := by
  unfold k0_pay21
  pointwise
  simp only [hp, cast_ite]
  rw [cast_sum, upto_all]

/-- Two hundred and fifty-six, as the kernel writes it. -/
theorem block : Ideal.ofBits .f32 1132462080#32 = ((256 : ℝ) : EReal) := by
  simp [Ideal.ofBits, Ideal.ieee]; norm_num [← EReal.coe_mul]

theorem earlier (i j : Fin 8) :
    (FloatOps.sitofp (F := Ideal) .f32 (BitVec.setWidth 32 (IntOp.cmpi .slt (BitVec.ofNat 32 i.val) (BitVec.ofNat 32 j.val))) : EReal)
      = (((if i < j then 1 else 0 : ℕ)) : EReal) :=
  bit (i < j) _ (by
    unfold IntOp.cmpi
    exact StableHlo.Predicate.slt_ofNat_iff _ _ (by omega) (by omega))

include hp hq in
theorem starts_at (j : Fin 8) : k0_pay22 (F := Ideal) p q (ix2 0 j) = ((start a b j : ℕ) : EReal) := by
  have h1 := counts_at a p hp
  unfold k0_pay22
  revert h1
  generalize k0_pay21 (F := Ideal) p = u
  intro h1
  pointwise
  simp only [hq, h1, cast_ite, earlier, block]
  simp only [cast_sum, cast_add, ← upto_all, blocks]
  rw [show ((256 : ℝ) : EReal) = ((256 : ℕ) : EReal) from congrArg _ (by norm_num)]
  simp only [cast_mul, cast_sum]
  refine congrArg _ ?_
  unfold start room
  refine Finset.sum_congr rfl fun i _ => ?_
  split <;> simp

include hp hq in
theorem both_at (t : Fin 4096) (c : Fin 16) : k0_pay24 (F := Ideal) p q (ix2 t c) = ((sides a b c t : ℕ) : EReal) := by
  unfold k0_pay24 sides
  pointwise
  split
  · rw [hp, ind_at, cast_ite]
  · rw [hq, ind_at, cast_ite]

include hp hq in
/-- How many tokens chose first what a token chooses second. -/
theorem further (t : Fin 4096) : k0_pay62 (F := Ideal) q (k0_pay21 p) (ix2 t 0) = ((upto a (b t) 4096 : ℕ) : EReal) := by
  have h := counts_at a p hp
  unfold k0_pay62
  revert h
  generalize k0_pay21 (F := Ideal) p = u
  intro h
  pointwise
  simp only [hq, h]
  rw [RouterMath.pick (fun j => ((upto a j 4096 : ℕ) : EReal))]

/-! ## What is stored -/

include hp hq in
theorem group1 (t : Fin 4096) : k0_pay62 (F := Ideal) p (k0_pay22 p q) (ix2 t 0) = ((start a b (a t) : ℕ) : EReal) := by
  have h := starts_at a b p q hp hq
  unfold k0_pay62
  revert h
  generalize k0_pay22 (F := Ideal) p q = u
  intro h
  pointwise
  simp only [hp, h]
  rw [RouterMath.pick (fun j => ((start a b j : ℕ) : EReal))]

include hp hq in
theorem stored7 (t : Fin 4096) (u : FVec Ideal S4096x1 .f32) (hu : u (ix2 t 0) = ((upto a (a t) t : ℕ) : EReal)) :
    k0_pay63 (F := Ideal) u (k0_pay62 p (k0_pay22 p q)) (ix2 t 0) = BitVec.ofNat 32 (spot1 a b t) := by
  rw [← word _ (spot1_lt a b t)]
  unfold spot1
  rw [← cast_add, ← hu, ← group1 a b p q hp hq t]
  rfl

include hp hq in
theorem stored8 (t : Fin 4096) (u : FVec Ideal S4096x1 .f32) (hu : u (ix2 t 0) = ((upto b (b t) t + upto a (b t) 4096 : ℕ) : EReal)) :
    k0_pay64 (F := Ideal) q (k0_pay22 p q) u (ix2 t 0) = BitVec.ofNat 32 (spot2 a b t) := by
  have h := starts_at a b p q hp hq
  rw [← word _ (spot2_lt a b t)]
  unfold spot2 k0_pay64
  rw [← cast_add, ← hu]
  revert h
  generalize k0_pay22 (F := Ideal) p q = v
  intro h
  pointwise
  simp only [hq, h]
  rw [RouterMath.pick (fun j => ((start a b j : ℕ) : EReal))]
  rfl

/-- The slabs as the kernel cuts them. -/
theorem slab0 : k0_pay26 (F := Ideal) p q = slab (k0_pay24 p q) 0 := slice _ 0 0 rfl slices_S4096x16_o0_0_S512x16
variable (o : FVec Ideal S4096x16 .f32)
theorem slab1 : k0_pay31 (F := Ideal) o = slab o 1 := slice _ 512 1 rfl slices_S4096x16_o512_0_S512x16
theorem slab2 : k0_pay36 (F := Ideal) o = slab o 2 := slice _ 1024 2 rfl slices_S4096x16_o1024_0_S512x16
theorem slab3 : k0_pay41 (F := Ideal) o = slab o 3 := slice _ 1536 3 rfl slices_S4096x16_o1536_0_S512x16
theorem slab4 : k0_pay47 (F := Ideal) o = slab o 4 := slice _ 2048 4 rfl slices_S4096x16_o2048_0_S512x16
theorem slab5 : k0_pay52 (F := Ideal) o = slab o 5 := slice _ 2560 5 rfl slices_S4096x16_o2560_0_S512x16
theorem slab6 : k0_pay57 (F := Ideal) o = slab o 6 := slice _ 3072 6 rfl slices_S4096x16_o3072_0_S512x16
/-- The last one, which the kernel does not name. -/
def last : FVec Ideal S512x16 .f32 := extractStridedSlice S512x16 ![3584, 0] o slices_S4096x16_o3584_0_S512x16
theorem slab7 : last o = slab o 7 := slice _ 3584 7 rfl slices_S4096x16_o3584_0_S512x16

/-- What the kernel carries past each slab. -/
theorem base1 : k0_pay30 (F := Ideal) (k0_pay25 (F := Ideal)) (slab o 0) = base o 1 := rfl
theorem base2 : k0_pay35 (F := Ideal) o (k0_pay25 (F := Ideal)) (slab o 0) = base o 2 := by
  show grow (k0_pay30 (F := Ideal) (k0_pay25 (F := Ideal)) (slab o 0)) (k0_pay31 o) = _
  rw [slab1, base1]; rfl
theorem base3 : k0_pay40 (F := Ideal) o (k0_pay25 (F := Ideal)) (slab o 0) = base o 3 := by
  show grow (k0_pay35 (F := Ideal) o (k0_pay25 (F := Ideal)) (slab o 0)) (k0_pay36 o) = _
  rw [slab2, base2]; rfl
theorem base4 : k0_pay46 (F := Ideal) (base o 3) (slab o 3) = base o 4 := rfl
theorem base5 : k0_pay51 (F := Ideal) o (base o 3) (slab o 3) = base o 5 := by
  show grow (k0_pay46 (F := Ideal) (base o 3) (slab o 3)) (k0_pay47 o) = _
  rw [slab4, base4]; rfl
theorem base6 : k0_pay56 (F := Ideal) (base o 5) (slab o 5) = base o 6 := rfl
theorem base7 : grow (base o 6) (k0_pay57 (F := Ideal) o) = base o 7 := by rw [slab6]; rfl

/-- The second-last and the last running products. -/
theorem run6 : k0_pay58 (F := Ideal) (k0_pay23 (F := Ideal)) o (base o 5) (slab o 5) = run (slab o 6) (base o 6) := by
  show run (k0_pay57 (F := Ideal) o) (k0_pay56 (F := Ideal) (base o 5) (slab o 5)) = _
  rw [slab6, base6]
theorem run7 : k0_pay59 (F := Ideal) (k0_pay23 (F := Ideal)) o (base o 5) (slab o 5) = run (slab o 7) (base o 7) := by
  show run (last o) (grow (k0_pay56 (F := Ideal) (base o 5) (slab o 5)) (k0_pay57 (F := Ideal) o)) = _
  rw [slab7, base6, base7]

/-- The counts of the first choices, as the kernel assembles them. -/
theorem lefts : k0_pay60 (F := Ideal) (k0_pay23 (F := Ideal)) (k0_pay24 p q) (k0_pay28 p q)
      (k0_pay33 (k0_pay23 (F := Ideal)) (k0_pay24 p q) (k0_pay25 (F := Ideal)) (k0_pay26 p q))
      (k0_pay38 (k0_pay23 (F := Ideal)) (k0_pay24 p q) (k0_pay25 (F := Ideal)) (k0_pay26 p q))
      (k0_pay44 (k0_pay43 (k0_pay23 (F := Ideal)) (k0_pay24 p q) (k0_pay25 (F := Ideal)) (k0_pay26 p q)))
      (k0_pay49 (k0_pay23 (F := Ideal)) (k0_pay24 p q) (k0_pay40 (k0_pay24 p q) (k0_pay25 (F := Ideal)) (k0_pay26 p q)) (k0_pay41 (k0_pay24 p q)))
      (k0_pay51 (k0_pay24 p q) (k0_pay40 (k0_pay24 p q) (k0_pay25 (F := Ideal)) (k0_pay26 p q)) (k0_pay41 (k0_pay24 p q)))
      (k0_pay52 (k0_pay24 p q))
      (k0_pay54 (k0_pay23 (F := Ideal)) (k0_pay24 p q) (k0_pay40 (k0_pay24 p q) (k0_pay25 (F := Ideal)) (k0_pay26 p q)) (k0_pay41 (k0_pay24 p q)))
    = stack fun k => left (run (slab (k0_pay24 p q) k) (base (k0_pay24 p q) k.val)) := by
  have e0 : k0_pay28 (F := Ideal) p q = left (run (k0_pay26 p q) (k0_pay25 (F := Ideal))) := rfl
  rw [e0, slab0]
  generalize k0_pay24 (F := Ideal) p q = o
  rw [base3, slab3, base5, slab5]
  have e1 : k0_pay33 (F := Ideal) (k0_pay23 (F := Ideal)) o (k0_pay25 (F := Ideal)) (slab o 0) = left (run (k0_pay31 o) (base o 1)) := rfl
  have e2 : k0_pay38 (F := Ideal) (k0_pay23 (F := Ideal)) o (k0_pay25 (F := Ideal)) (slab o 0)
    = left (run (k0_pay36 o) (k0_pay35 (F := Ideal) o (k0_pay25 (F := Ideal)) (slab o 0))) := rfl
  have e3 : k0_pay44 (F := Ideal) (k0_pay43 (k0_pay23 (F := Ideal)) o (k0_pay25 (F := Ideal)) (slab o 0))
    = left (run (k0_pay41 o) (k0_pay40 (F := Ideal) o (k0_pay25 (F := Ideal)) (slab o 0))) := rfl
  have e4 : k0_pay49 (F := Ideal) (k0_pay23 (F := Ideal)) o (base o 3) (slab o 3) = left (run (k0_pay47 o) (base o 4)) := rfl
  have e5 : k0_pay54 (F := Ideal) (k0_pay23 (F := Ideal)) o (base o 3) (slab o 3)
    = left (run (k0_pay52 o) (k0_pay51 (F := Ideal) o (base o 3) (slab o 3))) := rfl
  rw [e1, e2, e3, e4, e5, base2, base3, base5, slab1, slab2, slab3, slab4, slab5]
  have e6 : ∀ (u0 u1 u2 u3 u4 u5 : FVec Ideal S512x1 .f32) (w : FVec Ideal S1x16 .f32) (s : FVec Ideal S512x16 .f32),
    k0_pay60 (F := Ideal) (k0_pay23 (F := Ideal)) o u0 u1 u2 u3 u4 w s u5
      = stack ![u0, u1, u2, u3, u4, u5, left (k0_pay58 (k0_pay23 (F := Ideal)) o w s), left (k0_pay59 (k0_pay23 (F := Ideal)) o w s)] :=
    fun _ _ _ _ _ _ _ _ => rfl
  rw [e6, run6, run7]
  rfl

/-- The counts of the second choices, the first choices of the same expert before them. -/
theorem rights : k0_pay61 (F := Ideal) q (k0_pay21 p) (k0_pay23 (F := Ideal)) (k0_pay24 p q) (k0_pay29 p q)
      (k0_pay34 (k0_pay23 (F := Ideal)) (k0_pay24 p q) (k0_pay25 (F := Ideal)) (k0_pay26 p q))
      (k0_pay39 (k0_pay23 (F := Ideal)) (k0_pay24 p q) (k0_pay25 (F := Ideal)) (k0_pay26 p q))
      (k0_pay45 (k0_pay42 (k0_pay23 (F := Ideal)) (k0_pay24 p q) (k0_pay25 (F := Ideal)) (k0_pay26 p q)))
      (k0_pay50 (k0_pay23 (F := Ideal)) (k0_pay24 p q) (k0_pay40 (k0_pay24 p q) (k0_pay25 (F := Ideal)) (k0_pay26 p q)) (k0_pay41 (k0_pay24 p q)))
      (k0_pay51 (k0_pay24 p q) (k0_pay40 (k0_pay24 p q) (k0_pay25 (F := Ideal)) (k0_pay26 p q)) (k0_pay41 (k0_pay24 p q)))
      (k0_pay52 (k0_pay24 p q))
      (k0_pay55 (k0_pay23 (F := Ideal)) (k0_pay24 p q) (k0_pay40 (k0_pay24 p q) (k0_pay25 (F := Ideal)) (k0_pay26 p q)) (k0_pay41 (k0_pay24 p q)))
    = addf (stack fun k => right (run (slab (k0_pay24 p q) k) (base (k0_pay24 p q) k.val))) (k0_pay62 q (k0_pay21 p)) := by
  have e0 : k0_pay29 (F := Ideal) p q = right (run (k0_pay26 p q) (k0_pay25 (F := Ideal))) := rfl
  rw [e0, slab0]
  generalize k0_pay24 (F := Ideal) p q = o
  rw [base3, slab3, base5, slab5]
  have e1 : k0_pay34 (F := Ideal) (k0_pay23 (F := Ideal)) o (k0_pay25 (F := Ideal)) (slab o 0) = right (run (k0_pay31 o) (base o 1)) := rfl
  have e2 : k0_pay39 (F := Ideal) (k0_pay23 (F := Ideal)) o (k0_pay25 (F := Ideal)) (slab o 0)
    = right (run (k0_pay36 o) (k0_pay35 (F := Ideal) o (k0_pay25 (F := Ideal)) (slab o 0))) := rfl
  have e3 : k0_pay45 (F := Ideal) (k0_pay42 (k0_pay23 (F := Ideal)) o (k0_pay25 (F := Ideal)) (slab o 0))
    = right (run (k0_pay41 o) (k0_pay40 (F := Ideal) o (k0_pay25 (F := Ideal)) (slab o 0))) := rfl
  have e4 : k0_pay50 (F := Ideal) (k0_pay23 (F := Ideal)) o (base o 3) (slab o 3) = right (run (k0_pay47 o) (base o 4)) := rfl
  have e5 : k0_pay55 (F := Ideal) (k0_pay23 (F := Ideal)) o (base o 3) (slab o 3)
    = right (run (k0_pay52 o) (k0_pay51 (F := Ideal) o (base o 3) (slab o 3))) := rfl
  rw [e1, e2, e3, e4, e5, base2, base3, base5, slab1, slab2, slab3, slab4, slab5]
  have e6 : ∀ (v : FVec Ideal S1x8 .f32) (u0 u1 u2 u3 u4 u5 : FVec Ideal S512x1 .f32) (w : FVec Ideal S1x16 .f32) (s : FVec Ideal S512x16 .f32),
    k0_pay61 (F := Ideal) q v (k0_pay23 (F := Ideal)) o u0 u1 u2 u3 u4 w s u5
      = addf (stack ![u0, u1, u2, u3, u4, u5, right (k0_pay58 (k0_pay23 (F := Ideal)) o w s),
          right (k0_pay59 (k0_pay23 (F := Ideal)) o w s)]) (k0_pay62 q v) :=
    fun _ _ _ _ _ _ _ _ _ => rfl
  rw [e6, run6, run7]
  rfl

end

/-! ## The stored positions, of the two places a token has -/

section
variable (x : FVec Ideal S4096x768 .f32) (gw : FVec Ideal S768x8 .f32) (gb : FVec Ideal S1x8 .f32) (gt : FVec Ideal S1x1 .f32)

theorem second_place (t : Fin 4096) : k0_pay7 (F := Ideal) x gw gb gt (ix2 t 0)
    = BitVec.ofNat 32 (two (RouterKernel.row (RouterKernel.sc x gw gb gt)) t).val := by
  rw [RouterKernel.place']
  exact first_index _

theorem hot1 (t : Fin 4096) (j : Fin 8) : k0_pay8 (F := Ideal) RouterKernel.columns (k0_pay4 (F := Ideal) x gw gb gt) (ix2 t j)
    = if j = one (RouterKernel.row (RouterKernel.sc x gw gb gt)) t then (1 : EReal) else 0 :=
  RouterKernel.hot t _ _ (RouterKernel.place x gw gb gt t) j

theorem hot2 (t : Fin 4096) (j : Fin 8) : k0_pay9 (F := Ideal) RouterKernel.columns (k0_pay7 (F := Ideal) x gw gb gt) (ix2 t j)
    = if j = two (RouterKernel.row (RouterKernel.sc x gw gb gt)) t then (1 : EReal) else 0 :=
  RouterKernel.hot' t _ _ (second_place x gw gb gt t) j

/-- The first position stored. -/
theorem out7 (t : Fin 4096) : out0_7 (F := Ideal) x gw gb gt (ix2 t 0)
    = BitVec.ofNat 32 (spot1 (one (RouterKernel.row (RouterKernel.sc x gw gb gt))) (two (RouterKernel.row (RouterKernel.sc x gw gb gt))) t) := by
  have hp := hot1 x gw gb gt
  have hq := hot2 x gw gb gt
  unfold_out out0_7
  frame_out
  refine stored7 _ _ _ _ hp hq t _ ?_
  refine (congrFun (lefts _ _) _).trans ?_
  exact lefts_at _ _ _ (both_at _ _ _ _ hp hq) t

/-- The second position stored. -/
theorem out8 (t : Fin 4096) : out0_8 (F := Ideal) x gw gb gt (ix2 t 0)
    = BitVec.ofNat 32 (spot2 (one (RouterKernel.row (RouterKernel.sc x gw gb gt))) (two (RouterKernel.row (RouterKernel.sc x gw gb gt))) t) := by
  have hp := hot1 x gw gb gt
  have hq := hot2 x gw gb gt
  unfold_out out0_8
  frame_out
  refine stored8 _ _ _ _ hp hq t _ ?_
  refine (congrFun (rights _ _) _).trans ?_
  rw [← cast_add, ← rights_at _ _ _ (both_at _ _ _ _ hp hq) t, ← further _ _ _ _ hp hq t]
  rfl

end

end Cert.Proof.RouterSpots

end
-- ==== Proof.RouterRefSpots.lean ====
module

public import proofs.«01_k».proof.Proof.RouterRef
public import proofs.«01_k».proof.Proof.RouterCounts

/-! # The positions the reference gives -/

@[expose] public section

noncomputable section

namespace Cert.Proof.RouterRefSpots

open Idealize.ShloMosaic Idealize.ShloMosaic.TcCoe Idealize.SL.Sem
open Cert.RouterRefIdeal Cert.RouterRefIdeal.Gen Cert.RouterRefIdeal.Value Cert.Proof.RouterMath Cert.Proof.RouterCounts

variable (V0 : Valuation τ sig (Elt Ideal)) (t : Fin 4096)

theorem eq_index (i j : Fin 8) : IntOp.cmpi .eq (BitVec.ofNat 32 i.val) (BitVec.ofNat 32 j.val) = 1#1 ↔ i = j := by
  revert i j; decide

theorem covered (j : Fin 8) : (res_main_v137 V0 : FVec Ideal S4096x8 .f32) (ix2 t j) = cover (RouterRef.scores V0 t) j := by
  unfold res_main_v137
  have h := RouterRef.indices V0 t 0
  revert h
  generalize res_main_indices V0 = w
  intro h
  pointwise
  rw [h]
  unfold cover
  by_cases e : j = i1 (RouterRef.scores V0 t)
  · rw [if_pos e]
    refine (if_pos ((eq_index _ _).2 e.symm)).trans ?_
    show Ideal.ofBits .f32 0xFF800000#32 = ⊥
    exact RouterMath.neg_inf
  · rw [if_neg e]
    exact if_neg fun h' => e ((eq_index _ _).1 h').symm

theorem topmost (s : FVec Ideal S4096x8 .f32) :
    (Host.topK S4096x1 1 (FloatOps.cmpfTotal .gt) s sliceFits_S4096x8_S4096x1).2 (ix2 t 0)
      = BitVec.ofNat 32 (i1 fun j => s (ix2 t j)).val := by
  refine Eq.trans ?_ (congrArg (fun i : Fin 8 => BitVec.ofNat 32 i.val) (sorted_two (fun j => s (ix2 t j)) 0))
  unfold Host.topK Host.sort2
  simp only [dif_pos (show 1 < S4096x8.rank by decide)]
  pointwise
  simp only [RouterRef.along_row]
  rfl

theorem chosen (q : Fin 8192) : (res_main_v139 V0 : IVec S8192x1 32) (ix2 q 0)
    = BitVec.ofNat 32 (pair (one (RouterRef.scores V0)) (two (RouterRef.scores V0)) q).val := by
  unfold res_main_v139 pair
  have h := fun t => RouterRef.indices V0 t 0
  have h' := fun t => topmost t (res_main_v137 V0)
  revert h h'
  generalize (Host.topK S4096x1 1 (FloatOps.cmpfTotal .gt) (res_main_v137 V0) sliceFits_S4096x8_S4096x1).2 = u
  generalize res_main_indices V0 = w
  intro h h'
  pointwise
  split
  · rw [h]; rfl
  · rw [h']
    refine congrArg (fun i : Fin 8 => BitVec.ofNat 32 i.val) (congrArg i1 (funext fun j => ?_))
    exact covered V0 _ j

/-- The reference's positions in one list, from the chosen experts. -/
def spots (w : IVec S8192x1 32) : IVec S8192 32 :=
  addi (Host.reduce IntOp.addi (select (cmpi .slt (broadcastInDim S8192x8 ![0, 1] bcast_S1x8_S8192x8_0_1 (broadcastInDim S1x8 ![1] bcast_S8_S1x8_1 (iotaInDim S8 32 0))) (broadcastInDim S8192x8 ![0, 1] bcast_S8192x1_S8192x8_0_1 w)) (broadcastInDim S8192x8 ![1] bcast_S8_S8192x8_1 (muli (Host.divsi (addi (Host.reduce IntOp.addi (extui 32 (cmpi .eq (broadcastInDim S8192x8 ![0, 1] bcast_S8192x1_S8192x8_0_1 w) (broadcastInDim S8192x8 ![0, 1] bcast_S1x8_S8192x8_0_1 (broadcastInDim S1x8 ![1] bcast_S8_S1x8_1 (iotaInDim S8 32 0)))) natLt_1_32) (constantI S_ 32 0#32) reducesTo_S8192x8_S8_d0 h_S_) (broadcastInDim S8 ![] bcast_S_S8 (constantI S_ 32 255#32))) (broadcastInDim S8 ![] bcast_S_S8 (constantI S_ 32 256#32))) (broadcastInDim S8 ![] bcast_S_S8 (constantI S_ 32 256#32)))) (broadcastInDim S8192x8 ![] bcast_S_S8192x8 (id (constantI S_ 32 0#32)))) (constantI S_ 32 0#32) reducesTo_S8192x8_S8192_d1 h_S_) (Host.reduce IntOp.addi (extui 32 (andi (cmpi .eq (broadcastInDim S8192x8192 ![0, 1] bcast_S8192x1_S8192x8192_0_1 w) (broadcastInDim S8192x8192 ![0, 1] bcast_S1x8192_S8192x8192_0_1 (shapeCast _ w shapeCasts_S8192x1_S1x8192))) (cmpi .slt (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))) natLt_1_32) (constantI S_ 32 0#32) reducesTo_S8192x8192_S8192_d1 h_S_)

theorem v174 : (res_main_v174 V0 : IVec S2x4096x1 32) = shapeCast S2x4096x1 (spots (res_main_v139 V0)) shapeCasts_S8192_S2x4096x1 := rfl

theorem expert_lt (i j : Fin 8) : IntOp.cmpi .slt (BitVec.ofNat 32 i.val) (BitVec.ofNat 32 j.val) = 1#1 ↔ i < j := by
  unfold IntOp.cmpi
  exact StableHlo.Predicate.slt_ofNat_iff _ _ (by omega) (by omega)

theorem place_lt (i j : Fin 8192) : IntOp.cmpi .slt (BitVec.ofNat 32 i.val) (BitVec.ofNat 32 j.val) = 1#1 ↔ i < j := by
  unfold IntOp.cmpi
  exact StableHlo.Predicate.slt_ofNat_iff _ _ (by omega) (by omega)

theorem and_one (a b : BitVec 1) : IntOp.andi a b = 1#1 ↔ a = 1#1 ∧ b = 1#1 := by
  revert a b; decide

/-- Where a choice lies: its group's start, and the number of earlier choices of the same expert. -/
def spot (e : Fin 8192 → Fin 8) (q : Fin 8192) : ℕ :=
  (∑ x : Fin 8, if x < e q then ((∑ r, if e r = x then 1 else 0) + 255) / 256 * 256 else 0) + ∑ r, if e q = e r ∧ r < q then 1 else 0

theorem spots_at (w : IVec S8192x1 32) (e : Fin 8192 → Fin 8) (hw : ∀ q, w (ix2 q 0) = BitVec.ofNat 32 (e q).val) (q : Fin 8192) :
    spots w (ix1 q) = BitVec.ofNat 32 (spot e q) := by
  unfold spots
  pointwise
  simp only [hw]
  have h1 : ∀ x r : Fin 8, BitVec.setWidth 32 (IntOp.cmpi .eq (BitVec.ofNat 32 r.val) (BitVec.ofNat 32 x.val))
      = BitVec.ofNat 32 (if r = x then 1 else 0) := fun x r => bit_word _ _ (eq_index _ _)
  have h2 : ∀ r : Fin 8192, BitVec.setWidth 32 (IntOp.andi (IntOp.cmpi .eq (BitVec.ofNat 32 (e q).val) (BitVec.ofNat 32 (e r).val))
      (IntOp.cmpi .slt (BitVec.ofNat 32 r.val) (BitVec.ofNat 32 q.val))) = BitVec.ofNat 32 (if e q = e r ∧ r < q then 1 else 0) :=
    fun r => bit_word _ _ ((and_one _ _).trans (and_congr (eq_index _ _) (place_lt _ _)))
  simp only [h1, h2, fold_word]
  have hle : ∀ x : Fin 8, (∑ r : Fin 8192, if e r = x then 1 else 0) ≤ 8192 := fun x =>
    (Finset.sum_le_sum (g := fun _ => 1) fun r _ => by split <;> omega).trans (by simp)
  have h3 : ∀ x : Fin 8, Scalar.select (IntOp.cmpi .slt (BitVec.ofNat 32 x.val) (BitVec.ofNat 32 (e q).val))
      (IntOp.muli (IntOp.divsi ArithUnit.host (IntOp.addi (BitVec.ofNat 32 (∑ r : Fin 8192, if e r = x then 1 else 0)) 255#32) 256#32) 256#32)
      (id (constantI S_ 32 0#32) ix0)
        = BitVec.ofNat 32 (if x < e q then ((∑ r : Fin 8192, if e r = x then 1 else 0) + 255) / 256 * 256 else 0) := fun x => by
    have hx := hle x
    revert hx
    generalize (∑ r : Fin 8192, if e r = x then 1 else 0) = n
    intro hx
    have ea : IntOp.addi (BitVec.ofNat 32 n) 255#32 = BitVec.ofNat 32 (n + 255) := (BitVec.ofNat_add n 255).symm
    have em : IntOp.muli (BitVec.ofNat 32 ((n + 255) / 256)) 256#32 = BitVec.ofNat 32 ((n + 255) / 256 * 256) :=
      (BitVec.ofNat_mul ((n + 255) / 256) 256).symm
    rw [ea, over _ _ (by omega), em]
    by_cases hl : x < e q
    · rw [if_pos hl]; exact if_pos ((expert_lt _ _).2 hl)
    · rw [if_neg hl]; exact if_neg fun h => hl ((expert_lt _ _).1 h)
  simp only [h3, fold_word]
  exact (BitVec.ofNat_add _ _).symm

theorem spot_lo (a b : Fin 4096 → Fin 8) : spot (pair a b) (lo t) = spot1 a b t := by
  unfold spot spot1 start room
  simp only [pair_all, pair_lo_before]
  rw [pair_lo]

theorem spot_hi (a b : Fin 4096 → Fin 8) : spot (pair a b) (hi t) = spot2 a b t := by
  unfold spot spot2 start room
  simp only [pair_all, pair_hi_before]
  rw [pair_hi]

/-- The first position. -/
theorem first : (shapeCast S4096x1 (extractStridedSlice S1x4096x1 ![0, 0, 0] (res_main_v174 V0 : IVec S2x4096x1 32) slices_S2x4096x1_S1x4096x1_0_0_0)
    shapeCasts_S1x4096x1_S4096x1) (ix2 t 0) = BitVec.ofNat 32 (spot1 (one (RouterRef.scores V0)) (two (RouterRef.scores V0)) t) := by
  rw [← spot_lo, ← spots_at _ _ (chosen V0) (lo t), v174]
  generalize spots (res_main_v139 V0) = x
  pointwise

/-- The second position. -/
theorem second : (shapeCast S4096x1 (extractStridedSlice S1x4096x1 ![1, 0, 0] (res_main_v174 V0 : IVec S2x4096x1 32) slices_S2x4096x1_S1x4096x1_1_0_0)
    shapeCasts_S1x4096x1_S4096x1) (ix2 t 0) = BitVec.ofNat 32 (spot2 (one (RouterRef.scores V0)) (two (RouterRef.scores V0)) t) := by
  rw [← spot_hi, ← spots_at _ _ (chosen V0) (hi t), v174]
  generalize spots (res_main_v139 V0) = x
  pointwise

end Cert.Proof.RouterRefSpots

end
-- ==== Proof.RouterBlocks.lean ====
module

public import proofs.«01_k».proof.Proof.RouterCounts

/-! # The blocks of the laid-out rows

The laid-out rows are cut into blocks of 256. A block holds the last expert whose group begins at or before it. Blocks that
follow one another with the same expert make a group. Everything here is in natural numbers. -/

@[expose] public section

noncomputable section

namespace Cert.Proof.RouterBlocks

open Idealize.ShloMosaic Cert.Proof.RouterCounts

/-- The expert of a block. -/
def held (a b : Fin 4096 → Fin 8) (n : ℕ) : ℕ := (∑ j : Fin 8, if start a b j ≤ 256 * n then 1 else 0) - 1

/-- Whether a block opens a group. -/
def opens (h : ℕ → ℕ) (n : ℕ) : Prop := n = 0 ∨ h n ≠ h (n - 1)

instance (h : ℕ → ℕ) (n : ℕ) : Decidable (opens h n) := by unfold opens; infer_instance

/-- How many groups have been opened, this block's own among them. -/
def groups (h : ℕ → ℕ) (n : ℕ) : ℕ := ∑ i : Fin 128, if opens h i ∧ i.val ≤ n then 1 else 0

/-- The next block that opens a group; 128 where none of the first 39 does. -/
def next (h : ℕ → ℕ) (n : ℕ) : ℕ :=
  Finset.fold min 2147483647 (fun i : Fin 128 => if (n < i.val ∧ opens h i) ∧ i.val < 39 then i.val else 128) Finset.univ

/-- The least expert greater than the block's own among the first 39 blocks; 8 where there is none. -/
def later (h : ℕ → ℕ) (n : ℕ) : ℕ :=
  Finset.fold min 2147483647 (fun i : Fin 128 => if i.val < 39 ∧ h n < h i then h i else 8) Finset.univ

theorem begins (a b : Fin 4096 → Fin 8) (n : ℕ) : 1 ≤ ∑ j : Fin 8, if start a b j ≤ 256 * n then 1 else 0 := by
  have h0 : start a b 0 = 0 := by
    unfold start
    exact Finset.sum_eq_zero fun i _ => if_neg (by simp)
  refine le_trans ?_ (Finset.single_le_sum (f := fun j : Fin 8 => if start a b j ≤ 256 * n then 1 else 0) (fun _ _ => Nat.zero_le _)
    (Finset.mem_univ 0))
  simp [h0]

theorem counted_le (a b : Fin 4096 → Fin 8) (n : ℕ) : (∑ j : Fin 8, if start a b j ≤ 256 * n then 1 else 0) ≤ 8 :=
  (Finset.sum_le_sum (g := fun _ => 1) fun j _ => by split <;> omega).trans (by simp)

theorem held_le (a b : Fin 4096 → Fin 8) (n : ℕ) : held a b n ≤ 7 := by
  have := counted_le a b n
  unfold held
  omega

theorem held_mono (a b : Fin 4096 → Fin 8) : Monotone (held a b) := fun m n hmn => by
  unfold held
  refine Nat.sub_le_sub_right (Finset.sum_le_sum fun j _ => ?_) 1
  split
  · rw [if_pos (by omega)]
  · exact Nat.zero_le _

theorem groups_le (h : ℕ → ℕ) (n : ℕ) : groups h n ≤ 128 :=
  (Finset.sum_le_sum (g := fun _ => 1) fun j _ => by split <;> omega).trans (by simp)

/-- A least value is attained or is the bound. -/
theorem fold_min (f : Fin 128 → ℕ) (c m : ℕ) (hc : m ≤ c) (i : Fin 128) (hi : f i = m) (hm : ∀ j, m ≤ f j) :
    Finset.fold min c f Finset.univ = m :=
  le_antisymm ((Finset.fold_min_le _).2 (Or.inr ⟨i, Finset.mem_univ i, hi.le⟩)) ((Finset.le_fold_min _).2 ⟨hc, fun j _ => hm j⟩)

/-- Between two openings the expert stays. -/
theorem stays (h : ℕ → ℕ) (n k : ℕ) (hn : n ≤ k) (hk : ∀ j, n < j → j ≤ k → ¬ opens h j) : h k = h n := by
  induction k, hn using Nat.le_induction with
  | base => rfl
  | succ k hk' ih =>
    have := hk (k + 1) (by omega) le_rfl
    unfold opens at this
    push Not at this
    rw [this.2, Nat.add_sub_cancel]
    exact ih fun j h1 h2 => hk j h1 (by omega)

/-- The next group's expert, found by its opening block or as the next greater expert. -/
theorem later_eq (h : ℕ → ℕ) (hm : Monotone h) (hle : ∀ n, h n ≤ 7) (n : ℕ) :
    (if next h n < 39 then h (next h n) else 8) = later h n := by
  by_cases hex : ∃ k, (n < k ∧ opens h k) ∧ k < 39
  · classical
    obtain ⟨⟨h1, h2⟩, h3⟩ := Nat.find_spec hex
    have hmin := fun k => Nat.find_min (m := k) hex
    generalize Nat.find hex = k at h1 h2 h3 hmin
    have e : next h n = k := by
      refine fold_min _ _ _ (by omega) ⟨k, by omega⟩ (if_pos ⟨⟨h1, h2⟩, h3⟩) fun j => ?_
      split
      · rename_i hj
        by_contra hlt
        exact hmin j.val (by omega) hj
      · omega
    have hs : ∀ i, n ≤ i → i < k → h i = h n := fun i hi hik =>
      stays h n i hi fun j hj hji ho => hmin j (by omega) ⟨⟨hj, ho⟩, by omega⟩
    have hgt : h n < h k := by
      have := hs (k - 1) (by omega) (by omega)
      have h4 : h k ≠ h (k - 1) := h2.resolve_left (by omega)
      have h5 := hm (show n ≤ k by omega)
      omega
    rw [e, if_pos h3]
    symm
    refine fold_min _ _ _ (by have := hle k; omega) ⟨k, by omega⟩ (if_pos ⟨h3, hgt⟩) fun j => ?_
    split
    · rename_i hj
      refine hm ?_
      by_contra hlt
      rcases le_total n j.val with hnj | hjn
      · have := hs j.val hnj (by omega)
        omega
      · have := hm hjn
        omega
    · have := hle k
      omega
  · push Not at hex
    have e : next h n = 128 := by
      refine fold_min _ _ _ (by omega) ⟨127, by omega⟩ (if_neg fun hh => ?_) fun j => ?_
      · exact absurd hh.2 (by simp)
      · split
        · rename_i hj
          exact absurd (hex j.val hj.1) (by omega)
        · omega
    rw [e, if_neg (by omega)]
    symm
    refine fold_min _ _ _ (by omega) ⟨127, by omega⟩ (if_neg fun hh => absurd hh.1 (by simp)) fun j => ?_
    split
    · rename_i hj
      exfalso
      rcases le_total n j.val with hnj | hjn
      · have := stays h n j.val hnj fun i hi hij ho => absurd (hex i ⟨hi, ho⟩) (by omega)
        omega
      · have := hm hjn
        omega
    · omega

theorem next_le (h : ℕ → ℕ) (n : ℕ) : next h n ≤ 128 :=
  (Finset.fold_min_le _).2 (Or.inr ⟨⟨127, by omega⟩, Finset.mem_univ _, by
    rw [if_neg fun hh => absurd hh.2 (by simp)]⟩)

/-- What a block's row of the table says: its expert, whether it opens a group, its group's parity, and the next group's
expert. -/
def line (h : ℕ → ℕ) (n : ℕ) : Fin 4 → BitVec 32 :=
  ![BitVec.ofNat 32 (h n), BitVec.ofNat 32 (if opens h n then 1 else 0),
    IntOp.andi (IntOp.subi (BitVec.ofNat 32 (groups h n)) 1#32) 1#32, BitVec.ofNat 32 (later h n)]

/-! ## Words -/

theorem min_word (x y : ℕ) (hx : x < 2 ^ 31) (hy : y < 2 ^ 31) :
    IntOp.minsi (BitVec.ofNat 32 x) (BitVec.ofNat 32 y) = BitVec.ofNat 32 (min x y) := by
  unfold IntOp.minsi
  have h := StableHlo.Predicate.slt_ofNat_iff x y hx hy
  rw [StableHlo.Predicate.ofBool_eq_one_iff] at h
  by_cases e : x < y
  · rw [if_pos (h.2 e), min_eq_left e.le]
  · rw [if_neg fun h' => e (h.1 h'), min_eq_right (not_lt.1 e)]

/-- The least of words that are natural numbers. -/
theorem fold_min_word {ι : Type} (s : Finset ι) (f : ι → ℕ) (hf : ∀ i, f i < 2 ^ 31) :
    Finset.fold IntOp.minsi (2147483647#32) (fun i => BitVec.ofNat 32 (f i)) s = BitVec.ofNat 32 (Finset.fold min 2147483647 f s) := by
  classical
  induction s using Finset.induction_on with
  | empty => rfl
  | insert a s ha ih =>
    rw [Finset.fold_insert ha, ih, Finset.fold_insert ha, min_word _ _ (hf a)]
    exact lt_of_le_of_lt ((Finset.fold_min_le _).2 (Or.inl le_rfl)) (by norm_num)

theorem eq_word (x y : ℕ) (hx : x < 2 ^ 31) (hy : y < 2 ^ 31) : BitVec.ofNat 32 x = BitVec.ofNat 32 y ↔ x = y := by
  refine ⟨fun h => ?_, fun h => by rw [h]⟩
  have := congrArg BitVec.toNat h
  simp only [BitVec.toNat_ofNat] at this
  omega

theorem is_eq (x y : ℕ) (hx : x < 2 ^ 31) (hy : y < 2 ^ 31) : IntOp.cmpi .eq (BitVec.ofNat 32 x) (BitVec.ofNat 32 y) = 1#1 ↔ x = y :=
  StableHlo.Predicate.cmpi_eq_iff.trans (eq_word x y hx hy)

theorem is_ne (v w : BitVec 32) : IntOp.cmpi .ne v w = 1#1 ↔ v ≠ w := by
  unfold IntOp.cmpi
  rw [StableHlo.Predicate.ofBool_eq_one_iff]
  simp

theorem is_lt (x y : ℕ) (hx : x < 2 ^ 31) (hy : y < 2 ^ 31) : IntOp.cmpi .slt (BitVec.ofNat 32 x) (BitVec.ofNat 32 y) = 1#1 ↔ x < y := by
  unfold IntOp.cmpi
  exact StableHlo.Predicate.slt_ofNat_iff _ _ hx hy

theorem is_le (x y : ℕ) (hx : x < 2 ^ 31) (hy : y < 2 ^ 31) : IntOp.cmpi .sle (BitVec.ofNat 32 x) (BitVec.ofNat 32 y) = 1#1 ↔ x ≤ y := by
  unfold IntOp.cmpi
  exact StableHlo.Predicate.sle_ofNat_iff _ _ hx hy

theorem is_gt (x y : ℕ) (hx : x < 2 ^ 31) (hy : y < 2 ^ 31) : IntOp.cmpi .sgt (BitVec.ofNat 32 x) (BitVec.ofNat 32 y) = 1#1 ↔ y < x := by
  unfold IntOp.cmpi
  exact StableHlo.Predicate.slt_ofNat_iff _ _ hy hx

theorem is_ge (x y : ℕ) (hx : x < 2 ^ 31) (hy : y < 2 ^ 31) : IntOp.cmpi .sge (BitVec.ofNat 32 x) (BitVec.ofNat 32 y) = 1#1 ↔ y ≤ x := by
  unfold IntOp.cmpi
  exact StableHlo.Predicate.sle_ofNat_iff _ _ hy hx

theorem and_one (v w : BitVec 1) : IntOp.andi v w = 1#1 ↔ v = 1#1 ∧ w = 1#1 := by
  revert v w; decide

theorem or_one (v w : BitVec 1) : IntOp.ori v w = 1#1 ↔ v = 1#1 ∨ w = 1#1 := by
  revert v w; decide

/-- A choice between two words by a decided bit. -/
theorem chosen (p : Prop) [Decidable p] (w : BitVec 1) (h : w = 1#1 ↔ p) {α : Type} (x y : α) :
    Scalar.select w x y = if p then x else y := by
  by_cases hp : p
  · rw [if_pos hp]; exact if_pos (h.2 hp)
  · rw [if_neg hp]; exact if_neg fun h' => hp (h.1 h')

theorem word_ite (p : Prop) [Decidable p] (x y : ℕ) :
    (if p then BitVec.ofNat 32 x else BitVec.ofNat 32 y) = BitVec.ofNat 32 (if p then x else y) := by
  split <;> rfl

theorem less_one (n : ℕ) (h : 1 ≤ n) (h' : n < 2 ^ 32) : IntOp.subi (BitVec.ofNat 32 n) 1#32 = BitVec.ofNat 32 (n - 1) :=
  StableHlo.Predicate.sub_one_ofNat n h h'

end Cert.Proof.RouterBlocks

end
-- ==== Proof.RouterKernelBlocks.lean ====
module

public import proofs.«01_k».proof.Proof.RouterSpots
public import proofs.«01_k».proof.Proof.RouterBlocks

/-! # The block table the kernel stores

The kernel counts the group starts at or before a block for its expert, compares it with the block before, adds up the
openings by one product with a lower triangle, and finds the next opening block by a least index. -/

@[expose] public section

noncomputable section

namespace Cert.Proof.RouterKernelBlocks

open Idealize.ShloMosaic Idealize.ShloMosaic.TcCoe Idealize.SL.Sem
open Cert.RouterIdeal Cert.RouterIdeal.Gen Cert.Proof.RouterMath Cert.Proof.RouterCounts Cert.Proof.RouterBlocks

/-- A small word among the reals. -/
theorem real_word (n : ℕ) (h : n < 2 ^ 31) : (FloatOps.sitofp (F := Ideal) .f32 (BitVec.ofNat 32 n) : EReal) = ((n : ℕ) : EReal) := by
  show (((BitVec.ofNat 32 n).toInt : ℝ) : EReal) = _
  rw [StableHlo.Predicate.toInt_ofNat_small _ h, cast_real]
  push_cast
  rfl

section
variable (a b : Fin 4096 → Fin 8) (v : FVec Ideal S1x8 .f32) (hv : ∀ j, v (ix2 0 j) = ((start a b j : ℕ) : EReal))
include hv

theorem holds (n : Fin 128) : k0_pay65 (F := Ideal) v (ix2 n 0) = BitVec.ofNat 32 (held a b n.val) := by
  unfold k0_pay65
  pointwise
  simp only [hv]
  have h1 : ∀ j : Fin 8, BitVec.setWidth 32 (BitVec.ofBool (decide (((start a b j : ℕ) : EReal)
      ≤ (FloatOps.sitofp (F := Ideal) .f32 (IntOp.muli (BitVec.ofNat 32 n.val) 256#32) : EReal))))
        = BitVec.ofNat 32 (if start a b j ≤ 256 * n.val then 1 else 0) := fun j => bit_word _ _ (by
    have := n.isLt
    rw [show IntOp.muli (BitVec.ofNat 32 n.val) 256#32 = BitVec.ofNat 32 (n.val * 256) from (BitVec.ofNat_mul n.val 256).symm,
      real_word _ (by omega), StableHlo.Predicate.ofBool_eq_one_iff, decide_eq_true_iff, EReal.natCast_le_iff, mul_comm])
  simp only [h1, fold_word]
  rw [less_one _ (begins a b n.val) (by have := counted_le a b n.val; omega)]
  have hl := held_le a b n.val
  unfold held at hl ⊢
  generalize (∑ j : Fin 8, if start a b j ≤ 256 * n.val then 1 else 0) - 1 = m at hl ⊢
  interval_cases m <;> decide

theorem openings (n : Fin 128) : k0_pay66 (F := Ideal) v (ix2 n 0) = (((if opens (held a b) n.val then 1 else 0 : ℕ)) : EReal) := by
  have hh := holds a b v hv
  unfold k0_pay66
  revert hh
  generalize k0_pay65 (F := Ideal) v = w
  intro hh
  pointwise
  have hl := held_le a b
  have hn := n.isLt
  refine bit _ _ ((is_ne _ _).trans ?_)
  unfold opens
  by_cases h0 : n.val < 1
  · rw [dif_pos h0, hh]
    refine ⟨fun _ => Or.inl (by omega), fun _ h => ?_⟩
    rw [show 4294967295#32 = BitVec.ofNat 32 4294967295 from rfl] at h
    have h' := congrArg BitVec.toNat h
    have := hl n.val
    simp only [BitVec.toNat_ofNat] at h'
    omega
  · rw [dif_neg h0, hh, hh, Ne, eq_word _ _ (lt_of_le_of_lt (hl _) (by norm_num)) (lt_of_le_of_lt (hl _) (by norm_num))]
    exact ⟨Or.inr, fun h => h.resolve_left (by omega)⟩

theorem parity (n : Fin 128) : k0_pay67 (F := Ideal) v (ix2 n 0)
    = IntOp.andi (IntOp.subi (BitVec.ofNat 32 (groups (held a b) n.val)) 1#32) 1#32 := by
  have hh := openings a b v hv
  unfold k0_pay67
  revert hh
  generalize k0_pay66 (F := Ideal) v = w
  intro hh
  pointwise
  have h1 : ∀ x : Fin 128, (FloatOps.sitofp (F := Ideal) .f32 (BitVec.setWidth 32 (IntOp.cmpi .sge (BitVec.ofNat 32 n.val) (BitVec.ofNat 32 x.val))) : EReal)
      = (((if x.val ≤ n.val then 1 else 0 : ℕ)) : EReal) := fun x =>
    bit (x.val ≤ n.val) _ (is_ge _ _ (by have := n.isLt; omega) (by have := x.isLt; omega))
  simp only [h1, hh, cast_mul]
  rw [cast_sum]
  have h2 : (∑ x : Fin 128, (if x.val ≤ n.val then 1 else 0) * (if opens (held a b) x.val then 1 else 0)) = groups (held a b) n.val := by
    unfold groups
    refine Finset.sum_congr rfl fun x _ => ?_
    by_cases e1 : x.val ≤ n.val <;> by_cases e2 : opens (held a b) x.val <;> simp [e1, e2]
  rw [h2]
  have h3 := groups_le (held a b) n.val
  exact congrArg (fun w => IntOp.andi (IntOp.subi w 1#32) 1#32) (word _ (by omega))

theorem turned (n : Fin 128) : k0_pay68 (F := Ideal) v (ix2 0 n) = (((if opens (held a b) n.val then 1 else 0 : ℕ)) : EReal) := by
  refine Eq.trans ?_ (openings a b v hv n)
  unfold k0_pay68
  pointwise

end

/-- A later block's place where it opens a group of the first 39 blocks. -/
def seek (o' : FVec Ideal S1x128 .f32) (n x : Fin 128) : BitVec 32 :=
  Scalar.select (IntOp.andi (IntOp.andi (IntOp.cmpi .sgt (BitVec.ofNat 32 x.val) (BitVec.ofNat 32 n.val))
    (BitVec.ofBool (decide (0 < o' (ix2 0 x))))) (IntOp.cmpi .slt (BitVec.ofNat 32 x.val) 39#32)) (BitVec.ofNat 32 x.val) 128#32

theorem table_at (f : ℕ → ℕ) (hm : Monotone f) (hf : ∀ n, f n ≤ 7) (h : IVec S128x1 32) (o : FVec Ideal S128x1 .f32) (p : IVec S128x1 32)
    (o' : FVec Ideal S1x128 .f32) (hh : ∀ n : Fin 128, h (ix2 n 0) = BitVec.ofNat 32 (f n.val))
    (ho : ∀ n : Fin 128, o (ix2 n 0) = (((if opens f n.val then 1 else 0 : ℕ)) : EReal))
    (hp : ∀ n : Fin 128, p (ix2 n 0) = IntOp.andi (IntOp.subi (BitVec.ofNat 32 (groups f n.val)) 1#32) 1#32)
    (ho' : ∀ n : Fin 128, o' (ix2 0 n) = (((if opens f n.val then 1 else 0 : ℕ)) : EReal)) (n : Fin 128) (k : Fin 4) :
    k0_pay1 (F := Ideal) (iota .tc S128x1 32 [0] iota_S128x1_d0_w32) h o p o' (ix2 n k) = line f n.val k := by
  unfold k0_pay1
  match k with
  | ⟨0, _⟩ =>
    pointwise
    exact hh n
  | ⟨1, _⟩ =>
    pointwise
    rw [ho]
    exact word _ (by split <;> omega)
  | ⟨2, _⟩ =>
    pointwise
    exact hp n
  | ⟨3, _⟩ =>
    pointwise
    have hn := n.isLt
    have h1 : ∀ x : Fin 128, seek o' n x
          = BitVec.ofNat 32 (if (n.val < x.val ∧ opens f x.val) ∧ x.val < 39 then x.val else 128) := fun x => by
      have hx := x.isLt
      refine (chosen ((n.val < x.val ∧ opens f x.val) ∧ x.val < 39) _ ((and_one _ _).trans (and_congr ((and_one _ _).trans
        (and_congr (is_gt _ _ (by omega) (by omega)) ?_)) (is_lt x.val 39 (by omega) (by omega)))) _ _).trans (word_ite _ _ 128)
      rw [ho', StableHlo.Predicate.ofBool_eq_one_iff, decide_eq_true_iff]
      by_cases e : opens f x.val <;> simp [e]
    have h2 : ∀ x : Fin 128, (if (n.val < x.val ∧ opens f x.val) ∧ x.val < 39 then x.val else 128) < 2 ^ 31 := fun x => by
      have hx := x.isLt
      split <;> omega
    change Scalar.select (IntOp.cmpi .slt (Finset.fold IntOp.minsi (2147483647#32) (seek o' n) Finset.univ) 39#32)
      (Ideal.fptosi 32 (∑ x : Fin 128, Scalar.select (IntOp.cmpi .eq (BitVec.ofNat 32 x.val)
        (Finset.fold IntOp.minsi (2147483647#32) (seek o' n) Finset.univ)) (FloatOps.sitofp (F := Ideal) .f32 (h (ix2 x 0)) : EReal) 0))
      8#32 = _
    rw [funext h1, fold_min_word _ _ h2]
    have h3 : Finset.fold min 2147483647 (fun x : Fin 128 => if (n.val < x.val ∧ opens f x.val) ∧ x.val < 39 then x.val else 128)
        Finset.univ = next f n.val := rfl
    rw [h3]
    have hx := next_le f n.val
    show _ = BitVec.ofNat 32 (later f n.val)
    rw [← later_eq f hm hf n.val]
    generalize next f n.val = z at hx
    refine (chosen (z < 39) _ (is_lt z 39 (by omega) (by omega)) _ _).trans ?_
    by_cases e : z < 39
    · rw [if_pos e, if_pos e]
      have h4 : ∀ x : Fin 128, Scalar.select (IntOp.cmpi .eq (BitVec.ofNat 32 x.val) (BitVec.ofNat 32 z))
          (FloatOps.sitofp (F := Ideal) .f32 (h (ix2 x 0)) : EReal) 0 = (((if x.val = z then f x.val else 0 : ℕ)) : EReal) := fun x => by
        have hx := x.isLt
        refine (chosen (x.val = z) _ (is_eq _ _ (by omega) (by omega)) _ _).trans ?_
        split
        · rw [hh]
          exact real_word _ (lt_of_le_of_lt (hf _) (by norm_num))
        · simp
      simp only [h4]
      rw [cast_sum]
      have h5 : (∑ x : Fin 128, if x.val = z then f x.val else 0) = f z := by
        rw [Finset.sum_eq_single (⟨z, by omega⟩ : Fin 128)]
        · exact if_pos rfl
        · exact fun x _ hx => if_neg fun h => hx (Fin.ext h)
        · exact fun h => absurd (Finset.mem_univ _) h
      rw [h5]
      exact word _ (lt_of_le_of_lt (hf _) (by norm_num))
    · rw [if_neg e, if_neg e]

/-! ## The stored table -/

section
variable (x : FVec Ideal S4096x768 .f32) (gw : FVec Ideal S768x8 .f32) (gb : FVec Ideal S1x8 .f32) (gt : FVec Ideal S1x1 .f32)

theorem out9 (n : Fin 128) (k : Fin 4) : out0_9 (F := Ideal) x gw gb gt (ix2 n k)
    = line (held (one (RouterKernel.row (RouterKernel.sc x gw gb gt))) (two (RouterKernel.row (RouterKernel.sc x gw gb gt)))) n.val k := by
  have hv := RouterSpots.starts_at _ _ _ _ (RouterSpots.hot1 x gw gb gt) (RouterSpots.hot2 x gw gb gt)
  unfold_out out0_9
  frame_out
  exact table_at _ (held_mono _ _) (held_le _ _) _ _ _ _ (holds _ _ _ hv) (openings _ _ _ hv) (parity _ _ _ hv) (turned _ _ _ hv) n k

end

end Cert.Proof.RouterKernelBlocks

end
-- ==== Proof.RouterRefBlocks.lean ====
module

public import proofs.«01_k».proof.Proof.RouterRefSpots
public import proofs.«01_k».proof.Proof.RouterBlocks

/-! # The block table the reference gives -/

@[expose] public section

noncomputable section

namespace Cert.Proof.RouterRefBlocks

open Idealize.ShloMosaic Idealize.ShloMosaic.TcCoe Idealize.SL.Sem
open Cert.RouterRefIdeal Cert.RouterRefIdeal.Gen Cert.RouterRefIdeal.Value Cert.Proof.RouterMath Cert.Proof.RouterCounts
open Cert.Proof.RouterBlocks

variable (V0 : Valuation τ sig (Elt Ideal))

abbrev ones : Fin 4096 → Fin 8 := one (RouterRef.scores V0)
abbrev twos : Fin 4096 → Fin 8 := two (RouterRef.scores V0)

theorem rooms (j : Fin 8) : (res_main_v153 V0 : IVec S8 32) (ix1 j) = BitVec.ofNat 32 (room (ones V0) (twos V0) j) := by
  unfold res_main_v153
  have hw := RouterRefSpots.chosen V0
  revert hw
  generalize res_main_v139 V0 = w
  intro hw
  pointwise
  simp only [hw]
  have h1 : ∀ x r : Fin 8, BitVec.setWidth 32 (IntOp.cmpi .eq (BitVec.ofNat 32 r.val) (BitVec.ofNat 32 x.val))
      = BitVec.ofNat 32 (if r = x then 1 else 0) := fun x r => bit_word _ _ (RouterRefSpots.eq_index _ _)
  simp only [h1, fold_word, pair_all]
  have ha := upto_le (ones V0) j 4096
  have hb := upto_le (twos V0) j 4096
  unfold room
  generalize upto (ones V0) j 4096 = m at ha ⊢
  generalize upto (twos V0) j 4096 = n at hb ⊢
  rw [show IntOp.addi (BitVec.ofNat 32 (m + n)) 255#32 = BitVec.ofNat 32 (m + n + 255) from (BitVec.ofNat_add (m + n) 255).symm,
    over _ _ (by omega)]
  exact (BitVec.ofNat_mul ((m + n + 255) / 256) 256).symm

theorem holds (n : Fin 128) : (res_main_v195 V0 : IVec S128 32) (ix1 n) = BitVec.ofNat 32 (held (ones V0) (twos V0) n.val) := by
  unfold res_main_v195 res_main_v184
  have hr := rooms V0
  revert hr
  generalize res_main_v153 V0 = w
  intro hr
  pointwise
  simp only [hr]
  have h1 : ∀ i j : Fin 8, Scalar.select (IntOp.cmpi .slt (BitVec.ofNat 32 i.val) (BitVec.ofNat 32 j.val))
      (BitVec.ofNat 32 (room (ones V0) (twos V0) i)) (id (constantI S_ 32 0#32) ix0)
        = BitVec.ofNat 32 (if i < j then room (ones V0) (twos V0) i else 0) := fun i j =>
    (chosen (i < j) _ (RouterRefSpots.expert_lt i j) _ _).trans (word_ite _ _ 0)
  simp only [h1, fold_word]
  have h2 : ∀ j : Fin 8, BitVec.setWidth 32 (IntOp.cmpi .sle (BitVec.ofNat 32 (start (ones V0) (twos V0) j))
      (IntOp.muli 256#32 (BitVec.ofNat 32 n.val)))
        = BitVec.ofNat 32 (if start (ones V0) (twos V0) j ≤ 256 * n.val then 1 else 0) := fun j => bit_word _ _ (by
    have := start_le (ones V0) (twos V0) j
    rw [show IntOp.muli 256#32 (BitVec.ofNat 32 n.val) = BitVec.ofNat 32 (256 * n.val) from (BitVec.ofNat_mul 256 n.val).symm]
    exact is_le _ _ (by omega) (by omega))
  have h3 : ∀ j : Fin 8, (∑ i : Fin 8, if i < j then room (ones V0) (twos V0) i else 0) = start (ones V0) (twos V0) j := fun _ => rfl
  simp only [h3, h2, fold_word]
  exact less_one _ (begins _ _ _) (by have := counted_le (ones V0) (twos V0) n.val; omega)

theorem openings (n : Fin 128) : (res_main_v202 V0 : IVec S128 1) (ix1 n) = 1#1 ↔ opens (held (ones V0) (twos V0)) n.val := by
  unfold res_main_v202 res_main_v184
  have hh := holds V0
  revert hh
  generalize res_main_v195 V0 = w
  intro hh
  have hl := held_le (ones V0) (twos V0)
  pointwise
  have hn := n.isLt
  rw [or_one, StableHlo.Predicate.cmpi_eq_iff, is_ne, eq_word n.val 0 (by omega) (by omega)]
  unfold opens
  refine or_congr_right' fun h0 => ?_
  rw [dif_neg (by omega), hh, hh, Ne, eq_word _ _ (lt_of_le_of_lt (hl _) (by norm_num)) (lt_of_le_of_lt (hl _) (by norm_num))]

/-- The reference's table, from the experts of the blocks and the openings. -/
def table (h : IVec S128 32) (o : IVec S128 1) : IVec S128x4 32 :=
  concatenate S128x4 1 [⟨S128x1, ((broadcastInDim S128x1 ![0] bcast_S128_S128x1_0 h) : (⟨S128x1, .i32⟩ : BufTy).Contents (Elt Ideal))⟩, ⟨S128x1, ((broadcastInDim S128x1 ![0] bcast_S128_S128x1_0 (extui 32 o natLt_1_32)) : (⟨S128x1, .i32⟩ : BufTy).Contents (Elt Ideal))⟩, ⟨S128x1, ((broadcastInDim S128x1 ![0] bcast_S128_S128x1_0 (andi (subi (Host.reduce IntOp.addi (extui 32 (andi (broadcastInDim S128x128 ![0, 1] bcast_S1x128_S128x128_0_1 (broadcastInDim S1x128 ![1] bcast_S128_S1x128_1 o)) (cmpi .sle (broadcastInDim S128x128 ![0, 1] bcast_S1x128_S128x128_0_1 (broadcastInDim S1x128 ![1] bcast_S128_S1x128_1 (iotaInDim S128 32 0))) (broadcastInDim S128x128 ![0, 1] bcast_S128x1_S128x128_0_1 (broadcastInDim S128x1 ![0] bcast_S128_S128x1_0 (iotaInDim S128 32 0))))) natLt_1_32) (constantI S_ 32 0#32) reducesTo_S128x128_S128_d1 h_S_) (broadcastInDim S128 ![] bcast_S_S128 (constantI S_ 32 1#32))) (broadcastInDim S128 ![] bcast_S_S128 (constantI S_ 32 1#32)))) : (⟨S128x1, .i32⟩ : BufTy).Contents (Elt Ideal))⟩, ⟨S128x1, ((broadcastInDim S128x1 ![0] bcast_S128_S128x1_0 (Host.reduce IntOp.minsi (select (andi (broadcastInDim S128x128 ![0, 1] bcast_S1x128_S128x128_0_1 (broadcastInDim S1x128 ![1] bcast_S128_S1x128_1 (cmpi .slt (iotaInDim S128 32 0) (broadcastInDim S128 ![] bcast_S_S128 (constantI S_ 32 39#32))))) (cmpi .sgt (broadcastInDim S128x128 ![0, 1] bcast_S1x128_S128x128_0_1 (broadcastInDim S1x128 ![1] bcast_S128_S1x128_1 h)) (broadcastInDim S128x128 ![0, 1] bcast_S128x1_S128x128_0_1 (broadcastInDim S128x1 ![0] bcast_S128_S128x1_0 h)))) (broadcastInDim S128x128 ![1] bcast_S128_S128x128_1 h) (broadcastInDim S128x128 ![] bcast_S_S128x128 (id (constantI S_ 32 8#32)))) (constantI S_ 32 2147483647#32) reducesTo_S128x128_S128_d1 h_S_)) : (⟨S128x1, .i32⟩ : BufTy).Contents (Elt Ideal))⟩] concatenates_S128x1_S128x1_S128x1_S128x1_S128x4_d1

theorem table_at (f : ℕ → ℕ) (hf : ∀ n, f n ≤ 7) (h : IVec S128 32) (o : IVec S128 1)
    (hh : ∀ n : Fin 128, h (ix1 n) = BitVec.ofNat 32 (f n.val)) (ho : ∀ n : Fin 128, o (ix1 n) = 1#1 ↔ opens f n.val)
    (n : Fin 128) (k : Fin 4) : table h o (ix2 n k) = line f n.val k := by
  have hn := n.isLt
  have h1 : ∀ i : Fin 128, BitVec.setWidth 32 (IntOp.andi (o (ix1 i)) (IntOp.cmpi .sle (BitVec.ofNat 32 i.val) (BitVec.ofNat 32 n.val)))
      = BitVec.ofNat 32 (if opens f i.val ∧ i.val ≤ n.val then 1 else 0) := fun i =>
    bit_word _ _ ((and_one _ _).trans (and_congr (ho i) (is_le _ _ (by have := i.isLt; omega) (by omega))))
  have h2 : ∀ i : Fin 128, Scalar.select (IntOp.andi (IntOp.cmpi .slt (BitVec.ofNat 32 i.val) 39#32)
      (IntOp.cmpi .sgt (BitVec.ofNat 32 (f i.val)) (BitVec.ofNat 32 (f n.val)))) (BitVec.ofNat 32 (f i.val)) (id (constantI S_ 32 8#32) ix0)
        = BitVec.ofNat 32 (if i.val < 39 ∧ f n.val < f i.val then f i.val else 8) := fun i =>
    (chosen (i.val < 39 ∧ f n.val < f i.val) _ ((and_one _ _).trans (and_congr
      (is_lt i.val 39 (by have := i.isLt; omega) (by omega))
      (is_gt _ _ (by have := hf i.val; omega) (by have := hf n.val; omega)))) _ _).trans (word_ite _ _ 8)
  have h3 : ∀ i : Fin 128, (if i.val < 39 ∧ f n.val < f i.val then f i.val else 8) < 2 ^ 31 := fun i => by
    have := hf i.val
    split <;> omega
  unfold table
  match k with
  | ⟨0, _⟩ =>
    pointwise
    exact hh n
  | ⟨1, _⟩ =>
    pointwise
    exact bit_word _ _ (ho n)
  | ⟨2, _⟩ =>
    pointwise
    simp only [h1, fold_word]
    rfl
  | ⟨3, _⟩ =>
    pointwise
    simp only [hh, h2]
    exact fold_min_word _ _ h3

end Cert.Proof.RouterRefBlocks

end
-- ==== Proof.Router.lean ====
module

public import proofs.«01_k».proof.Defs
public import proofs.«01_k».proof.Proof.RouterKernel
public import proofs.«01_k».proof.Proof.RouterRef
public import proofs.«01_k».proof.Proof.RouterSpots
public import proofs.«01_k».proof.Proof.RouterRefSpots
public import proofs.«01_k».proof.Proof.RouterKernelBlocks
public import proofs.«01_k».proof.Proof.RouterRefBlocks
public import proofs.«01_k».proof.Proof.Gen.Router.Frame
public import proofs.«01_k».proof.Proof.Gen.RouterIdeal.Value
public import proofs.«01_k».proof.Proof.Gen.RouterRefIdeal.Run
public import Idealize.ShloMosaic.Lib.Pipeline.ValueKit
public import Idealize.ShloMosaic.Lib.Pointwise
public import Idealize.ShloMosaic.Lib.Quiescent

/-! # The router's claims

The kernel's six results and the reference's are the same functions of the four arguments: the loss, of every token its two
coefficients and its two positions, and the table of the blocks, all of them read off the table of softmax scores. -/

@[expose] public section

noncomputable section

namespace Cert.Proof.RouterClaims

open Idealize.ShloMosaic Idealize.ShloMosaic.TcCoe Idealize.SL.Sem
open Cert.RouterIdeal Cert.RouterIdeal.Gen Cert.Proof.RouterMath

variable (m : (ℓ : Loc nD τ sig) → Buf (Elt Ideal) ℓ)

/-! ## The arrays the region reads -/

/-- The tokens, one row each. -/
def tokens (c : Dev nD) : FVec Ideal S4096x768 .f32 :=
  shapeCast S4096x768 (m ((c : Thread nD τ).loc main_arg0)) shapeCasts_S2x2048x768_S4096x768

/-- The scores of every token, from the arrays the program is given. -/
def table (c : Dev nD) (t : Fin 4096) : Fin 8 → EReal := soft fun j =>
  Ideal.div ((∑ i : Fin 768, tokens m c (ix2 t i) * (m ((c : Thread nD τ).loc main_arg1) : FVec Ideal S768x8 .f32) (ix2 i j))
    + (m ((c : Thread nD τ).loc main_arg2) : FVec Ideal S8 .f32) (ix1 j)) ((m ((c : Thread nD τ).loc main_arg3) : FVec Ideal S1 .f32) (ix1 0))

theorem made0 (c : Dev nD) : V m c main_v0 = tokens m c := by
  unfold V
  after_results
  rfl

theorem made1 (c : Dev nD) (j : Fin 8) : V m c main_v1 (ix2 0 j) = m ((c : Thread nD τ).loc main_arg2) (ix1 j) := by
  have e : V m c main_v1 = shapeCast S1x8 (m ((c : Thread nD τ).loc main_arg2)) shapeCasts_S8_S1x8 := by
    unfold V
    after_results
    rfl
  rw [e]
  exact shapeCast_apply _ _ _ _ (by rw [Shape.rowMajor_val_two]; exact (Shape.rowMajor_val_one _).trans (by simp))

theorem made2 (c : Dev nD) : V m c main_v2 (ix2 0 0) = m ((c : Thread nD τ).loc main_arg3) (ix1 0) := by
  have e : V m c main_v2 = shapeCast S1x1 (m ((c : Thread nD τ).loc main_arg3)) shapeCasts_S1_S1x1 := by
    unfold V
    after_results
    rfl
  rw [e]
  exact shapeCast_apply _ _ _ _ (by rw [Shape.rowMajor_val_two]; exact (Shape.rowMajor_val_one _).trans (by simp))

/-! Every operand is one block, at the one point. -/

theorem e0 : ∀ t : Fin cfg0.N, win0_0.index t = ![0, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![0, 0] := (by decide +kernel : ∀ t : Fin grid0.N, _)
theorem e8 : ∀ t : Fin cfg0.N, win0_8.index t = ![0, 0] := (by decide +kernel : ∀ t : Fin grid0.N, _)
theorem e9 : ∀ t : Fin cfg0.N, win0_9.index t = ![0, 0] := (by decide +kernel : ∀ t : Fin grid0.N, _)

theorem blk0 (c : Dev nD) (t : Fin cfg0.N) : iblk m c 0 t = tokens m c := by
  rw [← made0]
  funext y
  blk_simp [iblk]
  refine congrArg _ ?_
  blk_ext [e0]

theorem blk1 (c : Dev nD) (t : Fin cfg0.N) : iblk m c 1 t = m ((c : Thread nD τ).loc main_arg1) := by
  funext y
  blk_simp [iblk]
  rw [V_main_arg1]
  refine congrArg _ ?_
  blk_ext [e1]

theorem blk2 (c : Dev nD) (t : Fin cfg0.N) (j : Fin 8) :
    iblk m c 2 t (ix2 0 j) = m ((c : Thread nD τ).loc main_arg2) (ix1 j) := by
  refine Eq.trans ?_ (made1 m c j)
  blk_simp [iblk]
  refine congrArg _ ?_
  blk_ext [e2]

theorem blk3 (c : Dev nD) (t : Fin cfg0.N) : iblk m c 3 t (ix2 0 0) = m ((c : Thread nD τ).loc main_arg3) (ix1 0) := by
  refine Eq.trans ?_ (made2 m c)
  blk_simp [iblk]
  refine congrArg _ ?_
  blk_ext [e3]

theorem table_eq (c : Dev nD) (p : Fin cfg0.N) :
    RouterKernel.row (RouterKernel.sc (iblk m c 0 p) (iblk m c 1 p) (iblk m c 2 p) (iblk m c 3 p)) = table m c := by
  funext t
  refine (RouterKernel.scores _ _ _ _ t).trans ?_
  unfold table RouterKernel.logit
  rw [blk0, blk1]
  simp only [blk2, blk3]

/-! ## What the region writes -/

/-- The loss, as a one by one array. -/
def result4 (c : Dev nD) : FVec Ideal S1x1 .f32 := fun _ => loss (table m c)
/-- The first coefficients. -/
def result5 (c : Dev nD) : FVec Ideal S4096x1 .f32 := fun i => coeff1 (i 0) (table m c)
/-- The second coefficients. -/
def result6 (c : Dev nD) : FVec Ideal S4096x1 .f32 := fun i => coeff2 (i 0) (table m c)
/-- The first positions. -/
def result7 (c : Dev nD) : IVec S4096x1 32 := fun i =>
  BitVec.ofNat 32 (RouterCounts.spot1 (RouterCounts.one (table m c)) (RouterCounts.two (table m c)) (i 0))
/-- The second positions. -/
def result8 (c : Dev nD) : IVec S4096x1 32 := fun i =>
  BitVec.ofNat 32 (RouterCounts.spot2 (RouterCounts.one (table m c)) (RouterCounts.two (table m c)) (i 0))
/-- The block table. -/
def result9 (c : Dev nD) : IVec S128x4 32 := fun i =>
  RouterBlocks.line (RouterBlocks.held (RouterCounts.one (table m c)) (RouterCounts.two (table m c))) (i 0).val (i 1)

section
variable (x : FVec Ideal S4096x768 .f32) (gw : FVec Ideal S768x8 .f32) (gb : FVec Ideal S1x8 .f32) (gt : FVec Ideal S1x1 .f32)

/-- The loss the region stores. -/
theorem out4 : out0_4 (F := Ideal) x gw gb gt (ix2 0 0) = loss (RouterKernel.row (RouterKernel.sc x gw gb gt)) := by
  unfold_out out0_4
  frame_out
  exact RouterKernel.stored4 x gw gb gt

/-- The first coefficients it stores. -/
theorem out5 (t : Fin 4096) : out0_5 (F := Ideal) x gw gb gt (ix2 t 0) = coeff1 t (RouterKernel.row (RouterKernel.sc x gw gb gt)) := by
  unfold_out out0_5
  frame_out
  exact RouterKernel.stored5 x gw gb gt t

/-- The second coefficients it stores. -/
theorem out6 (t : Fin 4096) : out0_6 (F := Ideal) x gw gb gt (ix2 t 0) = coeff2 t (RouterKernel.row (RouterKernel.sc x gw gb gt)) := by
  unfold_out out0_6
  frame_out
  exact RouterKernel.stored6 x gw gb gt t
end

theorem final4 (c : Dev nD) : (dats m 0 c).arrAt 4 cfg0.N = result4 m c := by
  refine (dats m 0 c).arrAt_eq_of_covers 4 _ (by decide +kernel) fun t hf y => ?_
  blk_simp
  rw [after0_4]
  obtain ⟨r, k, rfl⟩ : ∃ (r : Fin 1) (k : Fin 1), y = ix2 r k := ⟨y 0, y 1, eq_ix2 y⟩
  obtain rfl : r = 0 := Subsingleton.elim _ _
  obtain rfl : k = 0 := Subsingleton.elim _ _
  exact (out4 _ _ _ _).trans (congrArg loss (table_eq m c t))

theorem final5 (c : Dev nD) : (dats m 0 c).arrAt 5 cfg0.N = result5 m c := by
  refine (dats m 0 c).arrAt_eq_of_covers 5 _ (by decide +kernel) fun t hf y => ?_
  blk_simp
  rw [after0_5]
  obtain ⟨r, k, rfl⟩ : ∃ (r : Fin 4096) (k : Fin 1), y = ix2 r k := ⟨y 0, y 1, eq_ix2 y⟩
  obtain rfl : k = 0 := Subsingleton.elim _ _
  have hi : (win0_5.blk t).view.emb (ix2 r 0) = ix2 r 0 := by blk_ext [e5]
  exact ((out5 _ _ _ _ r).trans (congrArg (coeff1 r) (table_eq m c t))).trans (congrArg (result5 m c) hi).symm

theorem final6 (c : Dev nD) : (dats m 0 c).arrAt 6 cfg0.N = result6 m c := by
  refine (dats m 0 c).arrAt_eq_of_covers 6 _ (by decide +kernel) fun t hf y => ?_
  blk_simp
  rw [after0_6]
  obtain ⟨r, k, rfl⟩ : ∃ (r : Fin 4096) (k : Fin 1), y = ix2 r k := ⟨y 0, y 1, eq_ix2 y⟩
  obtain rfl : k = 0 := Subsingleton.elim _ _
  have hi : (win0_6.blk t).view.emb (ix2 r 0) = ix2 r 0 := by blk_ext [e6]
  exact ((out6 _ _ _ _ r).trans (congrArg (coeff2 r) (table_eq m c t))).trans (congrArg (result6 m c) hi).symm

theorem final7 (c : Dev nD) : (dats m 0 c).arrAt 7 cfg0.N = result7 m c := by
  refine (dats m 0 c).arrAt_eq_of_covers 7 _ (by decide +kernel) fun t hf y => ?_
  blk_simp
  rw [after0_7]
  obtain ⟨r, k, rfl⟩ : ∃ (r : Fin 4096) (k : Fin 1), y = ix2 r k := ⟨y 0, y 1, eq_ix2 y⟩
  obtain rfl : k = 0 := Subsingleton.elim _ _
  have hi : (win0_7.blk t).view.emb (ix2 r 0) = ix2 r 0 := by blk_ext [e7]
  exact ((RouterSpots.out7 _ _ _ _ r).trans (by rw [table_eq m c t]; rfl)).trans (congrArg (result7 m c) hi).symm

theorem final8 (c : Dev nD) : (dats m 0 c).arrAt 8 cfg0.N = result8 m c := by
  refine (dats m 0 c).arrAt_eq_of_covers 8 _ (by decide +kernel) fun t hf y => ?_
  blk_simp
  rw [after0_8]
  obtain ⟨r, k, rfl⟩ : ∃ (r : Fin 4096) (k : Fin 1), y = ix2 r k := ⟨y 0, y 1, eq_ix2 y⟩
  obtain rfl : k = 0 := Subsingleton.elim _ _
  have hi : (win0_8.blk t).view.emb (ix2 r 0) = ix2 r 0 := by blk_ext [e8]
  exact ((RouterSpots.out8 _ _ _ _ r).trans (by rw [table_eq m c t]; rfl)).trans (congrArg (result8 m c) hi).symm

theorem final9 (c : Dev nD) : (dats m 0 c).arrAt 9 cfg0.N = result9 m c := by
  refine (dats m 0 c).arrAt_eq_of_covers 9 _ (by decide +kernel) fun t hf y => ?_
  blk_simp
  rw [after0_9]
  obtain ⟨r, k, rfl⟩ : ∃ (r : Fin 128) (k : Fin 4), y = ix2 r k := ⟨y 0, y 1, eq_ix2 y⟩
  have hi : (win0_9.blk t).view.emb (ix2 r k) = ix2 r k := by blk_ext [e9]
  exact ((RouterKernelBlocks.out9 _ _ _ _ r k).trans (by rw [table_eq m c t]; rfl)).trans (congrArg (result9 m c) hi).symm

/-! ## The claims -/

theorem frame_kernel : @Cert.quiescent_Router Cert.Router.Gen.facts := fun m ρ _ => Cert.Router.Gen.frame m ρ
theorem frame_ideal : @Cert.quiescent_RouterIdeal Cert.RouterIdeal.Gen.facts := fun m ρ _ => Cert.RouterIdeal.Gen.frame m ρ
/-- The reference runs on the host alone and declares no semaphore. -/
theorem frame_reference : @Cert.quiescent_RouterRefIdeal Cert.RouterRefIdeal.Gen.facts := fun m ρ _ =>
  (θ_run Cert.RouterRefIdeal.defs _ _).mono (fun r h => ⟨fun c => (h c).2.2.2.2.2.2,
      Idealize.ShloMosaic.sem_eq_zero_of_no_sems (by decide) r.2⟩)
    (Cert.RouterRefIdeal.Value.run (F := Ideal) m ρ)

theorem algebraic : @Cert.algebraic_RouterIdeal_RouterRefIdeal Cert.RouterIdeal.Gen.facts Cert.RouterRefIdeal.Gen.facts := by
  intro m ρ m' ρ' _ hagree
  refine ⟨fun c => result4 m c, fun c => result5 m c, fun c => result6 m c, fun c => result7 m c, fun c => result8 m c,
    fun c => result9 m c, ?_, ?_⟩
  · exact (θ_run Cert.RouterIdeal.defs _ _).mono (fun _ h c => ⟨(h c).1.trans (final4 m c), (h c).2.1.trans (final5 m c),
      (h c).2.2.1.trans (final6 m c), (h c).2.2.2.1.trans (final7 m c), (h c).2.2.2.2.1.trans (final8 m c),
      (h c).2.2.2.2.2.1.trans (final9 m c), (h c).2.2.2.2.2.2⟩) (Cert.RouterIdeal.Value.run_blocks (F := Ideal) m ρ)
  have key : ∀ c, RouterRef.scores (StableHlo.launchContents m' c) = table m c := fun c => by
    obtain ⟨h0, h1, h2, h3⟩ := hagree c
    funext t
    rw [RouterRef.scores_eq]
    unfold table tokens
    rw [← h0, ← h1, ← h2, ← h3]
    rfl
  refine (θ_run Cert.RouterRefIdeal.defs _ _).mono (fun _ h c => ⟨(h c).1.trans ?_, (h c).2.1.trans ?_, (h c).2.2.1.trans ?_,
      (h c).2.2.2.1.trans ?_, (h c).2.2.2.2.1.trans ?_, (h c).2.2.2.2.2.1.trans ?_, (h c).2.2.2.2.2.2⟩)
    (Cert.RouterRefIdeal.Value.run (F := Ideal) m' ρ')
  · funext i
    show _ = loss (table m c)
    rw [← key]
    pointwise
    unfold loss
    refine congrArg _ (Finset.sum_congr rfl fun j _ => ?_)
    refine congrArg₂ _ (RouterRef.uniform _ j) (congrArg₂ _ (congrArg _ (RouterRef.uniform _ j)) (congrArg _ ?_))
    exact congrArg₂ _ (RouterRef.usage _ j) (Finset.sum_congr rfl fun k _ => RouterRef.usage _ k)
  · funext i
    obtain ⟨r, k, rfl⟩ : ∃ (r : Fin 4096) (k : Fin 1), i = ix2 r k := ⟨i 0, i 1, eq_ix2 i⟩
    obtain rfl : k = 0 := Subsingleton.elim _ _
    show _ = coeff1 r (table m c)
    rw [← key, ← RouterRef.first]
    pointwise
  · funext i
    obtain ⟨r, k, rfl⟩ : ∃ (r : Fin 4096) (k : Fin 1), i = ix2 r k := ⟨i 0, i 1, eq_ix2 i⟩
    obtain rfl : k = 0 := Subsingleton.elim _ _
    show _ = coeff2 r (table m c)
    rw [← key, ← RouterRef.second]
    pointwise
  · funext i
    obtain ⟨r, k, rfl⟩ : ∃ (r : Fin 4096) (k : Fin 1), i = ix2 r k := ⟨i 0, i 1, eq_ix2 i⟩
    obtain rfl : k = 0 := Subsingleton.elim _ _
    refine (RouterRefSpots.first (StableHlo.launchContents m' c) r).trans ?_
    show _ = BitVec.ofNat 32 (RouterCounts.spot1 (RouterCounts.one (table m c)) (RouterCounts.two (table m c)) r)
    rw [key]
  · funext i
    obtain ⟨r, k, rfl⟩ : ∃ (r : Fin 4096) (k : Fin 1), i = ix2 r k := ⟨i 0, i 1, eq_ix2 i⟩
    obtain rfl : k = 0 := Subsingleton.elim _ _
    refine (RouterRefSpots.second (StableHlo.launchContents m' c) r).trans ?_
    show _ = BitVec.ofNat 32 (RouterCounts.spot2 (RouterCounts.one (table m c)) (RouterCounts.two (table m c)) r)
    rw [key]
  · funext i
    obtain ⟨r, k, rfl⟩ : ∃ (r : Fin 128) (k : Fin 4), i = ix2 r k := ⟨i 0, i 1, eq_ix2 i⟩
    refine (RouterRefBlocks.table_at _ (RouterBlocks.held_le _ _) _ _ (RouterRefBlocks.holds (StableHlo.launchContents m' c))
      (RouterRefBlocks.openings (StableHlo.launchContents m' c)) r k).trans ?_
    show RouterBlocks.line (RouterBlocks.held (RouterCounts.one (RouterRef.scores (StableHlo.launchContents m' c)))
      (RouterCounts.two (RouterRef.scores (StableHlo.launchContents m' c)))) r.val k
        = RouterBlocks.line (RouterBlocks.held (RouterCounts.one (table m c)) (RouterCounts.two (table m c))) r.val k
    rw [key]

end Cert.Proof.RouterClaims

end
-- ==== Proof.ExpertsNames.lean ====
/-
  The grouped expert products, first part: the names the later parts use.

  The kernel keeps two copies of one expert's weights in on-chip memory, slot 0 and slot 1. While a run of row
  blocks that share an expert is worked from one slot, the next run's expert is already on its way into the other.
  A transfer is started at one grid point and waited for at another, so the proof carries it between the points.
-/
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.ExpertsIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.ExpertsIdeal.Gen

variable {F : FTy → Type} [FloatOps F]

local notation "𝕄" => MT nD τ sig Unit (Elt F) ℕ (Pipeline.UD sig nD τ) ℕ

/-! ## Memories -/

/-- The four tables: the expert of each row block, whether it begins a run, the slot it reads, the next expert. -/
abbrev tabBe : Memref sig .tc .smem S39 .i32 := Memref.whole main_arg0
abbrev tabFb : Memref sig .tc .smem S39 .i32 := Memref.whole main_arg1
abbrev tabPar : Memref sig .tc .smem S39 .i32 := Memref.whole main_arg2
abbrev tabNxt : Memref sig .tc .smem S39 .i32 := Memref.whole main_arg3
/-- The two weight arrays, left in place. -/
abbrev wUp : Memref sig .tc .hbm S8x768x2048 .f32 := Memref.whole main_arg5
abbrev wDn : Memref sig .tc .hbm S8x2048x768 .f32 := Memref.whole main_arg7
/-- The two on-chip buffers, two slots each. -/
abbrev bufUp : Memref sig .tc .vmem S2x768x2048 .f32 := Memref.whole cc0_scratch0
abbrev bufDn : Memref sig .tc .vmem S2x2048x768 .f32 := Memref.whole cc0_scratch1

/-! ## Experts, slots and their cells -/

abbrev at8 (e : Fin 8) : Fin 3 → Nat := ![e.val, 0, 0]
abbrev at2 (s : Fin 2) : Fin 3 → Nat := ![s.val, 0, 0]
abbrev cel (s : Fin 2) : Fin 1 → Nat := ![s.val]

theorem at8_up (e : Fin 8) : ∀ a, at8 e a + S1x768x2048.size a ≤ S8x768x2048.size a := by revert e; decide
theorem at8_dn (e : Fin 8) : ∀ a, at8 e a + S1x2048x768.size a ≤ S8x2048x768.size a := by revert e; decide
theorem at2_up (s : Fin 2) : ∀ a, at2 s a + S1x768x2048.size a ≤ S2x768x2048.size a := by revert s; decide
theorem at2_dn (s : Fin 2) : ∀ a, at2 s a + S1x2048x768.size a ≤ S2x2048x768.size a := by revert s; decide
theorem cel_in (s : Fin 2) : ∀ a, cel s a + S1.size a ≤ S2.size a := by revert s; decide

/-- Expert `e`'s weights in the arrays. -/
def expUp (e : Fin 8) : Memref sig .tc .hbm S768x2048 .f32 :=
  (wUp.slice (Rect.unit (s := S8x768x2048) (at8 e) S1x768x2048.size (at8_up e)) (fun _ => rfl)).squeeze S768x2048 squeezes_S1x768x2048_S768x2048
def expDn (e : Fin 8) : Memref sig .tc .hbm S2048x768 .f32 :=
  (wDn.slice (Rect.unit (s := S8x2048x768) (at8 e) S1x2048x768.size (at8_dn e)) (fun _ => rfl)).squeeze S2048x768 squeezes_S1x2048x768_S2048x768
/-- Slot `s` of the on-chip buffers. -/
def slotUp (s : Fin 2) : Memref sig .tc .vmem S768x2048 .f32 :=
  (bufUp.slice (Rect.unit (s := S2x768x2048) (at2 s) S1x768x2048.size (at2_up s)) (fun _ => rfl)).squeeze S768x2048 squeezes_S1x768x2048_S768x2048
def slotDn (s : Fin 2) : Memref sig .tc .vmem S2048x768 .f32 :=
  (bufDn.slice (Rect.unit (s := S2x2048x768) (at2 s) S1x2048x768.size (at2_dn s)) (fun _ => rfl)).squeeze S2048x768 squeezes_S1x2048x768_S2048x768
/-- Slot `s`'s semaphores. -/
def celUp (s : Fin 2) : DmaSems sig S_ := (cc0_scratch2.slice (Rect.unit (s := S2) (cel s) S1.size (cel_in s))).squeeze S_ squeezes_S1_S_
def celDn (s : Fin 2) : DmaSems sig S_ := (cc0_scratch3.slice (Rect.unit (s := S2) (cel s) S1.size (cel_in s))).squeeze S_ squeezes_S1_S_

/-- The other slot. -/
abbrev oth (s : Fin 2) : Fin 2 := 1 - s
/-- An expert's number and a slot's number as the tables hold them. -/
def wE (e : Fin 8) : BitVec 32 := BitVec.ofNat 32 e.val
def wS (s : Fin 2) : BitVec 32 := BitVec.ofNat 32 s.val

instance (s : Fin 2) : ClosedOff (at2 s) := ⟨at2 s, rfl⟩
instance (e : Fin 8) : ClosedOff (at8 e) := ⟨at8 e, rfl⟩
theorem ld_up (s : Fin 2) : k0_off20 (wS s) = at2 s := by revert s; decide
theorem ld_dn (s : Fin 2) : k0_off21 (wS s) = at2 s := by revert s; decide
instance (s : Fin 2) : ClosedOff (k0_off20 (wS s)) := ⟨at2 s, ld_up s⟩
instance (s : Fin 2) : ClosedOff (k0_off21 (wS s)) := ⟨at2 s, ld_dn s⟩

/-! ### The slices the body takes are these -/

theorem celUp_of {off : Fin 1 → Nat} {s : Fin 2} (e : off = cel s) (hh) :
    (cc0_scratch2.slice (Rect.unit (s := S2) off S1.size hh)).squeeze S_ squeezes_S1_S_ = celUp s :=
  congrArg (fun A : DmaSems sig S1 => A.squeeze S_ squeezes_S1_S_) (SemArray.slice_unit_congr _ e _ _)
theorem celDn_of {off : Fin 1 → Nat} {s : Fin 2} (e : off = cel s) (hh) :
    (cc0_scratch3.slice (Rect.unit (s := S2) off S1.size hh)).squeeze S_ squeezes_S1_S_ = celDn s :=
  congrArg (fun A : DmaSems sig S1 => A.squeeze S_ squeezes_S1_S_) (SemArray.slice_unit_congr _ e _ _)
theorem slotUp_of {off : Fin 3 → Nat} {s : Fin 2} (e : off = at2 s) (hh hs) :
    (bufUp.slice (Rect.unit (s := S2x768x2048) off S1x768x2048.size hh) hs).squeeze S768x2048 squeezes_S1x768x2048_S768x2048 = slotUp s :=
  congrArg (fun M : Memref sig .tc .vmem S1x768x2048 .f32 => M.squeeze S768x2048 squeezes_S1x768x2048_S768x2048) (Memref.slice_unit_congr _ e _ _ _ _)
theorem slotDn_of {off : Fin 3 → Nat} {s : Fin 2} (e : off = at2 s) (hh hs) :
    (bufDn.slice (Rect.unit (s := S2x2048x768) off S1x2048x768.size hh) hs).squeeze S2048x768 squeezes_S1x2048x768_S2048x768 = slotDn s :=
  congrArg (fun M : Memref sig .tc .vmem S1x2048x768 .f32 => M.squeeze S2048x768 squeezes_S1x2048x768_S2048x768) (Memref.slice_unit_congr _ e _ _ _ _)
theorem expUp_of {off : Fin 3 → Nat} {s : Fin 8} (e : off = at8 s) (hh hs) :
    (wUp.slice (Rect.unit (s := S8x768x2048) off S1x768x2048.size hh) hs).squeeze S768x2048 squeezes_S1x768x2048_S768x2048 = expUp s :=
  congrArg (fun M : Memref sig .tc .hbm S1x768x2048 .f32 => M.squeeze S768x2048 squeezes_S1x768x2048_S768x2048) (Memref.slice_unit_congr _ e _ _ _ _)
theorem expDn_of {off : Fin 3 → Nat} {s : Fin 8} (e : off = at8 s) (hh hs) :
    (wDn.slice (Rect.unit (s := S8x2048x768) off S1x2048x768.size hh) hs).squeeze S2048x768 squeezes_S1x2048x768_S2048x768 = expDn s :=
  congrArg (fun M : Memref sig .tc .hbm S1x2048x768 .f32 => M.squeeze S2048x768 squeezes_S1x2048x768_S2048x768) (Memref.slice_unit_congr _ e _ _ _ _)

section Canon
variable (e : Fin 8) (s : Fin 2)

/-- the first block's transfers -/
@[sl_canon] theorem c2 (hh) : (cc0_scratch2.slice (Rect.unit (s := S2) (k0_off2 (wS s)) S1.size hh)).squeeze S_ squeezes_S1_S_ = celUp s := celUp_of (by revert s; decide) _
@[sl_canon] theorem c3 (hh hs) : (bufUp.slice (Rect.unit (s := S2x768x2048) (k0_off3 (wS s)) S1x768x2048.size hh) hs).squeeze S768x2048 squeezes_S1x768x2048_S768x2048 = slotUp s := slotUp_of (by revert s; decide) _ _
@[sl_canon] theorem c4 (hh hs) : (wUp.slice (Rect.unit (s := S8x768x2048) (k0_off4 (wE e)) S1x768x2048.size hh) hs).squeeze S768x2048 squeezes_S1x768x2048_S768x2048 = expUp e := expUp_of (by revert e; decide) _ _
@[sl_canon] theorem c5 (hh) : (cc0_scratch3.slice (Rect.unit (s := S2) (k0_off5 (wS s)) S1.size hh)).squeeze S_ squeezes_S1_S_ = celDn s := celDn_of (by revert s; decide) _
@[sl_canon] theorem c6 (hh hs) : (bufDn.slice (Rect.unit (s := S2x2048x768) (k0_off6 (wS s)) S1x2048x768.size hh) hs).squeeze S2048x768 squeezes_S1x2048x768_S2048x768 = slotDn s := slotDn_of (by revert s; decide) _ _
@[sl_canon] theorem c7 (hh hs) : (wDn.slice (Rect.unit (s := S8x2048x768) (k0_off7 (wE e)) S1x2048x768.size hh) hs).squeeze S2048x768 squeezes_S1x2048x768_S2048x768 = expDn e := expDn_of (by revert e; decide) _ _
/-- the next run's transfers -/
@[sl_canon] theorem c10 (hh) : (cc0_scratch2.slice (Rect.unit (s := S2) (k0_off10 (wS s)) S1.size hh)).squeeze S_ squeezes_S1_S_ = celUp (oth s) := celUp_of (by revert s; decide) _
@[sl_canon] theorem c10' (hh) : (cc0_scratch3.slice (Rect.unit (s := S2) (k0_off10 (wS s)) S1.size hh)).squeeze S_ squeezes_S1_S_ = celDn (oth s) := celDn_of (by revert s; decide) _
@[sl_canon] theorem c11 (hh hs) : (bufUp.slice (Rect.unit (s := S2x768x2048) (k0_off11 (wS s)) S1x768x2048.size hh) hs).squeeze S768x2048 squeezes_S1x768x2048_S768x2048 = slotUp (oth s) := slotUp_of (by revert s; decide) _ _
@[sl_canon] theorem c12 (hh hs) : (wUp.slice (Rect.unit (s := S8x768x2048) (k0_off12 (wE e)) S1x768x2048.size hh) hs).squeeze S768x2048 squeezes_S1x768x2048_S768x2048 = expUp e := expUp_of (by revert e; decide) _ _
@[sl_canon] theorem c13 (hh hs) : (bufDn.slice (Rect.unit (s := S2x2048x768) (k0_off13 (wS s)) S1x2048x768.size hh) hs).squeeze S2048x768 squeezes_S1x2048x768_S2048x768 = slotDn (oth s) := slotDn_of (by revert s; decide) _ _
@[sl_canon] theorem c14 (hh hs) : (wDn.slice (Rect.unit (s := S8x2048x768) (k0_off14 (wE e)) S1x2048x768.size hh) hs).squeeze S2048x768 squeezes_S1x2048x768_S2048x768 = expDn e := expDn_of (by revert e; decide) _ _
/-- the waits -/
@[sl_canon] theorem c15 (hh) : (cc0_scratch2.slice (Rect.unit (s := S2) (k0_off15 (wS s)) S1.size hh)).squeeze S_ squeezes_S1_S_ = celUp s := celUp_of (by revert s; decide) _
@[sl_canon] theorem c15' (hh) : (cc0_scratch3.slice (Rect.unit (s := S2) (k0_off15 (wS s)) S1.size hh)).squeeze S_ squeezes_S1_S_ = celDn s := celDn_of (by revert s; decide) _
@[sl_canon] theorem c16 (hh hs) : (bufUp.slice (Rect.unit (s := S2x768x2048) (k0_off16 (wS s)) S1x768x2048.size hh) hs).squeeze S768x2048 squeezes_S1x768x2048_S768x2048 = slotUp s := slotUp_of (by revert s; decide) _ _
@[sl_canon] theorem c17 (hh hs) : (wUp.slice (Rect.unit (s := S8x768x2048) (k0_off17 (wE e)) S1x768x2048.size hh) hs).squeeze S768x2048 squeezes_S1x768x2048_S768x2048 = expUp e := expUp_of (by revert e; decide) _ _
@[sl_canon] theorem c18 (hh hs) : (bufDn.slice (Rect.unit (s := S2x2048x768) (k0_off18 (wS s)) S1x2048x768.size hh) hs).squeeze S2048x768 squeezes_S1x2048x768_S2048x768 = slotDn s := slotDn_of (by revert s; decide) _ _
@[sl_canon] theorem c19 (hh hs) : (wDn.slice (Rect.unit (s := S8x2048x768) (k0_off19 (wE e)) S1x2048x768.size hh) hs).squeeze S2048x768 squeezes_S1x2048x768_S2048x768 = expDn e := expDn_of (by revert e; decide) _ _

end Canon

/-! ## The checks the body makes of the words it reads -/

theorem chk_expert (i : grid0.Coords) (e : Fin 8) : k0_chk2 i (wE e) := ⟨fun _ => by revert e; decide, fun _ => by revert e; decide⟩
theorem chk_slot (i : grid0.Coords) (s : Fin 2) : k0_chk1 i (wS s) :=
  ⟨fun _ => by revert s; decide, fun _ => by revert s; decide, fun _ => by revert s; decide, fun _ => by revert s; decide, by revert s; decide, by revert s; decide⟩
theorem chk_wait (e : Fin 8) (s : Fin 2) (w : BitVec 32) : k0_chk4 (wE e) (wS s) w :=
  ⟨fun _ => by revert s; decide, fun _ => by revert s; decide, fun _ => by revert e; decide, fun _ => by revert s; decide, fun _ => by revert e; decide⟩
theorem chk_next (s : Fin 2) (w : BitVec 32) (n : Fin 8) : k0_chk3 (wS s) w (wE n) :=
  ⟨fun _ _ => by revert s; decide, fun _ _ => by revert s; decide, fun _ _ => by revert n; decide, fun _ _ => by revert s; decide, fun _ _ => by revert n; decide⟩
theorem chk_none (s : Fin 2) (w x : BitVec 32) (h : ¬ k0_cond3 x = 1#1) : k0_chk3 (wS s) w x :=
  ⟨fun _ h3 => absurd h3 h, fun _ h3 => absurd h3 h, fun _ h3 => absurd h3 h, fun _ h3 => absurd h3 h, fun _ h3 => absurd h3 h⟩
theorem cond3_expert (n : Fin 8) : k0_cond3 (wE n) = 1#1 := by revert n; decide

/-! ## What a copied slot loads -/

/-- A box of one array copied whole into a box of another, each seen without its leading axis of one: a load of
    the second box, leading axis kept, reads the first. -/
theorem load_copied {κ κ' : Kind} {sp sp' : Space} {n : ℕ} {d d' : Fin n → ℕ} {e : EltTy}
    (v : View sig κ sp ⟨n, d⟩ e) (u : View sig κ' sp' ⟨n, d'⟩ e) {size off off₂ off' : Fin n → ℕ}
    (inb : ∀ a, off a + size a ≤ d a) (inb₂ : ∀ a, off₂ a + size a ≤ d a) (inb' : ∀ a, off' a + size a ≤ d' a) (ho : off₂ = off)
    (T : Shape) (h : T.numel = (⟨n, size⟩ : Shape).numel) (f) (X) :
    v.readAt (Elt F) (Rect.unit (s := ⟨n, d⟩) off₂ size inb₂).toLoadRect
        (((v.slice (Rect.unit (s := ⟨n, d⟩) off size inb)).reshape T h).writes (Elt F) f
          [⟨Rect.whole T, ReadAs.same.apply (((u.slice (Rect.unit (s := ⟨n, d'⟩) off' size inb')).reshape T h).read (Elt F) X)⟩])
      = (u.slice (Rect.unit (s := ⟨n, d'⟩) off' size inb')).read (Elt F) X := by
  subst ho
  funext x
  set G := ((v.slice (Rect.unit (s := ⟨n, d⟩) off₂ size inb)).reshape T h).writes (Elt F) f
    [⟨Rect.whole T, ReadAs.same.apply (((u.slice (Rect.unit (s := ⟨n, d'⟩) off' size inb')).reshape T h).read (Elt F) X)⟩] with hG
  have e1 : ((v.slice (Rect.unit (s := ⟨n, d⟩) off₂ size inb)).reshape T h).read (Elt F) G
      = ReadAs.same.apply (((u.slice (Rect.unit (s := ⟨n, d'⟩) off' size inb')).reshape T h).read (Elt F) X) := View.read_writes_whole _ _ _
  have e2 := congrFun e1 ((Shape.reshapeEquiv h).symm x)
  have e3 : ((v.slice (Rect.unit (s := ⟨n, d⟩) off₂ size inb)).reshape T h).read (Elt F) G ((Shape.reshapeEquiv h).symm x)
      = (v.slice (Rect.unit (s := ⟨n, d⟩) off₂ size inb)).read (Elt F) G (Shape.reshapeEquiv h ((Shape.reshapeEquiv h).symm x)) := rfl
  have e4 : ReadAs.same.apply (((u.slice (Rect.unit (s := ⟨n, d'⟩) off' size inb')).reshape T h).read (Elt F) X) ((Shape.reshapeEquiv h).symm x)
      = (u.slice (Rect.unit (s := ⟨n, d'⟩) off' size inb')).read (Elt F) X (Shape.reshapeEquiv h ((Shape.reshapeEquiv h).symm x)) := rfl
  rw [e3, e4, Equiv.apply_symm_apply] at e2
  exact e2

/-! ## Pieces of memory -/

section Pieces
variable (c : Dev nD)

/-- Half of each weight array goes with each slot. -/
def half (s : Fin 2) : PosShare TreeShare := if s = 0 then fullShare.left else fullShare.right

abbrev BufUp : Type := Buf (Elt F) (wUp.view.loc (c : Thread nD τ))
abbrev BufDn : Type := Buf (Elt F) (wDn.view.loc (c : Thread nD τ))
variable (xu : BufUp (F := F) c) (xd : BufDn (F := F) c)

abbrev zeroUp (s : Fin 2) : sProp 𝕄 := semVal ((c : Thread nD τ), SemLoc.dma (celUp s).sem) 0
abbrev zeroDn (s : Fin 2) : sProp 𝕄 := semVal ((c : Thread nD τ), SemLoc.dma (celDn s).sem) 0
abbrev hasUp (s : Fin 2) (f : Buf (Elt F) ((slotUp s).view.loc (c : Thread nD τ))) : sProp 𝕄 :=
  (slotUp s).view.loc (c : Thread nD τ) ↦[(slotUp s).view.set]{fullShare} f
abbrev hasDn (s : Fin 2) (f : Buf (Elt F) ((slotDn s).view.loc (c : Thread nD τ))) : sProp 𝕄 :=
  (slotDn s).view.loc (c : Thread nD τ) ↦[(slotDn s).view.set]{fullShare} f
abbrev homeUp (s : Fin 2) (e : Fin 8) : sProp 𝕄 := (expUp e).view.loc (c : Thread nD τ) ↦[(expUp e).view.set]{half s} xu
abbrev homeDn (s : Fin 2) (e : Fin 8) : sProp 𝕄 := (expDn e).view.loc (c : Thread nD τ) ↦[(expDn e).view.set]{half s} xd
/-- What a transfer of expert `e` leaves in slot `s`. -/
abbrev gotUp (s : Fin 2) (e : Fin 8) (f : Buf (Elt F) ((slotUp s).view.loc (c : Thread nD τ))) : Buf (Elt F) ((slotUp s).view.loc (c : Thread nD τ)) :=
  (slotUp s).view.writes (Elt F) f [⟨Rect.whole S768x2048, ReadAs.same.apply ((expUp e).view.read (Elt F) xu)⟩]
abbrev gotDn (s : Fin 2) (e : Fin 8) (f : Buf (Elt F) ((slotDn s).view.loc (c : Thread nD τ))) : Buf (Elt F) ((slotDn s).view.loc (c : Thread nD τ)) :=
  (slotDn s).view.writes (Elt F) f [⟨Rect.whole S2048x768, ReadAs.same.apply ((expDn e).view.read (Elt F) xd)⟩]
/-- Expert `e` on its way into slot `s`. -/
abbrev flyUp (s : Fin 2) (e : Fin 8) (f : Buf (Elt F) ((slotUp s).view.loc (c : Thread nD τ))) : sProp 𝕄 :=
  Transfers.Flight countersEmb (c : Thread nD τ) (SemLoc.dma (celUp s).sem) () 196608 iprop(hasUp c s (gotUp c xu s e f) ∗ homeUp c xu s e)
abbrev flyDn (s : Fin 2) (e : Fin 8) (f : Buf (Elt F) ((slotDn s).view.loc (c : Thread nD τ))) : sProp 𝕄 :=
  Transfers.Flight countersEmb (c : Thread nD τ) (SemLoc.dma (celDn s).sem) () 196608 iprop(hasDn c s (gotDn c xd s e f) ∗ homeDn c xd s e)

/-- Expert `e`'s weights as a load of a slot holding them reads them. -/
def takeUp (e : Fin 8) : Vec F S1x768x2048 .f32 :=
  (wUp.view.slice (Rect.unit (s := S8x768x2048) (at8 e) S1x768x2048.size (at8_up e))).read (Elt F) xu
def takeDn (e : Fin 8) : Vec F S1x2048x768 .f32 :=
  (wDn.view.slice (Rect.unit (s := S8x2048x768) (at8 e) S1x2048x768.size (at8_dn e))).read (Elt F) xd

theorem load_up (s : Fin 2) (e : Fin 8) (f) (hh) :
    View.readAt (Elt F) bufUp.view (Rect.unit (s := S2x768x2048) (k0_off20 (wS s)) S1x768x2048.size hh).toLoadRect (gotUp c xu s e f) = takeUp c xu e :=
  load_copied bufUp.view wUp.view (at2_up s) hh (at8_up e) (ld_up s) S768x2048 squeezes_S1x768x2048_S768x2048.numel_eq f xu
theorem load_dn (s : Fin 2) (e : Fin 8) (f) (hh) :
    View.readAt (Elt F) bufDn.view (Rect.unit (s := S2x2048x768) (k0_off21 (wS s)) S1x2048x768.size hh).toLoadRect (gotDn c xd s e f) = takeDn c xd e :=
  load_copied bufDn.view wDn.view (at2_dn s) hh (at8_dn e) (ld_dn s) S2048x768 squeezes_S1x2048x768_S2048x768.numel_eq f xd

/-! ## The three states of a slot -/

/-- Nothing in it, nothing on its way. -/
def Free (s : Fin 2) : sProp 𝕄 :=
  iprop((∃ f, hasUp c s f) ∗ (∃ f, hasDn c s f) ∗ zeroUp c s ∗ zeroDn c s ∗ bigSep Finset.univ (homeUp c xu s) ∗ bigSep Finset.univ (homeDn c xd s))
/-- Expert `e` in it. -/
def Full (s : Fin 2) (e : Fin 8) : sProp 𝕄 :=
  iprop((∃ f, hasUp c s (gotUp c xu s e f)) ∗ (∃ f, hasDn c s (gotDn c xd s e f)) ∗ zeroUp c s ∗ zeroDn c s ∗ bigSep Finset.univ (homeUp c xu s) ∗ bigSep Finset.univ (homeDn c xd s))
/-- Expert `e` on its way into it. -/
def Fly (s : Fin 2) (e : Fin 8) : sProp 𝕄 :=
  iprop((∃ f, flyUp c xu s e f) ∗ (∃ f, flyDn c xd s e f) ∗ bigSep (Finset.univ.erase e) (homeUp c xu s) ∗ bigSep (Finset.univ.erase e) (homeDn c xd s))

theorem free_of_full (s : Fin 2) (e : Fin 8) : Full c xu xd s e ⊢ Free c xu xd s := by
  unfold Full Free
  iintro ⟨⟨%f, H1⟩, ⟨%g, H2⟩, H⟩
  isplitl [H1]; · iexists _; iexact H1
  isplitl [H2]; · iexists _; iexact H2
  iexact H

/-- One expert beside the rest. -/
theorem one_home (P : Fin 8 → sProp 𝕄) (e : Fin 8) : bigSep Finset.univ P = iprop(P e ∗ bigSep (Finset.univ.erase e) P) := by
  conv_lhs => rw [← Finset.insert_erase (Finset.mem_univ e), bigSep_insert (Finset.notMem_erase e _)]
  rfl

/-- A slot written by a transfer that has been waited for. -/
theorem to_full (s : Fin 2) (e : Fin 8) (f1 f2) :
    iprop(hasUp c s (gotUp c xu s e f1) ∗ hasDn c s (gotDn c xd s e f2) ∗ zeroUp c s ∗ zeroDn c s
      ∗ homeUp c xu s e ∗ bigSep (Finset.univ.erase e) (homeUp c xu s) ∗ homeDn c xd s e ∗ bigSep (Finset.univ.erase e) (homeDn c xd s))
      ⊢ Full c xu xd s e := by
  unfold Full
  rw [one_home (homeUp c xu s) e, one_home (homeDn c xd s) e]
  iintro ⟨H1, H2, H3, H4, H5, H6, H7, H8⟩
  isplitl [H1]; · iexists _; iexact H1
  isplitl [H2]; · iexists _; iexact H2
  isplitl [H3]; · iexact H3
  isplitl [H4]; · iexact H4
  isplitl [H5 H6]
  · isplitl [H5]; · iexact H5
    iexact H6
  isplitl [H7]; · iexact H7
  iexact H8
/-- A slot a transfer has been started into. -/
theorem to_fly (s : Fin 2) (e : Fin 8) (f1 f2) :
    iprop(flyUp c xu s e f1 ∗ flyDn c xd s e f2 ∗ bigSep (Finset.univ.erase e) (homeUp c xu s) ∗ bigSep (Finset.univ.erase e) (homeDn c xd s))
      ⊢ Fly c xu xd s e := by
  unfold Fly
  iintro ⟨H1, H2, H⟩
  isplitl [H1]; · iexists _; iexact H1
  isplitl [H2]; · iexists _; iexact H2
  iexact H

end Pieces

end Cert.ExpertsIdeal.Hand

end
-- ==== Proof.ExpertsBody.lean ====
/-
  The grouped expert products, second part: one grid point of the kernel, in each of the cases its tables bring.
-/
module

public import proofs.«01_k».proof.Proof.ExpertsNames

@[expose] public section

set_option maxRecDepth 16384

noncomputable section

namespace Cert.ExpertsIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.ExpertsIdeal.Gen

variable {F : FTy → Type} [FloatOps F]

local notation "𝕄" => MT nD τ sig Unit (Elt F) ℕ (Pipeline.UD sig nD τ) ℕ

/-- A table held for reading. -/
abbrev TabBuf (c : Dev nD) (M : Memref sig .tc .smem S39 .i32) : Type := Buf (Elt F) (M.view.loc (c : Thread nD τ))
abbrev tab (c : Dev nD) (M : Memref sig .tc .smem S39 .i32) (f : TabBuf (F := F) c M) : sProp 𝕄 :=
  M.view.loc (c : Thread nD τ) ↦{fullShare.right} f

section Run
variable (c : Dev nD) (i : grid0.Coords)
  (arg5 : Memref sig .tc .vmem S256x768 .f32) (harg5 : arg5.IsWhole) (arg8 : Memref sig .tc .vmem S1x1x2048 .f32) (harg8 : arg8.IsWhole)
  (arg9 : Memref sig .tc .vmem S1x1x768 .f32) (harg9 : arg9.IsWhole) (arg10 : Memref sig .tc .vmem S256x768 .f32) (harg10 : arg10.IsWhole)
  (x0 : Vec F S256x768 .f32) (x1 : Vec F S1x1x2048 .f32) (x2 : Vec F S1x1x768 .f32)
  (xu : BufUp (F := F) c) (xd : BufDn (F := F) c)
  (tb : TabBuf (F := F) c tabBe) (tf : TabBuf (F := F) c tabFb) (tp : TabBuf (F := F) c tabPar) (tn : TabBuf (F := F) c tabNxt)

/-- The word the body reads of a table at point `i`. -/
abbrev wordAt (M : Memref sig .tc .smem S39 .i32) (f : TabBuf (F := F) c M) : BitVec 32 :=
  M.view.readAt (Elt F) (Rect.unit (s := S39) (k0_off1 i) S1.size (k0_off1_inb i)).toLoadRect f (Shape.Idx.first (numel1_S1.symm ▸ Nat.one_pos))

abbrev bodyProg : Prog (TpuEff nD τ sig (Elt F) Λ₀ .tc) PUnit :=
  cc0__group_body i tabBe (Memref.isWhole_whole _) tabFb (Memref.isWhole_whole _) tabPar (Memref.isWhole_whole _) tabNxt (Memref.isWhole_whole _)
    arg5 harg5 wUp (Memref.isWhole_whole _) wDn (Memref.isWhole_whole _) arg8 harg8 arg9 harg9 arg10 harg10 bufUp (Memref.isWhole_whole _) bufDn (Memref.isWhole_whole _) cc0_scratch2 cc0_scratch3

/-- What the point is given beside its slots: the block's inputs, room for its result, the tables. -/
def given : sProp 𝕄 :=
  iprop(owns (c : Thread nD τ) arg5 fullShare x0 ∗ owns (c : Thread nD τ) arg8 fullShare x1 ∗ owns (c : Thread nD τ) arg9 fullShare x2
    ∗ (∃ d, owns (c : Thread nD τ) arg10 fullShare d)
    ∗ tab c tabBe tb ∗ tab c tabFb tf ∗ tab c tabPar tp ∗ tab c tabNxt tn)
/-- What it gives back: the result block is the block's two products by expert `e`. -/
def back (e : Fin 8) : sProp 𝕄 :=
  iprop(owns (c : Thread nD τ) arg5 fullShare x0 ∗ owns (c : Thread nD τ) arg8 fullShare x1 ∗ owns (c : Thread nD τ) arg9 fullShare x2
    ∗ owns (c : Thread nD τ) arg10 fullShare (k0_pay1 x0 (takeUp c xu e) x1 (takeDn c xd e) x2)
    ∗ tab c tabBe tb ∗ tab c tabFb tf ∗ tab c tabPar tp ∗ tab c tabNxt tn)

/-- The block stored is the products, whatever the result's buffer held. -/
theorem stored (e : Fin 8) (u1 : Vec F S1x768x2048 .f32) (u2 : Vec F S1x2048x768 .f32) (hu1 : u1 = takeUp c xu e) (hu2 : u2 = takeDn c xd e) (f)
    (ha0 : View.read (Elt F) arg5.view (harg5.unread x0) = x0) (ha1 : View.read (Elt F) arg8.view (harg8.unread x1) = x1)
    (ha2 : View.read (Elt F) arg9.view (harg9.unread x2) = x2) :
    arg10.view.read (Elt F) (arg10.view.writes (Elt F) f
      [⟨Rect.unit ![0, 0] S256x768.size inb_S256x768_S256x768_0_0,
          k0_pay1
            (View.readAt (Elt F) arg5.view (Rect.unit ![0, 0] S256x768.size inb_S256x768_S256x768_0_0).toLoadRect (harg5.unread x0)) u1
            (View.readAt (Elt F) arg8.view (Rect.unit ![0, 0, 0] S1x1x2048.size inb_S1x1x2048_S1x1x2048_0_0_0).toLoadRect (harg8.unread x1)) u2
            (View.readAt (Elt F) arg9.view (Rect.unit ![0, 0, 0] S1x1x768.size inb_S1x1x768_S1x1x768_0_0_0).toLoadRect (harg9.unread x2))⟩])
      = k0_pay1 x0 (takeUp c xu e) x1 (takeDn c xd e) x2 := by
  subst hu1 hu2
  rw [View.read_writes_full, View.readAt_full, View.readAt_full, View.readAt_full, ha0, ha1, ha2]

/-- The point's resources as the run leaves them, given back. -/
theorem give_back (e : Fin 8) (u1 : Vec F S1x768x2048 .f32) (u2 : Vec F S1x2048x768 .f32) (hu1 : u1 = takeUp c xu e) (hu2 : u2 = takeDn c xd e) (f)
    (ha0 : View.read (Elt F) arg5.view (harg5.unread x0) = x0) (ha1 : View.read (Elt F) arg8.view (harg8.unread x1) = x1)
    (ha2 : View.read (Elt F) arg9.view (harg9.unread x2) = x2) :
    iprop((arg5.view.loc (c : Thread nD τ) ↦[arg5.view.set]{fullShare} harg5.unread x0)
      ∗ (arg8.view.loc (c : Thread nD τ) ↦[arg8.view.set]{fullShare} harg8.unread x1)
      ∗ (arg9.view.loc (c : Thread nD τ) ↦[arg9.view.set]{fullShare} harg9.unread x2)
      ∗ (arg10.view.loc (c : Thread nD τ) ↦[arg10.view.set]{fullShare} arg10.view.writes (Elt F) f
          [⟨Rect.unit ![0, 0] S256x768.size inb_S256x768_S256x768_0_0,
              k0_pay1
                (View.readAt (Elt F) arg5.view (Rect.unit ![0, 0] S256x768.size inb_S256x768_S256x768_0_0).toLoadRect (harg5.unread x0)) u1
                (View.readAt (Elt F) arg8.view (Rect.unit ![0, 0, 0] S1x1x2048.size inb_S1x1x2048_S1x1x2048_0_0_0).toLoadRect (harg8.unread x1)) u2
                (View.readAt (Elt F) arg9.view (Rect.unit ![0, 0, 0] S1x1x768.size inb_S1x1x768_S1x1x768_0_0_0).toLoadRect (harg9.unread x2))⟩])
      ∗ tab c tabBe tb ∗ tab c tabFb tf ∗ tab c tabPar tp ∗ tab c tabNxt tn)
      ⊢ back (F := F) c arg5 arg8 arg9 arg10 x0 x1 x2 xu xd tb tf tp tn e := by
  unfold back owns
  iintro ⟨H0, H1, H2, H3, HT⟩
  isplitl [H0]
  · iexists _; isplitr; · ipureintro; exact ha0
    iexact H0
  isplitl [H1]
  · iexists _; isplitr; · ipureintro; exact ha1
    iexact H1
  isplitl [H2]
  · iexists _; isplitr; · ipureintro; exact ha2
    iexact H2
  isplitl [H3]
  · iexists _; isplitr
    swap; · iexact H3
    ipureintro; exact stored c arg5 harg5 arg8 harg8 arg9 harg9 arg10 x0 x1 x2 xu xd e _ _ hu1 hu2 _ ha0 ha1 ha2
  iexact HT

set_option maxHeartbeats 4000000 in
/-- A run begins and another follows: the slot's expert has been on its way and is waited for; the next one is sent
    for, into the other slot. -/
theorem run_next (e n : Fin 8) (s : Fin 2) (h1 : ¬ k0_cond1 i = 1#1)
    (hb : wordAt c i tabBe tb = wE e) (hf : wordAt c i tabFb tf = 1#32) (hp : wordAt c i tabPar tp = wS s) (hn : wordAt c i tabNxt tn = wE n)
    (W : Waits sig Unit) (K : PUnit → sProp 𝕄) :
    iprop(given c arg5 arg8 arg9 arg10 x0 x1 x2 tb tf tp tn ∗ (Fly c xu xd s e ∗ Free c xu xd (oth s)) ∗ owes (c : Thread nD τ) 0 W
        ∗ (iprop(back c arg5 arg8 arg9 arg10 x0 x1 x2 xu xd tb tf tp tn e ∗ (Full c xu xd s e ∗ Fly c xu xd (oth s) n) ∗ (∃ W', owes (c : Thread nD τ) 0 W')) -∗ K ⟨⟩))
      ⊢ wp frame (wpE (defs₀ (F := F)) Variants.none c none) Set.univ
          (bodyProg i arg5 harg5 arg8 harg8 arg9 harg9 arg10 harg10) K := by
  unfold bodyProg given
  rw [Fly.eq_1 c xu xd s, Free.eq_1, one_home (homeUp c xu (oth s)) n, one_home (homeDn c xd (oth s)) n]
  simp only [cc0__group_body_eq_skeleton]; unfold cc0__group_body_skel
  simp only [k0_part1_eq_skeleton]; unfold k0_part1_skel
  unfold owns
  iintro ⟨⟨⟨%a0, %ha0, H0⟩, ⟨%a1, %ha1, H1⟩, ⟨%a2, %ha2, H2⟩, ⟨%d3, %a3, -, H3⟩, HT0, HT1, HT2, HT3⟩, ⟨⟨⟨%f1, Hf1⟩, ⟨%f2, Hf2⟩, Hr1, Hr2⟩, ⟨⟨%g1, Hg1⟩, ⟨%g2, Hg2⟩, Hc1, Hc2, ⟨Hh1, Hs1⟩, Hh2, Hs2⟩⟩, HW, Hk⟩
  obtain rfl := harg5.eq_unread ha0; obtain rfl := harg8.eq_unread ha1; obtain rfl := harg9.eq_unread ha2
  have k2 := chk_expert i e; have k1 := chk_slot i s; have k4 := chk_wait e s 1#32; have k3 := chk_next s 1#32 n
  have h2 : k0_cond2 1#32 = 1#1 := by decide
  have h3 := cond3_expert n
  sl_exec
  generalize hx : run_next.sl.r c i tb = w
  obtain rfl : w = wE e := hx.symm.trans hb
  clear hx
  sl_exec
  generalize hx : run_next.sl.r_1 c i tp = w
  obtain rfl : w = wS s := hx.symm.trans hp
  clear hx
  sl_exec
  generalize hx : run_next.sl.r_2 c i tf = w
  obtain rfl : w = 1#32 := hx.symm.trans hf
  clear hx
  sl_exec
  generalize hx : run_next.sl.r_3 c i tn = w
  obtain rfl : w = wE n := hx.symm.trans hn
  clear hx
  sl_exec
  sl_step
  iapply Hk
  isplitl [H0 H1 H2 H3 HT0 HT1 HT2 HT3]
  · iapply (give_back c arg5 harg5 arg8 harg8 arg9 harg9 arg10 x0 x1 x2 xu xd tb tf tp tn e _ _ (load_up c xu s e _ _) (load_dn c xd s e _ _) _ ha0 ha1 ha2)
    iframe H0 H1 H2 H3 HT0 HT1 HT2 HT3
  isplitr [HW]
  · isplitl [Hf1_dst Hf2_dst Hf1 Hf2 Hf1_src Hf2_src Hr1 Hr2]
    · iapply (to_full c xu xd s e _ _)
      iframe Hf1_dst Hf2_dst Hf1 Hf2 Hf1_src Hr1 Hf2_src Hr2
    iapply (to_fly c xu xd (oth s) n g1 g2)
    isplitl [Hc1]; · iexact Hc1
    isplitl [Hc2]; · iexact Hc2
    iframe Hs1 Hs2
  iexists _; iexact HW

set_option maxHeartbeats 4000000 in
/-- The last run begins: its expert is waited for and nothing more is sent for. -/
theorem run_last (e : Fin 8) (s : Fin 2) (h1 : ¬ k0_cond1 i = 1#1)
    (hb : wordAt c i tabBe tb = wE e) (hf : wordAt c i tabFb tf = 1#32) (hp : wordAt c i tabPar tp = wS s) (hn : wordAt c i tabNxt tn = 8#32)
    (W : Waits sig Unit) (K : PUnit → sProp 𝕄) :
    iprop(given c arg5 arg8 arg9 arg10 x0 x1 x2 tb tf tp tn ∗ Fly c xu xd s e ∗ owes (c : Thread nD τ) 0 W
        ∗ (iprop(back c arg5 arg8 arg9 arg10 x0 x1 x2 xu xd tb tf tp tn e ∗ Full c xu xd s e ∗ (∃ W', owes (c : Thread nD τ) 0 W')) -∗ K ⟨⟩))
      ⊢ wp frame (wpE (defs₀ (F := F)) Variants.none c none) Set.univ
          (bodyProg i arg5 harg5 arg8 harg8 arg9 harg9 arg10 harg10) K := by
  unfold bodyProg given
  rw [Fly.eq_1]
  simp only [cc0__group_body_eq_skeleton]; unfold cc0__group_body_skel
  simp only [k0_part1_eq_skeleton]; unfold k0_part1_skel
  unfold owns
  iintro ⟨⟨⟨%a0, %ha0, H0⟩, ⟨%a1, %ha1, H1⟩, ⟨%a2, %ha2, H2⟩, ⟨%d3, %a3, -, H3⟩, HT0, HT1, HT2, HT3⟩, ⟨⟨%f1, Hf1⟩, ⟨%f2, Hf2⟩, Hr1, Hr2⟩, HW, Hk⟩
  obtain rfl := harg5.eq_unread ha0; obtain rfl := harg8.eq_unread ha1; obtain rfl := harg9.eq_unread ha2
  have k2 := chk_expert i e; have k1 := chk_slot i s; have k4 := chk_wait e s 1#32
  have h2 : k0_cond2 1#32 = 1#1 := by decide
  have h3 : ¬ k0_cond3 8#32 = 1#1 := by decide
  have k3 := chk_none s 1#32 8#32 h3
  sl_exec
  generalize hx : run_last.sl.r c i tb = w
  obtain rfl : w = wE e := hx.symm.trans hb
  clear hx
  sl_exec
  generalize hx : run_last.sl.r_1 c i tp = w
  obtain rfl : w = wS s := hx.symm.trans hp
  clear hx
  sl_exec
  generalize hx : run_last.sl.r_2 c i tf = w
  obtain rfl : w = 1#32 := hx.symm.trans hf
  clear hx
  sl_exec
  generalize hx : run_last.sl.r_3 c i tn = w
  obtain rfl : w = 8#32 := hx.symm.trans hn
  clear hx
  sl_exec
  sl_step
  iapply Hk
  isplitl [H0 H1 H2 H3 HT0 HT1 HT2 HT3]
  · iapply (give_back c arg5 harg5 arg8 harg8 arg9 harg9 arg10 x0 x1 x2 xu xd tb tf tp tn e _ _ (load_up c xu s e _ _) (load_dn c xd s e _ _) _ ha0 ha1 ha2)
    iframe H0 H1 H2 H3 HT0 HT1 HT2 HT3
  isplitr [HW]
  · iapply (to_full c xu xd s e _ _)
    iframe Hf1_dst Hf2_dst Hf1 Hf2 Hf1_src Hr1 Hf2_src Hr2
  iexists _; iexact HW

set_option maxHeartbeats 4000000 in
/-- A run goes on: the slot is read where it stands. -/
theorem run_same (e : Fin 8) (s : Fin 2) (h1 : ¬ k0_cond1 i = 1#1)
    (hb : wordAt c i tabBe tb = wE e) (hf : ¬ k0_cond2 (wordAt c i tabFb tf) = 1#1) (hp : wordAt c i tabPar tp = wS s)
    (W : Waits sig Unit) (K : PUnit → sProp 𝕄) :
    iprop(given c arg5 arg8 arg9 arg10 x0 x1 x2 tb tf tp tn ∗ Full c xu xd s e ∗ owes (c : Thread nD τ) 0 W
        ∗ (iprop(back c arg5 arg8 arg9 arg10 x0 x1 x2 xu xd tb tf tp tn e ∗ Full c xu xd s e ∗ (∃ W', owes (c : Thread nD τ) 0 W')) -∗ K ⟨⟩))
      ⊢ wp frame (wpE (defs₀ (F := F)) Variants.none c none) Set.univ
          (bodyProg i arg5 harg5 arg8 harg8 arg9 harg9 arg10 harg10) K := by
  unfold bodyProg given Full
  simp only [cc0__group_body_eq_skeleton]; unfold cc0__group_body_skel
  simp only [k0_part1_eq_skeleton]; unfold k0_part1_skel
  unfold owns
  iintro ⟨⟨⟨%a0, %ha0, H0⟩, ⟨%a1, %ha1, H1⟩, ⟨%a2, %ha2, H2⟩, ⟨%d3, %a3, -, H3⟩, HT0, HT1, HT2, HT3⟩, ⟨⟨%f1, Hf1⟩, ⟨%f2, Hf2⟩, Hr⟩, HW, Hk⟩
  obtain rfl := harg5.eq_unread ha0; obtain rfl := harg8.eq_unread ha1; obtain rfl := harg9.eq_unread ha2
  have k2 := chk_expert i e; have k1 := chk_slot i s
  sl_exec
  generalize hx : run_same.sl.r c i tb = w
  obtain rfl : w = wE e := hx.symm.trans hb
  clear hx
  sl_exec
  generalize hx : run_same.sl.r_1 c i tp = w
  obtain rfl : w = wS s := hx.symm.trans hp
  clear hx
  sl_exec
  generalize hx : run_same.sl.r_2 c i tf = w
  have h2 : ¬ k0_cond2 w = 1#1 := by rw [← hx]; exact hf
  have k4 := chk_wait e s w
  clear hx
  sl_exec
  sl_step
  iapply Hk
  isplitl [H0 H1 H2 H3 HT0 HT1 HT2 HT3]
  · iapply (give_back c arg5 harg5 arg8 harg8 arg9 harg9 arg10 x0 x1 x2 xu xd tb tf tp tn e _ _ (load_up c xu s e _ _) (load_dn c xd s e _ _) _ ha0 ha1 ha2)
    iframe H0 H1 H2 H3 HT0 HT1 HT2 HT3
  isplitr [HW]
  · isplitl [Hf1]; · iexists _; iexact Hf1
    isplitl [Hf2]; · iexists _; iexact Hf2
    iexact Hr
  iexists _; iexact HW

set_option maxHeartbeats 4000000 in
/-- The first point, when a second run follows: its own expert is sent for, then the next one, and its own waited
    for. -/
theorem run_first (e n : Fin 8) (s : Fin 2) (h1 : k0_cond1 i = 1#1)
    (hb : wordAt c i tabBe tb = wE e) (hf : wordAt c i tabFb tf = 1#32) (hp : wordAt c i tabPar tp = wS s) (hn : wordAt c i tabNxt tn = wE n)
    (W : Waits sig Unit) (K : PUnit → sProp 𝕄) :
    iprop(given c arg5 arg8 arg9 arg10 x0 x1 x2 tb tf tp tn ∗ (Free c xu xd s ∗ Free c xu xd (oth s)) ∗ owes (c : Thread nD τ) 0 W
        ∗ (iprop(back c arg5 arg8 arg9 arg10 x0 x1 x2 xu xd tb tf tp tn e ∗ (Full c xu xd s e ∗ Fly c xu xd (oth s) n) ∗ (∃ W', owes (c : Thread nD τ) 0 W')) -∗ K ⟨⟩))
      ⊢ wp frame (wpE (defs₀ (F := F)) Variants.none c none) Set.univ
          (bodyProg i arg5 harg5 arg8 harg8 arg9 harg9 arg10 harg10) K := by
  unfold bodyProg given Free
  rw [one_home (homeUp c xu (oth s)) n, one_home (homeDn c xd (oth s)) n, one_home (homeUp c xu s) e, one_home (homeDn c xd s) e]
  simp only [cc0__group_body_eq_skeleton]; unfold cc0__group_body_skel
  simp only [k0_part1_eq_skeleton]; unfold k0_part1_skel
  unfold owns
  iintro ⟨⟨⟨%a0, %ha0, H0⟩, ⟨%a1, %ha1, H1⟩, ⟨%a2, %ha2, H2⟩, ⟨%d3, %a3, -, H3⟩, HT0, HT1, HT2, HT3⟩, ⟨⟨⟨%f1, Hd1⟩, ⟨%f2, Hd2⟩, Hf1, Hf2, ⟨Hq1, Hr1⟩, Hq2, Hr2⟩, ⟨⟨%g1, Hg1⟩, ⟨%g2, Hg2⟩, Hc1, Hc2, ⟨Hh1, Hs1⟩, Hh2, Hs2⟩⟩, HW, Hk⟩
  obtain rfl := harg5.eq_unread ha0; obtain rfl := harg8.eq_unread ha1; obtain rfl := harg9.eq_unread ha2
  have k2 := chk_expert i e; have k1 := chk_slot i s; have k4 := chk_wait e s 1#32; have k3 := chk_next s 1#32 n
  have h2 : k0_cond2 1#32 = 1#1 := by decide
  have h3 := cond3_expert n
  sl_exec
  generalize hx : run_first.sl.r c i tb = w
  obtain rfl : w = wE e := hx.symm.trans hb
  clear hx
  sl_exec
  generalize hx : run_first.sl.r_1 c i tp = w
  obtain rfl : w = wS s := hx.symm.trans hp
  clear hx
  sl_exec
  generalize hx : run_first.sl.r_2 c i tf = w
  obtain rfl : w = 1#32 := hx.symm.trans hf
  clear hx
  sl_exec
  generalize hx : run_first.sl.r_3 c i tn = w
  obtain rfl : w = wE n := hx.symm.trans hn
  clear hx
  sl_exec
  sl_step
  iapply Hk
  isplitl [H0 H1 H2 H3 HT0 HT1 HT2 HT3]
  · iapply (give_back c arg5 harg5 arg8 harg8 arg9 harg9 arg10 x0 x1 x2 xu xd tb tf tp tn e _ _ (load_up c xu s e _ _) (load_dn c xd s e _ _) _ ha0 ha1 ha2)
    iframe H0 H1 H2 H3 HT0 HT1 HT2 HT3
  isplitr [HW]
  · isplitl [Hd1 Hd2 Hf1 Hf2 Hq1 Hq2 Hr1 Hr2]
    · iapply (to_full c xu xd s e _ _)
      iframe Hd1 Hd2 Hf1 Hf2 Hq1 Hr1 Hq2 Hr2
    iapply (to_fly c xu xd (oth s) n g1 g2)
    isplitl [Hc1]; · iexact Hc1
    isplitl [Hc2]; · iexact Hc2
    iframe Hs1 Hs2
  iexists _; iexact HW

set_option maxHeartbeats 4000000 in
/-- The first point, when its run is the only one. -/
theorem run_only (e : Fin 8) (s : Fin 2) (h1 : k0_cond1 i = 1#1)
    (hb : wordAt c i tabBe tb = wE e) (hf : wordAt c i tabFb tf = 1#32) (hp : wordAt c i tabPar tp = wS s) (hn : wordAt c i tabNxt tn = 8#32)
    (W : Waits sig Unit) (K : PUnit → sProp 𝕄) :
    iprop(given c arg5 arg8 arg9 arg10 x0 x1 x2 tb tf tp tn ∗ Free c xu xd s ∗ owes (c : Thread nD τ) 0 W
        ∗ (iprop(back c arg5 arg8 arg9 arg10 x0 x1 x2 xu xd tb tf tp tn e ∗ Full c xu xd s e ∗ (∃ W', owes (c : Thread nD τ) 0 W')) -∗ K ⟨⟩))
      ⊢ wp frame (wpE (defs₀ (F := F)) Variants.none c none) Set.univ
          (bodyProg i arg5 harg5 arg8 harg8 arg9 harg9 arg10 harg10) K := by
  unfold bodyProg given Free
  rw [one_home (homeUp c xu s) e, one_home (homeDn c xd s) e]
  simp only [cc0__group_body_eq_skeleton]; unfold cc0__group_body_skel
  simp only [k0_part1_eq_skeleton]; unfold k0_part1_skel
  unfold owns
  iintro ⟨⟨⟨%a0, %ha0, H0⟩, ⟨%a1, %ha1, H1⟩, ⟨%a2, %ha2, H2⟩, ⟨%d3, %a3, -, H3⟩, HT0, HT1, HT2, HT3⟩, ⟨⟨%f1, Hd1⟩, ⟨%f2, Hd2⟩, Hf1, Hf2, ⟨Hq1, Hr1⟩, Hq2, Hr2⟩, HW, Hk⟩
  obtain rfl := harg5.eq_unread ha0; obtain rfl := harg8.eq_unread ha1; obtain rfl := harg9.eq_unread ha2
  have k2 := chk_expert i e; have k1 := chk_slot i s; have k4 := chk_wait e s 1#32
  have h2 : k0_cond2 1#32 = 1#1 := by decide
  have h3 : ¬ k0_cond3 8#32 = 1#1 := by decide
  have k3 := chk_none s 1#32 8#32 h3
  sl_exec
  generalize hx : run_only.sl.r c i tb = w
  obtain rfl : w = wE e := hx.symm.trans hb
  clear hx
  sl_exec
  generalize hx : run_only.sl.r_1 c i tp = w
  obtain rfl : w = wS s := hx.symm.trans hp
  clear hx
  sl_exec
  generalize hx : run_only.sl.r_2 c i tf = w
  obtain rfl : w = 1#32 := hx.symm.trans hf
  clear hx
  sl_exec
  generalize hx : run_only.sl.r_3 c i tn = w
  obtain rfl : w = 8#32 := hx.symm.trans hn
  clear hx
  sl_exec
  sl_step
  iapply Hk
  isplitl [H0 H1 H2 H3 HT0 HT1 HT2 HT3]
  · iapply (give_back c arg5 harg5 arg8 harg8 arg9 harg9 arg10 x0 x1 x2 xu xd tb tf tp tn e _ _ (load_up c xu s e _ _) (load_dn c xd s e _ _) _ ha0 ha1 ha2)
    iframe H0 H1 H2 H3 HT0 HT1 HT2 HT3
  isplitr [HW]
  · iapply (to_full c xu xd s e _ _)
    iframe Hd1 Hd2 Hf1 Hf2 Hq1 Hr1 Hq2 Hr2
  iexists _; iexact HW

end Run

end Cert.ExpertsIdeal.Hand

end
-- ==== Proof.ExpertsSlots.lean ====
/-
  The grouped expert products, third part: what the launch hands the kernel, cut into its two slots, and put back.
-/
module

public import proofs.«01_k».proof.Proof.ExpertsBody

@[expose] public section

set_option maxRecDepth 16384

noncomputable section

namespace Cert.ExpertsIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.ExpertsIdeal.Gen

variable {F : FTy → Type} [FloatOps F]

local notation "𝕄" => MT nD τ sig Unit (Elt F) ℕ (Pipeline.UD sig nD τ) ℕ

/-- Equal resources, one for the other. -/
theorem same {P Q : sProp 𝕄} (h : P = Q) : P ⊢ Q := h ▸ .rfl

/-! ## Planes of an array -/

/-- The planes of an array along its first axis. -/
abbrev plane {n a b : ℕ} (k : Fin n) (h : ∀ x, ((![k.val, 0, 0] : Fin 3 → ℕ) x) + (![1, a, b] : Fin 3 → ℕ) x ≤ (⟨3, ![n, a, b]⟩ : Shape).size x) :
    Finset (⟨3, ![n, a, b]⟩ : Shape).Idx := (Rect.unit (s := ⟨3, ![n, a, b]⟩) ![k.val, 0, 0] ![1, a, b] h).set

theorem mem_plane {n a b : ℕ} (k : Fin n) (h) (y : (⟨3, ![n, a, b]⟩ : Shape).Idx) : y ∈ plane (a := a) (b := b) k h ↔ (y 0).val = k.val := by
  rw [Rect.mem_set_unit]
  constructor
  · intro H
    have a0 : k.val ≤ (y 0).val ∧ (y 0).val < k.val + 1 := H 0
    omega
  · intro H i
    have h1 : (y 1).val < a := (y 1).isLt
    have h2 : (y 2).val < b := (y 2).isLt
    fin_cases i
    · show k.val ≤ (y 0).val ∧ (y 0).val < k.val + 1; omega
    · show 0 ≤ (y 1).val ∧ (y 1).val < 0 + a; omega
    · show 0 ≤ (y 2).val ∧ (y 2).val < 0 + b; omega

theorem plane_disjoint {n a b : ℕ} (h : ∀ k : Fin n, _) (k k' : Fin n) (hne : k ≠ k') : Disjoint (plane (a := a) (b := b) k (h k)) (plane k' (h k')) := by
  rw [Finset.disjoint_left]; intro y hy hy'
  rw [mem_plane] at hy hy'; exact hne (Fin.ext (hy.symm.trans hy'))

theorem plane_cover {n a b : ℕ} (h : ∀ k : Fin n, _) : (Finset.univ : Finset (Fin n)).biUnion (fun k => plane (a := a) (b := b) k (h k)) = Finset.univ := by
  ext y
  simp only [Finset.mem_biUnion, Finset.mem_univ, true_and, iff_true]
  exact ⟨⟨(y 0).val, (y 0).isLt⟩, by rw [mem_plane]⟩

theorem expUp_set (e : Fin 8) : (expUp e).view.set = plane e (at8_up e) := (View.set_reshape _ _).trans (View.set_slice_whole _ _)
theorem expDn_set (e : Fin 8) : (expDn e).view.set = plane e (at8_dn e) := (View.set_reshape _ _).trans (View.set_slice_whole _ _)
theorem slotUp_set (s : Fin 2) : (slotUp s).view.set = plane s (at2_up s) := (View.set_reshape _ _).trans (View.set_slice_whole _ _)
theorem slotDn_set (s : Fin 2) : (slotDn s).view.set = plane s (at2_dn s) := (View.set_reshape _ _).trans (View.set_slice_whole _ _)

theorem two (P : Fin 2 → sProp 𝕄) : bigSep Finset.univ P = iprop(P 0 ∗ P 1) :=
  bigSep_univ_eq_bigSepL [(0 : Fin 2), (1 : Fin 2)] (by decide) (by decide) P

section Cut
variable (c : Dev nD) (xu : BufUp (F := F) c) (xd : BufDn (F := F) c)

/-! ## The weight arrays -/

/-- An array at a share is its eight planes at that share. -/
theorem homes_up (s : Fin 2) : ((wUp.view.loc (c : Thread nD τ) ↦{half s} xu) : sProp 𝕄) = bigSep Finset.univ (homeUp c xu s) := by
  rw [Ring.pointsTo_blocks (ℓ := (c : Thread nD τ).loc main_arg5) (fun e : Fin 8 => plane e (at8_up e)) (plane_disjoint at8_up) (plane_cover at8_up)]
  exact bigSep_congr fun e _ => by rw [← expUp_set]; rfl
theorem homes_dn (s : Fin 2) : ((wDn.view.loc (c : Thread nD τ) ↦{half s} xd) : sProp 𝕄) = bigSep Finset.univ (homeDn c xd s) := by
  rw [Ring.pointsTo_blocks (ℓ := (c : Thread nD τ).loc main_arg7) (fun e : Fin 8 => plane e (at8_dn e)) (plane_disjoint at8_dn) (plane_cover at8_dn)]
  exact bigSep_congr fun e _ => by rw [← expDn_set]; rfl

theorem halves_up : ((wUp.view.loc (c : Thread nD τ) ↦{fullShare} xu) : sProp 𝕄)
    = iprop(bigSep Finset.univ (homeUp c xu 0) ∗ bigSep Finset.univ (homeUp c xu 1)) := by
  rw [← homes_up, ← homes_up]
  exact BI.Entails.antisymm (pointsTo_share (PosShare.mem_left_op_right fullShare)).1 (pointsTo_share (PosShare.mem_left_op_right fullShare)).2
theorem halves_dn : ((wDn.view.loc (c : Thread nD τ) ↦{fullShare} xd) : sProp 𝕄)
    = iprop(bigSep Finset.univ (homeDn c xd 0) ∗ bigSep Finset.univ (homeDn c xd 1)) := by
  rw [← homes_dn, ← homes_dn]
  exact BI.Entails.antisymm (pointsTo_share (PosShare.mem_left_op_right fullShare)).1 (pointsTo_share (PosShare.mem_left_op_right fullShare)).2

/-! ## The on-chip buffers -/

abbrev allUp : sProp 𝕄 := iprop(∃ f : Buf (Elt F) ((c : Thread nD τ).loc cc0_scratch0), ((c : Thread nD τ).loc cc0_scratch0) ↦{fullShare} f)
abbrev allDn : sProp 𝕄 := iprop(∃ f : Buf (Elt F) ((c : Thread nD τ).loc cc0_scratch1), ((c : Thread nD τ).loc cc0_scratch1) ↦{fullShare} f)

theorem hasUp_eq (s : Fin 2) (f) : hasUp c s f = (((c : Thread nD τ).loc cc0_scratch0) ↦[plane s (at2_up s)]{fullShare} f : sProp 𝕄) := by
  rw [← slotUp_set]; rfl
theorem hasDn_eq (s : Fin 2) (f) : hasDn c s f = (((c : Thread nD τ).loc cc0_scratch1) ↦[plane s (at2_dn s)]{fullShare} f : sProp 𝕄) := by
  rw [← slotDn_set]; rfl

theorem cut_up : (allUp c : sProp 𝕄) ⊢ iprop((∃ f, hasUp c 0 f) ∗ ∃ f, hasUp c 1 f) := by
  iintro ⟨%f, H⟩
  ihave H2 := (same ((Ring.pointsTo_blocks (Ix := Unit) (Name := ℕ) (U := Pipeline.UD sig nD τ) (Lvl := ℕ) (q := fullShare) (ℓ := (c : Thread nD τ).loc cc0_scratch0)
    (fun s : Fin 2 => plane s (at2_up s)) (plane_disjoint at2_up) (plane_cover at2_up) f).trans (two _))) $$ H
  icases H2 with ⟨H0, H1⟩
  isplitl [H0]
  · iexists f; iapply (same (hasUp_eq c 0 f).symm); iexact H0
  · iexists f; iapply (same (hasUp_eq c 1 f).symm); iexact H1
theorem cut_dn : (allDn c : sProp 𝕄) ⊢ iprop((∃ f, hasDn c 0 f) ∗ ∃ f, hasDn c 1 f) := by
  iintro ⟨%f, H⟩
  ihave H2 := (same ((Ring.pointsTo_blocks (Ix := Unit) (Name := ℕ) (U := Pipeline.UD sig nD τ) (Lvl := ℕ) (q := fullShare) (ℓ := (c : Thread nD τ).loc cc0_scratch1)
    (fun s : Fin 2 => plane s (at2_dn s)) (plane_disjoint at2_dn) (plane_cover at2_dn) f).trans (two _))) $$ H
  icases H2 with ⟨H0, H1⟩
  isplitl [H0]
  · iexists f; iapply (same (hasDn_eq c 0 f).symm); iexact H0
  · iexists f; iapply (same (hasDn_eq c 1 f).symm); iexact H1
theorem put_up : iprop((∃ f, hasUp c 0 f) ∗ ∃ f, hasUp c 1 f) ⊢ (allUp c : sProp 𝕄) := by
  iintro ⟨⟨%f0, H0⟩, ⟨%f1, H1⟩⟩
  iapply (Ring.pointsTo_blocks_join_exists (ℓ := (c : Thread nD τ).loc cc0_scratch0) (fun s : Fin 2 => plane s (at2_up s)) (plane_disjoint at2_up) (plane_cover at2_up) f0)
  irw [two]
  isplitl [H0]
  · iexists f0; iapply (same (hasUp_eq c 0 f0)); iexact H0
  · iexists f1; iapply (same (hasUp_eq c 1 f1)); iexact H1
theorem put_dn : iprop((∃ f, hasDn c 0 f) ∗ ∃ f, hasDn c 1 f) ⊢ (allDn c : sProp 𝕄) := by
  iintro ⟨⟨%f0, H0⟩, ⟨%f1, H1⟩⟩
  iapply (Ring.pointsTo_blocks_join_exists (ℓ := (c : Thread nD τ).loc cc0_scratch1) (fun s : Fin 2 => plane s (at2_dn s)) (plane_disjoint at2_dn) (plane_cover at2_dn) f0)
  irw [two]
  isplitl [H0]
  · iexists f0; iapply (same (hasDn_eq c 0 f0)); iexact H0
  · iexists f1; iapply (same (hasDn_eq c 1 f1)); iexact H1

/-! ## Both slots -/

/-- Everything the two slots are cut from. -/
def Whole : sProp 𝕄 :=
  iprop((allUp c ∗ allDn c)
    ∗ (semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0)
    ∗ (wUp.view.loc (c : Thread nD τ) ↦{fullShare} xu) ∗ (wDn.view.loc (c : Thread nD τ) ↦{fullShare} xd))

theorem celUp_0 : (celUp 0).sem = (8 : DmaSem sig) := by decide
theorem celUp_1 : (celUp 1).sem = (9 : DmaSem sig) := by decide
theorem celDn_0 : (celDn 0).sem = (10 : DmaSem sig) := by decide
theorem celDn_1 : (celDn 1).sem = (11 : DmaSem sig) := by decide

theorem free_both : Whole c xu xd ⊢ iprop(Free c xu xd 0 ∗ Free c xu xd 1) := by
  unfold Whole Free
  rw [halves_up, halves_dn]
  unfold zeroUp zeroDn
  rw [celUp_0, celUp_1, celDn_0, celDn_1]
  iintro ⟨⟨HU, HD⟩, ⟨H8, H9, H10, H11⟩, ⟨HU0, HU1⟩, ⟨HD0, HD1⟩⟩
  ihave HU' := (cut_up c) $$ HU
  ihave HD' := (cut_dn c) $$ HD
  icases HU' with ⟨Hu0, Hu1⟩
  icases HD' with ⟨Hd0, Hd1⟩
  isplitl [Hu0 Hd0 H8 H10 HU0 HD0]
  · iframe Hu0 Hd0 H8 H10 HU0 HD0
  iframe Hu1 Hd1 H9 H11 HU1 HD1

theorem whole_again : iprop(Free c xu xd 0 ∗ Free c xu xd 1) ⊢ Whole c xu xd := by
  unfold Whole Free
  rw [halves_up, halves_dn]
  unfold zeroUp zeroDn
  rw [celUp_0, celUp_1, celDn_0, celDn_1]
  iintro ⟨⟨Hu0, Hd0, H8, H10, HU0, HD0⟩, ⟨Hu1, Hd1, H9, H11, HU1, HD1⟩⟩
  isplitl [Hu0 Hu1 Hd0 Hd1]
  · isplitl [Hu0 Hu1]
    · iapply (put_up c); iframe Hu0 Hu1
    · iapply (put_dn c); iframe Hd0 Hd1
  isplitl [H8 H9 H10 H11]
  · iframe H8 H9 H10 H11
  isplitl [HU0 HU1]
  · iframe HU0 HU1
  iframe HD0 HD1

/-- The two slots in either order. -/
theorem free_pair (s : Fin 2) : (iprop(Free c xu xd 0 ∗ Free c xu xd 1) : sProp 𝕄) ⊣⊢ iprop(Free c xu xd s ∗ Free c xu xd (oth s)) := by
  have h0 : oth 0 = 1 := by decide
  have h1 : oth 1 = 0 := by decide
  rcases (by revert s; decide : s = 0 ∨ s = 1) with rfl | rfl
  · rw [h0]
  · rw [h1]; exact sep_comm

end Cut

end Cert.ExpertsIdeal.Hand

end
-- ==== Proof.ExpertsLaunch.lean ====
/-
  The grouped expert products, fourth part: the grid's points in order, and the launch.
-/
module

public import proofs.«01_k».proof.Proof.ExpertsSlots
public import Idealize.ShloMosaic.Lib.Claim
public import Idealize.ShloMosaic.Lib.Pointwise

@[expose] public section

set_option maxRecDepth 16384

noncomputable section

namespace Cert.ExpertsIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal.Gen

variable {F : FTy → Type} [FloatOps F]

local notation "𝕄" => MT nD τ sig Unit (Elt F) ℕ (Pipeline.UD sig nD τ) ℕ

/-! ## The tables' words -/

/-- A table's word `k`. -/
abbrev word (f : S39.Idx → BitVec 32) (k : ℕ) : BitVec 32 := f (ix1 (Fin.ofNat 39 k))

/-- An expert's number and a slot's number out of a word. -/
def expOf (w : BitVec 32) : Fin 8 := Fin.ofNat 8 w.toNat
def slotOf (w : BitVec 32) : Fin 2 := Fin.ofNat 2 w.toNat

theorem wE_expOf {w : BitVec 32} (h : w.toNat < 8) : wE (expOf w) = w := by
  unfold wE expOf
  apply BitVec.eq_of_toNat_eq
  simp only [Fin.val_ofNat, BitVec.toNat_ofNat]
  omega
theorem wS_slotOf {w : BitVec 32} (h : w.toNat < 2) : wS (slotOf w) = w := by
  unfold wS slotOf
  apply BitVec.eq_of_toNat_eq
  simp only [Fin.val_ofNat, BitVec.toNat_ofNat]
  omega
theorem slotOf_other {w : BitVec 32} (h : w.toNat < 2) : slotOf (1#32 - w) = oth (slotOf w) := by
  have e : w = 0#32 ∨ w = 1#32 := by
    rcases (by omega : w.toNat = 0 ∨ w.toNat = 1) with h | h
    · exact .inl (BitVec.eq_of_toNat_eq h)
    · exact .inr (BitVec.eq_of_toNat_eq h)
  rcases e with rfl | rfl <;> decide
theorem oth_oth (s : Fin 2) : oth (oth s) = s := by revert s; decide

/-- What the four tables owe one another: a run's first block takes the expert and the slot the block before it
    announced, a later block keeps its run's. -/
structure Agree (be fb par nxt : ℕ → BitVec 32) : Prop where
  be_lt : ∀ k, k < 39 → (be k).toNat < 8
  par_lt : ∀ k, k < 39 → (par k).toNat < 2
  first : fb 0 = 1#32
  last : nxt 38 = 8#32
  begins : ∀ k, k < 38 → fb (k + 1) = 1#32 → be (k + 1) = nxt k ∧ par (k + 1) = 1#32 - par k
  goes_on : ∀ k, k < 38 → fb (k + 1) ≠ 1#32 → be (k + 1) = be k ∧ nxt (k + 1) = nxt k ∧ par (k + 1) = par k

/-- The next expert is an expert or the word for none. -/
theorem Agree.next {be fb par nxt : ℕ → BitVec 32} (h : Agree be fb par nxt) : ∀ d k, k + d = 38 → (nxt k).toNat < 8 ∨ nxt k = 8#32
  | 0, k, e => .inr (by obtain rfl : k = 38 := by omega
                        exact h.last)
  | d + 1, k, e => by
    by_cases hf : fb (k + 1) = 1#32
    · left; rw [← (h.begins k (by omega) hf).1]; exact h.be_lt _ (by omega)
    · rw [← (h.goes_on k (by omega) hf).2.1]; exact h.next d (k + 1) (by omega)

section Steps
variable (c : Dev nD) (xu : BufUp (F := F) c) (xd : BufDn (F := F) c)

/-- The other slot while slot `s` is at work and `x` is the next expert's word. -/
def ahead (s : Fin 2) (x : BitVec 32) : sProp 𝕄 := if x.toNat < 8 then Fly c xu xd (oth s) (expOf x) else Free c xu xd (oth s)

/-- The slots before point `k`. -/
def slots (be par nxt : ℕ → BitVec 32) : ℕ → sProp 𝕄
  | 0 => iprop(Free c xu xd 0 ∗ Free c xu xd 1)
  | k + 1 => iprop(Full c xu xd (slotOf (par k)) (expOf (be k)) ∗ ahead c xu xd (slotOf (par k)) (nxt k))

theorem slots_done {be fb par nxt : ℕ → BitVec 32} (hA : Agree be fb par nxt) : slots c xu xd be par nxt 39 ⊢ iprop(Free c xu xd 0 ∗ Free c xu xd 1) := by
  refine BIBase.Entails.trans ?_ (free_pair c xu xd (slotOf (par 38))).2
  show iprop(_ ∗ _) ⊢ _
  unfold ahead
  rw [hA.last, if_neg (by decide)]
  exact sep_mono (free_of_full c xu xd _ _) .rfl

variable (i : grid0.Coords)
  (arg5 : Memref sig .tc .vmem S256x768 .f32) (harg5 : arg5.IsWhole) (arg8 : Memref sig .tc .vmem S1x1x2048 .f32) (harg8 : arg8.IsWhole)
  (arg9 : Memref sig .tc .vmem S1x1x768 .f32) (harg9 : arg9.IsWhole) (arg10 : Memref sig .tc .vmem S256x768 .f32) (harg10 : arg10.IsWhole)
  (x0 : Vec F S256x768 .f32) (x1 : Vec F S1x1x2048 .f32) (x2 : Vec F S1x1x768 .f32)
  (tb : TabBuf (F := F) c tabBe) (tf : TabBuf (F := F) c tabFb) (tp : TabBuf (F := F) c tabPar) (tn : TabBuf (F := F) c tabNxt)

theorem cond2_iff (w : BitVec 32) : k0_cond2 w = 1#1 ↔ w = 1#32 := by
  have e : k0_cond2 w = (if w = 1#32 then 1#1 else 0#1) := by
    unfold k0_cond2
    by_cases h : w = 1#32
    · subst h; decide
    · rw [if_neg h]
      have h' : (w == 1#32) = false := by simpa using h
      simp only [Scalar.cmpi, IntOp.cmpi, h']
      decide
  rw [e]; by_cases h : w = 1#32 <;> simp [h]

set_option maxHeartbeats 1000000 in
/-- One point, whatever its tables say. -/
theorem step {be fb par nxt : ℕ → BitVec 32} (hA : Agree be fb par nxt) (k : ℕ) (hk : k < 39) (h1 : k0_cond1 i = 1#1 ↔ k = 0)
    (hb : wordAt c i tabBe tb = be k) (hf : wordAt c i tabFb tf = fb k) (hp : wordAt c i tabPar tp = par k) (hn : wordAt c i tabNxt tn = nxt k)
    (W : Waits sig Unit) (K : PUnit → sProp 𝕄) :
    iprop(given c arg5 arg8 arg9 arg10 x0 x1 x2 tb tf tp tn ∗ slots c xu xd be par nxt k ∗ owes (c : Thread nD τ) 0 W
        ∗ (iprop(back c arg5 arg8 arg9 arg10 x0 x1 x2 xu xd tb tf tp tn (expOf (be k)) ∗ slots c xu xd be par nxt (k + 1) ∗ (∃ W', owes (c : Thread nD τ) 0 W')) -∗ K ⟨⟩))
      ⊢ wp frame (wpE (defs₀ (F := F)) Variants.none c none) Set.univ
          (bodyProg i arg5 harg5 arg8 harg8 arg9 harg9 arg10 harg10) K := by
  have hb' : wordAt c i tabBe tb = wE (expOf (be k)) := hb.trans (wE_expOf (hA.be_lt k hk)).symm
  have hp' : wordAt c i tabPar tp = wS (slotOf (par k)) := hp.trans (wS_slotOf (hA.par_lt k hk)).symm
  have hx := hA.next (38 - k) k (by omega)
  rw [show slots c xu xd be par nxt (k + 1) = iprop(Full c xu xd (slotOf (par k)) (expOf (be k)) ∗ ahead c xu xd (slotOf (par k)) (nxt k)) from rfl]
  rcases k with - | k
  · have hc : k0_cond1 i = 1#1 := h1.mpr rfl
    have hf' : wordAt c i tabFb tf = 1#32 := hf.trans hA.first
    rw [show slots c xu xd be par nxt 0 = iprop(Free c xu xd 0 ∗ Free c xu xd 1) from rfl]
    unfold ahead
    by_cases hx' : (nxt 0).toNat < 8
    · rw [if_pos hx']
      iintro ⟨Hg, Hs, HW, Hk⟩
      ihave Hs' := (free_pair c xu xd (slotOf (par 0))).1 $$ Hs
      icases Hs' with ⟨Ha, Hb⟩
      iapply (run_first c i arg5 harg5 arg8 harg8 arg9 harg9 arg10 harg10 x0 x1 x2 xu xd tb tf tp tn _ _ _ hc hb' hf' hp' (hn.trans (wE_expOf hx').symm) W K)
      iframe Hg Ha Hb HW Hk
    · rw [if_neg hx']
      iintro ⟨Hg, Hs, HW, Hk⟩
      ihave Hs' := (free_pair c xu xd (slotOf (par 0))).1 $$ Hs
      icases Hs' with ⟨Ha, Hb⟩
      iapply (run_only c i arg5 harg5 arg8 harg8 arg9 harg9 arg10 harg10 x0 x1 x2 xu xd tb tf tp tn _ _ hc hb' hf' hp' (hn.trans (hx.resolve_left hx')) W K)
      iframe Hg Ha HW
      iintro ⟨Hr, Hs, HW⟩
      iapply Hk
      iframe Hr Hs Hb HW
  · have hc : ¬ k0_cond1 i = 1#1 := fun h => by have := h1.mp h; omega
    rw [show slots c xu xd be par nxt (k + 1) = iprop(Full c xu xd (slotOf (par k)) (expOf (be k)) ∗ ahead c xu xd (slotOf (par k)) (nxt k)) from rfl]
    by_cases hfb : fb (k + 1) = 1#32
    · have hf' : wordAt c i tabFb tf = 1#32 := hf.trans hfb
      obtain ⟨e1, e2⟩ := hA.begins k (by omega) hfb
      have es : slotOf (par (k + 1)) = oth (slotOf (par k)) := by rw [e2]; exact slotOf_other (hA.par_lt k (by omega))
      have hlt : (nxt k).toNat < 8 := e1 ▸ hA.be_lt (k + 1) hk
      have es' : slotOf (par k) = oth (slotOf (par (k + 1))) := by rw [es, oth_oth]
      rw [es', ahead.eq_1, oth_oth, if_pos hlt, ← e1]
      unfold ahead
      by_cases hx' : (nxt (k + 1)).toNat < 8
      · rw [if_pos hx']
        iintro ⟨Hg, ⟨Ha, Hb⟩, HW, Hk⟩
        ihave Ha' := (free_of_full c xu xd _ _) $$ Ha
        iapply (run_next c i arg5 harg5 arg8 harg8 arg9 harg9 arg10 harg10 x0 x1 x2 xu xd tb tf tp tn _ _ _ hc hb' hf' hp' (hn.trans (wE_expOf hx').symm) W K)
        iframe Hg Ha' Hb HW Hk
      · rw [if_neg hx']
        iintro ⟨Hg, ⟨Ha, Hb⟩, HW, Hk⟩
        ihave Ha' := (free_of_full c xu xd _ _) $$ Ha
        iapply (run_last c i arg5 harg5 arg8 harg8 arg9 harg9 arg10 harg10 x0 x1 x2 xu xd tb tf tp tn _ _ hc hb' hf' hp' (hn.trans (hx.resolve_left hx')) W K)
        iframe Hg Hb HW
        iintro ⟨Hr, Hs, HW⟩
        iapply Hk
        iframe Hr Hs Ha' HW
    · have hf' : ¬ k0_cond2 (wordAt c i tabFb tf) = 1#1 := by rw [cond2_iff, hf]; exact hfb
      obtain ⟨e1, e2, e3⟩ := hA.goes_on k (by omega) hfb
      rw [← e1, ← e2, ← e3]
      iintro ⟨Hg, ⟨Ha, Hb⟩, HW, Hk⟩
      iapply (run_same c i arg5 harg5 arg8 harg8 arg9 harg9 arg10 harg10 x0 x1 x2 xu xd tb tf tp tn _ _ hc hb' hf' hp' W K)
      iframe Hg Ha HW
      iintro ⟨Hr, Hs, HW⟩
      iapply Hk
      iframe Hr Hs Hb HW

/-- The word a point reads of a table is the table's word at the point's number. -/
theorem wordAt_eq (M : Memref sig .tc .smem S39 .i32) (f : TabBuf (F := F) c M) (k : ℕ) (hk : k < 39) (hi : (i 0).val = k) :
    wordAt c i M f = M.view.read (Elt F) f (ix1 (Fin.ofNat 39 k)) := by
  unfold wordAt
  rw [View.readAt_apply]
  congr 1
  funext a
  obtain rfl : a = 0 := Subsingleton.elim _ _
  apply Fin.ext
  subst hi
  have : k0_off1 i 0 = (i 0).val := by
    show (BitVec.ofNat 32 (i 0).val).toNat = _
    rw [BitVec.toNat_ofNat]; omega
  show k0_off1 i 0 + 0 * 1 = (i 0).val % 39
  omega

end Steps

theorem cond1_iff : ∀ t : Fin grid0.N, k0_cond1 (grid0.coords t) = 1#1 ↔ t.val = 0 := by decide
theorem coords_val : ∀ t : Fin grid0.N, (grid0.coords t 0).val = t.val := by decide

section Launch
variable (m : (ℓ : Loc nD τ sig) → Buf (Elt F) ℓ) (ρ : Dev nD → PrngReg)

/-! ## What the region finds -/

/-- A core's buffers after the two host reshapes. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The reshapes write their own two results only. -/
theorem V_of_ne (c : Dev nD) (b : Ref sig .tc) (h0 : b ≠ main_v0) (h1 : b ≠ main_v1) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1⟩))

/-- The tables as the region reads them. -/
def tbl : pre0.Contents (Elt F) := fun j => V m (0 : Dev nD) (pre0.ref j)
theorem V_pre (c : Dev nD) (j : Fin 4) : V m c (pre0.ref j) = tbl m j := by
  obtain rfl : c = 0 := Subsingleton.elim _ _; rfl

abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The four tables' words. -/
abbrev wBe (k : ℕ) : BitVec 32 := tabBe.view.read (Elt F) (tbl m 0) (ix1 (Fin.ofNat 39 k))
abbrev wFb (k : ℕ) : BitVec 32 := tabFb.view.read (Elt F) (tbl m 1) (ix1 (Fin.ofNat 39 k))
abbrev wPar (k : ℕ) : BitVec 32 := tabPar.view.read (Elt F) (tbl m 2) (ix1 (Fin.ofNat 39 k))
abbrev wNxt (k : ℕ) : BitVec 32 := tabNxt.view.read (Elt F) (tbl m 3) (ix1 (Fin.ofNat 39 k))
abbrev AgreeM : Prop := Agree (wBe m) (wFb m) (wPar m) (wNxt m)

theorem tables_eq (c : Dev nD) : (Pipeline.ΦT pre0 (tbl m) c : sProp 𝕄)
    = iprop(tab c tabBe (tbl m 0) ∗ tab c tabFb (tbl m 1) ∗ tab c tabPar (tbl m 2) ∗ tab c tabNxt (tbl m 3)) := by
  unfold Pipeline.ΦT Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-! ## The windows -/

/-- Window `w`'s block at point `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

abbrev st0 (hO : Ok m) (t : Fin (cfgM m hO).N) : Memref sig .tc .vmem S256x768 .f32 := spec0_0.stage ((cfgM m hO).slots t 0)
abbrev st1 (hO : Ok m) (t : Fin (cfgM m hO).N) : Memref sig .tc .vmem S1x1x2048 .f32 := spec0_1.stage ((cfgM m hO).slots t 1)
abbrev st2 (hO : Ok m) (t : Fin (cfgM m hO).N) : Memref sig .tc .vmem S1x1x768 .f32 := spec0_2.stage ((cfgM m hO).slots t 2)
abbrev st3 (hO : Ok m) (t : Fin (cfgM m hO).N) : Memref sig .tc .vmem S256x768 .f32 := spec0_3.stage ((cfgM m hO).slots t 3)
abbrev wh0 (hO : Ok m) (t : Fin (cfgM m hO).N) : (st0 m hO t).IsWhole := hstage0_0 (((cfgM m hO).slots t 0).cast nbuf0_0)
abbrev wh1 (hO : Ok m) (t : Fin (cfgM m hO).N) : (st1 m hO t).IsWhole := hstage0_1 (((cfgM m hO).slots t 1).cast nbuf0_1)
abbrev wh2 (hO : Ok m) (t : Fin (cfgM m hO).N) : (st2 m hO t).IsWhole := hstage0_2 (((cfgM m hO).slots t 2).cast nbuf0_2)
abbrev wh3 (hO : Ok m) (t : Fin (cfgM m hO).N) : (st3 m hO t).IsWhole := hstage0_3 (((cfgM m hO).slots t 3).cast nbuf0_3)

/-- The block of the result the point leaves. -/
def outB (hO : Ok m) (c : Dev nD) (t : Fin (cfgM m hO).N) : Vec F S256x768 .f32 :=
  k0_pay1 (iblk m hO c 0 t) (takeUp c (V m c main_arg5) (expOf (wBe m t.val))) (iblk m hO c 1 t) (takeDn c (V m c main_arg7) (expOf (wBe m t.val))) (iblk m hO c 2 t)

/-! ## What the kernel keeps -/

abbrev osem0 : Fin 4 → SemLoc sig := fun j => (![SemLoc.dma 8, SemLoc.dma 9, SemLoc.dma 10, SemLoc.dma 11] : Fin 4 → SemLoc sig) j
theorem ownSemFacts0 : Pipeline.OwnSemFacts spec0 osem0 := by decide
def H0 : Finset (Ref sig .tc) := {main_arg5, main_arg7}
theorem H0_sub : H0 ⊆ Pipeline.restRefsP sig pre0 spec0 := by decide

/-- What the launch hands over is what the two slots are cut from, with the generator's register. -/
theorem kept_eq (c : Dev nD) : (Pipeline.ΦD osem0 spec0 H0 (V m) c : sProp 𝕄)
    = iprop((allUp c ∗ allDn c) ∗ (∃ r, prngReg c r)
      ∗ (semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0)
      ∗ (wUp.view.loc (c : Thread nD τ) ↦{fullShare} V m c main_arg5) ∗ (wDn.view.loc (c : Thread nD τ) ↦{fullShare} V m c main_arg7)) := by
  rw [Pipeline.ΦD_eq, scopedRest0_eq, Pipeline.ownSems0_eq_of_list c osem0 [0, 1, 2, 3] (by decide) (by decide)]
  rw [BI.bigSep_eq_bigSepL_of_eq (S := H0) [main_arg5, main_arg7] (by decide) (by decide)]
  rfl

/-- The slots before point `k`, the register, the tables. -/
def keep (c : Dev nD) (k : ℕ) : sProp 𝕄 :=
  iprop(slots c (V m c main_arg5) (V m c main_arg7) (wBe m) (wPar m) (wNxt m) k ∗ (∃ r, prngReg c r) ∗ Pipeline.ΦT pre0 (tbl m) c)

theorem keep_in (c : Dev nD) : iprop(Pipeline.ΦD osem0 spec0 H0 (V m) c ∗ Pipeline.ΦT pre0 (tbl m) c) ⊢ (keep m c 0 : sProp 𝕄) := by
  rw [kept_eq]
  unfold keep
  rw [show slots c (V m c main_arg5) (V m c main_arg7) (wBe m) (wPar m) (wNxt m) 0 = (iprop(Free c (V m c main_arg5) (V m c main_arg7) 0 ∗ Free c (V m c main_arg5) (V m c main_arg7) 1) : sProp 𝕄) from rfl]
  iintro ⟨⟨Hb, Hg, Hs, Hw⟩, HT⟩
  isplitr [Hg HT]
  · iapply (free_both c (V m c main_arg5) (V m c main_arg7))
    unfold Whole
    iframe Hb Hs Hw
  iframe Hg HT

theorem keep_out (hA : AgreeM m) (c : Dev nD) : (keep m c 39 : sProp 𝕄) ⊢ Pipeline.ΦD osem0 spec0 H0 (V m) c := by
  rw [kept_eq]
  unfold keep
  iintro ⟨Hs, Hg, -⟩
  ihave Hs' := (slots_done c (V m c main_arg5) (V m c main_arg7) hA) $$ Hs
  ihave Hs'' := (whole_again c (V m c main_arg5) (V m c main_arg7)) $$ Hs'
  unfold Whole
  icases Hs'' with ⟨Hb, Hs, Hw⟩
  iframe Hb Hg Hs Hw

/-! ## The proof data -/

def dats (hO : Ok m) (_ : Fin 1) (c : Dev nD) : Dat τ (Elt F) Unit ℕ (Pipeline.UD sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => outB m hO c t
  Φ k := keep m c k.val
  q _ := fullShare
  owed _ := 0

theorem A_eq (hO : Ok m) (c : Dev nD) (w : Fin (cfgM m hO).W) : (dats m hO 0 c).A w = V m c (Pipeline.arrRef spec0 w) := by dsimp only [dats]
theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = outB m hO c t := by dsimp only [dats]; try rfl

theorem before_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after_0]; unfold Dat.blockOf iblk; rw [A_eq]) t d).trans
    (by unfold Dat.fetched Dat.blockOf iblk; rw [A_eq]; try rfl)
theorem before_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after_1]; unfold Dat.blockOf iblk; rw [A_eq]) t d).trans
    (by unfold Dat.fetched Dat.blockOf iblk; rw [A_eq]; try rfl)
theorem before_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after_2]; unfold Dat.blockOf iblk; rw [A_eq]) t d).trans
    (by unfold Dat.fetched Dat.blockOf iblk; rw [A_eq]; try rfl)

/-! ## The body at a point -/

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (st0 m hO t) fullShare ((dats m hO 0 c).before 0 t d))
    ∗ (∃ d, owns (c : Thread nD τ) (st1 m hO t) fullShare ((dats m hO 0 c).before 1 t d))
    ∗ (∃ d, owns (c : Thread nD τ) (st2 m hO t) fullShare ((dats m hO 0 c).before 2 t d))
    ∗ (∃ d, owns (c : Thread nD τ) (st3 m hO t) fullShare ((dats m hO 0 c).before 3 t d)))
def bodyPost (hO : Ok m) (c : Dev nD) (t : Fin (cfgM m hO).N) : sProp 𝕄 :=
  iprop((dats m hO 0 c).Φ t.succ ∗ (dats m hO 0 c).owesAt () t.succ
    ∗ owns (c : Thread nD τ) (st0 m hO t) fullShare ((dats m hO 0 c).after 0 t)
    ∗ owns (c : Thread nD τ) (st1 m hO t) fullShare ((dats m hO 0 c).after 1 t)
    ∗ owns (c : Thread nD τ) (st2 m hO t) fullShare ((dats m hO 0 c).after 2 t)
    ∗ owns (c : Thread nD τ) (st3 m hO t) fullShare ((dats m hO 0 c).after 3 t))
abbrev bodyAt (hO : Ok m) (t : Fin (cfgM m hO).N) : Prog (TpuEff nD τ sig (Elt F) Λ₀ .tc) PUnit :=
  bodyProg (grid0.coords t) (st0 m hO t) (wh0 m hO t) (st1 m hO t) (wh1 m hO t) (st2 m hO t) (wh2 m hO t) (st3 m hO t) (wh3 m hO t)

theorem sound_body (hO : Ok m) (hA : AgreeM m) (c : Dev nD) (t : Fin (cfgM m hO).N) :
    bodyPre m hO c t ⊢ wp frame (wpE (defs₀ (F := F)) Variants.none c none) Set.univ (bodyAt m hO t) (fun _ => bodyPost m hO c t) := by
  have ht : t.val < 39 := N_0 ▸ t.isLt
  unfold bodyPre bodyPost bodyAt
  simp only [before_0, before_1, before_2]
  rw [after_0, after_1, after_2, after_3]
  rw [show (dats m hO 0 c).Φ t.castSucc = keep m c t.val from rfl, show (dats m hO 0 c).Φ t.succ = keep m c (t.val + 1) from rfl]
  unfold keep Dat.owesAt Pipeline.owesWithin
  rw [show (dats m hO 0 c).owed t.castSucc = 0 from rfl, show (dats m hO 0 c).owed t.succ = 0 from rfl, tables_eq]
  iintro ⟨⟨Hs, Hg, ⟨HT0, HT1, HT2, HT3⟩⟩, ⟨%W, -, HW⟩, ⟨%d0, H0⟩, ⟨%d1, H1⟩, ⟨%d2, H2⟩, ⟨%d3, H3⟩⟩
  iapply (step c (V m c main_arg5) (V m c main_arg7) (grid0.coords t) (st0 m hO t) (wh0 m hO t) (st1 m hO t) (wh1 m hO t) (st2 m hO t) (wh2 m hO t) (st3 m hO t) (wh3 m hO t)
    (iblk m hO c 0 t) (iblk m hO c 1 t) (iblk m hO c 2 t) (tbl m 0) (tbl m 1) (tbl m 2) (tbl m 3) hA t.val ht (cond1_iff t)
    (wordAt_eq c _ tabBe _ _ ht (coords_val t)) (wordAt_eq c _ tabFb _ _ ht (coords_val t)) (wordAt_eq c _ tabPar _ _ ht (coords_val t)) (wordAt_eq c _ tabNxt _ _ ht (coords_val t)) W _)
  unfold given back
  isplitl [H0 H1 H2 H3 HT0 HT1 HT2 HT3]
  · isplitl [H0]; · iexact H0
    isplitl [H1]; · iexact H1
    isplitl [H2]; · iexact H2
    isplitl [H3]; · iexists _; iexact H3
    iframe HT0 HT1 HT2 HT3
  isplitl [Hs]; · iexact Hs
  isplitl [HW]; · iexact HW
  iintro ⟨⟨H0, H1, H2, H3, HT0, HT1, HT2, HT3⟩, Hs, ⟨%W', HW'⟩⟩
  isplitl [Hs Hg HT0 HT1 HT2 HT3]
  · isplitl [Hs]; · iexact Hs
    isplitl [Hg]; · iexact Hg
    iframe HT0 HT1 HT2 HT3
  isplitl [HW']
  · iexists W'; isplitr; · ipureintro; exact fun _ _ => Or.inl trivial
    iexact HW'
  isplitl [H0]; · iexact H0
  isplitl [H1]; · iexact H1
  isplitl [H2]; · iexact H2
  iexact H3

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

theorem body_obligation (hO : Ok m) (hA : AgreeM m) (c : Dev nD) : BodyObligation (dats (F := F) m hO 0 c) (defs₀ (F := F)) Variants.none () Set.univ := fun t => by
  rw [bigSep_W0, bigSep_W0, defs₀_row m hO]
  exact triple_restated (sound_body m hO hA c t) rfl .rfl fun _ => .rfl

/-! ## The run -/

set_option backward.isDefEq.respectTransparency.types false in
theorem run_main (hO : Ok m) (hA : AgreeM m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP_dma (Q' := _) pcfgs (fun _ => adm m hO) (dats m hO) (0 : Fin 1) launch0 osem0 defs₀ Variants.none ownSemFacts0 H0 H0_sub m ρ main
    (hbody := fun c => (body_obligation m hO hA c).loose) (hshare := fun c => (dats m hO 0 c).share_full fun _ => rfl)
    (howed := fun _ _ => rfl) (V := V m) (hmain := hmain m Variants.none) (hA := A_eq m hO) (hpf := V_pre m)
    (hin := fun c => keep_in m c) (hout := fun c => keep_out m hA c)

/-- The arguments end as they began, the result holds its blocks, and every counter is at zero. -/
theorem run_all (hO : Ok m) (hA : AgreeM m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_v2) = (dats m hO 0 c).arrAt 3 (cfgM m hO).N)
      ∧ r.2.sem = fun _ => 0) :=
  (θ_run defs _ _).mono (fun r h => ⟨fun c =>
    ⟨((h.1 c).2 main_arg0 (by decide : main_arg0 ∈ Pipeline.restRefs sig spec0)).trans (V_of_ne m c _ (by decide) (by decide)),
     ((h.1 c).2 main_arg1 (by decide : main_arg1 ∈ Pipeline.restRefs sig spec0)).trans (V_of_ne m c _ (by decide) (by decide)),
     ((h.1 c).2 main_arg2 (by decide : main_arg2 ∈ Pipeline.restRefs sig spec0)).trans (V_of_ne m c _ (by decide) (by decide)),
     ((h.1 c).2 main_arg3 (by decide : main_arg3 ∈ Pipeline.restRefs sig spec0)).trans (V_of_ne m c _ (by decide) (by decide)),
     ((h.1 c).1 0).trans (((dats m hO 0 c).arrAt_in 0 rfl _).trans ((A_eq m hO c 0).trans (V_of_ne m c main_arg4 (by decide) (by decide)))),
     ((h.1 c).2 main_arg5 (by decide : main_arg5 ∈ Pipeline.restRefs sig spec0)).trans (V_of_ne m c _ (by decide) (by decide)),
     ((h.1 c).2 main_arg6 (by decide : main_arg6 ∈ Pipeline.restRefs sig spec0)).trans (V_of_ne m c _ (by decide) (by decide)),
     ((h.1 c).2 main_arg7 (by decide : main_arg7 ∈ Pipeline.restRefs sig spec0)).trans (V_of_ne m c _ (by decide) (by decide)),
     ((h.1 c).2 main_arg8 (by decide : main_arg8 ∈ Pipeline.restRefs sig spec0)).trans (V_of_ne m c _ (by decide) (by decide)),
     (h.1 c).1 3⟩, h.2⟩)
    (run_main m ρ hO hA)

end Launch

end Cert.ExpertsIdeal.Hand

end
-- ==== Proof.ExpertsPre.lean ====
/-
  What the precondition on the four tables says of their words.

  The precondition is one bit: a conjunction of the tables' ranges, of the first and the last words, and of what each
  block's words say to the next block's. Taken apart, it is what the experts' launch asks of the tables.
-/
module

public import proofs.«01_k».proof.Proof.ExpertsLaunch
public import proofs.«01_k».proof.Pre_tables_agree
public import Idealize.ShloMosaic.Lib.ReduceAll
public import Idealize.ShloMosaic.Lib.Affine
public import Idealize.ShloMosaic.Lib.Pointwise

@[expose] public section

noncomputable section

namespace Cert.Proof.ExpertsPre

open Idealize.ShloMosaic Idealize.SL.Sem
open Cert.ExpertsIdeal.Hand (word Agree)

variable {F : FTy → Type} [FloatOps F]

/-- The shape relations that the precondition's operations take. -/
instance tablesFacts : Cert.Pre_tables_agree.Facts where
  slices_S39_S38_1 := by decide
  bcast_S_S38 := by decide
  bcast_S_S39 := by decide
  reducesTo_S39_S_d0 := by decide
  h_S_ := by decide
  slices_S39_S1_0 := by decide
  shapeCasts_S1_S_ := by decide
  slices_S39_S1_38 := by decide
  slices_S39_S38_0 := by decide
  reducesTo_S38_S_d0 := by decide

/-- A word at least zero and below a small bound, both as a signed number, is below the bound as an unsigned one. -/
theorem below (n : ℕ) (hn : n < 2 ^ 31) {v : BitVec 32} (h₁ : IntOp.cmpi .sge v 0#32 = 1#1) (h₂ : IntOp.cmpi .slt v (BitVec.ofNat 32 n) = 1#1) :
    v.toNat < n := by
  have one (p : Bool) : (BitVec.ofBool p = 1#1) ↔ p = true := by cases p <;> decide
  simp only [IntOp.cmpi, one, BitVec.sle_eq_decide, BitVec.slt_eq_decide, decide_eq_true_eq, BitVec.toInt_eq_toNat_cond,
    BitVec.toNat_ofNat, Nat.reducePow, Nat.reduceMod] at h₁ h₂
  omega

theorem eq_of_cmpi {n : ℕ} {v w : BitVec n} (h : IntOp.cmpi .eq v w = 1#1) : v = w := by
  have one (p : Bool) : (BitVec.ofBool p = 1#1) ↔ p = true := by cases p <;> decide
  simpa only [IntOp.cmpi, one, beq_iff_eq] using h

theorem cmpi_of_eq {n : ℕ} {v w : BitVec n} (h : v = w) : IntOp.cmpi .eq v w = 1#1 := by
  subst h; simp [IntOp.cmpi]

theorem cmpi_of_ne {n : ℕ} {v w : BitVec n} (h : v ≠ w) : IntOp.cmpi .eq v w = 0#1 := by
  have : (v == w) = false := by simpa using h
  simp [IntOp.cmpi, this]

theorem taken_one (a b : BitVec 1) : Scalar.select 1#1 a b = a := rfl
theorem taken_zero (a b : BitVec 1) : Scalar.select 0#1 a b = b := rfl

section
open Cert.Pre_tables_agree Cert.Pre_tables_agree.Facts

/-- A table without its first word, and without its last. -/
theorem tail_apply (f : IVec S39 32) (k : ℕ) (hk : k < 38) :
    extractStridedSlice S38 ![1] f slices_S39_S38_1 (ix1 (⟨k, hk⟩ : Fin 38)) = word f (k + 1) := by
  unfold extractStridedSlice
  refine congrArg f (funext fun a => Fin.ext ?_)
  match a with
  | ⟨0, _⟩ => show 1 + k = (k + 1) % 39; omega

theorem init_apply (f : IVec S39 32) (k : ℕ) (hk : k < 38) :
    extractStridedSlice S38 ![0] f slices_S39_S38_0 (ix1 (⟨k, hk⟩ : Fin 38)) = word f k := by
  unfold extractStridedSlice
  refine congrArg f (funext fun a => Fin.ext ?_)
  match a with
  | ⟨0, _⟩ => show 0 + k = k % 39; omega

theorem agree_of_pre (be fb par nxt : IVec S39 32) (xs : FVec F S9984x768 .f32) (w1 : FVec F S8x768x2048 .f32) (b1 : FVec F S8x2048 .f32)
    (w2 : FVec F S8x2048x768 .f32) (b2 : FVec F S8x768 .f32)
    (h : Cert.Pre_tables_agree.fn be fb par nxt xs w1 b1 w2 b2 = fun _ => 1#1) : Agree (word be) (word fb) (word par) (word nxt) := by
  have e := congrFun h (Shape.Idx.first (s := S_) (by decide))
  simp only [Cert.Pre_tables_agree.fn, fn_part1, fn_part2, fn_where, andi] at e
  obtain ⟨e, eP⟩ := IntOp.andi_eq_one.1 e
  obtain ⟨e, eB⟩ := IntOp.andi_eq_one.1 e
  obtain ⟨e, eL⟩ := IntOp.andi_eq_one.1 e
  obtain ⟨e, eF⟩ := IntOp.andi_eq_one.1 e
  obtain ⟨e, -⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  haveI : Subsingleton S_.Idx := ⟨fun a b => funext fun i => i.elim0⟩
  have hB (k : ℕ) (hk : k < 38) := Host.reduce_andi_all _ _ _ _ _ eB (ix1 (⟨k, hk⟩ : Fin 38))
  have hP (k : ℕ) (hk : k < 38) := Host.reduce_andi_all _ _ _ _ _ eP (ix1 (⟨k, hk⟩ : Fin 38))
  simp only [select, cmpi, subi, andi, tail_apply, init_apply] at hB hP
  have c1 (k : ℕ) (hk : k < 38) : broadcastInDim S38 ![] bcast_S_S38 (constantI S_ 32 1#32) (ix1 (⟨k, hk⟩ : Fin 38)) = 1#32 := rfl
  simp only [c1] at hB hP
  refine ⟨fun k _ => ?_, fun k _ => ?_, ?_, ?_, fun k hk hf => ?_, fun k hk hf => ?_⟩
  · exact below 8 (by decide) (Host.reduce_andi_all _ _ _ _ _ e1 _) (Host.reduce_andi_all _ _ _ _ _ e2 _)
  · exact below 2 (by decide) (Host.reduce_andi_all _ _ _ _ _ e3 _) (Host.reduce_andi_all _ _ _ _ _ e4 _)
  · refine Eq.trans ?_ (eq_of_cmpi eF)
    exact congrArg fb (funext fun a => Fin.ext (by match a with | ⟨0, _⟩ => rfl))
  · refine Eq.trans ?_ (eq_of_cmpi eL)
    exact congrArg nxt (funext fun a => Fin.ext (by match a with | ⟨0, _⟩ => rfl))
  · have hb := hB k hk
    have hp := hP k hk
    rw [cmpi_of_eq hf, taken_one] at hb hp
    exact ⟨eq_of_cmpi hb, eq_of_cmpi hp⟩
  · have hb := hB k hk
    have hp := hP k hk
    rw [cmpi_of_ne hf, taken_zero] at hb hp
    obtain ⟨h1, h2⟩ := IntOp.andi_eq_one.1 hb
    exact ⟨eq_of_cmpi h1, eq_of_cmpi h2, eq_of_cmpi hp⟩

end

/-! ## The tables the program is launched with -/

section
open Cert.ExpertsIdeal Cert.ExpertsIdeal.Gen Cert.ExpertsIdeal.Hand Idealize.ShloMosaic.TcCoe

variable (m : (ℓ : Loc nD τ sig) → Buf (Elt F) ℓ)

theorem wBe_eq (k : ℕ) : wBe m k = word (m (((0 : Dev nD) : Thread nD τ).loc main_arg0)) k :=
  congrFun (V_of_ne m 0 main_arg0 (by decide) (by decide)) _
theorem wFb_eq (k : ℕ) : wFb m k = word (m (((0 : Dev nD) : Thread nD τ).loc main_arg1)) k :=
  congrFun (V_of_ne m 0 main_arg1 (by decide) (by decide)) _
theorem wPar_eq (k : ℕ) : wPar m k = word (m (((0 : Dev nD) : Thread nD τ).loc main_arg2)) k :=
  congrFun (V_of_ne m 0 main_arg2 (by decide) (by decide)) _
theorem wNxt_eq (k : ℕ) : wNxt m k = word (m (((0 : Dev nD) : Thread nD τ).loc main_arg3)) k :=
  congrFun (V_of_ne m 0 main_arg3 (by decide) (by decide)) _

theorem agreeM (h : Agree (word (m (((0 : Dev nD) : Thread nD τ).loc main_arg0))) (word (m (((0 : Dev nD) : Thread nD τ).loc main_arg1)))
    (word (m (((0 : Dev nD) : Thread nD τ).loc main_arg2))) (word (m (((0 : Dev nD) : Thread nD τ).loc main_arg3)))) : AgreeM m := by
  unfold AgreeM
  rw [funext (wBe_eq m), funext (wFb_eq m), funext (wPar_eq m), funext (wNxt_eq m)]
  exact h

/-- Where the index maps of the two bias windows point. -/
theorem at3 (i : grid0.Coords) : cc0_transform_3 k0_off1_inb numel1_S1 (tbl m) i = ![(wBe m (i 0).val).toNat, 0, 0] := by
  have hi : (i 0).val < 39 := (i 0).isLt
  exact congrArg (fun w : BitVec 32 => ![w.toNat, 0, 0]) (wordAt_eq (F := F) 0 i tabBe (tbl m 0) (i 0).val hi rfl)
theorem at4 (i : grid0.Coords) : cc0_transform_4 k0_off1_inb numel1_S1 (tbl m) i = ![(wBe m (i 0).val).toNat, 0, 0] := by
  have hi : (i 0).val < 39 := (i 0).isLt
  exact congrArg (fun w : BitVec 32 => ![w.toNat, 0, 0]) (wordAt_eq (F := F) 0 i tabBe (tbl m 0) (i 0).val hi rfl)

theorem ok (h : AgreeM m) : Ok m := by
  refine ⟨fun i => ⟨fun a => ?_, .inl rfl⟩, fun i => ⟨fun a => ?_, .inl rfl⟩⟩
  · have hi : (i 0).val < 39 := (i 0).isLt
    have hb := h.be_lt _ hi
    rw [at3]
    match a with
    | ⟨0, _⟩ => show ((wBe m (i 0).val).toNat + 1) * 1 ≤ 8; omega
    | ⟨1, _⟩ => show (0 + 1) * 1 ≤ 1; omega
    | ⟨2, _⟩ => show (0 + 1) * 2048 ≤ 2048; omega
  · have hi : (i 0).val < 39 := (i 0).isLt
    have hb := h.be_lt _ hi
    rw [at4]
    match a with
    | ⟨0, _⟩ => show ((wBe m (i 0).val).toNat + 1) * 1 ≤ 8; omega
    | ⟨1, _⟩ => show (0 + 1) * 1 ≤ 1; omega
    | ⟨2, _⟩ => show (0 + 1) * 768 ≤ 768; omega

end

end Cert.Proof.ExpertsPre

end
-- ==== Proof.ExpertsRef.lean ====
/-
  The grouped experts, as the reference computes them: one entry of its result.

  The reference cuts the rows into blocks of 256, takes each block's two weight matrices and two biases out of the
  experts' by the block's word, and multiplies block by block. Where every word names an expert, each entry is that
  expert's two layers on the entry's row.
-/
module

public import proofs.«01_k».proof.Proof.ExpertsPre
public import proofs.«01_k».proof.Proof.Gen.ExpertsRefIdeal
public import proofs.«01_k».proof.Proof.Gen.ExpertsRefIdeal.Run
public import Idealize.ShloMosaic.Lib.Routing.Ops

@[expose] public section

noncomputable section

namespace Cert.Proof.ExpertsRef

open Idealize.ShloMosaic Idealize.SL.Sem

/-! ## Taking whole members of a stack -/

section Planes
variable {α : Type} {N n B C : ℕ}

/-- The dimension numbers of taking, for every word of a list, a whole matrix out of a stack. -/
abbrev planeDims (wf : GatherDims.WF ⟨3, ![N, B, C]⟩ ⟨2, ![n, 1]⟩ ⟨3, ![n, B, C]⟩ [1, 2] [0] [] [0] [] 1 ![1, B, C]) :
    GatherDims ⟨3, ![N, B, C]⟩ ⟨2, ![n, 1]⟩ ⟨3, ![n, B, C]⟩ where
  offsetDims := [1, 2]
  collapsedSliceDims := [0]
  operandBatchingDims := []
  startIndicesBatchingDims := []
  startIndexMap := [0]
  indexVectorDim := 1
  sliceSizes := ![1, B, C]
  wf := wf

/-- Where the list's word names a matrix of the stack, that matrix is taken. -/
theorem plane_taken (wf : GatherDims.WF ⟨3, ![N, B, C]⟩ ⟨2, ![n, 1]⟩ ⟨3, ![n, B, C]⟩ [1, 2] [0] [] [0] [] 1 ![1, B, C])
    (x : (⟨3, ![N, B, C]⟩ : Shape).Idx → α) (idx : IVec ⟨2, ![n, 1]⟩ 32) (c : Fin n) (y : Fin B) (z : Fin C) (b : Fin N)
    (hb : idx (ix2 c (0 : Fin 1)) = BitVec.ofNat 32 b.val) (hN : N < 2 ^ 31) :
    Host.gather (planeDims wf) x idx (ix3 c y z) = x (ix3 b y z) := by
  unfold Host.gather
  refine congrArg x (funext fun a => Fin.ext ?_)
  show (planeDims wf).start (ix3 c y z) idx a + (planeDims wf).batchCoord (ix3 c y z) a + (planeDims wf).offCoord (ix3 c y z) a = (ix3 b y z a).val
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    rw [dif_pos (show (⟨0, by decide⟩ : Fin 3) ∈ (planeDims wf).startIndexMap from List.mem_singleton.mpr rfl)]
    have hsi : (planeDims wf).siIdx (ix3 c y z) ⟨List.idxOf (0 : Fin 3) (planeDims wf).startIndexMap,
        List.idxOf_lt_length_iff.2 (List.mem_singleton.mpr rfl)⟩ = ix2 c (0 : Fin 1) := by
      funext k; refine Fin.ext ?_
      match k with
      | ⟨0, _⟩ => rfl
      | ⟨1, _⟩ => rfl
    have hl := b.isLt
    refine (congrArg (fun v : BitVec 32 => min v.toInt.toNat (N - 1)) (hsi ▸ hb : _)).trans ?_
    show min (BitVec.ofNat 32 b.val).toInt.toNat (N - 1) = b.val
    rw [StableHlo.Predicate.toInt_ofNat_small _ (by omega)]
    omega
  | ⟨1, _⟩ =>
    unfold GatherDims.start
    rw [dif_neg (show (⟨1, by decide⟩ : Fin 3) ∉ (planeDims wf).startIndexMap from fun h => by simp at h), Nat.zero_add]
    rfl
  | ⟨2, _⟩ =>
    unfold GatherDims.start
    rw [dif_neg (show (⟨2, by decide⟩ : Fin 3) ∉ (planeDims wf).startIndexMap from fun h => by simp at h), Nat.zero_add]
    rfl

end Planes

/-! ## The reference's result -/

open Cert.ExpertsRefIdeal Cert.ExpertsRefIdeal.Gen

/-- Row `r` of block `t`, among all the rows. -/
def rowAt (t : Fin 39) (r : Fin 256) : Fin 9984 := ⟨256 * t.val + r.val, by omega⟩

/-- The two layers of expert `e` on row `i`, at column `j`. -/
def layers (xs : FVec Ideal S9984x768 .f32) (w1 : FVec Ideal S8x768x2048 .f32) (b1 : FVec Ideal S8x2048 .f32)
    (w2 : FVec Ideal S8x2048x768 .f32) (b2 : FVec Ideal S8x768 .f32) (e : Fin 8) (i : Fin 9984) (j : Fin 768) : EReal :=
  (∑ f : Fin 2048, max ((∑ d : Fin 768, xs (ix2 i d) * w1 (ix3 e d f)) + b1 (ix2 e f)) 0 * w2 (ix3 e f j)) + b2 (ix2 e j)

variable (be : IVec S39 32) (xs : FVec Ideal S9984x768 .f32) (w1 : FVec Ideal S8x768x2048 .f32) (b1 : FVec Ideal S8x2048 .f32)
  (w2 : FVec Ideal S8x2048x768 .f32) (b2 : FVec Ideal S8x768 .f32)

/-- The words as the reference hands them to its gathers: a negative one counted from the stack's end. -/
abbrev wrapped : IVec S39x1 32 :=
  broadcastInDim S39x1 ![0] bcast_S39_S39x1_0
    (select (cmpi .slt be (broadcastInDim S39 ![] bcast_S_S39 (constantI S_ 32 0#32)))
      (addi be (broadcastInDim S39 ![] bcast_S_S39 (constantI S_ 32 8#32))) be)

theorem wrapped_eq (c : Fin 39) (h : (be (ix1 c)).toNat < 8) : wrapped be (ix2 c (0 : Fin 1)) = be (ix1 c) := by
  have hn : cmpi .slt be (broadcastInDim S39 ![] bcast_S_S39 (constantI S_ 32 0#32)) (ix1 c) = 0#1 := by
    show IntOp.cmpi .slt (be (ix1 c)) 0#32 = 0#1
    have zero (b : Bool) : (BitVec.ofBool b = 0#1) ↔ b = false := by cases b <;> decide
    simp only [IntOp.cmpi, zero, BitVec.slt_eq_decide, decide_eq_false_iff_not, BitVec.toInt_eq_toNat_cond, BitVec.toNat_ofNat,
      Nat.reducePow, Nat.reduceMod]
    omega
  have hi (x : S39.Idx → BitVec 32) : broadcastInDim S39x1 ![0] bcast_S39_S39x1_0 x (ix2 c (0 : Fin 1)) = x (ix1 c) := by
    unfold broadcastInDim
    refine congrArg x (funext fun a => Fin.ext ?_)
    match a with
    | 0 => rfl
  rw [wrapped, hi, select, hn]
  rfl

/-- The first layer's result, block by block. -/
def hidden : FVec Ideal S39x256x2048 .f32 :=
  maximumf (addf (Host.dotGeneral dot_S39x256x768_S39x768x2048_S39x256x2048_2_1_1_2_0_0 none
        (shapeCast S39x256x768 xs shapeCasts_S9984x768_S39x256x768)
        (Host.gather gather_S8x768x2048_S39x1_S39x768x2048_12_0_n_n_0_1_17682048 w1 (wrapped be)))
      (broadcastInDim S39x256x2048 ![0, 1, 2] bcast_S39x1x2048_S39x256x2048_0_1_2 (broadcastInDim S39x1x2048 ![0, 2] bcast_S39x2048_S39x1x2048_0_2
        (Host.gather gather_S8x2048_S39x1_S39x2048_1_0_n_n_0_1_12048 b1 (wrapped be)))))
    (broadcastInDim S39x256x2048 ![] bcast_S_S39x256x2048 (constant S_ .f32 0x00000000#32))

/-- The reference's result as a function of its arguments. -/
def outcome : FVec Ideal S9984x768 .f32 :=
  shapeCast S9984x768 (addf (Host.dotGeneral dot_S39x256x2048_S39x2048x768_S39x256x768_2_1_1_2_0_0 none (hidden be xs w1 b1)
      (Host.gather gather_S8x2048x768_S39x1_S39x2048x768_12_0_n_n_0_1_12048768 w2 (wrapped be)))
    (broadcastInDim S39x256x768 ![0, 1, 2] bcast_S39x1x768_S39x256x768_0_1_2 (broadcastInDim S39x1x768 ![0, 2] bcast_S39x768_S39x1x768_0_2
      (Host.gather gather_S8x768_S39x1_S39x768_1_0_n_n_0_1_1768 b2 (wrapped be))))) shapeCasts_S39x256x768_S9984x768

variable (t : Fin 39) (r : Fin 256) (e : Fin 8)

theorem joined (x : FVec Ideal S39x256x768 .f32) (j : Fin 768) :
    shapeCast S9984x768 x shapeCasts_S39x256x768_S9984x768 (ix2 (rowAt t r) j) = x (ix3 t r j) :=
  shapeCast_apply _ _ _ _ (by
    rw [Shape.rowMajor_val_two, Shape.rowMajor_val_three]
    show (t.val * 256 + r.val) * 768 + j.val = (256 * t.val + r.val) * 768 + j.val
    omega)

theorem parted (j : Fin 768) : shapeCast S39x256x768 xs shapeCasts_S9984x768_S39x256x768 (ix3 t r j) = xs (ix2 (rowAt t r) j) :=
  shapeCast_apply _ _ _ _ (by
    rw [Shape.rowMajor_val_two, Shape.rowMajor_val_three]
    show (256 * t.val + r.val) * 768 + j.val = (t.val * 256 + r.val) * 768 + j.val
    omega)

section
variable (he : be (ix1 t) = BitVec.ofNat 32 e.val)
include he

theorem word_at : wrapped be (ix2 t (0 : Fin 1)) = BitVec.ofNat 32 e.val := by
  rw [wrapped_eq be t (by rw [he, BitVec.toNat_ofNat]; omega), he]

theorem up_at (d : Fin 768) (f : Fin 2048) :
    Host.gather gather_S8x768x2048_S39x1_S39x768x2048_12_0_n_n_0_1_17682048 w1 (wrapped be) (ix3 t d f) = w1 (ix3 e d f) :=
  plane_taken _ w1 (wrapped be) t d f e (word_at be t e he) (by decide)

theorem down_at (f : Fin 2048) (j : Fin 768) :
    Host.gather gather_S8x2048x768_S39x1_S39x2048x768_12_0_n_n_0_1_12048768 w2 (wrapped be) (ix3 t f j) = w2 (ix3 e f j) :=
  plane_taken _ w2 (wrapped be) t f j e (word_at be t e he) (by decide)

theorem bias1_at (f : Fin 2048) :
    Host.gather gather_S8x2048_S39x1_S39x2048_1_0_n_n_0_1_12048 b1 (wrapped be) (ix2 t f) = b1 (ix2 e f) :=
  Routing.gather_row _ rfl rfl rfl rfl rfl b1 (wrapped be) t f e (word_at be t e he) (by decide)

theorem bias2_at (j : Fin 768) :
    Host.gather gather_S8x768_S39x1_S39x768_1_0_n_n_0_1_1768 b2 (wrapped be) (ix2 t j) = b2 (ix2 e j) :=
  Routing.gather_row _ rfl rfl rfl rfl rfl b2 (wrapped be) t j e (word_at be t e he) (by decide)

theorem hidden_at (f : Fin 2048) :
    hidden be xs w1 b1 (ix3 t r f) = max ((∑ d : Fin 768, xs (ix2 (rowAt t r) d) * w1 (ix3 e d f)) + b1 (ix2 e f)) 0 := by
  have h1 := up_at be w1 t e he
  have h2 := bias1_at be b1 t e he
  have h3 := parted xs t r
  unfold hidden
  generalize Host.gather gather_S8x768x2048_S39x1_S39x768x2048_12_0_n_n_0_1_17682048 w1 (wrapped be) = g1 at h1 ⊢
  generalize Host.gather gather_S8x2048_S39x1_S39x2048_1_0_n_n_0_1_12048 b1 (wrapped be) = g2 at h2 ⊢
  generalize shapeCast S39x256x768 xs shapeCasts_S9984x768_S39x256x768 = g3 at h3 ⊢
  pointwise
  simp only [h1, h2, h3]

theorem outcome_at (j : Fin 768) : outcome be xs w1 b1 w2 b2 (ix2 (rowAt t r) j) = layers xs w1 b1 w2 b2 e (rowAt t r) j := by
  have h1 := down_at be w2 t e he
  have h2 := bias2_at be b2 t e he
  have h3 := hidden_at be xs w1 b1 t r e he
  unfold outcome layers
  rw [joined]
  generalize Host.gather gather_S8x2048x768_S39x1_S39x2048x768_12_0_n_n_0_1_12048768 w2 (wrapped be) = g1 at h1 ⊢
  generalize Host.gather gather_S8x768_S39x1_S39x768_1_0_n_n_0_1_1768 b2 (wrapped be) = g2 at h2 ⊢
  generalize hidden be xs w1 b1 = g3 at h3 ⊢
  pointwise
  simp only [h1, h2, h3]

end

end Cert.Proof.ExpertsRef

end
-- ==== Proof.ExpertsSame.lean ====
/-
  The grouped experts: one program, stated twice.

  The program over bit patterns and the program over ideal numbers are the same text, so what is shown of the one for
  any numbers is true of the other.
-/
module

public import proofs.«01_k».proof.Defs
public import proofs.«01_k».proof.Proof.ExpertsLaunch
public import proofs.«01_k».proof.Proof.Gen.Experts

@[expose] public section

noncomputable section

namespace Cert.Proof.ExpertsSame

open Idealize.ShloMosaic Idealize.SL.Sem

variable {F : FTy → Type} [FloatOps F]

/-- The part of the body that fills a slot of the weights. -/
theorem part_same : @Cert.Experts.k0_part1 F _ _ = @Cert.ExpertsIdeal.k0_part1 F _ _ := rfl

/-- The body of a point. -/
theorem body_same : @Cert.Experts.cc0__group_body F _ _ = @Cert.ExpertsIdeal.cc0__group_body F _ _ := by
  unfold Cert.Experts.cc0__group_body Cert.ExpertsIdeal.cc0__group_body
  rw [part_same]
  rfl

/-- The procedures that the launch calls. -/
theorem calls_same : Cert.Experts.defs₀ (F := F) = Cert.ExpertsIdeal.defs₀ (F := F) := by
  unfold Cert.Experts.defs₀ Cert.ExpertsIdeal.defs₀
  rw [body_same]
  refine congrArg Defs.onTc (funext fun x => funext fun y => ?_)
  match x, y with
  | 0, (t, s) => rfl
  | ⟨_ + 1, h⟩, _ => exact absurd h (by omega)

/-- All procedures. -/
theorem defs_same : Cert.Experts.defs (F := F) = Cert.ExpertsIdeal.defs (F := F) := by
  unfold Cert.Experts.defs Cert.ExpertsIdeal.defs
  rw [calls_same]
  rfl

/-- What the one program does from a memory, the other does. -/
theorem run_same (m : (ℓ : Loc Cert.ExpertsIdeal.nD Cert.ExpertsIdeal.τ Cert.ExpertsIdeal.sig) → Buf (Elt F) ℓ)
    (g : Dev Cert.ExpertsIdeal.nD → PrngReg) (Q) :
    θ_run (Cert.ExpertsIdeal.defs (F := F)) (onTc (τ := Cert.ExpertsIdeal.τ) (Cert.ExpertsIdeal.main (F := F))) ⟨m, fun _ => 0, g⟩ Q →
    θ_run (Cert.Experts.defs (F := F)) (onTc (τ := Cert.Experts.τ) (Cert.Experts.main (F := F))) ⟨m, fun _ => 0, g⟩ Q := by
  intro h
  rw [defs_same]
  exact h

end Cert.Proof.ExpertsSame

end
-- ==== Proof.ExpertsValue.lean ====
/-
  The grouped experts: what the program leaves, and the claims.

  Each block of the result is stored at one point of the grid, and holds the two layers of the block's expert on the
  block's rows: the reference's entries.
-/
module

public import proofs.«01_k».proof.Defs
public import proofs.«01_k».proof.Proof.ExpertsRef
public import proofs.«01_k».proof.Proof.ExpertsSame
public import proofs.«01_k».proof.Proof.Gen.Experts
public import Idealize.ShloMosaic.Lib.Pipeline.ValueKit
public import Idealize.ShloMosaic.Lib.Pointwise
public import Idealize.ShloMosaic.Lib.Quiescent

@[expose] public section

noncomputable section

namespace Cert.Proof.ExpertsClaims

open Idealize.ShloMosaic Idealize.ShloMosaic.TcCoe Idealize.SL.Sem
open Cert.ExpertsIdeal Cert.ExpertsIdeal.Gen Cert.ExpertsIdeal.Hand
open Cert.Proof.ExpertsRef (rowAt layers)
open Cert.Proof.ExpertsPre (agree_of_pre agreeM ok at3 at4 wBe_eq)

/-- One entry of what a point stores. -/
theorem stored (x : FVec Ideal S256x768 .f32) (u : FVec Ideal S1x768x2048 .f32) (a : FVec Ideal S1x1x2048 .f32) (d : FVec Ideal S1x2048x768 .f32)
    (b : FVec Ideal S1x1x768 .f32) (r : Fin 256) (j : Fin 768) : k0_pay1 (F := Ideal) x u a d b (ix2 r j)
      = (∑ f : Fin 2048, max ((∑ k : Fin 768, x (ix2 r k) * u (ix3 0 k f)) + a (ix3 0 0 f)) 0 * d (ix3 0 f j)) + b (ix3 0 0 j) := by
  unfold k0_pay1
  pointwise

/-- The same, the entries it reads named. -/
theorem stored_of (x : FVec Ideal S256x768 .f32) (u : FVec Ideal S1x768x2048 .f32) (a : FVec Ideal S1x1x2048 .f32) (d : FVec Ideal S1x2048x768 .f32)
    (b : FVec Ideal S1x1x768 .f32) (r : Fin 256) (j : Fin 768) {X : Fin 768 → EReal} {U : Fin 768 → Fin 2048 → EReal} {A D : Fin 2048 → EReal}
    {B : EReal} (hx : ∀ k, x (ix2 r k) = X k) (hu : ∀ k f, u (ix3 0 k f) = U k f) (ha : ∀ f, a (ix3 0 0 f) = A f)
    (hd : ∀ f, d (ix3 0 f j) = D f) (hb : b (ix3 0 0 j) = B) :
    k0_pay1 (F := Ideal) x u a d b (ix2 r j) = (∑ f : Fin 2048, max ((∑ k : Fin 768, X k * U k f) + A f) 0 * D f) + B := by
  rw [stored]
  simp only [hx, hu, ha, hd, hb]

variable (m : (ℓ : Loc nD τ sig) → Buf (Elt Ideal) ℓ)

/-! ## What a point reads -/

theorem bias1 (c : Dev nD) (e : Fin 8) (f : Fin 2048) :
    (V m c main_v0 : FVec Ideal S8x1x2048 .f32) (ix3 e 0 f) = (m ((c : Thread nD τ).loc main_arg6) : FVec Ideal S8x2048 .f32) (ix2 e f) := by
  have h : V m c main_v0 = shapeCast S8x1x2048 (m ((c : Thread nD τ).loc main_arg6)) shapeCasts_S8x2048_S8x1x2048 := by
    unfold V
    after_results
    rfl
  rw [h]
  exact shapeCast_apply (s := S8x2048) (t := S8x1x2048) _ _ _ (ix2 e f) (by
    rw [Shape.rowMajor_val_two, Shape.rowMajor_val_three]
    show e.val * 2048 + f.val = (e.val * 1 + 0) * 2048 + f.val
    omega)

theorem bias2 (c : Dev nD) (e : Fin 8) (f : Fin 768) :
    (V m c main_v1 : FVec Ideal S8x1x768 .f32) (ix3 e 0 f) = (m ((c : Thread nD τ).loc main_arg8) : FVec Ideal S8x768 .f32) (ix2 e f) := by
  have h : V m c main_v1 = shapeCast S8x1x768 (m ((c : Thread nD τ).loc main_arg8)) shapeCasts_S8x768_S8x1x768 := by
    unfold V
    after_results
    rfl
  rw [h]
  exact shapeCast_apply (s := S8x768) (t := S8x1x768) _ _ _ (ix2 e f) (by
    rw [Shape.rowMajor_val_two, Shape.rowMajor_val_three]
    show e.val * 768 + f.val = (e.val * 1 + 0) * 768 + f.val
    omega)

theorem up_entry (c : Dev nD) (e : Fin 8) (k : Fin 768) (f : Fin 2048) :
    takeUp c (V m c main_arg5) e (ix3 0 k f) = (m ((c : Thread nD τ).loc main_arg5) : FVec Ideal S8x768x2048 .f32) (ix3 e k f) := by
  rw [V_of_ne m c main_arg5 (by decide) (by decide)]
  unfold takeUp
  show (m ((c : Thread nD τ).loc main_arg5) : FVec Ideal S8x768x2048 .f32) _ = _
  refine congrArg (m ((c : Thread nD τ).loc main_arg5) : FVec Ideal S8x768x2048 .f32) (funext fun a => Fin.ext ?_)
  match a with
  | ⟨0, _⟩ => show e.val + 0 * 1 = e.val; omega
  | ⟨1, _⟩ => show at8 e 1 + 1 * k.val = k.val; simp [at8]
  | ⟨2, _⟩ => show at8 e 2 + 1 * f.val = f.val; simp [at8]

theorem down_entry (c : Dev nD) (e : Fin 8) (f : Fin 2048) (j : Fin 768) :
    takeDn c (V m c main_arg7) e (ix3 0 f j) = (m ((c : Thread nD τ).loc main_arg7) : FVec Ideal S8x2048x768 .f32) (ix3 e f j) := by
  rw [V_of_ne m c main_arg7 (by decide) (by decide)]
  unfold takeDn
  show (m ((c : Thread nD τ).loc main_arg7) : FVec Ideal S8x2048x768 .f32) _ = _
  refine congrArg (m ((c : Thread nD τ).loc main_arg7) : FVec Ideal S8x2048x768 .f32) (funext fun a => Fin.ext ?_)
  match a with
  | ⟨0, _⟩ => show e.val + 0 * 1 = e.val; omega
  | ⟨1, _⟩ => show at8 e 1 + 1 * f.val = f.val; simp [at8]
  | ⟨2, _⟩ => show at8 e 2 + 1 * j.val = j.val; simp [at8]

variable (hO : Ok m) (c : Dev nD) (t : Fin (cfgM m hO).N)

theorem t_lt : t.val < 39 := t.isLt
/-- The point's number as a block's. -/
abbrev blockOf : Fin 39 := ⟨t.val, t_lt m hO t⟩

theorem expert_val (hA : AgreeM m) : (expOf (wBe m t.val)).val = (wBe m t.val).toNat := by
  have := hA.be_lt t.val (t_lt m hO t)
  show (wBe m t.val).toNat % 8 = _
  omega

theorem index0 : ((cfgM m hO).win 0).index t = ![t.val, 0] := by
  have h := coords_val t
  have hl := t_lt m hO t
  show ![(BitVec.ofNat 32 (grid0.coords t 0).val).toNat, 0] = _
  rw [h, BitVec.toNat_ofNat, Nat.mod_eq_of_lt (by omega)]
theorem index3 : ((cfgM m hO).win 3).index t = ![t.val, 0] := by
  have h := coords_val t
  have hl := t_lt m hO t
  show ![(BitVec.ofNat 32 (grid0.coords t 0).val).toNat, 0] = _
  rw [h, BitVec.toNat_ofNat, Nat.mod_eq_of_lt (by omega)]
theorem index1 : ((cfgM m hO).win 1).index t = ![(wBe m t.val).toNat, 0, 0] := by
  have h := at3 m (grid0.coords t)
  rw [coords_val] at h
  exact h
theorem index2 : ((cfgM m hO).win 2).index t = ![(wBe m t.val).toNat, 0, 0] := by
  have h := at4 m (grid0.coords t)
  rw [coords_val] at h
  exact h

theorem block0 (r : Fin 256) (k : Fin 768) : iblk m hO c 0 t (ix2 r k)
    = (m ((c : Thread nD τ).loc main_arg4) : FVec Ideal S9984x768 .f32) (ix2 (rowAt (blockOf m hO t) r) k) := by
  have e := index0 m hO t
  blk_simp [iblk]
  refine (congrFun (V_of_ne m c main_arg4 (by decide) (by decide)) _).trans ?_
  refine congrArg (m ((c : Thread nD τ).loc main_arg4) : FVec Ideal S9984x768 .f32) ?_
  blk_ext [e]
  show t.val * 256 + r.val = 256 * t.val + r.val
  omega

theorem block1 (hA : AgreeM m) (f : Fin 2048) : iblk m hO c 1 t (ix3 0 0 f)
    = (m ((c : Thread nD τ).loc main_arg6) : FVec Ideal S8x2048 .f32) (ix2 (expOf (wBe m t.val)) f) := by
  have e := index1 m hO t
  have he := expert_val m hO t hA
  refine Eq.trans ?_ (bias1 m c (expOf (wBe m t.val)) f)
  blk_simp [iblk]
  refine congrArg (V m c main_v0 : FVec Ideal S8x1x2048 .f32) ?_
  blk_ext [e]

theorem block2 (hA : AgreeM m) (j : Fin 768) : iblk m hO c 2 t (ix3 0 0 j)
    = (m ((c : Thread nD τ).loc main_arg8) : FVec Ideal S8x768 .f32) (ix2 (expOf (wBe m t.val)) j) := by
  have e := index2 m hO t
  have he := expert_val m hO t hA
  refine Eq.trans ?_ (bias2 m c (expOf (wBe m t.val)) j)
  blk_simp [iblk]
  refine congrArg (V m c main_v1 : FVec Ideal S8x1x768 .f32) ?_
  blk_ext [e]

/-! ## The result -/

/-- Every row through the layers of its block's expert. -/
def result (c : Dev nD) : FVec Ideal S9984x768 .f32 := fun i =>
  layers (m ((c : Thread nD τ).loc main_arg4)) (m ((c : Thread nD τ).loc main_arg5)) (m ((c : Thread nD τ).loc main_arg6))
    (m ((c : Thread nD τ).loc main_arg7)) (m ((c : Thread nD τ).loc main_arg8)) (expOf (wBe m ((i 0).val / 256))) (i 0) (i 1)

theorem result_at (t : Fin 39) (r : Fin 256) (j : Fin 768) : result m c (ix2 (rowAt t r) j)
    = layers (m ((c : Thread nD τ).loc main_arg4)) (m ((c : Thread nD τ).loc main_arg5)) (m ((c : Thread nD τ).loc main_arg6))
      (m ((c : Thread nD τ).loc main_arg7)) (m ((c : Thread nD τ).loc main_arg8)) (expOf (wBe m t.val)) (rowAt t r) j := by
  have h : (256 * t.val + r.val) / 256 = t.val := by omega
  show layers _ _ _ _ _ (expOf (wBe m ((256 * t.val + r.val) / 256))) (rowAt t r) j = _
  rw [h]

theorem point_stores (hA : AgreeM m) (r : Fin 256) (j : Fin 768) : outB m hO c t (ix2 r j) = result m c (ix2 (rowAt (blockOf m hO t) r) j) := by
  rw [result_at]
  exact stored_of _ _ _ _ _ r j (block0 m hO c t r) (up_entry m c _) (block1 m hO c t hA) (fun f => down_entry m c _ f j) (block2 m hO c t hA j)

/-- The result's blocks fill it. -/
theorem covers : ((cfgM m hO).win 3).Covers := by
  refine ⟨fun a => ?_, fun β => ?_⟩
  · match a with
    | ⟨0, _⟩ => exact (by decide : 0 < 256)
    | ⟨1, _⟩ => exact (by decide : 0 < 768)
  · have h0 : (β (0 : Fin 2)).val < 39 := lt_of_lt_of_eq (β (0 : Fin 2)).isLt (by show (9984 + 256 - 1) / 256 = 39; norm_num)
    have h1 : (β (1 : Fin 2)).val < 1 := lt_of_lt_of_eq (β (1 : Fin 2)).isLt (by show (768 + 768 - 1) / 768 = 1; norm_num)
    refine ⟨⟨(β (0 : Fin 2)).val, h0⟩, ?_, fun a => ⟨?_, .inl ?_⟩⟩
    · unfold Pipeline.Window.flush
      refine Bool.and_eq_true_iff.2 ⟨rfl, Bool.or_eq_true_iff.2 ?_⟩
      by_cases hl : (β (0 : Fin 2)).val + 1 = 39
      · exact .inl (decide_eq_true hl)
      · refine .inr (decide_eq_true ⟨(by omega : (β (0 : Fin 2)).val + 1 < 39), fun h => ?_⟩)
        rw [index3, index3] at h
        have := congrFun h (0 : Fin 2)
        simp at this
    · rw [index3]
      match a with
      | ⟨0, _⟩ => rfl
      | ⟨1, _⟩ => exact (by omega : 0 = (β (1 : Fin 2)).val)
    · rfl

theorem final (hA : AgreeM m) : (dats m hO 0 c).arrAt 3 (cfgM m hO).N = result m c := by
  refine (dats m hO 0 c).arrAt_eq_of_covers 3 _ (covers m hO) fun t hf y => ?_
  have e := index3 m hO t
  blk_simp
  rw [after_3]
  obtain ⟨r, k, rfl⟩ : ∃ (r : Fin 256) (k : Fin 768), y = (ix2 r k : S256x768.Idx) :=
    ⟨(show S256x768.Idx from y) 0, (show S256x768.Idx from y) 1, eq_ix2 (show S256x768.Idx from y)⟩
  have hi : (((cfgM m hO).win 3).blk t).view.emb (ix2 r k) = ix2 (rowAt (blockOf m hO t) r) k := by
    blk_ext [e]
    show t.val * 256 + r.val = 256 * t.val + r.val
    omega
  exact (point_stores m hO c t hA r k).trans (congrArg (result m c) hi).symm

/-! ## The claims -/

/-- The program ends, its arguments as they were and every semaphore at zero, whatever the numbers. -/
theorem ends {F : FTy → Type} [FloatOps F] (m : (ℓ : Loc nD τ sig) → Buf (Elt F) ℓ) (ρ : Dev nD → PrngReg)
    (hpre : Cert.Pre_tables_agree.fn (F := F)
      (m (((0 : Dev nD).tc : Thread nD τ).loc main_arg0)) (m (((0 : Dev nD).tc : Thread nD τ).loc main_arg1)) (m (((0 : Dev nD).tc : Thread nD τ).loc main_arg2))
      (m (((0 : Dev nD).tc : Thread nD τ).loc main_arg3)) (m (((0 : Dev nD).tc : Thread nD τ).loc main_arg4)) (m (((0 : Dev nD).tc : Thread nD τ).loc main_arg5))
      (m (((0 : Dev nD).tc : Thread nD τ).loc main_arg6)) (m (((0 : Dev nD).tc : Thread nD τ).loc main_arg7)) (m (((0 : Dev nD).tc : Thread nD τ).loc main_arg8)) = fun _ => 1#1) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  have hA := agreeM (F := F) m (agree_of_pre _ _ _ _ _ _ _ _ _ hpre)
  (θ_run defs _ _).mono
    (fun _ h => ⟨fun c => ⟨(h.1 c).1, (h.1 c).2.1, (h.1 c).2.2.1, (h.1 c).2.2.2.1, (h.1 c).2.2.2.2.1, (h.1 c).2.2.2.2.2.1,
      (h.1 c).2.2.2.2.2.2.1, (h.1 c).2.2.2.2.2.2.2.1, (h.1 c).2.2.2.2.2.2.2.2.1⟩, h.2⟩)
    (run_all (F := F) m ρ (ok m hA) hA)

theorem frame_kernel : @Cert.quiescent_Experts Cert.Experts.Gen.facts ExpertsPre.tablesFacts := fun m ρ hpre =>
  ExpertsSame.run_same (F := Bits) m ρ _ (ends (F := Bits) m ρ (hpre 0))

theorem frame_ideal : @Cert.quiescent_ExpertsIdeal Cert.ExpertsIdeal.Gen.facts ExpertsPre.tablesFacts := fun m ρ hpre =>
  ends (F := Ideal) m ρ (hpre 0)

/-- The reference runs on the host alone and declares no semaphore. -/
theorem frame_reference : @Cert.quiescent_ExpertsRefIdeal Cert.ExpertsRefIdeal.Gen.facts := fun m ρ _ =>
  (θ_run Cert.ExpertsRefIdeal.defs _ _).mono (fun r h => ⟨fun c => (h c).2, Idealize.ShloMosaic.sem_eq_zero_of_no_sems (by decide) r.2⟩)
    (Cert.ExpertsRefIdeal.Value.run (F := Ideal) m ρ)

theorem frame_reference_tables_agree :
    @Cert.quiescent_ExpertsRefIdeal_pre_tables_agree Cert.ExpertsRefIdeal.Gen.facts ExpertsPre.tablesFacts := fun m ρ _ =>
  (θ_run Cert.ExpertsRefIdeal.defs _ _).mono (fun r h => ⟨fun c => (h c).2, Idealize.ShloMosaic.sem_eq_zero_of_no_sems (by decide) r.2⟩)
    (Cert.ExpertsRefIdeal.Value.run (F := Ideal) m ρ)

/-- The reference's result, where the words are the kernel's. -/
theorem same_result (hA : AgreeM m) : ExpertsRef.outcome (m ((c : Thread nD τ).loc main_arg0)) (m ((c : Thread nD τ).loc main_arg4))
    (m ((c : Thread nD τ).loc main_arg5)) (m ((c : Thread nD τ).loc main_arg6)) (m ((c : Thread nD τ).loc main_arg7))
    (m ((c : Thread nD τ).loc main_arg8)) = result m c := by
  obtain rfl : c = 0 := Subsingleton.elim _ _
  funext i
  obtain ⟨p, j, rfl⟩ : ∃ (p : Fin 9984) (j : Fin 768), i = ix2 p j := ⟨i 0, i 1, eq_ix2 i⟩
  obtain ⟨t, r, rfl⟩ : ∃ (t : Fin 39) (r : Fin 256), p = rowAt t r :=
    ⟨⟨p.val / 256, by omega⟩, ⟨p.val % 256, by omega⟩, Fin.ext (by show p.val = 256 * (p.val / 256) + p.val % 256; omega)⟩
  rw [result_at]
  refine ExpertsRef.outcome_at _ _ _ _ _ _ t r (expOf (wBe m t.val)) ?_ j
  have hw := wBe_eq m t.val
  have hx : wBe m t.val = BitVec.ofNat 32 (expOf (wBe m t.val)).val := (wE_expOf (hA.be_lt t.val t.isLt)).symm
  rw [← hx, hw]
  exact congrArg (fun k => (m (((0 : Dev nD) : Thread nD τ).loc main_arg0) : IVec S39 32) (ix1 k)) (Fin.ext (Nat.mod_eq_of_lt t.isLt).symm)

/-- Both programs end with every row through the layers of its block's expert. -/
theorem algebraic : @Cert.algebraic_ExpertsIdeal_ExpertsRefIdeal Cert.ExpertsIdeal.Gen.facts Cert.ExpertsRefIdeal.Gen.facts ExpertsPre.tablesFacts := by
  intro m ρ m' ρ' hpre hagree
  have hA := agreeM (F := Ideal) m (agree_of_pre _ _ _ _ _ _ _ _ _ (hpre 0))
  refine ⟨fun c => result m c,
    (θ_run Cert.ExpertsIdeal.defs _ _).mono
      (fun _ h c => ⟨(h.1 c).2.2.2.2.2.2.2.2.2.trans (final m _ c hA), (h.1 c).1, (h.1 c).2.1, (h.1 c).2.2.1, (h.1 c).2.2.2.1,
        (h.1 c).2.2.2.2.1, (h.1 c).2.2.2.2.2.1, (h.1 c).2.2.2.2.2.2.1, (h.1 c).2.2.2.2.2.2.2.1, (h.1 c).2.2.2.2.2.2.2.2.1⟩)
      (run_all (F := Ideal) m ρ (ok m hA) hA),
    (θ_run Cert.ExpertsRefIdeal.defs _ _).mono (fun r h c => ⟨(h c).1.trans ?_, (h c).2⟩)
      (Cert.ExpertsRefIdeal.Value.run (F := Ideal) m' ρ')⟩
  obtain ⟨h0, h1, h2, h3, h4, h5, h6, h7, h8⟩ := hagree c
  rw [h0, h4, h5, h6, h7, h8]
  exact same_result m c hA

end Cert.Proof.ExpertsClaims

end
-- ==== Proof.ScatterSetup.lean ====
/-
  What the row-scatter launch is to the launch theorem: its pieces under short names, the arrays, the part of each that
  one tile works on, and what the handshakes carry. Each of the thirty-two tiles reads its own 128 rows of the token
  array and its own 128 words of either list of places. Of the laid-out array it is given the rows its own words name:
  places are pairwise distinct, so no row goes to two tiles. The rows no place names stay with the host.
-/
module

public import proofs.«01_k».proof.Proof.Setup
public import Idealize.ShloMosaic.Lib.SparseCore.Scatter
public import proofs.«01_k».proof.Proof.Gen.ScatterIdeal
public import proofs.«01_k».proof.Proof.Gen.ScatterIdeal.Skeleton

@[expose] public section

noncomputable section

namespace Cert.Placing

open Cert.ScatterIdeal Cert.ScatterIdeal.Gen
open Cert.Proof (wid widEquiv widEquiv_apply rowPart rowDiv)

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem cores : (K (F := F)).nCore 0 = 2 := rfl
theorem subs : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The tokens, their experts, the two lists of places, the array laid out. -/
abbrev xLoc (d : Dev nD) : Loc nD τ sig := (SparseCore.T d).loc main_arg0
abbrev pLoc (d : Dev nD) : Loc nD τ sig := (SparseCore.T d).loc main_v36
abbrev qLoc (d : Dev nD) : Loc nD τ sig := (SparseCore.T d).loc main_v38
abbrev gLoc (d : Dev nD) : Loc nD τ sig := (SparseCore.T d).loc main_v39

abbrev xV : Memref sig .scVector .hbm S4096x768 .f32 := Memref.whole main_arg0_scv
abbrev pV : Memref sig .scVector .hbm S4096 .i32 := Memref.whole main_v36_scv
abbrev qV : Memref sig .scVector .hbm S4096 .i32 := Memref.whole main_v38_scv
abbrev gV : Memref sig .scVector .hbm S9984x768 .f32 := Memref.whole main_v39_scv
/-- A tile's scratch: its words of either list, its rows. -/
abbrev aV : Memref sig .scVector .vmem S128 .i32 := Memref.whole cc0_scratch0
abbrev bV : Memref sig .scVector .vmem S128 .i32 := Memref.whole cc0_scratch1
abbrev rV : Memref sig .scVector .vmem S128x768 .f32 := Memref.whole cc0_scratch2

/-- Worker `w`'s 128 words of a list. -/
abbrev wordPart (w : Fin 32) : Rect S4096 := Cert.Proof.posPart w

/-! ## Places -/

/-- Token `t`'s first or second place is row `n`. -/
def At (p q : S4096.Idx → Elt F .i32) (t : Fin 4096) (n : ℕ) : Prop :=
  BitVec.toNat (p (ix1 t)) = n ∨ BitVec.toNat (q (ix1 t)) = n

/-- What is asked of the two lists: every word names a row, and no row is named twice. -/
structure Apart (p q : S4096.Idx → Elt F .i32) : Prop where
  p_lt : ∀ j, BitVec.toNat (p j) < 9984
  q_lt : ∀ j, BitVec.toNat (q j) < 9984
  at_eq : ∀ {t t' : Fin 4096} {n : ℕ}, At p q t n → At p q t' n → t = t'
  ne : ∀ t : Fin 4096, BitVec.toNat (p (ix1 t)) ≠ BitVec.toNat (q (ix1 t))

open scoped Classical in
/-- The array laid out: a row that a token's place names is the token's; every other row is as it was. -/
def placed (x : S4096x768.Idx → Elt F .f32) (p q : S4096.Idx → Elt F .i32) (old : S9984x768.Idx → Elt F .f32) :
    S9984x768.Idx → Elt F .f32 :=
  fun i => if h : ∃ t, At p q t (i 0).val then x (ix2 h.choose (i 1)) else old i

theorem placed_at {x : S4096x768.Idx → Elt F .f32} {p q : S4096.Idx → Elt F .i32} (hA : Apart p q) {old : S9984x768.Idx → Elt F .f32}
    {i : S9984x768.Idx} {t : Fin 4096} (ht : At p q t (i 0).val) : placed x p q old i = x (ix2 t (i 1)) := by
  have h : ∃ t, At p q t (i 0).val := ⟨t, ht⟩
  unfold placed
  rw [dif_pos h, hA.at_eq h.choose_spec ht]

theorem placed_off {x : S4096x768.Idx → Elt F .f32} {p q : S4096.Idx → Elt F .i32} {old : S9984x768.Idx → Elt F .f32}
    {i : S9984x768.Idx} (h : ¬ ∃ t, At p q t (i 0).val) : placed x p q old i = old i := by
  unfold placed
  rw [dif_neg h]

/-- The elements of the laid-out array on the rows that worker `w`'s tokens have their places at. -/
def named (p q : S4096.Idx → Elt F .i32) (w : Fin 32) : Finset S9984x768.Idx :=
  @Finset.filter _ (fun i => ∃ t : Fin 4096, t.val / 128 = w.val ∧ At p q t (i 0).val) (Classical.decPred _) Finset.univ

theorem mem_named {p q : S4096.Idx → Elt F .i32} {w : Fin 32} {i : S9984x768.Idx} :
    i ∈ named p q w ↔ ∃ t : Fin 4096, t.val / 128 = w.val ∧ At p q t (i 0).val :=
  (@Finset.mem_filter _ _ (Classical.decPred _) _ _).trans (and_iff_right (Finset.mem_univ _))

theorem named_disjoint {p q : S4096.Idx → Elt F .i32} (hA : Apart p q) {w w' : Fin 32} (h : w ≠ w') :
    Disjoint (named p q w) (named p q w') := by
  refine Finset.disjoint_left.mpr fun i hi hi' => ?_
  obtain ⟨t, ht, hn⟩ := mem_named.mp hi
  obtain ⟨t', ht', hn'⟩ := mem_named.mp hi'
  have e := hA.at_eq hn hn'
  subst e
  exact h (Fin.ext (ht.symm.trans ht'))

/-- All the rows that some place names. -/
abbrev allNamed (p q : S4096.Idx → Elt F .i32) : Finset S9984x768.Idx := Finset.univ.biUnion fun w => named p q w

theorem off_allNamed {p q : S4096.Idx → Elt F .i32} {i : S9984x768.Idx} (h : i ∉ allNamed p q) : ¬ ∃ t, At p q t (i 0).val :=
  fun ⟨t, ht⟩ => h (Finset.mem_biUnion.mpr ⟨⟨t.val / 128, by omega⟩, Finset.mem_univ _, mem_named.mpr ⟨t, rfl, ht⟩⟩)

/-! ## What the handshakes carry -/

variable (x : Dev nD → S4096x768.Idx → Elt F .f32) (p q : Dev nD → S4096.Idx → Elt F .i32) (old : Dev nD → S9984x768.Idx → Elt F .f32)

abbrev xPts (d : Dev nD) (w : Fin 32) : sProp 𝕄 := xLoc d ↦[(rowPart w).set]{fullShare} x d
abbrev pPts (d : Dev nD) (w : Fin 32) : sProp 𝕄 := pLoc d ↦[(wordPart w).set]{fullShare} p d
abbrev qPts (d : Dev nD) (w : Fin 32) : sProp 𝕄 := qLoc d ↦[(wordPart w).set]{fullShare} q d
abbrev gPts (d : Dev nD) (w : Fin 32) (f : Buf (Elt F) (gLoc d)) : sProp 𝕄 := gLoc d ↦[named (p d) (q d) w]{fullShare} f

/-- What worker `w` is handed: its tokens, its words of either list, the rows they name as they were. -/
abbrev handed (d : Dev nD) (w : Fin 32) : sProp 𝕄 :=
  iprop(xPts x d w ∗ pPts p d w ∗ qPts q d w ∗ gPts p q d w (old d))
/-- What it hands back: the same, the rows it was given now its tokens'. -/
abbrev returned (d : Dev nD) (w : Fin 32) : sProp 𝕄 :=
  iprop(xPts x d w ∗ pPts p d w ∗ qPts q d w ∗ gPts p q d w (placed (x d) (p d) (q d) (old d)))

/-- The call takes each SparseCore the parts of its tiles, and brings them back laid out. -/
def P : (K (F := F)).Pay (nD := nD) (Val := Elt F) (Name := ℕ) (U := UU) where
  st := fun k d c => match k with
    | 0 => bigSep Finset.univ fun i : Fin 16 => handed x p q old d (wid (Fin.cast cores c) i)
  dn := fun k d c => match k with
    | 0 => bigSep Finset.univ fun i : Fin 16 => returned x p q old d (wid (Fin.cast cores c) i)
  go := fun k d c i => match k with | 0 => handed x p q old d (wid (Fin.cast cores c) (Fin.cast subs i))
  td := fun k d c i => match k with | 0 => returned x p q old d (wid (Fin.cast cores c) (Fin.cast subs i))
  x := fun _ _ => iprop(emp)

instance P_storable : (P (F := F) x p q old).IsStorable where
  st k d c := match k with
    | 0 => (inferInstance : BI.Storable (upEmb : UEmb _ 𝕄) (bigSep Finset.univ fun i : Fin 16 => handed x p q old d (wid (Fin.cast cores c) i)))
  dn k d c := match k with
    | 0 => (inferInstance : BI.Storable (upEmb : UEmb _ 𝕄) (bigSep Finset.univ fun i : Fin 16 => returned x p q old d (wid (Fin.cast cores c) i)))
  go k d c i := match k with
    | 0 => (inferInstance : BI.Storable (upEmb : UEmb _ 𝕄) (handed x p q old d (wid (Fin.cast cores c) (Fin.cast subs i))))
  td k d c i := match k with
    | 0 => (inferInstance : BI.Storable (upEmb : UEmb _ 𝕄) (returned x p q old d (wid (Fin.cast cores c) (Fin.cast subs i))))

end Cert.Placing

end
-- ==== Proof.ScatterTile.lean ====
/-
  One tile of the row scatter: it fetches its 128 words of either list and its 128 rows, and writes the rows out in six
  column windows of 128. A window goes out by two copies in flight at once, one to the rows the first list names and one
  to the rows the second names. One lemma (`trip`) covers a window at a symbolic column; `tile_body` covers a tile at a
  symbolic pair of SparseCore and tile.
-/
module

public import proofs.«01_k».proof.Proof.ScatterSetup

@[expose] public section

noncomputable section

namespace Cert.Placing

open Cert.ScatterIdeal Cert.ScatterIdeal.Gen
open Cert.Proof (wid widEquiv widEquiv_apply rowPart rowDiv)

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## One window -/

/-- The columns of the scratch rows, and of the laid-out array, that a trip moves. -/
abbrev rWin (o : Fin 2 → ℕ) (h : ∀ a, o a + S128x128.size a ≤ S128x768.size a) : Memref sig .scVector .vmem S128x128 .f32 :=
  rV.slice (Rect.unit (s := S128x768) o S128x128.size h) (fun _ => rfl)
abbrev gWin (o : Fin 2 → ℕ) (h : ∀ a, o a + S9984x128.size a ≤ S9984x768.size a) : Memref sig .scVector .hbm S9984x128 .f32 :=
  gV.slice (Rect.unit (s := S9984x768) o S9984x128.size h) (fun _ => rfl)

/-- Rows are named along axis 0 of either end. -/
abbrev hG : S9984x128.Gathers 0 S128x128 := gathers_S9984x128_S128x128

abbrev cV (L : grid0.Coords) : Fin τ.nSC := (L 0).castLE hcore0
abbrev jV (L : grid0.Coords) : Fin τ.nSub := (L 1).castLE hsub0
/-- The tile's own thread, and its worker number. -/
abbrev tV (d : Dev nD) (L : grid0.Coords) : Thread nD τ := V d (cV L) (jV L)
abbrev wL (L : grid0.Coords) : Fin 32 := wid (L 0) (L 1)

/-- An index carried along an equation of shapes keeps its coordinates. -/
theorem idxEquiv_symm_val {s t : Shape} (h : s = t) (j : t.Idx) (b : Fin s.rank) (b' : Fin t.rank) (hb : b.val = b'.val) :
    ((Shape.idxEquiv h).symm j b).val = (j b').val := by
  subst h
  obtain rfl : b = b' := Fin.ext hb
  rfl

/-- The rows that a list of 128 words names, by entry. -/
abbrev rowsOf (ls : S128.Idx → Elt F .i32) (hin : ∀ x, BitVec.toNat (ls x) < S9984x128.size hG.axis) : Fin (S128x128.size hG.axis') → Fin (S9984x128.size hG.axis) :=
  SparseCore.rows ls rfl hin

theorem rowsOf_val (ls : S128.Idx → Elt F .i32) (hin : ∀ x, BitVec.toNat (ls x) < S9984x128.size hG.axis) (j : Fin 128) :
    (rowsOf ls hin j).val = BitVec.toNat (ls (ix1 j)) := by
  have hl : S128.rowMajor.symm (Fin.cast rfl j) = ix1 j := Routing.symm1 (N := 128) j
  show BitVec.toNat (ls (S128.rowMajor.symm (Fin.cast rfl j))) = _
  rw [hl]

section Window

variable (k : ℕ) (o : Fin 2 → ℕ) (h : ∀ a, o a + S9984x128.size a ≤ S9984x768.size a) (ho : o = ![0, 128 * k])
include ho

/-- Row `n` of the window holds the array's elements on row `n` in the window's columns. -/
theorem of_mem_row (n : Fin 9984) (i : S9984x768.Idx) (hi : i ∈ ((gWin o h).view.slice (S9984x128.rowRect hG.axis n)).set) :
    (i 0).val = n.val ∧ 128 * k ≤ (i 1).val ∧ (i 1).val < 128 * k + 128 := by
  subst ho
  obtain ⟨j, -, rfl⟩ := Finset.mem_map.mp hi
  have e0 : ((S9984x128.rowRect hG.axis n).emb j 0).val = n.val := congrArg Fin.val (Shape.rowRect_emb_axis (s := S9984x128) hG.axis n j)
  have l1 := idx2_lt1 ((S9984x128.rowRect hG.axis n).emb j)
  refine ⟨?_, ?_⟩
  · show 0 + 1 * ((S9984x128.rowRect hG.axis n).emb j 0).val = n.val
    omega
  · show 128 * k ≤ 128 * k + 1 * ((S9984x128.rowRect hG.axis n).emb j 1).val ∧ 128 * k + 1 * ((S9984x128.rowRect hG.axis n).emb j 1).val < 128 * k + 128
    omega

/-- The place in row `n` of the window of an element there. -/
theorem row_emb (n : Fin 9984) (i : S9984x768.Idx) (h0 : (i 0).val = n.val) (h1 : 128 * k ≤ (i 1).val) (h2 : (i 1).val < 128 * k + 128) :
    ∃ j : (S9984x128.rowShape hG.axis).Idx, ((gWin o h).view.slice (S9984x128.rowRect hG.axis n)).emb j = i ∧ (j (1 : Fin 2)).val = (i 1).val - 128 * k := by
  subst ho
  have l2 : (i 1).val - 128 * k < 128 := by omega
  let y : S9984x128.Idx := ix2 n ⟨(i 1).val - 128 * k, l2⟩
  have ey : (S9984x128.rowRect hG.axis n).emb (S9984x128.rowProj hG.axis y) = y := Shape.rowRect_emb_rowProj (s := S9984x128) hG.axis y
  have ec : (S9984x128.rowProj hG.axis y (1 : Fin 2)).val = (i 1).val - 128 * k := by
    have := Shape.rowRect_emb_of_ne (s := S9984x128) hG.axis n (S9984x128.rowProj hG.axis y) (b := (1 : Fin 2)) (by decide)
    rw [ey] at this
    exact this.symm
  refine ⟨S9984x128.rowProj hG.axis y, ?_, ec⟩
  show (Rect.unit (s := S9984x768) ![0, 128 * k] S9984x128.size h).emb ((S9984x128.rowRect hG.axis n).emb (S9984x128.rowProj hG.axis y)) = i
  rw [ey]
  funext a
  apply Fin.ext
  match a with
  | 0 => show 0 + 1 * n.val = (i 0).val; omega
  | 1 => show 128 * k + 1 * ((i 1).val - 128 * k) = (i 1).val; omega

variable (d : Dev nD) (L : grid0.Coords)

/-- The elements that a copy writes are those on its list's rows, in the window's columns. -/
theorem mem_namedRows (ls : S128.Idx → Elt F .i32) (hin : ∀ x, BitVec.toNat (ls x) < S9984x128.size hG.axis) (i : S9984x768.Idx) :
    i ∈ SparseCore.namedRows (tV d L) (gWin o h).view hG.axis (rowsOf ls hin)
      ↔ (∃ j : Fin 128, (i 0).val = BitVec.toNat (ls (ix1 j))) ∧ 128 * k ≤ (i 1).val ∧ (i 1).val < 128 * k + 128 := by
  constructor
  · intro hi
    obtain ⟨j, -, hj⟩ := Finset.mem_biUnion.mp hi
    obtain ⟨h0, h1⟩ := of_mem_row k o h ho (rowsOf ls hin j) i hj
    exact ⟨⟨j, h0.trans (rowsOf_val ls hin j)⟩, h1⟩
  · rintro ⟨⟨j, h0⟩, h1, h2⟩
    obtain ⟨y, hy, -⟩ := row_emb k o h ho (rowsOf ls hin j) i (h0.trans (rowsOf_val ls hin j).symm) h1 h2
    exact Finset.mem_biUnion.mpr ⟨j, Finset.mem_univ _, hy ▸ View.emb_mem_set _ y⟩

/-- What a copy leaves on the row that its word `j` names is its row `j`. -/
theorem scatterBuf_row (o' : Fin 2 → ℕ) (h' : ∀ a, o' a + S128x128.size a ≤ S128x768.size a) (ho' : o' = ![0, 128 * k])
    (ls : S128.Idx → Elt F .i32) (hin : ∀ x, BitVec.toNat (ls x) < S9984x128.size hG.axis) (hinj : Function.Injective (rowsOf ls hin))
    (fr : S128x768.Idx → Elt F .f32) (fd : S9984x768.Idx → Elt F .f32) (i : S9984x768.Idx) (j : Fin 128)
    (h0 : (i 0).val = BitVec.toNat (ls (ix1 j))) (h1 : 128 * k ≤ (i 1).val) (h2 : (i 1).val < 128 * k + 128) :
    SparseCore.scatterBuf (tV d L) (gWin o h).view hG.axis (rowsOf ls hin) (SparseCore.scatterRowPayload (tV d L) (rWin o' h') hG fr) fd i
      = fr (ix2 j (i 1)) := by
  obtain ⟨y, hy, hy1⟩ := row_emb k o h ho (rowsOf ls hin j) i (h0.trans (rowsOf_val ls hin j).symm) h1 h2
  have hm : i ∈ ((gWin o h).view.slice (S9984x128.rowRect hG.axis (rowsOf ls hin j))).set := hy ▸ View.emb_mem_set _ y
  refine (SparseCore.scatterBuf_of_mem (tV d L) (gWin o h).view hG.axis (rowsOf ls hin) hinj _ fd hm).trans ?_
  subst hy
  refine (View.write_emb_of_mem _ _ (Finset.mem_univ _)).trans ((cast_eq _ _).trans ((View.read_apply _ _).trans ((cast_eq _ _).trans (congrArg fr ?_))))
  subst ho'
  funext a
  apply Fin.ext
  match a with
  | 0 =>
    show 0 + 1 * ((S128x128.rowRect hG.axis' j).emb ((Shape.idxEquiv hG.rowShape_eq).symm y) 0).val = j.val
    rw [show (S128x128.rowRect hG.axis' j).emb ((Shape.idxEquiv hG.rowShape_eq).symm y) 0 = j from Shape.rowRect_emb_axis (s := S128x128) hG.axis' j _]
    omega
  | 1 =>
    show 128 * k + 1 * ((S128x128.rowRect hG.axis' j).emb ((Shape.idxEquiv hG.rowShape_eq).symm y) 1).val = _
    rw [Shape.rowRect_emb_of_ne (s := S128x128) hG.axis' j _ (b := (1 : Fin 2)) (by decide)]
    rw [idxEquiv_symm_val hG.rowShape_eq y (1 : Fin 2) (1 : Fin 2) rfl, hy1]
    have back : ∀ n : ℕ, 128 * k ≤ n → 128 * k + 1 * (n - 128 * k) = n := fun n hn => by omega
    exact back _ h1

end Window

/-! ## A trip -/

section Trip

variable [FloatOps F] (d : Dev nD) (L : grid0.Coords)

/-- The laid-out array after `k` windows: the first `128 k` columns of the tile's rows are as they shall be. -/
def part (X old : S9984x768.Idx → Elt F .f32) (k : ℕ) : S9984x768.Idx → Elt F .f32 :=
  fun i => if (i 1).val < 128 * k then X i else old i

/-- What a trip asks of the tile's two lists `la`, `lb`, of its rows `fr`, of its elements `E` and of what shall be there. -/
structure Fits (la lb : S128.Idx → Elt F .i32) (fr : S128x768.Idx → Elt F .f32) (E : Finset S9984x768.Idx) (X : S9984x768.Idx → Elt F .f32) : Prop where
  la_lt : ∀ j, BitVec.toNat (la j) < 9984
  lb_lt : ∀ j, BitVec.toNat (lb j) < 9984
  la_inj : Function.Injective fun j => BitVec.toNat (la j)
  lb_inj : Function.Injective fun j => BitVec.toNat (lb j)
  ne : ∀ j j', BitVec.toNat (la j) ≠ BitVec.toNat (lb j')
  mem : ∀ i, i ∈ E ↔ ∃ j : Fin 128, (i 0).val = BitVec.toNat (la (ix1 j)) ∨ (i 0).val = BitVec.toNat (lb (ix1 j))
  val : ∀ i (j : Fin 128), ((i 0).val = BitVec.toNat (la (ix1 j)) ∨ (i 0).val = BitVec.toNat (lb (ix1 j))) → X i = fr (ix2 j (i 1))

/-- What a trip keeps: the waits allowed, the tile's rows of the array so far, the lists, the rows, the two cells at zero. -/
def inv (O : CellTallies nD τ sig (HIx 1)) (W : Waits sig (HIx 1)) (la lb : S128.Idx → Elt F .i32) (fr : S128x768.Idx → Elt F .f32)
    (E : Finset S9984x768.Idx) (X old : S9984x768.Idx → Elt F .f32) (k : ℕ) : sProp 𝕄 :=
  iprop(Transfers.MayWaits (tV d L) (default : HIx 1) O ∗ (gV.view.loc (tV d L) ↦[E]{fullShare} part X old k)
    ∗ (aV.view.loc (tV d L) ↦{fullShare} la) ∗ (bV.view.loc (tV d L) ↦{fullShare} lb) ∗ (rV.view.loc (tV d L) ↦{fullShare} fr)
    ∗ semVal (tV d L, .dma cc0_scratch3.sem) 0 ∗ semVal (tV d L, .dma cc0_scratch4.sem) 0
    ∗ ∃ W', ⌜∀ p ∈ W', p ∈ W ∨ p.2 = none⌝ ∗ owes (tV d L) O W')

set_option maxHeartbeats 1000000 in
theorem trip (O : CellTallies nD τ sig (HIx 1)) (W : Waits sig (HIx 1)) (la lb : S128.Idx → Elt F .i32) (fr : S128x768.Idx → Elt F .f32)
    (E : Finset S9984x768.Idx) (X old : S9984x768.Idx → Elt F .f32) (hfit : Fits la lb fr E X) (k : ℕ)
    (o : Fin 2 → ℕ) (h : ∀ a, o a + S128x128.size a ≤ S128x768.size a) (ho : o = ![0, 128 * k])
    (o' : Fin 2 → ℕ) (h' : ∀ a, o' a + S9984x128.size a ≤ S9984x768.size a) (ho' : o' = ![0, 128 * k]) :
    inv d L O W la lb fr E X old k
      ⊢ wp frame (wpE (defs₀ (F := F)) 𝒱₀ (tV d L) none) Set.univ
          (do
            SparseCore.enqueueIndirectScatter rfl (rWin o h) (gWin o' h') gathers_S9984x128_S128x128 aV rfl cc0_scratch3.sem rfl (Or.inl rfl)
            SparseCore.enqueueIndirectScatter rfl (rWin o h) (gWin o' h') gathers_S9984x128_S128x128 bV rfl cc0_scratch4.sem rfl (Or.inl rfl)
            SparseCore.waitIndirectScatter cc0_scratch3.sem (rWin o h) (gWin o' h') (View.wordExact_bits rfl) (View.wordExact_bits rfl)
            SparseCore.waitIndirectScatter cc0_scratch4.sem (rWin o h) (gWin o' h') (View.wordExact_bits rfl) (View.wordExact_bits rfl)
            pure (⟨⟩ : Unit))
          fun _ => inv d L O W la lb fr E X old (k + 1) := by
  have ha : ∀ x, BitVec.toNat (aV.view.read (Elt F) la x) < S9984x128.size hG.axis := hfit.la_lt
  have hb : ∀ x, BitVec.toNat (bV.view.read (Elt F) lb x) < S9984x128.size hG.axis := hfit.lb_lt
  have ia : Function.Injective (rowsOf (aV.view.read (Elt F) la) ha) := SparseCore.rows_injective hfit.la_inj
  have ib : Function.Injective (rowsOf (bV.view.read (Elt F) lb) hb) := SparseCore.rows_injective hfit.lb_inj
  let A : Finset S9984x768.Idx := SparseCore.namedRows (tV d L) (gWin o' h').view hG.axis (rowsOf (aV.view.read (Elt F) la) ha)
  let B : Finset S9984x768.Idx := SparseCore.namedRows (tV d L) (gWin o' h').view hG.axis (rowsOf (bV.view.read (Elt F) lb) hb)
  have mA : ∀ i, i ∈ A ↔ (∃ j : Fin 128, (i 0).val = BitVec.toNat (la (ix1 j))) ∧ 128 * k ≤ (i 1).val ∧ (i 1).val < 128 * k + 128 :=
    mem_namedRows k o' h' ho' d L _ ha
  have mB : ∀ i, i ∈ B ↔ (∃ j : Fin 128, (i 0).val = BitVec.toNat (lb (ix1 j))) ∧ 128 * k ≤ (i 1).val ∧ (i 1).val < 128 * k + 128 :=
    mem_namedRows k o' h' ho' d L _ hb
  have hAE : A ⊆ E := fun i hi => by
    obtain ⟨⟨j, hj⟩, -⟩ := (mA i).mp hi
    exact (hfit.mem i).mpr ⟨j, .inl hj⟩
  have hBE : B ⊆ E \ A := fun i hi => by
    obtain ⟨⟨j, hj⟩, -⟩ := (mB i).mp hi
    refine Finset.mem_sdiff.mpr ⟨(hfit.mem i).mpr ⟨j, .inr hj⟩, fun hi' => ?_⟩
    obtain ⟨⟨j', hj'⟩, -⟩ := (mA i).mp hi'
    exact hfit.ne _ _ (hj'.symm.trans hj)
  have hsa : aV.view.set = Finset.univ := View.set_whole _
  have hsb : bV.view.set = Finset.univ := View.set_whole _
  unfold inv
  iintro ⟨#Hmw, Hg, Ha, Hb, Hr, Hs3, Hs4, %W', %hW', HO⟩
  ihave Hg2 := (pointsTo_split_subset (ℓ := gV.view.loc (tV d L)) (q := fullShare) (f := part X old k) (S := E) (I := A) hAE).1 $$ Hg
  icases Hg2 with ⟨HgA, Hg⟩
  ihave Hg2 := (pointsTo_split_subset (ℓ := gV.view.loc (tV d L)) (q := fullShare) (f := part X old k) (S := E \ A) (I := B) hBE).1 $$ Hg
  icases Hg2 with ⟨HgB, Hg⟩
  ihave Hr2 := (pointsTo_share (ℓ := rV.view.loc (tV d L)) (f := fr) (I := Finset.univ) (PosShare.mem_left_op_right fullShare)).1 $$ Hr
  icases Hr2 with ⟨Hrl, Hrr⟩
  ihave Hr2 := (pointsTo_split_subset (ℓ := rV.view.loc (tV d L)) (q := fullShare.left) (f := fr) (S := Finset.univ) (I := (rWin o h).view.set) (Finset.subset_univ _)).1 $$ Hrl
  icases Hr2 with ⟨Hrlw, Hrlo⟩
  ihave Hr2 := (pointsTo_split_subset (ℓ := rV.view.loc (tV d L)) (q := fullShare.right) (f := fr) (S := Finset.univ) (I := (rWin o h).view.set) (Finset.subset_univ _)).1 $$ Hrr
  icases Hr2 with ⟨Hrrw, Hrro⟩
  ihave Ha' := (Entails.of_eq (show (aV.view.loc (tV d L) ↦{fullShare} la : sProp 𝕄) = aV.view.loc (tV d L) ↦[aV.view.set]{fullShare} la by rw [hsa])) $$ Ha
  ihave Hb' := (Entails.of_eq (show (bV.view.loc (tV d L) ↦{fullShare} lb : sProp 𝕄) = bV.view.loc (tV d L) ↦[bV.view.set]{fullShare} lb by rw [hsb])) $$ Hb
  iapply (SparseCore.wp_indirectScatterLocal countersEmb 𝒱₀ (tV d L) none (src := rWin o h) (dst := gWin o' h') (hg := hG) (offs := aV) (default : HIx 1)
      (rWin o h).view.dmaCredit (by decide) ha ia (SparseCore.sum_scatterCredit_eq_srcCredit (tV d L) _ _ hG rfl _ (fun _ => rfl) (fun _ => rfl))) $$ [HgA Hrlw Ha' Hs3]
  · isplitl [Hrlw]; · iexact Hrlw
    isplitl [HgA]; · iexact HgA
    isplitl [Ha']; · iexact Ha'
    iexact Hs3
  iintro Hfa
  iapply (SparseCore.wp_indirectScatterLocal countersEmb 𝒱₀ (tV d L) none (src := rWin o h) (dst := gWin o' h') (hg := hG) (offs := bV) (default : HIx 1)
      (rWin o h).view.dmaCredit (by decide) hb ib (SparseCore.sum_scatterCredit_eq_srcCredit (tV d L) _ _ hG rfl _ (fun _ => rfl) (fun _ => rfl))) $$ [HgB Hrrw Hb' Hs4]
  · isplitl [Hrrw]; · iexact Hrrw
    isplitl [HgB]; · iexact HgB
    isplitl [Hb']; · iexact Hb'
    iexact Hs4
  iintro Hfb
  sl_exec
  iapply (Transfers.wp_waitLocalO countersEmb 𝒱₀ (tV d L) none (default : HIx 1) (rfl : (rWin o h).view.dmaCredit = _)) $$ [Hfa HO]
  · isplitl [Hfa]; · iexact Hfa
    isplitl [HO]; · iexact HO
    iapply (Transfers.MayWaits.elim (SemLoc.dma cc0_scratch3.sem)) $$ Hmw
  iintro ⟨⟨HgA, Hrlw, Ha'⟩, Hs3, HO⟩
  sl_exec
  iapply (Transfers.wp_waitLocalO countersEmb 𝒱₀ (tV d L) none (default : HIx 1) (rfl : (rWin o h).view.dmaCredit = _)) $$ [Hfb HO]
  · isplitl [Hfb]; · iexact Hfb
    isplitl [HO]; · iexact HO
    iapply (Transfers.MayWaits.elim (SemLoc.dma cc0_scratch4.sem)) $$ Hmw
  iintro ⟨⟨HgB, Hrrw, Hb'⟩, Hs4, HO⟩
  have eA : (gV.view.loc (tV d L) ↦[A]{fullShare} (SparseCore.scatterBuf (tV d L) (gWin o' h').view hG.axis (rowsOf (aV.view.read (Elt F) la) ha)
        (SparseCore.scatterRowPayload (tV d L) (rWin o h) hG fr) (part X old k)) : sProp 𝕄)
      = gV.view.loc (tV d L) ↦[A]{fullShare} part X old (k + 1) := pointsTo_congr fun i hi => by
    obtain ⟨⟨j, hj⟩, h1, h2⟩ := (mA i).mp hi
    refine (scatterBuf_row k o' h' ho' d L o h ho _ ha ia fr _ i j hj h1 h2).trans ((hfit.val i j (.inl hj)).symm.trans ?_)
    exact (if_pos (show (i 1).val < 128 * (k + 1) by omega)).symm
  have eB : (gV.view.loc (tV d L) ↦[B]{fullShare} (SparseCore.scatterBuf (tV d L) (gWin o' h').view hG.axis (rowsOf (bV.view.read (Elt F) lb) hb)
        (SparseCore.scatterRowPayload (tV d L) (rWin o h) hG fr) (part X old k)) : sProp 𝕄)
      = gV.view.loc (tV d L) ↦[B]{fullShare} part X old (k + 1) := pointsTo_congr fun i hi => by
    obtain ⟨⟨j, hj⟩, h1, h2⟩ := (mB i).mp hi
    refine (scatterBuf_row k o' h' ho' d L o h ho _ hb ib fr _ i j hj h1 h2).trans ((hfit.val i j (.inr hj)).symm.trans ?_)
    exact (if_pos (show (i 1).val < 128 * (k + 1) by omega)).symm
  have eC : (gV.view.loc (tV d L) ↦[(E \ A) \ B]{fullShare} part X old k : sProp 𝕄)
      = gV.view.loc (tV d L) ↦[(E \ A) \ B]{fullShare} part X old (k + 1) := pointsTo_congr fun i hi => by
    obtain ⟨hi, hiB⟩ := Finset.mem_sdiff.mp hi
    obtain ⟨hiE, hiA⟩ := Finset.mem_sdiff.mp hi
    unfold part
    by_cases hlt : (i 1).val < 128 * k
    · rw [if_pos hlt, if_pos (show (i 1).val < 128 * (k + 1) by omega)]
    · rw [if_neg hlt]
      by_cases hlt' : (i 1).val < 128 * (k + 1)
      · obtain ⟨j, hj | hj⟩ := (hfit.mem i).mp hiE
        · exact absurd ((mA i).mpr ⟨⟨j, hj⟩, by omega, by omega⟩) hiA
        · exact absurd ((mB i).mpr ⟨⟨j, hj⟩, by omega, by omega⟩) hiB
      · rw [if_neg hlt']
  ihave HgA := (Entails.of_eq eA) $$ HgA
  ihave HgB := (Entails.of_eq eB) $$ HgB
  ihave Hg := (Entails.of_eq eC) $$ Hg
  ihave Hg := (pointsTo_split_subset (ℓ := gV.view.loc (tV d L)) (q := fullShare) (f := part X old (k + 1)) (S := E \ A) (I := B) hBE).2 $$ [HgB Hg]
  · isplitl [HgB] <;> iassumption
  ihave Hg := (pointsTo_split_subset (ℓ := gV.view.loc (tV d L)) (q := fullShare) (f := part X old (k + 1)) (S := E) (I := A) hAE).2 $$ [HgA Hg]
  · isplitl [HgA] <;> iassumption
  ihave Hrl := (pointsTo_split_subset (ℓ := rV.view.loc (tV d L)) (q := fullShare.left) (f := fr) (S := Finset.univ) (I := (rWin o h).view.set) (Finset.subset_univ _)).2 $$ [Hrlw Hrlo]
  · isplitl [Hrlw] <;> iassumption
  ihave Hrr := (pointsTo_split_subset (ℓ := rV.view.loc (tV d L)) (q := fullShare.right) (f := fr) (S := Finset.univ) (I := (rWin o h).view.set) (Finset.subset_univ _)).2 $$ [Hrrw Hrro]
  · isplitl [Hrrw] <;> iassumption
  ihave Hr := (pointsTo_share (ℓ := rV.view.loc (tV d L)) (f := fr) (I := Finset.univ) (PosShare.mem_left_op_right fullShare)).2 $$ [Hrl Hrr]
  · isplitl [Hrl] <;> iassumption
  ihave Ha := (Entails.of_eq (show (aV.view.loc (tV d L) ↦[aV.view.set]{fullShare} la : sProp 𝕄) = aV.view.loc (tV d L) ↦{fullShare} la by rw [hsa])) $$ Ha'
  ihave Hb := (Entails.of_eq (show (bV.view.loc (tV d L) ↦[bV.view.set]{fullShare} lb : sProp 𝕄) = bV.view.loc (tV d L) ↦{fullShare} lb by rw [hsb])) $$ Hb'
  sl_exec
  sl_step
  isplitl []; · iexact Hmw
  isplitl [Hg]; · iexact Hg
  isplitl [Ha]; · iexact Ha
  isplitl [Hb]; · iexact Hb
  isplitl [Hr]; · iexact Hr
  isplitl [Hs3]; · iexact Hs3
  isplitl [Hs4]; · iexact Hs4
  iexists _; isplitr
  swap; · iexact HO
  ipureintro; intro p hp
  rcases Finset.mem_insert.mp hp with hp | hp
  · exact .inr (hp ▸ rfl)
  rcases Finset.mem_insert.mp hp with hp | hp
  · exact .inr (hp ▸ rfl)
  · exact hW' p hp

end Trip

end Cert.Placing

end
-- ==== Proof.ScatterTask.lean ====
/-
  A whole tile of the row scatter: its three fetches, its six windows (`trip`), and the launch theorem's obligation for it.
-/
module

public import proofs.«01_k».proof.Proof.ScatterTile

@[expose] public section

noncomputable section

namespace Cert.Placing

open Cert.ScatterIdeal Cert.ScatterIdeal.Gen
open Cert.Proof (wid widEquiv widEquiv_apply rowPart rowDiv)

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords)

/-! ## The tile's parts of the arrays, as it addresses them -/

abbrev posK (L : grid0.Coords) : Rect S4096 := Rect.unit (s := S4096) (k0_off1 L) S128.size (k0_off1_inb L)
abbrev rowK (L : grid0.Coords) : Rect S4096x768 := Rect.unit (s := S4096x768) (k0_off2 L) S128x768.size (k0_off2_inb L)
abbrev pK (L : grid0.Coords) : Memref sig .scVector .hbm S128 .i32 := pV.slice (posK L) (fun _ => rfl)
abbrev qK (L : grid0.Coords) : Memref sig .scVector .hbm S128 .i32 := qV.slice (posK L) (fun _ => rfl)
abbrev xK (L : grid0.Coords) : Memref sig .scVector .hbm S128x768 .f32 := xV.slice (rowK L) (fun _ => rfl)

theorem worker (L : grid0.Coords) : (wL L).val = 2 * (L 1).val + (L 0).val := rfl

theorem posK_eq : posK L = wordPart (wL L) := by
  have e := worker L
  unfold posK wordPart Cert.Proof.posPart Rect.part Rect.block
  congr 1 <;> funext a
  · rw [k0_off1_eq]
    match a with
    | 0 => simp [Shape.partIx, Shape.partSize]; omega
  · match a with
    | 0 => simp [Shape.partSize]

theorem rowK_eq : rowK L = rowPart (wL L) := by
  have e := worker L
  unfold rowK rowPart Rect.part Rect.block
  congr 1 <;> funext a
  · rw [k0_off2_eq]
    match a with
    | 0 => simp [Shape.partIx, Shape.partSize]; omega
    | 1 => simp [Shape.partIx, Shape.partSize]
  · match a with
    | 0 => simp [Shape.partSize]
    | 1 => simp [Shape.partSize]

theorem pts_x (f : Buf (Elt F) (xLoc d)) :
    ((xK L).view.loc (tV d L) ↦[(xK L).view.set]{fullShare} f : sProp 𝕄) = xLoc d ↦[(rowPart (wL L)).set]{fullShare} f := by
  rw [show (xK L).view.set = (rowPart (wL L)).set from
    ((View.set_slice _ _).trans Finset.map_refl).trans (congrArg (fun r => r.set) (rowK_eq L))]
theorem pts_p (f : Buf (Elt F) (pLoc d)) :
    ((pK L).view.loc (tV d L) ↦[(pK L).view.set]{fullShare} f : sProp 𝕄) = pLoc d ↦[(wordPart (wL L)).set]{fullShare} f := by
  rw [show (pK L).view.set = (wordPart (wL L)).set from
    ((View.set_slice _ _).trans Finset.map_refl).trans (congrArg (fun r => r.set) (posK_eq L))]
theorem pts_q (f : Buf (Elt F) (qLoc d)) :
    ((qK L).view.loc (tV d L) ↦[(qK L).view.set]{fullShare} f : sProp 𝕄) = qLoc d ↦[(wordPart (wL L)).set]{fullShare} f := by
  rw [show (qK L).view.set = (wordPart (wL L)).set from
    ((View.set_slice _ _).trans Finset.map_refl).trans (congrArg (fun r => r.set) (posK_eq L))]

/-! ## The tile's tokens -/

/-- The tile's token `j`. -/
def token (L : grid0.Coords) (j : Fin 128) : Fin 4096 := ⟨128 * (wL L).val + j.val, by have := (wL L).isLt; omega⟩

theorem token_inj {L : grid0.Coords} {j j' : Fin 128} (h : token L j = token L j') : j = j' := by
  have := congrArg Fin.val h
  unfold token at this
  apply Fin.ext
  simp only at this
  omega

/-- The tile's 128 words of a list, and its 128 rows. -/
def lst (p : S4096.Idx → Elt F .i32) : S128.Idx → Elt F .i32 := fun j => p ((posK L).emb j)
def own (x : S4096x768.Idx → Elt F .f32) : S128x768.Idx → Elt F .f32 := fun y => x ((rowK L).emb y)

theorem lst_at (p : S4096.Idx → Elt F .i32) (j : Fin 128) : lst L p (ix1 j) = p (ix1 (token L j)) := by
  refine congrArg p (funext fun a => Fin.ext ?_)
  have e := worker L
  match a with
  | 0 =>
    show k0_off1 L 0 + 1 * j.val = 128 * (wL L).val + j.val
    rw [k0_off1_eq]
    show 256 * (L 1).val + 128 * (L 0).val + 1 * j.val = 128 * (wL L).val + j.val
    omega

theorem own_at (x : S4096x768.Idx → Elt F .f32) (j : Fin 128) (c : Fin 768) : own L x (ix2 j c) = x (ix2 (token L j) c) := by
  refine congrArg x (funext fun a => Fin.ext ?_)
  have e := worker L
  match a with
  | 0 =>
    show k0_off2 L 0 + 1 * j.val = 128 * (wL L).val + j.val
    rw [k0_off2_eq]
    show 256 * (L 1).val + 128 * (L 0).val + 1 * j.val = 128 * (wL L).val + j.val
    omega
  | 1 =>
    show k0_off2 L 1 + 1 * c.val = c.val
    rw [k0_off2_eq]
    show 0 + 1 * c.val = c.val
    omega

theorem idx1 (j : S128.Idx) : ∃ i : Fin 128, j = ix1 i := ⟨j 0, eq_ix1 j⟩

/-- Lists that are apart give each tile what a trip asks. -/
theorem fits {x : S4096x768.Idx → Elt F .f32} {p q : S4096.Idx → Elt F .i32} (hA : Apart p q) (old : S9984x768.Idx → Elt F .f32) :
    Fits (lst L p) (lst L q) (own L x) (named p q (wL L)) (placed x p q old) where
  la_lt j := hA.p_lt _
  lb_lt j := hA.q_lt _
  la_inj j j' hj := by
    obtain ⟨i, rfl⟩ := idx1 j; obtain ⟨i', rfl⟩ := idx1 j'
    simp only [lst_at] at hj
    rw [token_inj (hA.at_eq (.inl rfl) (.inl hj.symm))]
  lb_inj j j' hj := by
    obtain ⟨i, rfl⟩ := idx1 j; obtain ⟨i', rfl⟩ := idx1 j'
    simp only [lst_at] at hj
    rw [token_inj (hA.at_eq (.inr rfl) (.inr hj.symm))]
  ne j j' hj := by
    obtain ⟨i, rfl⟩ := idx1 j; obtain ⟨i', rfl⟩ := idx1 j'
    simp only [lst_at] at hj
    have e := hA.at_eq (.inl rfl) (.inr hj.symm)
    rw [← e] at hj
    exact hA.ne _ hj
  mem i := by
    simp only [lst_at]
    refine mem_named.trans ⟨?_, ?_⟩
    · rintro ⟨t, ht, hn⟩
      have e : token L ⟨t.val % 128, by omega⟩ = t := by
        apply Fin.ext
        show 128 * (wL L).val + t.val % 128 = t.val
        omega
      refine ⟨⟨t.val % 128, by omega⟩, ?_⟩
      rw [e]
      exact hn.imp Eq.symm Eq.symm
    · rintro ⟨j, hn⟩
      refine ⟨token L j, ?_, hn.imp Eq.symm Eq.symm⟩
      show (128 * (wL L).val + j.val) / 128 = (wL L).val
      omega
  val i j hn := by
    simp only [lst_at] at hn
    rw [placed_at hA (t := token L j) (hn.imp Eq.symm Eq.symm)]
    exact (own_at L x j (i 1)).symm

/-! ## The tile's own cells and scratch -/

abbrev cell (d : Dev nD) (L : grid0.Coords) (s : DmaSems sig S_) : GSem nD τ sig := (tV d L, .dma s.sem)

/-- The tile's cells but the five that its copies use. -/
abbrev restCells (d : Dev nD) (L : grid0.Coords) : Finset (GSem nD τ sig) :=
  (((((ownCells (tV d L)).erase (cell d L cc0_scratch3)).erase (cell d L cc0_scratch4)).erase (cell d L cc0_scoped0)).erase (cell d L cc0_scoped1)).erase (cell d L cc0_scoped2)

theorem cell_ne (s t : DmaSems sig S_) (h : s.sem ≠ t.sem) : cell d L s ≠ cell d L t := fun e => by
  have := congrArg Prod.snd e
  exact h (by simpa [cell] using this)

theorem ownSems0_V :
    (ownSems0 (tV d L) : sProp 𝕄)
      = iprop(semVal (cell d L cc0_scratch3) 0 ∗ semVal (cell d L cc0_scratch4) 0 ∗ semVal (cell d L cc0_scoped0) 0
          ∗ semVal (cell d L cc0_scoped1) 0 ∗ semVal (cell d L cc0_scoped2) 0 ∗ bigSep (restCells d L) fun g => semVal g 0) := by
  have mine : ∀ s : DmaSems sig S_, (SemLoc.dma s.sem : SemLoc sig).isScoped .scVector = true → cell d L s ∈ ownCells (tV d L) :=
    fun s hs => mem_ownCells.mpr ⟨rfl, hs⟩
  have keep : ∀ {s t : DmaSems sig S_} {I : Finset (GSem nD τ sig)}, s.sem ≠ t.sem → cell d L s ∈ I → cell d L s ∈ I.erase (cell d L t) :=
    fun h hm => Finset.mem_erase.mpr ⟨cell_ne d L _ _ h, hm⟩
  unfold SparseCore.Cfg.ownSems0
  rw [SparseCore.bigSep_erase' (mine cc0_scratch3 (by decide)),
    SparseCore.bigSep_erase' (keep (by decide) (mine cc0_scratch4 (by decide))),
    SparseCore.bigSep_erase' (keep (by decide) (keep (by decide) (mine cc0_scoped0 (by decide)))),
    SparseCore.bigSep_erase' (keep (by decide) (keep (by decide) (keep (by decide) (mine cc0_scoped1 (by decide))))),
    SparseCore.bigSep_erase' (keep (by decide) (keep (by decide) (keep (by decide) (keep (by decide) (mine cc0_scoped2 (by decide))))))]

abbrev scratch (L : grid0.Coords) (b : Ref sig .scVector) : DevRef τ sig := (Proc.scVector (cV L) (jV L)).devRef b

/-- The three scratch buffers are among the tile's own: they are them, at some contents, and the rest. -/
theorem ownBufs_V :
    (ownBufs (tV d L) : sProp 𝕄)
      = iprop((∃ f, (tV d L).loc cc0_scratch0 ↦{fullShare} f) ∗ (∃ f, (tV d L).loc cc0_scratch1 ↦{fullShare} f)
          ∗ (∃ f, (tV d L).loc cc0_scratch2 ↦{fullShare} f)
          ∗ bigSep ((((ownRefs (τ := τ) (.scVector (cV L) (jV L))).erase (scratch L cc0_scratch0)).erase (scratch L cc0_scratch1)).erase (scratch L cc0_scratch2))
              fun b => iprop(∃ f, ((d, b) : Loc nD τ sig) ↦{fullShare} f)) := by
  have ne : ∀ {b b' : Ref sig .scVector}, b ≠ b' → scratch L b ≠ scratch L b' := fun h e => h (Proc.devRef_injective _ e)
  have mine : ∀ b : Ref sig .scVector, (scratch L b).owner = .proc (Proc.scVector (cV L) (jV L)) → scratch L b ∈ ownRefs (τ := τ) (.scVector (cV L) (jV L)) :=
    fun b hb => SparseCore.Cfg.mem_ownRefs_of_owner hb
  unfold SparseCore.Cfg.ownBufs
  refine (SparseCore.bigSep_erase' (mine cc0_scratch0 rfl)).trans ?_
  rw [SparseCore.bigSep_erase' (Finset.mem_erase.mpr ⟨ne (show (cc0_scratch1 : Ref sig .scVector) ≠ cc0_scratch0 by decide), mine cc0_scratch1 rfl⟩),
    SparseCore.bigSep_erase' (Finset.mem_erase.mpr ⟨ne (show (cc0_scratch2 : Ref sig .scVector) ≠ cc0_scratch1 by decide),
      Finset.mem_erase.mpr ⟨ne (show (cc0_scratch2 : Ref sig .scVector) ≠ cc0_scratch0 by decide), mine cc0_scratch2 rfl⟩⟩)]

/-! ## The tile -/

section Task

variable [FloatOps F]
variable (x : Dev nD → S4096x768.Idx → Elt F .f32) (p q : Dev nD → S4096.Idx → Elt F .i32) (old : Dev nD → S9984x768.Idx → Elt F .f32)

omit [FloatOps F] in
theorem pts_a (f : Buf (Elt F) ((tV d L).loc cc0_scratch0)) :
    (aV.view.loc (tV d L) ↦{fullShare} f : sProp 𝕄) = (tV d L).loc cc0_scratch0 ↦{fullShare} f := rfl
omit [FloatOps F] in
theorem pts_b (f : Buf (Elt F) ((tV d L).loc cc0_scratch1)) :
    (bV.view.loc (tV d L) ↦{fullShare} f : sProp 𝕄) = (tV d L).loc cc0_scratch1 ↦{fullShare} f := rfl
omit [FloatOps F] in
theorem pts_r (f : Buf (Elt F) ((tV d L).loc cc0_scratch2)) :
    (rV.view.loc (tV d L) ↦{fullShare} f : sProp 𝕄) = (tV d L).loc cc0_scratch2 ↦{fullShare} f := rfl

set_option maxHeartbeats 4000000 in
/-- The tile on vector subcore `(L 0, L 1)` of device `d`. -/
theorem tile_body (hF : (K (F := F)).Facts) (hA : ∀ d, Apart (p d) (q d)) (O : CellTallies nD τ sig (HIx 1)) (W : Waits sig (HIx 1)) (hO : ∀ g, O g none = 0) :
    iprop(levAts (K (F := F)).L (K (F := F)).lev ∗ emp
        ∗ handed x p q old d (wL L)
        ∗ scopedBufs (tV d L) ∗ scopedSems0 (tV d L) ∗ owes (tV d L) O W)
      ⊢ wp frame (wpE (defs₀ (F := F)) 𝒱₀ (tV d L) none) Set.univ
          (cc0_scatter_kernel L xV (Memref.isWhole_whole _) pV (Memref.isWhole_whole _) qV (Memref.isWhole_whole _)
            gV (Memref.isWhole_whole _) aV (Memref.isWhole_whole _) bV (Memref.isWhole_whole _)
            rV (Memref.isWhole_whole _) cc0_scratch3 cc0_scratch4 cc0_scoped0 cc0_scoped1 cc0_scoped2)
          fun _ => iprop(returned x p q old d (wL L)
            ∗ scopedBufs (tV d L) ∗ scopedSems0 (tV d L)
            ∗ ∃ W', ⌜∀ p ∈ W', p ∈ W ∨ p.2 = none⌝ ∗ owes (tV d L) O W') := by
  simp only [cc0_scatter_kernel_eq_skeleton]; unfold cc0_scatter_kernel_skel
  rw [(K (F := F)).scopedBufs_V hF d (cV L) (jV L), SparseCore.Cfg.scopedSems0_V (Val := Elt F) d (cV L) (jV L), ownSems0_V, ownBufs_V]
  iintro ⟨#Hlv, -, ⟨Hx, Hp, Hq, Hg⟩, ⟨⟨%fa, Ha⟩, ⟨%fb, Hb⟩, ⟨%fr, Hr⟩, Hbufs⟩, ⟨Hs3, Hs4, Hc0, Hc1, Hc2, Hsems⟩, HO⟩
  ihave #Hmw := (show levAts (K (F := F)).L (K (F := F)).lev ⊢ Transfers.MayWaits (tV d L) (default : HIx 1) O from
    (K (F := F)).mayWaits_none (thr := tV d L) hO) $$ Hlv
  ihave Hx' := (Entails.of_eq (pts_x (F := F) d L _).symm) $$ Hx
  ihave Hp' := (Entails.of_eq (pts_p (F := F) d L _).symm) $$ Hp
  ihave Hq' := (Entails.of_eq (pts_q (F := F) d L _).symm) $$ Hq
  ihave Ha' := (Entails.of_eq (pts_a (F := F) d L _).symm) $$ Ha
  ihave Hb' := (Entails.of_eq (pts_b (F := F) d L _).symm) $$ Hb
  ihave Hr' := (Entails.of_eq (pts_r (F := F) d L _).symm) $$ Hr
  sl_exec
  have eA : View.write (Elt F) aV.view fa (tile_body.sl.dma0 d L p) Finset.univ = lst L (p d) :=
    (View.write_whole_univ _ _ _).trans (funext fun j => (View.read_apply _ _).trans (cast_eq _ _))
  have eB : View.write (Elt F) bV.view fb (tile_body.sl.dma0_1 d L q) Finset.univ = lst L (q d) :=
    (View.write_whole_univ _ _ _).trans (funext fun j => (View.read_apply _ _).trans (cast_eq _ _))
  have eR : View.write (Elt F) rV.view fr (tile_body.sl.dma0_2 d L x) Finset.univ = own L (x d) :=
    (View.write_whole_univ _ _ _).trans (funext fun j => (View.read_apply _ _).trans (cast_eq _ _))
  ihave Ha := (Entails.of_eq (congrArg (fun f => (aV.view.loc (tV d L) ↦{fullShare} f : sProp 𝕄)) eA)) $$ Ha'
  ihave Hb := (Entails.of_eq (congrArg (fun f => (bV.view.loc (tV d L) ↦{fullShare} f : sProp 𝕄)) eB)) $$ Hb'
  ihave Hr := (Entails.of_eq (congrArg (fun f => (rV.view.loc (tV d L) ↦{fullShare} f : sProp 𝕄)) eR)) $$ Hr'
  have e0 : part (placed (x d) (p d) (q d) (old d)) (old d) 0 = old d := funext fun i => if_neg (Nat.not_lt_zero _)
  have e6 : part (placed (x d) (p d) (q d) (old d)) (old d) 6 = placed (x d) (p d) (q d) (old d) := funext fun i => if_pos (idx2_lt1 i)
  ihave Hg := (Entails.of_eq (show (gPts p q d (wL L) (old d) : sProp 𝕄)
      = gV.view.loc (tV d L) ↦[named (p d) (q d) (wL L)]{fullShare} part (placed (x d) (p d) (q d) (old d)) (old d) 0 by rw [e0])) $$ Hg
  sl_for (fun k _ => inv d L O W (lst L (p d)) (lst L (q d)) (own L (x d)) (named (p d) (q d) (wL L)) (placed (x d) (p d) (q d) (old d)) (old d) k)
    $$ [Hg Ha Hb Hr Hs3 Hs4 HO]
  case region =>
    intro k _
    exact trip d L O W _ _ _ _ _ _ (fits L (hA d) (old d)) k.val _ _ (k0_off3_eq k) _ _ (k0_off4_eq k)
  · unfold inv
    isplitl []; · iexact Hmw
    isplitl [Hg]; · iexact Hg
    isplitl [Ha]; · iexact Ha
    isplitl [Hb]; · iexact Hb
    isplitl [Hr]; · iexact Hr
    isplitl [Hs3]; · iexact Hs3
    isplitl [Hs4]; · iexact Hs4
    iexists _; isplitr
    swap; · iexact HO
    ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact .inl hp
  iintro %_ HI
  unfold inv
  icases HI with ⟨-, Hg, Ha, Hb, Hr, Hs3, Hs4, HO⟩
  sl_exec
  sl_step
  isplitl [Hx' Hp' Hq' Hg]
  · isplitl [Hx']; · iapply (Entails.of_eq (pts_x (F := F) d L _)); iexact Hx'
    isplitl [Hp']; · iapply (Entails.of_eq (pts_p (F := F) d L _)); iexact Hp'
    isplitl [Hq']; · iapply (Entails.of_eq (pts_q (F := F) d L _)); iexact Hq'
    iapply (Entails.of_eq (congrArg (fun f => (gLoc d ↦[named (p d) (q d) (wL L)]{fullShare} f : sProp 𝕄)) e6))
    iexact Hg
  isplitl [Ha Hb Hr Hbufs]
  · isplitl [Ha]; · iexists _; iexact Ha
    isplitl [Hb]; · iexists _; iexact Hb
    isplitl [Hr]; · iexists _; iexact Hr
    iexact Hbufs
  isplitl [Hs3 Hs4 Hc0 Hc1 Hc2 Hsems]
  · isplitl [Hs3]; · iexact Hs3
    isplitl [Hs4]; · iexact Hs4
    isplitl [Hc0]; · iexact Hc0
    isplitl [Hc1]; · iexact Hc1
    isplitl [Hc2]; · iexact Hc2
    iexact Hsems
  iexact HO

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_scatter_kernel (coordsV c s)
          xV (Memref.isWhole_whole _) pV (Memref.isWhole_whole _) qV (Memref.isWhole_whole _)
          gV (Memref.isWhole_whole _) aV (Memref.isWhole_whole _) bV (Memref.isWhole_whole _)
          rV (Memref.isWhole_whole _) cc0_scratch3 cc0_scratch4 cc0_scoped0 cc0_scoped1 cc0_scoped2) ⟨⟩ c s := rfl

omit [FloatOps F] in
theorem post_more {thr : Thread nD τ} {A B C : sProp 𝕄} {O : CellTallies nD τ sig (HIx 1)} {W : Waits sig (HIx 1)} {n : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some n⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hA : ∀ d, Apart (p d) (q d)) : (K (F := F)).TileObl (D (F := F)) 𝒱 (P x p q old) v₀ 0 := by
  intro d c i O W hO _ _
  simp only [show (P x p q old).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) x p q old hF hA O W hO).trans (wp_mono frame _ _ fun _ => post_more)

end Task

end Cert.Placing

end
-- ==== Proof.ScatterHost.lean ====
/-
  The host's operations around the row-scatter launch, in three lists: those that make the two lists of places from the
  chosen experts, and those that read the laid-out array back at either list. What the arrays hold after each list.
-/
module

public import proofs.«01_k».proof.Proof.ScatterTask
public import proofs.«01_k».proof.Proof.RouterRefSpots
public import proofs.«01_k».proof.Proof.Value
public import Idealize.ShloMosaic.Lib.StableHlo.Run
public import Idealize.ShloMosaic.Lib.StableHlo.RunRead

@[expose] public section

set_option maxRecDepth 16384

noncomputable section

namespace Cert.Placing

open Cert.ScatterIdeal Cert.ScatterIdeal.Gen
open Idealize.ShloMosaic Idealize.ShloMosaic.TcCoe Idealize.SL.Sem Idealize.ShloMosaic.StableHlo

variable {F : FTy → Type} [FloatOps F]

/-- The operations before the launch: the places of all 8192 choices, and its two halves. -/
abbrev before : List (HloOp τ sig (Elt F)) :=
  [ nullary main_v0 (iotaInDim S8192 32 0),
    nullary main_v1 (iotaInDim S8 32 0),
    unary main_v1 main_v2 (broadcastInDim S1x8 ![1] bcast_S8_S1x8_1 : (⟨S8, .i32⟩ : BufTy).Contents (Elt F) → (⟨S1x8, .i32⟩ : BufTy).Contents (Elt F)),
    unary main_arg1 main_v3 (broadcastInDim S8192x8 ![0, 1] bcast_S8192x1_S8192x8_0_1 : (⟨S8192x1, .i32⟩ : BufTy).Contents (Elt F) → (⟨S8192x8, .i32⟩ : BufTy).Contents (Elt F)),
    unary main_v2 main_v4 (broadcastInDim S8192x8 ![0, 1] bcast_S1x8_S8192x8_0_1 : (⟨S1x8, .i32⟩ : BufTy).Contents (Elt F) → (⟨S8192x8, .i32⟩ : BufTy).Contents (Elt F)),
    binary main_v3 main_v4 main_v5 (cmpi .eq : (⟨S8192x8, .i32⟩ : BufTy).Contents (Elt F) → (⟨S8192x8, .i32⟩ : BufTy).Contents (Elt F) → (⟨S8192x8, .i1⟩ : BufTy).Contents (Elt F)),
    unary main_v5 main_v6 ((extui 32 · natLt_1_32) : (⟨S8192x8, .i1⟩ : BufTy).Contents (Elt F) → (⟨S8192x8, .i32⟩ : BufTy).Contents (Elt F)),
    nullary main_c (constantI S_ 32 0#32),
    binary main_v6 main_c main_v7 ((fun x v => Host.reduce IntOp.addi x v reducesTo_S8192x8_S8_d0 h_S_) : (⟨S8192x8, .i32⟩ : BufTy).Contents (Elt F) → (⟨S_, .i32⟩ : BufTy).Contents (Elt F) → (⟨S8, .i32⟩ : BufTy).Contents (Elt F)),
    nullary main_c_0 (constantI S_ 32 255#32),
    unary main_c_0 main_v8 (broadcastInDim S8 ![] bcast_S_S8 : (⟨S_, .i32⟩ : BufTy).Contents (Elt F) → (⟨S8, .i32⟩ : BufTy).Contents (Elt F)),
    binary main_v7 main_v8 main_v9 (addi : (⟨S8, .i32⟩ : BufTy).Contents (Elt F) → (⟨S8, .i32⟩ : BufTy).Contents (Elt F) → (⟨S8, .i32⟩ : BufTy).Contents (Elt F)),
    nullary main_c_1 (constantI S_ 32 256#32),
    unary main_c_1 main_v10 (broadcastInDim S8 ![] bcast_S_S8 : (⟨S_, .i32⟩ : BufTy).Contents (Elt F) → (⟨S8, .i32⟩ : BufTy).Contents (Elt F)),
    binary main_v9 main_v10 main_v11 (Host.divsi : (⟨S8, .i32⟩ : BufTy).Contents (Elt F) → (⟨S8, .i32⟩ : BufTy).Contents (Elt F) → (⟨S8, .i32⟩ : BufTy).Contents (Elt F)),
    nullary main_c_2 (constantI S_ 32 256#32),
    unary main_c_2 main_v12 (broadcastInDim S8 ![] bcast_S_S8 : (⟨S_, .i32⟩ : BufTy).Contents (Elt F) → (⟨S8, .i32⟩ : BufTy).Contents (Elt F)),
    binary main_v11 main_v12 main_v13 (muli : (⟨S8, .i32⟩ : BufTy).Contents (Elt F) → (⟨S8, .i32⟩ : BufTy).Contents (Elt F) → (⟨S8, .i32⟩ : BufTy).Contents (Elt F)),
    nullary main_v14 (iotaInDim S8 32 0),
    unary main_v14 main_v15 (broadcastInDim S1x8 ![1] bcast_S8_S1x8_1 : (⟨S8, .i32⟩ : BufTy).Contents (Elt F) → (⟨S1x8, .i32⟩ : BufTy).Contents (Elt F)),
    unary main_v15 main_v16 (broadcastInDim S8192x8 ![0, 1] bcast_S1x8_S8192x8_0_1 : (⟨S1x8, .i32⟩ : BufTy).Contents (Elt F) → (⟨S8192x8, .i32⟩ : BufTy).Contents (Elt F)),
    unary main_arg1 main_v17 (broadcastInDim S8192x8 ![0, 1] bcast_S8192x1_S8192x8_0_1 : (⟨S8192x1, .i32⟩ : BufTy).Contents (Elt F) → (⟨S8192x8, .i32⟩ : BufTy).Contents (Elt F)),
    binary main_v16 main_v17 main_v18 (cmpi .slt : (⟨S8192x8, .i32⟩ : BufTy).Contents (Elt F) → (⟨S8192x8, .i32⟩ : BufTy).Contents (Elt F) → (⟨S8192x8, .i1⟩ : BufTy).Contents (Elt F)),
    nullary main_c_3 (constantI S_ 32 0#32),
    TRef.unary (TRef.of (T := ⟨S_, .i32⟩) main_c_3) main_call0.v0 id,
    TRef.unary (TRef.of (T := ⟨S8, .i32⟩) main_v13) main_call0.v1 (broadcastInDim S8192x8 ![1] bcast_S8_S8192x8_1),
    TRef.unary main_call0.v0 main_call0.v2 (broadcastInDim S8192x8 ![] bcast_S_S8192x8),
    TRef.ternary (TRef.of (T := ⟨S8192x8, .i1⟩) main_v18) main_call0.v1 main_call0.v2 main_call0.v3 select,
    nullary main_c_4 (constantI S_ 32 0#32),
    binary main_v19 main_c_4 main_v20 ((fun x v => Host.reduce IntOp.addi x v reducesTo_S8192x8_S8192_d1 h_S_) : (⟨S8192x8, .i32⟩ : BufTy).Contents (Elt F) → (⟨S_, .i32⟩ : BufTy).Contents (Elt F) → (⟨S8192, .i32⟩ : BufTy).Contents (Elt F)),
    reshape main_arg1 main_v21 (rfl : (.i32 : EltTy) = .i32) shapeCasts_S8192x1_S1x8192,
    unary main_arg1 main_v22 (broadcastInDim S8192x8192 ![0, 1] bcast_S8192x1_S8192x8192_0_1 : (⟨S8192x1, .i32⟩ : BufTy).Contents (Elt F) → (⟨S8192x8192, .i32⟩ : BufTy).Contents (Elt F)),
    unary main_v21 main_v23 (broadcastInDim S8192x8192 ![0, 1] bcast_S1x8192_S8192x8192_0_1 : (⟨S1x8192, .i32⟩ : BufTy).Contents (Elt F) → (⟨S8192x8192, .i32⟩ : BufTy).Contents (Elt F)),
    binary main_v22 main_v23 main_v24 (cmpi .eq : (⟨S8192x8192, .i32⟩ : BufTy).Contents (Elt F) → (⟨S8192x8192, .i32⟩ : BufTy).Contents (Elt F) → (⟨S8192x8192, .i1⟩ : BufTy).Contents (Elt F)),
    unary main_v0 main_v25 (broadcastInDim S8192x1 ![0] bcast_S8192_S8192x1_0 : (⟨S8192, .i32⟩ : BufTy).Contents (Elt F) → (⟨S8192x1, .i32⟩ : BufTy).Contents (Elt F)),
    unary main_v0 main_v26 (broadcastInDim S1x8192 ![1] bcast_S8192_S1x8192_1 : (⟨S8192, .i32⟩ : BufTy).Contents (Elt F) → (⟨S1x8192, .i32⟩ : BufTy).Contents (Elt F)),
    unary main_v26 main_v27 (broadcastInDim S8192x8192 ![0, 1] bcast_S1x8192_S8192x8192_0_1 : (⟨S1x8192, .i32⟩ : BufTy).Contents (Elt F) → (⟨S8192x8192, .i32⟩ : BufTy).Contents (Elt F)),
    unary main_v25 main_v28 (broadcastInDim S8192x8192 ![0, 1] bcast_S8192x1_S8192x8192_0_1 : (⟨S8192x1, .i32⟩ : BufTy).Contents (Elt F) → (⟨S8192x8192, .i32⟩ : BufTy).Contents (Elt F)),
    binary main_v27 main_v28 main_v29 (cmpi .slt : (⟨S8192x8192, .i32⟩ : BufTy).Contents (Elt F) → (⟨S8192x8192, .i32⟩ : BufTy).Contents (Elt F) → (⟨S8192x8192, .i1⟩ : BufTy).Contents (Elt F)),
    binary main_v24 main_v29 main_v30 (andi : (⟨S8192x8192, .i1⟩ : BufTy).Contents (Elt F) → (⟨S8192x8192, .i1⟩ : BufTy).Contents (Elt F) → (⟨S8192x8192, .i1⟩ : BufTy).Contents (Elt F)),
    unary main_v30 main_v31 ((extui 32 · natLt_1_32) : (⟨S8192x8192, .i1⟩ : BufTy).Contents (Elt F) → (⟨S8192x8192, .i32⟩ : BufTy).Contents (Elt F)),
    nullary main_c_5 (constantI S_ 32 0#32),
    binary main_v31 main_c_5 main_v32 ((fun x v => Host.reduce IntOp.addi x v reducesTo_S8192x8192_S8192_d1 h_S_) : (⟨S8192x8192, .i32⟩ : BufTy).Contents (Elt F) → (⟨S_, .i32⟩ : BufTy).Contents (Elt F) → (⟨S8192, .i32⟩ : BufTy).Contents (Elt F)),
    binary main_v20 main_v32 main_v33 (addi : (⟨S8192, .i32⟩ : BufTy).Contents (Elt F) → (⟨S8192, .i32⟩ : BufTy).Contents (Elt F) → (⟨S8192, .i32⟩ : BufTy).Contents (Elt F)),
    reshape main_v33 main_v34 (rfl : (.i32 : EltTy) = .i32) shapeCasts_S8192_S2x4096,
    unary main_v34 main_v35 ((extractStridedSlice S1x4096 ![0, 0] · slices_S2x4096_S1x4096_0_0) : (⟨S2x4096, .i32⟩ : BufTy).Contents (Elt F) → (⟨S1x4096, .i32⟩ : BufTy).Contents (Elt F)),
    reshape main_v35 main_v36 (rfl : (.i32 : EltTy) = .i32) shapeCasts_S1x4096_S4096,
    unary main_v34 main_v37 ((extractStridedSlice S1x4096 ![1, 0] · slices_S2x4096_S1x4096_1_0) : (⟨S2x4096, .i32⟩ : BufTy).Contents (Elt F) → (⟨S1x4096, .i32⟩ : BufTy).Contents (Elt F)),
    reshape main_v37 main_v38 (rfl : (.i32 : EltTy) = .i32) shapeCasts_S1x4096_S4096 ]

/-- The operations that read the laid-out array at the first places. -/
abbrev first : List (HloOp τ sig (Elt F)) :=
  [ unary main_v34 main_v40 ((extractStridedSlice S1x4096 ![0, 0] · slices_S2x4096_S1x4096_0_0) : (⟨S2x4096, .i32⟩ : BufTy).Contents (Elt F) → (⟨S1x4096, .i32⟩ : BufTy).Contents (Elt F)),
    reshape main_v40 main_v41 (rfl : (.i32 : EltTy) = .i32) shapeCasts_S1x4096_S4096,
    nullary main_c_6 (constantI S_ 32 0#32),
    unary main_c_6 main_v42 (broadcastInDim S4096 ![] bcast_S_S4096 : (⟨S_, .i32⟩ : BufTy).Contents (Elt F) → (⟨S4096, .i32⟩ : BufTy).Contents (Elt F)),
    binary main_v41 main_v42 main_v43 (cmpi .slt : (⟨S4096, .i32⟩ : BufTy).Contents (Elt F) → (⟨S4096, .i32⟩ : BufTy).Contents (Elt F) → (⟨S4096, .i1⟩ : BufTy).Contents (Elt F)),
    nullary main_c_7 (constantI S_ 32 9984#32),
    unary main_c_7 main_v44 (broadcastInDim S4096 ![] bcast_S_S4096 : (⟨S_, .i32⟩ : BufTy).Contents (Elt F) → (⟨S4096, .i32⟩ : BufTy).Contents (Elt F)),
    binary main_v41 main_v44 main_v45 (addi : (⟨S4096, .i32⟩ : BufTy).Contents (Elt F) → (⟨S4096, .i32⟩ : BufTy).Contents (Elt F) → (⟨S4096, .i32⟩ : BufTy).Contents (Elt F)),
    ternary main_v43 main_v45 main_v41 main_v46 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v46 main_v47 (broadcastInDim S4096x1 ![0] bcast_S4096_S4096x1_0 : (⟨S4096, .i32⟩ : BufTy).Contents (Elt F) → (⟨S4096x1, .i32⟩ : BufTy).Contents (Elt F)),
    binary main_v39 main_v47 main_v48 ((fun x i => Host.gather gather_S9984x768_S4096x1_S4096x768_1_0_n_n_0_1_1768 x i) : (⟨S9984x768, .f32⟩ : BufTy).Contents (Elt F) → (⟨S4096x1, .i32⟩ : BufTy).Contents (Elt F) → (⟨S4096x768, .f32⟩ : BufTy).Contents (Elt F)),
    unary main_v34 main_v49 ((extractStridedSlice S1x4096 ![1, 0] · slices_S2x4096_S1x4096_1_0) : (⟨S2x4096, .i32⟩ : BufTy).Contents (Elt F) → (⟨S1x4096, .i32⟩ : BufTy).Contents (Elt F)),
    reshape main_v49 main_v50 (rfl : (.i32 : EltTy) = .i32) shapeCasts_S1x4096_S4096 ]

/-- The operations that read it at the second places. -/
abbrev second : List (HloOp τ sig (Elt F)) :=
  [ nullary main_c_8 (constantI S_ 32 0#32),
    unary main_c_8 main_v51 (broadcastInDim S4096 ![] bcast_S_S4096 : (⟨S_, .i32⟩ : BufTy).Contents (Elt F) → (⟨S4096, .i32⟩ : BufTy).Contents (Elt F)),
    binary main_v50 main_v51 main_v52 (cmpi .slt : (⟨S4096, .i32⟩ : BufTy).Contents (Elt F) → (⟨S4096, .i32⟩ : BufTy).Contents (Elt F) → (⟨S4096, .i1⟩ : BufTy).Contents (Elt F)),
    nullary main_c_9 (constantI S_ 32 9984#32),
    unary main_c_9 main_v53 (broadcastInDim S4096 ![] bcast_S_S4096 : (⟨S_, .i32⟩ : BufTy).Contents (Elt F) → (⟨S4096, .i32⟩ : BufTy).Contents (Elt F)),
    binary main_v50 main_v53 main_v54 (addi : (⟨S4096, .i32⟩ : BufTy).Contents (Elt F) → (⟨S4096, .i32⟩ : BufTy).Contents (Elt F) → (⟨S4096, .i32⟩ : BufTy).Contents (Elt F)),
    ternary main_v52 main_v54 main_v50 main_v55 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v55 main_v56 (broadcastInDim S4096x1 ![0] bcast_S4096_S4096x1_0 : (⟨S4096, .i32⟩ : BufTy).Contents (Elt F) → (⟨S4096x1, .i32⟩ : BufTy).Contents (Elt F)),
    binary main_v39 main_v56 main_v57 ((fun x i => Host.gather gather_S9984x768_S4096x1_S4096x768_1_0_n_n_0_1_1768 x i) : (⟨S9984x768, .f32⟩ : BufTy).Contents (Elt F) → (⟨S4096x1, .i32⟩ : BufTy).Contents (Elt F) → (⟨S4096x768, .f32⟩ : BufTy).Contents (Elt F)) ]

theorem before_sub : (before : List (HloOp τ sig (Elt F))).Forall fun op => op.bufs ⊆ tcRefs τ sig :=
  ⟨nullary_bufs_sub .., nullary_bufs_sub .., unary_bufs_sub .., unary_bufs_sub .., unary_bufs_sub .., binary_bufs_sub .., unary_bufs_sub .., nullary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., unary_bufs_sub .., binary_bufs_sub .., nullary_bufs_sub .., unary_bufs_sub .., unary_bufs_sub .., unary_bufs_sub .., ternary_bufs_sub .., nullary_bufs_sub .., binary_bufs_sub .., reshape_bufs_sub .., unary_bufs_sub .., unary_bufs_sub .., binary_bufs_sub .., unary_bufs_sub .., unary_bufs_sub .., unary_bufs_sub .., unary_bufs_sub .., binary_bufs_sub .., binary_bufs_sub .., unary_bufs_sub .., nullary_bufs_sub .., binary_bufs_sub .., binary_bufs_sub .., reshape_bufs_sub .., unary_bufs_sub .., reshape_bufs_sub .., unary_bufs_sub .., reshape_bufs_sub ..⟩
theorem before_fresh : (before : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem first_sub : (first : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub ..⟩
theorem first_fresh : (first : List (HloOp τ sig (Elt F))).Forall fun op => op.fresh = ∅ :=
  ⟨rfl, rfl, rfl, rfl, rfl, rfl, rfl, rfl, rfl, rfl, rfl, rfl, rfl⟩
theorem second_sub : (second : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩
theorem second_fresh : (second : List (HloOp τ sig (Elt F))).Forall fun op => op.fresh = ∅ :=
  ⟨rfl, rfl, rfl, rfl, rfl, rfl, rfl, rfl, rfl⟩

set_option maxHeartbeats 4000000 in
theorem part0_eq (d : Dev nD) :
    main_part0 (F := F) d = (seq before >>= fun _ => (sc (F := F)).run d 0 >>= fun _ => seq first) := rfl
theorem part1_eq (d : Dev nD) : main_part1 (F := F) d = seq second := rfl

theorem main_eq (d : Dev nD) :
    main (F := F) d = (seq before >>= fun _ => (sc (F := F)).run d 0 >>= fun _ => seq first >>= fun _ => seq second) := by
  show (main_part0 d >>= fun _ => main_part1 d) = _
  rw [part0_eq, part1_eq]
  simp only [bind_assoc]

/-! ## What the arrays hold -/

/-- The two lists of places, made of the experts chosen. -/
def halves (w : IVec S8192x1 32) : IVec S2x4096 32 :=
  shapeCast S2x4096 (Cert.Proof.RouterRefSpots.spots w) shapeCasts_S8192_S2x4096
def firsts (w : IVec S8192x1 32) : IVec S4096 32 :=
  shapeCast S4096 (extractStridedSlice S1x4096 ![0, 0] (halves w) slices_S2x4096_S1x4096_0_0) shapeCasts_S1x4096_S4096
def seconds (w : IVec S8192x1 32) : IVec S4096 32 :=
  shapeCast S4096 (extractStridedSlice S1x4096 ![1, 0] (halves w) slices_S2x4096_S1x4096_1_0) shapeCasts_S1x4096_S4096

variable (W : Valuation τ sig (Elt F))

theorem before_x : after before W (Proc.devRef .tc main_arg0) = W (Proc.devRef .tc main_arg0) := by
  after_reads_simp
theorem before_e : after before W (Proc.devRef .tc main_arg1) = W (Proc.devRef .tc main_arg1) := by
  after_reads_simp
theorem before_g : after before W (Proc.devRef .tc main_v39) = W (Proc.devRef .tc main_v39) := by
  after_reads_simp
theorem before_halves : after before W (Proc.devRef .tc main_v34) = halves (W (Proc.devRef .tc main_arg1)) := by
  after_reads_simp
  rfl
theorem before_firsts : after before W (Proc.devRef .tc main_v36) = firsts (W (Proc.devRef .tc main_arg1)) := by
  after_reads_simp
  rfl
theorem before_seconds : after before W (Proc.devRef .tc main_v38) = seconds (W (Proc.devRef .tc main_arg1)) := by
  after_reads_simp
  rfl

/-- The operations after the launch, both lists. -/
abbrev later : List (HloOp τ sig (Elt F)) := first ++ second

theorem later_x : after later W (Proc.devRef .tc main_arg0) = W (Proc.devRef .tc main_arg0) := by
  simp only [List.cons_append, List.nil_append]
  after_reads_simp
theorem later_e : after later W (Proc.devRef .tc main_arg1) = W (Proc.devRef .tc main_arg1) := by
  simp only [List.cons_append, List.nil_append]
  after_reads_simp
theorem later_one : after later W (Proc.devRef .tc main_v48)
    = Host.gather gather_S9984x768_S4096x1_S4096x768_1_0_n_n_0_1_1768 (W (Proc.devRef .tc main_v39))
        (Cert.Proof.wrapped (shapeCast S4096 (extractStridedSlice S1x4096 ![0, 0] (W (Proc.devRef .tc main_v34)) slices_S2x4096_S1x4096_0_0)
          shapeCasts_S1x4096_S4096)) := by
  simp only [List.cons_append, List.nil_append]
  after_reads_simp
  rfl
theorem later_two : after later W (Proc.devRef .tc main_v57)
    = Host.gather gather_S9984x768_S4096x1_S4096x768_1_0_n_n_0_1_1768 (W (Proc.devRef .tc main_v39))
        (Cert.Proof.wrapped (shapeCast S4096 (extractStridedSlice S1x4096 ![1, 0] (W (Proc.devRef .tc main_v34)) slices_S2x4096_S1x4096_1_0)
          shapeCasts_S1x4096_S4096)) := by
  simp only [List.cons_append, List.nil_append]
  after_reads_simp
  rfl

end Cert.Placing

end
-- ==== Proof.ScatterLaunch.lean ====
/-
  The row-scatter launch: how the arrays are dealt to the thirty-two workers and joined again, the program on the
  TensorCore, its host operations before and after the call, and the run it gives: every array of the host ends at what
  the operations after the call make of the array laid out, every semaphore back at zero.
-/
module

public import proofs.«01_k».proof.Proof.ScatterHost

@[expose] public section

noncomputable section

namespace Cert.Placing

open Cert.ScatterIdeal Cert.ScatterIdeal.Gen
open Cert.Proof (wid widEquiv widEquiv_apply rowPart rowDiv posDiv)

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_sub_split held_congr tcRefs devRef_mem_tcRefs launchContents after seq wp_seq)

variable {F : FTy → Type}

local notation "𝕄" => MT nD τ sig (HIx 1) (Elt F) ℕ UU ℕ

/-! ## The arrays dealt to the workers -/

section Deal

variable (x : Dev nD → S4096x768.Idx → Elt F .f32) (p q : Dev nD → S4096.Idx → Elt F .i32) (old : Dev nD → S9984x768.Idx → Elt F .f32)

theorem x_dealt (d : Dev nD) :
    (xLoc d ↦{fullShare} x d : sProp 𝕄) = bigSep Finset.univ fun w : Fin 32 => xPts x d w := by
  rw [← pointsTo_biUnion Finset.univ (ℓ := xLoc d) (fun w => (rowPart w).set) (fun _ _ _ _ h => Rect.part_disjoint rowDiv h),
    Rect.biUnion_part rowDiv]; try rfl
theorem p_dealt (d : Dev nD) :
    (pLoc d ↦{fullShare} p d : sProp 𝕄) = bigSep Finset.univ fun w : Fin 32 => pPts p d w := by
  rw [← pointsTo_biUnion Finset.univ (ℓ := pLoc d) (fun w => (wordPart w).set) (fun _ _ _ _ h => Rect.part_disjoint posDiv h),
    Rect.biUnion_part posDiv]; try rfl
theorem q_dealt (d : Dev nD) :
    (qLoc d ↦{fullShare} q d : sProp 𝕄) = bigSep Finset.univ fun w : Fin 32 => qPts q d w := by
  rw [← pointsTo_biUnion Finset.univ (ℓ := qLoc d) (fun w => (wordPart w).set) (fun _ _ _ _ h => Rect.part_disjoint posDiv h),
    Rect.biUnion_part posDiv]; try rfl
theorem g_dealt (hA : ∀ d, Apart (p d) (q d)) (d : Dev nD) (f : Buf (Elt F) (gLoc d)) :
    (gLoc d ↦[allNamed (p d) (q d)]{fullShare} f : sProp 𝕄) = bigSep Finset.univ fun w : Fin 32 => gPts p q d w f :=
  pointsTo_biUnion Finset.univ (ℓ := gLoc d) (fun w => named (p d) (q d) w) fun _ _ _ _ h => named_disjoint (hA d) h

/-- The tokens, the two lists, and of the laid-out array the rows that are named. -/
abbrev whole4 (d : Dev nD) (f : Buf (Elt F) (gLoc d)) : sProp 𝕄 :=
  iprop((xLoc d ↦{fullShare} x d) ∗ (pLoc d ↦{fullShare} p d) ∗ (qLoc d ↦{fullShare} q d)
    ∗ gLoc d ↦[allNamed (p d) (q d)]{fullShare} f)

theorem whole4_dealt (hA : ∀ d, Apart (p d) (q d)) (d : Dev nD) (f : Buf (Elt F) (gLoc d)) :
    (whole4 x p q d f : sProp 𝕄)
      = bigSep Finset.univ fun c : Fin 2 => bigSep Finset.univ fun i : Fin 16 =>
          iprop(xPts x d (wid c i) ∗ pPts p d (wid c i) ∗ qPts q d (wid c i) ∗ gPts p q d (wid c i) f) := by
  have e := bigSep_univ_equiv widEquiv (fun w : Fin 32 => (iprop(xPts x d w ∗ pPts p d w ∗ qPts q d w ∗ gPts p q d w f) : sProp 𝕄))
  rw [bigSep_univ_prod] at e
  refine Eq.trans ?_ e
  rw [bigSep_sep', bigSep_sep', bigSep_sep', ← x_dealt, ← p_dealt, ← q_dealt, ← g_dealt p q hA]

/-- The array is its named rows and the others, and the others are the same laid out or not. -/
theorem g_parted (d : Dev nD) (f : Buf (Elt F) (gLoc d)) :
    (gLoc d ↦{fullShare} f : sProp 𝕄) ⊣⊢ iprop((gLoc d ↦[allNamed (p d) (q d)]{fullShare} f)
      ∗ gLoc d ↦[Finset.univ \ allNamed (p d) (q d)]{fullShare} f) :=
  pointsTo_split_subset (Finset.subset_univ _)
theorem g_others (d : Dev nD) :
    (gLoc d ↦[Finset.univ \ allNamed (p d) (q d)]{fullShare} old d : sProp 𝕄)
      = (gLoc d ↦[Finset.univ \ allNamed (p d) (q d)]{fullShare} placed (x d) (p d) (q d) (old d)) :=
  pointsTo_congr fun _ hi => (placed_off (off_allNamed (Finset.mem_sdiff.mp hi).2)).symm

variable [FloatOps F]

theorem vecSplit : (K (F := F)).VecSplit' (P x p q old) 0 := by
  intro d c
  show (bigSep Finset.univ fun i : Fin 16 => handed x p q old d (wid (Fin.cast cores c) i)) ⊢ |={Set.univ}=> iprop(
      (bigSep Finset.univ fun i : Fin 16 => handed x p q old d (wid (Fin.cast cores c) i))
      ∗ ((bigSep Finset.univ fun i : Fin 16 => returned x p q old d (wid (Fin.cast cores c) i))
          -∗ (bigSep Finset.univ fun i : Fin 16 => returned x p q old d (wid (Fin.cast cores c) i))))
  iintro H; imodintro
  isplitl [H]; · iexact H
  iintro H; iexact H

/-! ## The ghost state at launch -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun k : Fin 1 => (P x p q old).x k thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun k : Fin 1 => (P (F := F) x p q old).x k thr)
      = bigSep Finset.univ fun _ => iprop(emp) from bigSep_congr fun _ _ => bigSep_univ_of_subsingleton (0 : Fin 1), bigSep_emp']
  iempintro

theorem st0_eq (hA : ∀ d, Apart (p d) (q d)) (d : Dev nD) :
    (bigSep Finset.univ fun c : Fin ((K (F := F)).nCore 0) => (P x p q old).st 0 d c) = whole4 x p q d (old d) :=
  (whole4_dealt x p q hA d _).symm
theorem dn0_eq (hA : ∀ d, Apart (p d) (q d)) (d : Dev nD) :
    (bigSep Finset.univ fun c : Fin ((K (F := F)).nCore 0) => (P x p q old).dn 0 d c)
      = whole4 x p q d (placed (x d) (p d) (q d) (old d)) :=
  (whole4_dealt x p q hA d _).symm

end Deal

/-! ## The program on the TensorCore -/

variable [FloatOps F] (m : (ℓ : Loc nD τ sig) → Buf (Elt F) ℓ) (ρ : Dev nD → PrngReg)

/-- The tokens, the experts chosen, the lists of places and the array as it was, from the launch memory. -/
abbrev xM (d : Dev nD) : S4096x768.Idx → Elt F .f32 := m (xLoc d)
abbrev eM (d : Dev nD) : S8192x1.Idx → Elt F .i32 := m ((SparseCore.T d).loc main_arg1)
abbrev pM (d : Dev nD) : S4096.Idx → Elt F .i32 := firsts (eM m d)
abbrev qM (d : Dev nD) : S4096.Idx → Elt F .i32 := seconds (eM m d)
abbrev oM (d : Dev nD) : S9984x768.Idx → Elt F .f32 := m (gLoc d)
abbrev gM (d : Dev nD) : S9984x768.Idx → Elt F .f32 := placed (xM m d) (pM m d) (qM m d) (oM m d)

abbrev x' : DevRef τ sig := Proc.devRef .tc (main_arg0 : Ref sig .tc)
abbrev p' : DevRef τ sig := Proc.devRef .tc (main_v36 : Ref sig .tc)
abbrev q' : DevRef τ sig := Proc.devRef .tc (main_v38 : Ref sig .tc)
abbrev g' : DevRef τ sig := Proc.devRef .tc (main_v39 : Ref sig .tc)

/-- The four arrays of the call. -/
abbrev four : Finset (DevRef τ sig) := {x', p', q', g'}

omit [FloatOps F] in
theorem held_four (d : Dev nD) (W : Valuation τ sig (Elt F)) :
    (held (T d) four W : sProp 𝕄)
      = iprop((xLoc d ↦{fullShare} W x') ∗ (pLoc d ↦{fullShare} W p') ∗ (qLoc d ↦{fullShare} W q') ∗ gLoc d ↦{fullShare} W g') := by
  unfold held four
  rw [SparseCore.bigSep_insert' (by decide), SparseCore.bigSep_insert' (by decide), SparseCore.bigSep_insert' (by decide), bigSep_singleton]

theorem four_sub : four ⊆ tcRefs τ sig := by
  intro b hb
  simp only [four, Finset.mem_insert, Finset.mem_singleton] at hb
  rcases hb with rfl | rfl | rfl | rfl <;> exact devRef_mem_tcRefs _

/-- What the host's arrays hold before the call, and after it. -/
def V1 (d : Dev nD) : Valuation τ sig (Elt F) := after before (launchContents m d)
def V2 (d : Dev nD) : Valuation τ sig (Elt F) := Function.update (V1 m d) g' (gM m d)

theorem V1_x (d : Dev nD) : V1 m d x' = xM m d := before_x _
theorem V1_p (d : Dev nD) : V1 m d p' = pM m d := before_firsts _
theorem V1_q (d : Dev nD) : V1 m d q' = qM m d := before_seconds _
theorem V1_g (d : Dev nD) : V1 m d g' = oM m d := before_g _
theorem V2_x (d : Dev nD) : V2 m d x' = xM m d := (Function.update_of_ne (show x' ≠ g' by decide) _ _).trans (V1_x m d)
theorem V2_p (d : Dev nD) : V2 m d p' = pM m d := (Function.update_of_ne (show p' ≠ g' by decide) _ _).trans (V1_p m d)
theorem V2_q (d : Dev nD) : V2 m d q' = qM m d := (Function.update_of_ne (show q' ≠ g' by decide) _ _).trans (V1_q m d)
theorem V2_g (d : Dev nD) : V2 m d g' = gM m d := Function.update_self _ _ _

theorem V2_off (d : Dev nD) : (held (T d) (tcRefs τ sig \ four) (V2 m d) : sProp 𝕄) = held (T d) (tcRefs τ sig \ four) (V1 m d) :=
  held_congr _ fun b hb => Function.update_of_ne
    (fun e => (Finset.mem_sdiff.mp hb).2 (by rw [e]; simp only [four, Finset.mem_insert, Finset.mem_singleton, or_true])) _ _

set_option maxRecDepth 16384 in
omit [FloatOps F] in
theorem unscoped_held (d : Dev nD) :
    (unscopedBufs d (fun b => m ((SparseCore.T d).loc b)) : sProp 𝕄) = held (T d) (tcRefs τ sig) (launchContents m d) := by
  unfold unscopedBufs held tcRefs
  rw [show (Finset.univ.filter fun b : Ref sig .tc => ¬ b.isScoped) = Finset.univ by decide, bigSep_map]
  rfl

theorem main_seq (d : Dev nD) :
    main (F := F) d = (seq before >>= fun _ => (sc (F := F)).run d 0 >>= fun _ => seq later >>= fun u => pure u) := by
  rw [main_eq]
  simp only [later, StableHlo.seq_append, bind_assoc, bind_pure]

theorem later_sub : ∀ op ∈ (later : List (HloOp τ sig (Elt F))), op.bufs ⊆ tcRefs τ sig := fun op h =>
  (List.mem_append.mp h).elim (List.forall_iff_forall_mem.1 first_sub op) (List.forall_iff_forall_mem.1 second_sub op)
theorem later_fresh : ∀ op ∈ (later : List (HloOp τ sig (Elt F))), op.fresh = ∅ := fun op h =>
  (List.mem_append.mp h).elim (List.forall_iff_forall_mem.1 first_fresh op) (List.forall_iff_forall_mem.1 second_fresh op)

/-- What the host's arrays hold at the end. -/
abbrev V3 (d : Dev nD) : Valuation τ sig (Elt F) := after later (V2 m d)
abbrev FIN (d : Dev nD) : sProp 𝕄 := held (T d) (tcRefs τ sig) (V3 m d)

/-- The arrays before the call: the call's share of the four, the rows no place names, and the other arrays. -/
theorem before_call (d : Dev nD) :
    (held (T d) (tcRefs τ sig) (V1 m d) : sProp 𝕄)
      ⊢ iprop(whole4 (xM m) (pM m) (qM m) d (oM m d) ∗ (gLoc d ↦[Finset.univ \ allNamed (pM m d) (qM m d)]{fullShare} oM m d)
          ∗ held (T d) (tcRefs τ sig \ four) (V1 m d)) := by
  rw [held_sub_split _ four_sub, held_four, V1_x, V1_p, V1_q, V1_g]
  iintro ⟨⟨Hx, Hp, Hq, Hg⟩, Hrest⟩
  ihave Hg' := (g_parted (pM m) (qM m) d (oM m d)).1 $$ Hg
  icases Hg' with ⟨Hg, Ho⟩
  isplitl [Hx Hp Hq Hg]
  · isplitl [Hx]; · iexact Hx
    isplitl [Hp]; · iexact Hp
    isplitl [Hq]; · iexact Hq
    iexact Hg
  isplitl [Ho]; · iexact Ho
  iexact Hrest

/-- And after it. -/
theorem after_call (d : Dev nD) :
    iprop(whole4 (xM m) (pM m) (qM m) d (gM m d) ∗ (gLoc d ↦[Finset.univ \ allNamed (pM m d) (qM m d)]{fullShare} oM m d)
          ∗ held (T d) (tcRefs τ sig \ four) (V1 m d))
      ⊢ (held (T d) (tcRefs τ sig) (V2 m d) : sProp 𝕄) := by
  rw [held_sub_split _ four_sub, held_four, V2_x, V2_p, V2_q, V2_g, V2_off, g_others (xM m) (pM m) (qM m) (oM m) d]
  iintro ⟨⟨Hx, Hp, Hq, Hg⟩, Ho, Hrest⟩
  isplitl [Hx Hp Hq Hg Ho]
  · isplitl [Hx]; · iexact Hx
    isplitl [Hp]; · iexact Hp
    isplitl [Hq]; · iexact Hq
    iapply (g_parted (pM m) (qM m) d (gM m d)).2
    isplitl [Hg]; · iexact Hg
    iexact Ho
  iexact Hrest

theorem hmain (hA : ∀ d, Apart (pM m d) (qM m d)) (κ : GSem nD τ sig → ℕ) (d : Dev nD) :
    iprop((K (F := F)).ctx EH (P (xM m) (pM m) (qM m) (oM m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_seq]
  iintro ⟨#Hctx, Hst, ⟨Hb, Hheld, Hts, -⟩, -⟩
  iapply (wp_seq 𝒱 none Set.univ d (tcRefs τ sig) _ before (List.forall_iff_forall_mem.1 before_sub)
    (List.forall_iff_forall_mem.1 before_fresh) (launchContents m d)) $$ [Hb Hheld]
  · isplitl [Hb]; · iexact Hb
    iexact Hheld
  iintro ⟨Hb, Hheld⟩
  ihave H := (before_call m d) $$ [Hheld]
  · iexact Hheld
  icases H with ⟨Harr, Ho, Hrest⟩
  rw [wp_bind]
  iapply ((K (F := F)).wp_run (D (F := F)) 𝒱 (EH := EH) (P := P (xM m) (pM m) (qM m) (oM m)) κ d 0) $$ [Hst Harr Ho Hrest Hb Hts]
  isplitr; · iexact Hctx
  isplitl [Hst]; · iexact Hst
  isplitl [Harr]
  · rw [st0_eq _ _ _ _ hA]; iexact Harr
  iintro ⟨Hst, Hdn⟩
  ihave Hdn' := (Entails.of_eq (dn0_eq (xM m) (pM m) (qM m) (oM m) hA d)) $$ Hdn
  ihave Hheld := (after_call m d) $$ [Hdn' Ho Hrest]
  · isplitl [Hdn']; · iexact Hdn'
    isplitl [Ho]; · iexact Ho
    iexact Hrest
  iapply (wp_seq 𝒱 none Set.univ d (tcRefs τ sig) _ later later_sub later_fresh (V2 m d)) $$ [Hb Hheld]
  · isplitl [Hb]; · iexact Hb
    iexact Hheld
  iintro ⟨Hb, Hheld⟩
  rw [wp_pure]; imodintro
  isplitl [Hst]; · iexact Hst
  isplitl [Hheld]; · iexact Hheld
  isplitl [Hb] <;> iassumption

def fq (d : Dev nD) (s' : Phys nD τ sig (Elt F)) : Prop :=
  ∀ b : Ref sig .tc, s'.mem.mem ((SparseCore.T d).loc b) = V3 m d (Proc.devRef .tc b)

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) (tcRefs τ sig)) $$ [HSI H]
  · isplitl [HSI]; · iexact HSI
    iexact H
  ipureintro
  exact fun b => h _ (devRef_mem_tcRefs b)

/-! ## The run -/

/-- Every array of the host at what the operations leave, every semaphore at zero. -/
def QC : PUnit × MemSt nD τ sig (Elt F) → Prop := fun r =>
  (∀ d : Dev nD, ∀ b : Ref sig .tc, r.2.mem ((SparseCore.T d).loc b) = V3 m d (Proc.devRef .tc b)) ∧ r.2.sem = fun _ => 0

theorem run_main [∀ e, Nonempty (Elt F e)] (hA : ∀ d, Apart (pM m d) (qM m d)) :
    θ_run (Cert.ScatterIdeal.defs (F := F)) (Cert.ScatterIdeal.threads (F := F)) ⟨m, fun _ => 0, ρ⟩ (QC m) :=
  SparseCore.Cfg.θ_run_sc_quiescent (K := K (F := F)) (D := D (F := F)) (𝒱 := 𝒱) (EH := EH)
    (P := P (xM m) (pM m) (qM m) (oM m)) (A := ∅) facts v₀
    (fun k hk => match k with | 0 => nomatch hk)
    (fun k _ => match k with | 0 => tileObl _ _ _ _ facts hA)
    (fun k _ => match k with | 0 => SparseCore.Cfg.VecSplit.of_plain (vecSplit _ _ _ _))
    m ρ main (fun _ => iprop(emp)) (FIN m) (u₀ (F := F)) (sep_elim_left.trans (hu₀ _ _ _ _)) (hmain m ρ hA) (fq m) (hfin m) (QC m)
    (fun _ h hz => ⟨h, hz⟩)

end Cert.Placing

end
-- ==== Proof.ScatterPlaces.lean ====
/-
  The places are pairwise distinct and name rows of the laid-out array. A choice lies at its expert's start plus the
  number of earlier choices of that expert; an expert's room holds all of its choices, and the rooms lie one after another.
  Eight rooms, each its count rounded up to a multiple of 256, of 8192 choices together are at most 9984 rows.
-/
module

public import proofs.«01_k».proof.Proof.ScatterLaunch

@[expose] public section

noncomputable section

namespace Cert.Placing

open Cert.ScatterIdeal Cert.ScatterIdeal.Gen
open Cert.Proof.RouterRefSpots (spot spots spots_at)
open Cert.Proof.RouterCounts (lo hi)
open Idealize.ShloMosaic

variable (e : Fin 8192 → Fin 8)

/-- How many choices an expert has, the rows set aside for them, where those begin, and a choice's rank among them. -/
def many (j : Fin 8) : ℕ := ∑ r, if e r = j then 1 else 0
def space (j : Fin 8) : ℕ := (many e j + 255) / 256 * 256
def base (j : Fin 8) : ℕ := ∑ i : Fin 8, if i < j then space e i else 0
def rank (k : Fin 8192) : ℕ := ∑ r, if e k = e r ∧ r < k then 1 else 0

theorem spot_eq (k : Fin 8192) : spot e k = base e (e k) + rank e k := rfl

theorem many_space (j : Fin 8) : many e j ≤ space e j := by
  unfold space; omega

theorem rank_lt (k : Fin 8192) : rank e k < many e (e k) := by
  refine Finset.sum_lt_sum (fun r _ => ?_) ⟨k, Finset.mem_univ _, ?_⟩
  · by_cases h : e k = e r ∧ r < k
    · rw [if_pos h, if_pos h.1.symm]
    · rw [if_neg h]; exact Nat.zero_le _
  · rw [if_neg (fun h => lt_irrefl _ h.2), if_pos rfl]; exact Nat.one_pos

theorem rank_strict {k k' : Fin 8192} (he : e k = e k') (h : k < k') : rank e k < rank e k' := by
  refine Finset.sum_lt_sum (fun r _ => ?_) ⟨k, Finset.mem_univ _, ?_⟩
  · by_cases h' : e k = e r ∧ r < k
    · rw [if_pos h', if_pos ⟨he ▸ h'.1, h'.2.trans h⟩]
    · rw [if_neg h']; exact Nat.zero_le _
  · rw [if_neg (fun h => lt_irrefl _ h.2), if_pos ⟨he.symm, h⟩]; exact Nat.one_pos

theorem base_room (j : Fin 8) : base e j + space e j = ∑ i : Fin 8, if i ≤ j then space e i else 0 := by
  have h : space e j = ∑ i : Fin 8, if i = j then space e i else 0 := by simp
  rw [h, base, ← Finset.sum_add_distrib]
  refine Finset.sum_congr rfl fun i _ => ?_
  rcases lt_trichotomy i j with h | h | h
  · rw [if_pos h, if_neg h.ne, if_pos h.le]; rfl
  · subst h; rw [if_neg (lt_irrefl _), if_pos rfl, if_pos le_rfl]; exact Nat.zero_add _
  · rw [if_neg (not_lt.mpr h.le), if_neg h.ne', if_neg (not_le.mpr h)]

theorem base_step {j j' : Fin 8} (h : j < j') : base e j + space e j ≤ base e j' := by
  rw [base_room]
  refine Finset.sum_le_sum fun i _ => ?_
  by_cases hi : i ≤ j
  · rw [if_pos hi, if_pos (lt_of_le_of_lt hi h)]
  · rw [if_neg hi]; exact Nat.zero_le _

theorem many_all : ∑ j, many e j = 8192 := by
  unfold many
  rw [Finset.sum_comm]
  simp

theorem room_le (j : Fin 8) : base e j + space e j ≤ 9984 := by
  have h1 : base e j + space e j ≤ ∑ i : Fin 8, space e i := by
    rw [base_room]
    refine Finset.sum_le_sum fun i _ => ?_
    split
    · exact le_rfl
    · exact Nat.zero_le _
  have h2 := many_all e
  revert h1 h2
  simp only [Fin.sum_univ_eight, space]
  omega

theorem spot_lt (k : Fin 8192) : spot e k < 9984 := by
  have h1 := room_le e (e k)
  have h2 := rank_lt e k
  have h3 := many_space e (e k)
  rw [spot_eq]; omega

theorem spot_ne_of_lt {k k' : Fin 8192} (h : k < k') : spot e k ≠ spot e k' := by
  rw [spot_eq, spot_eq]
  have h1 := rank_lt e k
  have h2 := many_space e (e k)
  have h1' := rank_lt e k'
  have h2' := many_space e (e k')
  rcases lt_trichotomy (e k) (e k') with he | he | he
  · have := base_step e he; omega
  · have := rank_strict e he h; rw [he]; omega
  · have := base_step e he; omega

theorem spot_inj {k k' : Fin 8192} (h : spot e k = spot e k') : k = k' := by
  rcases lt_trichotomy k k' with hk | hk | hk
  · exact absurd h (spot_ne_of_lt e hk)
  · exact hk
  · exact absurd h.symm (spot_ne_of_lt e hk)

/-! ## The two lists -/

theorem lo_inj {t t' : Fin 4096} (h : lo t = lo t') : t = t' := Fin.ext (Fin.mk.inj h)
theorem hi_inj {t t' : Fin 4096} (h : hi t = hi t') : t = t' := by
  have := Fin.mk.inj h
  exact Fin.ext (by omega)
theorem lo_ne_hi (t t' : Fin 4096) (h : lo t = hi t') : False := by
  have := Fin.mk.inj h
  have := t.isLt
  omega

theorem firsts_at (w : IVec S8192x1 32) (t : Fin 4096) : firsts w (ix1 t) = spots w (ix1 (lo t)) := by
  unfold firsts halves
  generalize spots w = s
  pointwise

theorem seconds_at (w : IVec S8192x1 32) (t : Fin 4096) : seconds w (ix1 t) = spots w (ix1 (hi t)) := by
  unfold seconds halves
  generalize spots w = s
  pointwise

variable {F : FTy → Type}

/-- Where every word names one of the eight experts, the lists of places name distinct rows. -/
theorem lists_apart (w : IVec S8192x1 32) (hw : ∀ j, (w j).toNat < 8) : Apart (F := F) (firsts w) (seconds w) := by
  have hn : ∀ k : Fin 8192, w (ix2 k 0) = BitVec.ofNat 32 ((fun k : Fin 8192 => (⟨(w (ix2 k 0)).toNat, hw _⟩ : Fin 8)) k).val := fun k => by
    show w (ix2 k 0) = BitVec.ofNat 32 (w (ix2 k 0)).toNat
    simp
  generalize (fun k : Fin 8192 => (⟨(w (ix2 k 0)).toNat, hw _⟩ : Fin 8)) = e at hn
  have hs : ∀ k : Fin 8192, (spots w (ix1 k)).toNat = spot e k := fun k => by
    rw [spots_at w e hn k, BitVec.toNat_ofNat]
    exact Nat.mod_eq_of_lt ((spot_lt e k).trans (by decide))
  have hp : ∀ t : Fin 4096, BitVec.toNat (firsts w (ix1 t)) = spot e (lo t) := fun t => by rw [firsts_at, hs]
  have hq : ∀ t : Fin 4096, BitVec.toNat (seconds w (ix1 t)) = spot e (hi t) := fun t => by rw [seconds_at, hs]
  have apart : ∀ t t' : Fin 4096, spot e (lo t) ≠ spot e (hi t') := fun t t' h => lo_ne_hi t t' (spot_inj e h)
  refine ⟨fun j => ?_, fun j => ?_, fun {t t' n} h h' => ?_, fun t => ?_⟩
  · obtain ⟨c, rfl⟩ : ∃ c : Fin 4096, j = ix1 c := ⟨j 0, eq_ix1 j⟩
    rw [hp]; exact spot_lt e _
  · obtain ⟨c, rfl⟩ : ∃ c : Fin 4096, j = ix1 c := ⟨j 0, eq_ix1 j⟩
    rw [hq]; exact spot_lt e _
  · have h : spot e (lo t) = n ∨ spot e (hi t) = n := by rw [← hp, ← hq]; exact h
    have h' : spot e (lo t') = n ∨ spot e (hi t') = n := by rw [← hp, ← hq]; exact h'
    rcases h with h | h <;> rcases h' with h' | h'
    · exact lo_inj (spot_inj e (h.trans h'.symm))
    · exact absurd (h.trans h'.symm) (apart t t')
    · exact absurd (h'.trans h.symm) (apart t' t)
    · exact hi_inj (spot_inj e (h.trans h'.symm))
  · have := apart t t
    rw [← hp, ← hq] at this
    exact this

end Cert.Placing

end
-- ==== Proof.ScatterValue.lean ====
/-
  The scatter's claims, from its run. The precondition says that every choice names one of the eight experts; the places
  made of such choices are distinct rows, so reading the laid-out array back at a token's place gives the token.
-/
module

public import proofs.«01_k».proof.Proof.ScatterPlaces
public import proofs.«01_k».proof.Proof.Gen.Scatter
public import proofs.«01_k».proof.Proof.Gen.ScatterRefIdeal
public import proofs.«01_k».proof.Proof.Gen.Pre_experts_named
public import proofs.«01_k».proof.Defs

@[expose] public section

noncomputable section

namespace Cert.Placing

open Cert.ScatterIdeal Cert.ScatterIdeal.Gen
open Cert.Proof (rowOf rowOf_val taken)
open Idealize.ShloMosaic Idealize.ShloMosaic.StableHlo Idealize.SL.Sem

variable {F : FTy → Type} [FloatOps F]

/-! ## The precondition -/

/-- A word that is at least zero and below 8 as a signed number is below 8 as an unsigned one. -/
theorem expert_word_lt {v : BitVec 32} (h₁ : IntOp.cmpi .sge v 0#32 = 1#1) (h₂ : IntOp.cmpi .slt v 8#32 = 1#1) : v.toNat < 8 := by
  have one (b : Bool) : (BitVec.ofBool b = 1#1) ↔ b = true := by cases b <;> decide
  simp only [IntOp.cmpi, one, BitVec.sle_eq_decide, BitVec.slt_eq_decide, decide_eq_true_eq, BitVec.toInt_eq_toNat_cond,
    BitVec.toNat_ofNat, Nat.reducePow, Nat.reduceMod] at h₁ h₂
  omega

/-- Where the precondition's function is all ones, every choice names one of the eight experts. -/
theorem experts_lt (x : FVec F Cert.Pre_experts_named.S4096x768 .f32) (w : IVec Cert.Pre_experts_named.S8192x1 32)
    (h : Cert.Pre_experts_named.fn x w = fun _ => 1#1) : ∀ j, (w j).toNat < 8 := by
  have e := congrFun h (Shape.Idx.first (s := Cert.Pre_experts_named.S_) (by decide))
  simp only [Cert.Pre_experts_named.fn, andi] at e
  obtain ⟨e₁, e₂⟩ := IntOp.andi_eq_one.1 e
  haveI : Subsingleton Cert.Pre_experts_named.S_.Idx := ⟨fun a b => funext fun i => i.elim0⟩
  exact fun j => expert_word_lt (Host.reduce_andi_all _ _ _ _ _ e₁ j) (Host.reduce_andi_all _ _ _ _ _ e₂ j)

/-! ## The laid-out array read back -/

theorem taken_one {x : S4096x768.Idx → Elt F .f32} {p q : S4096.Idx → Elt F .i32} (hA : Apart p q) (old : S9984x768.Idx → Elt F .f32) :
    taken (placed x p q old) p = x := by
  funext i
  refine (placed_at hA (t := i 0) (Or.inl ?_)).trans (congrArg x (ValueIdx.eq_ix2 i).symm)
  exact (rowOf_val (hA.p_lt _)).symm

theorem taken_two {x : S4096x768.Idx → Elt F .f32} {p q : S4096.Idx → Elt F .i32} (hA : Apart p q) (old : S9984x768.Idx → Elt F .f32) :
    taken (placed x p q old) q = x := by
  funext i
  refine (placed_at hA (t := i 0) (Or.inr ?_)).trans (congrArg x (ValueIdx.eq_ix2 i).symm)
  exact (rowOf_val (hA.q_lt _)).symm

variable (m : (ℓ : Loc nD τ sig) → Buf (Elt F) ℓ)

theorem V2_halves (d : Dev nD) : V2 m d (Proc.devRef .tc main_v34) = halves (eM m d) :=
  (Function.update_of_ne (show (Proc.devRef .tc main_v34 : DevRef τ sig) ≠ g' by decide) _ _).trans (before_halves _)

theorem V3_x (d : Dev nD) : V3 m d x' = xM m d := (later_x _).trans (V2_x m d)
theorem V3_e (d : Dev nD) : V3 m d (Proc.devRef .tc main_arg1) = eM m d :=
  (later_e _).trans ((Function.update_of_ne (show (Proc.devRef .tc main_arg1 : DevRef τ sig) ≠ g' by decide) _ _).trans (before_e _))

theorem V3_one (hA : ∀ d, Apart (pM m d) (qM m d)) (d : Dev nD) : V3 m d (Proc.devRef .tc main_v48) = xM m d := by
  refine (later_one _).trans ?_
  rw [V2_halves, show V2 m d (Proc.devRef .tc main_v39) = gM m d from V2_g m d]
  exact (Cert.Proof.gather_eq (gM m d) (pM m d) (hA d).p_lt).trans (taken_one (hA d) _)

theorem V3_two (hA : ∀ d, Apart (pM m d) (qM m d)) (d : Dev nD) : V3 m d (Proc.devRef .tc main_v57) = xM m d := by
  refine (later_two _).trans ?_
  rw [V2_halves, show V2 m d (Proc.devRef .tc main_v39) = gM m d from V2_g m d]
  exact (Cert.Proof.gather_eq (gM m d) (qM m d) (hA d).q_lt).trans (taken_two (hA d) _)

/-! ## The claims -/

theorem frame_kernel : @Cert.quiescent_Scatter Cert.Scatter.Gen.facts Cert.Pre_experts_named.Gen.facts := fun m ρ hpre =>
  (θ_run Cert.ScatterIdeal.defs _ _).mono
    (fun _ h => ⟨fun c => ⟨(h.1 c main_arg0).trans (V3_x _ c), (h.1 c main_arg1).trans (V3_e _ c)⟩, h.2⟩)
    (run_main (F := Bits) m ρ fun d => lists_apart _ (experts_lt _ _ (hpre d)))

theorem frame_ideal : @Cert.quiescent_ScatterIdeal Cert.ScatterIdeal.Gen.facts Cert.Pre_experts_named.Gen.facts := fun m ρ hpre =>
  (θ_run Cert.ScatterIdeal.defs _ _).mono
    (fun _ h => ⟨fun c => ⟨(h.1 c main_arg0).trans (V3_x _ c), (h.1 c main_arg1).trans (V3_e _ c)⟩, h.2⟩)
    (run_main (F := Ideal) m ρ fun d => lists_apart _ (experts_lt _ _ (hpre d)))

/-- The reference has no operation: every array ends as it began. -/
theorem reference_run (m : (ℓ : Loc Cert.ScatterRefIdeal.nD Cert.ScatterRefIdeal.τ Cert.ScatterRefIdeal.sig) → Buf (Elt Ideal) ℓ)
    (ρ : Dev Cert.ScatterRefIdeal.nD → PrngReg) :
    θ_run (Cert.ScatterRefIdeal.defs (F := Ideal)) (onTc (τ := Cert.ScatterRefIdeal.τ) (Cert.ScatterRefIdeal.main (F := Ideal)))
      ⟨m, fun _ => 0, ρ⟩ fun r => ∀ (c : Dev Cert.ScatterRefIdeal.nD) (b : Ref Cert.ScatterRefIdeal.sig .tc),
        r.2.mem ((c.tc : Thread Cert.ScatterRefIdeal.nD Cert.ScatterRefIdeal.τ).loc b)
          = m ((c.tc : Thread Cert.ScatterRefIdeal.nD Cert.ScatterRefIdeal.τ).loc b) :=
  (θ_run Cert.ScatterRefIdeal.defs _ _).mono (fun _ h c b => h c b)
    (run_seq (by decide) (by decide) Cert.ScatterRefIdeal.defs Cert.ScatterRefIdeal.main (fun _ => []) (fun _ => rfl)
      (fun _ => trivial) m ρ)

theorem frame_reference : @Cert.quiescent_ScatterRefIdeal Cert.ScatterRefIdeal.Gen.facts := fun m ρ _ =>
  (θ_run Cert.ScatterRefIdeal.defs _ _).mono (fun r h => ⟨fun c => ⟨h c _, h c _⟩, sem_eq_zero_of_no_sems (by decide) r.2⟩)
    (reference_run m ρ)

theorem frame_reference_experts_named :
    @Cert.quiescent_ScatterRefIdeal_pre_experts_named Cert.ScatterRefIdeal.Gen.facts Cert.Pre_experts_named.Gen.facts := fun m ρ _ =>
  (θ_run Cert.ScatterRefIdeal.defs _ _).mono (fun r h => ⟨fun c => ⟨h c _, h c _⟩, sem_eq_zero_of_no_sems (by decide) r.2⟩)
    (reference_run m ρ)

/-- Both programs end with the tokens in their two results. -/
theorem algebraic : @Cert.algebraic_ScatterIdeal_ScatterRefIdeal Cert.ScatterIdeal.Gen.facts Cert.ScatterRefIdeal.Gen.facts
    Cert.Pre_experts_named.Gen.facts := by
  intro m ρ m' ρ' hpre hagree
  have hA : ∀ d, Apart (pM m d) (qM m d) := fun d => lists_apart _ (experts_lt _ _ (hpre d))
  exact ⟨fun c => xM m c, fun c => xM m c,
    (θ_run Cert.ScatterIdeal.defs _ _).mono
      (fun _ h c => ⟨(h.1 c main_v48).trans (V3_one m hA c), (h.1 c main_v57).trans (V3_two m hA c),
        (h.1 c main_arg0).trans (V3_x m c), (h.1 c main_arg1).trans (V3_e m c)⟩) (run_main (F := Ideal) m ρ hA),
    (θ_run Cert.ScatterRefIdeal.defs _ _).mono
      (fun r h c => ⟨(h c _).trans (hagree c).1, (h c _).trans (hagree c).1, h c _, h c _⟩) (reference_run m' ρ')⟩

end Cert.Placing

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Combine
public import proofs.«01_k».proof.Proof.Gen.Combine.Skeleton
public import proofs.«01_k».proof.Proof.Gen.Combine.Launch
public import proofs.«01_k».proof.Proof.Gen.Combine.Points
public import proofs.«01_k».proof.Proof.Gen.Combine.Frame
public import proofs.«01_k».proof.Proof.Gen.CombineIdeal
public import proofs.«01_k».proof.Proof.Gen.CombineIdeal.Skeleton
public import proofs.«01_k».proof.Proof.Gen.CombineIdeal.Launch
public import proofs.«01_k».proof.Proof.Gen.CombineIdeal.Points
public import proofs.«01_k».proof.Proof.Gen.CombineIdeal.Frame
public import proofs.«01_k».proof.Proof.Gen.CombineRefIdeal
public import proofs.«01_k».proof.Proof.Gen.Router
public import proofs.«01_k».proof.Proof.Gen.Router.Skeleton
public import proofs.«01_k».proof.Proof.Gen.Router.Launch
public import proofs.«01_k».proof.Proof.Gen.Router.Points
public import proofs.«01_k».proof.Proof.Gen.Router.Frame
public import proofs.«01_k».proof.Proof.Gen.RouterIdeal
public import proofs.«01_k».proof.Proof.Gen.RouterIdeal.Skeleton
public import proofs.«01_k».proof.Proof.Gen.RouterIdeal.Launch
public import proofs.«01_k».proof.Proof.Gen.RouterIdeal.Points
public import proofs.«01_k».proof.Proof.Gen.RouterIdeal.Frame
public import proofs.«01_k».proof.Proof.Gen.RouterRefIdeal
public import proofs.«01_k».proof.Proof.Gen.Pre_in_range
public import proofs.«01_k».proof.Proof.Gen.CombineIdeal.Value
public import proofs.«01_k».proof.Proof.Gen.RouterIdeal.Value
public import proofs.«01_k».proof.Proof.Gen.CombineRefIdeal.Run
public import proofs.«01_k».proof.Proof.Gen.RouterRefIdeal.Run
public import proofs.«01_k».proof.Proof.Gen.Scatter
public import proofs.«01_k».proof.Proof.Gen.Scatter.Skeleton
public import proofs.«01_k».proof.Proof.Gen.ScatterIdeal
public import proofs.«01_k».proof.Proof.Gen.ScatterIdeal.Skeleton
public import proofs.«01_k».proof.Proof.Gen.ScatterRefIdeal
public import proofs.«01_k».proof.Proof.Gen.Pre_experts_named
public import proofs.«01_k».proof.Proof.Gen.Experts
public import proofs.«01_k».proof.Proof.Gen.Experts.Skeleton
public import proofs.«01_k».proof.Proof.Gen.Experts.Launch

public import proofs.«01_k».proof.Proof.Gen.ExpertsIdeal
public import proofs.«01_k».proof.Proof.Gen.ExpertsRefIdeal
public import proofs.«01_k».proof.Proof.Gen.ExpertsRefIdeal.Run
public import proofs.«01_k».proof.Proof.Gen.Pre_tables_agree
public import proofs.«01_k».proof.Proof.Gen.ExpertsIdeal.Skeleton
public import proofs.«01_k».proof.Proof.Gen.ExpertsIdeal.Launch

public import proofs.«01_k».proof.Proof.Value
public import proofs.«01_k».proof.Proof.Combine
public import proofs.«01_k».proof.Proof.Router
public import proofs.«01_k».proof.Proof.ExpertsValue
public import proofs.«01_k».proof.Proof.ScatterValue
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Combine.Gen.facts, Cert.CombineIdeal.Gen.facts, Cert.CombineRefIdeal.Gen.facts,
  Cert.Router.Gen.facts, Cert.RouterIdeal.Gen.facts, Cert.RouterRefIdeal.Gen.facts,
  Cert.Experts.Gen.facts, Cert.ExpertsIdeal.Gen.facts, Cert.ExpertsRefIdeal.Gen.facts,
  Cert.Scatter.Gen.facts, Cert.ScatterIdeal.Gen.facts, Cert.ScatterRefIdeal.Gen.facts,
  preFacts, ExpertsPre.tablesFacts, Cert.Pre_experts_named.Gen.facts,
  frame_kernel, frame_ideal, frame_reference, frame_reference_in_range,
  CombineClaims.frame_kernel, CombineClaims.frame_ideal, CombineClaims.frame_reference,
  RouterClaims.frame_kernel, RouterClaims.frame_ideal, RouterClaims.frame_reference,
  ExpertsClaims.frame_kernel, ExpertsClaims.frame_ideal, ExpertsClaims.frame_reference, ExpertsClaims.frame_reference_tables_agree,
  Placing.frame_kernel, Placing.frame_ideal, Placing.frame_reference, Placing.frame_reference_experts_named,
  trivial, algebraic, trivial, CombineClaims.algebraic, trivial, RouterClaims.algebraic, trivial, ExpertsClaims.algebraic,
  trivial, Placing.algebraic⟩

end Cert.Proof

end
